-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelFf2 (m : (ℓ : Loc Cert.KernelFf2.nD Cert.KernelFf2.τ Cert.KernelFf2.sig) → Buf (Elt Bits) ℓ) : Prop :=
  True

def Pre_KernelFf2Ideal (m : (ℓ : Loc Cert.KernelFf2Ideal.nD Cert.KernelFf2Ideal.τ Cert.KernelFf2Ideal.sig) → Buf (Elt Ideal) ℓ) : Prop :=
  True

def Pre_ReferenceFf2Ideal (m : (ℓ : Loc Cert.ReferenceFf2Ideal.nD Cert.ReferenceFf2Ideal.τ Cert.ReferenceFf2Ideal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFf1 (m : (ℓ : Loc Cert.KernelFf1.nD Cert.KernelFf1.τ Cert.KernelFf1.sig) → Buf (Elt Bits) ℓ) : Prop :=
  True

def Pre_KernelFf1Ideal (m : (ℓ : Loc Cert.KernelFf1Ideal.nD Cert.KernelFf1Ideal.τ Cert.KernelFf1Ideal.sig) → Buf (Elt Ideal) ℓ) : Prop :=
  True

def Pre_ReferenceFf1Ideal (m : (ℓ : Loc Cert.ReferenceFf1Ideal.nD Cert.ReferenceFf1Ideal.τ Cert.ReferenceFf1Ideal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_KernelMlpIdeal_finite_mlp [hPre_finite_mlp : Cert.Pre_finite_mlp.Facts] (m : (ℓ : Loc Cert.KernelMlpIdeal.nD Cert.KernelMlpIdeal.τ Cert.KernelMlpIdeal.sig) → Buf (Elt Ideal) ℓ) : Prop :=
  ∀ c : Dev Cert.KernelMlpIdeal.nD,
    (Cert.Pre_finite_mlp.fn (F := Ideal) (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)) (m ((c.tc : Thread Cert.KernelMlpIdeal.nD Cert.KernelMlpIdeal.τ).loc Cert.KernelMlpIdeal.main_arg5))) = (fun _ => 1#1)

def Pre_ReferenceMlpIdeal (m : (ℓ : Loc Cert.ReferenceMlpIdeal.nD Cert.ReferenceMlpIdeal.τ Cert.ReferenceMlpIdeal.sig) → Buf (Elt Ideal) ℓ) : Prop :=
  True

def Pre_ReferenceMlpIdeal_finite_mlp [hPre_finite_mlp : Cert.Pre_finite_mlp.Facts] (m : (ℓ : Loc Cert.ReferenceMlpIdeal.nD Cert.ReferenceMlpIdeal.τ Cert.ReferenceMlpIdeal.sig) → Buf (Elt Ideal) ℓ) : Prop :=
  ∀ c : Dev Cert.ReferenceMlpIdeal.nD,
    (Cert.Pre_finite_mlp.fn (F := Ideal) (m ((c.tc : Thread Cert.ReferenceMlpIdeal.nD Cert.ReferenceMlpIdeal.τ).loc Cert.ReferenceMlpIdeal.main_arg0)) (m ((c.tc : Thread Cert.ReferenceMlpIdeal.nD Cert.ReferenceMlpIdeal.τ).loc Cert.ReferenceMlpIdeal.main_arg1)) (m ((c.tc : Thread Cert.ReferenceMlpIdeal.nD Cert.ReferenceMlpIdeal.τ).loc Cert.ReferenceMlpIdeal.main_arg2)) (m ((c.tc : Thread Cert.ReferenceMlpIdeal.nD Cert.ReferenceMlpIdeal.τ).loc Cert.ReferenceMlpIdeal.main_arg3)) (m ((c.tc : Thread Cert.ReferenceMlpIdeal.nD Cert.ReferenceMlpIdeal.τ).loc Cert.ReferenceMlpIdeal.main_arg4)) (m ((c.tc : Thread Cert.ReferenceMlpIdeal.nD Cert.ReferenceMlpIdeal.τ).loc Cert.ReferenceMlpIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelFf2 [hKernelFf2 : Cert.KernelFf2.Facts] : Prop :=
  ∀ (m : (ℓ : Loc Cert.KernelFf2.nD Cert.KernelFf2.τ Cert.KernelFf2.sig) → Buf (Elt Bits) ℓ) (g : Dev Cert.KernelFf2.nD → PrngReg), Pre_KernelFf2 m →
    θ_run (Cert.KernelFf2.defs (F := Bits)) (onTc (τ := Cert.KernelFf2.τ) (Cert.KernelFf2.main (F := Bits))) ⟨m, fun _ => 0, g⟩ (fun r => (∀ c : Dev Cert.KernelFf2.nD,
      r.2.mem ((c.tc : Thread Cert.KernelFf2.nD Cert.KernelFf2.τ).loc Cert.KernelFf2.main_arg0) = m ((c.tc : Thread Cert.KernelFf2.nD Cert.KernelFf2.τ).loc Cert.KernelFf2.main_arg0)
      ∧ r.2.mem ((c.tc : Thread Cert.KernelFf2.nD Cert.KernelFf2.τ).loc Cert.KernelFf2.main_arg1) = m ((c.tc : Thread Cert.KernelFf2.nD Cert.KernelFf2.τ).loc Cert.KernelFf2.main_arg1))
      ∧ r.2.sem = fun _ => 0)

def quiescent_KernelFf2Ideal [hKernelFf2Ideal : Cert.KernelFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg), Pre_KernelFf2Ideal m →
    θ_run (Cert.KernelFf2Ideal.defs (F := Ideal)) (onTc (τ := Cert.KernelFf2Ideal.τ) (Cert.KernelFf2Ideal.main (F := Ideal))) ⟨m, fun _ => 0, g⟩ (fun r => (∀ c : Dev Cert.KernelFf2Ideal.nD,
      r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
      ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ r.2.sem = fun _ => 0)

def quiescent_ReferenceFf2Ideal [hReferenceFf2Ideal : Cert.ReferenceFf2Ideal.Facts] : Prop :=
  ∀ (m : (ℓ : Loc Cert.ReferenceFf2Ideal.nD Cert.ReferenceFf2Ideal.τ Cert.ReferenceFf2Ideal.sig) → Buf (Elt Ideal) ℓ) (g : Dev Cert.ReferenceFf2Ideal.nD → PrngReg), Pre_ReferenceFf2Ideal m →
    θ_run (Cert.ReferenceFf2Ideal.defs (F := Ideal)) (onTc (τ := Cert.ReferenceFf2Ideal.τ) (Cert.ReferenceFf2Ideal.main (F := Ideal))) ⟨m, fun _ => 0, g⟩ (fun r => (∀ c : Dev Cert.ReferenceFf2Ideal.nD,
      r.2.mem ((c.tc : Thread Cert.ReferenceFf2Ideal.nD Cert.ReferenceFf2Ideal.τ).loc Cert.ReferenceFf2Ideal.main_arg0) = m ((c.tc : Thread Cert.ReferenceFf2Ideal.nD Cert.ReferenceFf2Ideal.τ).loc Cert.ReferenceFf2Ideal.main_arg0)
      ∧ r.2.mem ((c.tc : Thread Cert.ReferenceFf2Ideal.nD Cert.ReferenceFf2Ideal.τ).loc Cert.ReferenceFf2Ideal.main_arg1) = m ((c.tc : Thread Cert.ReferenceFf2Ideal.nD Cert.ReferenceFf2Ideal.τ).loc Cert.ReferenceFf2Ideal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelFf1 [hKernelFf1 : Cert.KernelFf1.Facts] : Prop :=
  ∀ (m : (ℓ : Loc Cert.KernelFf1.nD Cert.KernelFf1.τ Cert.KernelFf1.sig) → Buf (Elt Bits) ℓ) (g : Dev Cert.KernelFf1.nD → PrngReg), Pre_KernelFf1 m →
    θ_run (Cert.KernelFf1.defs (F := Bits)) (onTc (τ := Cert.KernelFf1.τ) (Cert.KernelFf1.main (F := Bits))) ⟨m, fun _ => 0, g⟩ (fun r => (∀ c : Dev Cert.KernelFf1.nD,
      r.2.mem ((c.tc : Thread Cert.KernelFf1.nD Cert.KernelFf1.τ).loc Cert.KernelFf1.main_arg0) = m ((c.tc : Thread Cert.KernelFf1.nD Cert.KernelFf1.τ).loc Cert.KernelFf1.main_arg0)
      ∧ r.2.mem ((c.tc : Thread Cert.KernelFf1.nD Cert.KernelFf1.τ).loc Cert.KernelFf1.main_arg1) = m ((c.tc : Thread Cert.KernelFf1.nD Cert.KernelFf1.τ).loc Cert.KernelFf1.main_arg1))
      ∧ r.2.sem = fun _ => 0)

def quiescent_KernelFf1Ideal [hKernelFf1Ideal : Cert.KernelFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg), Pre_KernelFf1Ideal m →
    θ_run (Cert.KernelFf1Ideal.defs (F := Ideal)) (onTc (τ := Cert.KernelFf1Ideal.τ) (Cert.KernelFf1Ideal.main (F := Ideal))) ⟨m, fun _ => 0, g⟩ (fun r => (∀ c : Dev Cert.KernelFf1Ideal.nD,
      r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
      ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ r.2.sem = fun _ => 0)

def quiescent_ReferenceFf1Ideal [hReferenceFf1Ideal : Cert.ReferenceFf1Ideal.Facts] : Prop :=
  ∀ (m : (ℓ : Loc Cert.ReferenceFf1Ideal.nD Cert.ReferenceFf1Ideal.τ Cert.ReferenceFf1Ideal.sig) → Buf (Elt Ideal) ℓ) (g : Dev Cert.ReferenceFf1Ideal.nD → PrngReg), Pre_ReferenceFf1Ideal m →
    θ_run (Cert.ReferenceFf1Ideal.defs (F := Ideal)) (onTc (τ := Cert.ReferenceFf1Ideal.τ) (Cert.ReferenceFf1Ideal.main (F := Ideal))) ⟨m, fun _ => 0, g⟩ (fun r => (∀ c : Dev Cert.ReferenceFf1Ideal.nD,
      r.2.mem ((c.tc : Thread Cert.ReferenceFf1Ideal.nD Cert.ReferenceFf1Ideal.τ).loc Cert.ReferenceFf1Ideal.main_arg0) = m ((c.tc : Thread Cert.ReferenceFf1Ideal.nD Cert.ReferenceFf1Ideal.τ).loc Cert.ReferenceFf1Ideal.main_arg0)
      ∧ r.2.mem ((c.tc : Thread Cert.ReferenceFf1Ideal.nD Cert.ReferenceFf1Ideal.τ).loc Cert.ReferenceFf1Ideal.main_arg1) = m ((c.tc : Thread Cert.ReferenceFf1Ideal.nD Cert.ReferenceFf1Ideal.τ).loc Cert.ReferenceFf1Ideal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ r.2.sem = fun _ => 0)

def quiescent_KernelMlpIdeal_pre_finite_mlp [hKernelMlpIdeal : Cert.KernelMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal_finite_mlp m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5))
      ∧ r.2.sem = fun _ => 0)

def quiescent_ReferenceMlpIdeal_pre_finite_mlp [hReferenceMlpIdeal : Cert.ReferenceMlpIdeal.Facts] [hPre_finite_mlp : Cert.Pre_finite_mlp.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal_finite_mlp m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v157_0)) (v1 : (c : Dev Cert.KernelIdeal.nD) → Buf (Elt Ideal) ((c.tc : Thread Cert.KernelIdeal.nD Cert.KernelIdeal.τ).loc Cert.KernelIdeal.main_v157_1)) (v2 : (c : Dev Cert.KernelIdeal.nD) → Buf (Elt Ideal) ((c.tc : Thread Cert.KernelIdeal.nD Cert.KernelIdeal.τ).loc Cert.KernelIdeal.main_v157_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157_0) = v0 c
          ∧ r.2.mem ((c.tc : Thread Cert.KernelIdeal.nD Cert.KernelIdeal.τ).loc Cert.KernelIdeal.main_v157_1) = v1 c
          ∧ r.2.mem ((c.tc : Thread Cert.KernelIdeal.nD Cert.KernelIdeal.τ).loc Cert.KernelIdeal.main_v157_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_v263) = v1 c
          ∧ r.2.mem ((c.tc : Thread Cert.ReferenceIdeal.nD Cert.ReferenceIdeal.τ).loc Cert.ReferenceIdeal.main_v266) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelFf2_KernelFf2Ideal : Prop :=
  True

def algebraic_KernelFf2Ideal_ReferenceFf2Ideal [hKernelFf2Ideal : Cert.KernelFf2Ideal.Facts] [hReferenceFf2Ideal : Cert.ReferenceFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg)
    (m' : (ℓ : Loc Cert.ReferenceFf2Ideal.nD Cert.ReferenceFf2Ideal.τ Cert.ReferenceFf2Ideal.sig) → Buf (Elt Ideal) ℓ) (g' : Dev Cert.ReferenceFf2Ideal.nD → PrngReg), Pre_KernelFf2Ideal m →
    (∀ c : Dev Cert.KernelFf2Ideal.nD,
      m' ((c.tc : Thread Cert.ReferenceFf2Ideal.nD Cert.ReferenceFf2Ideal.τ).loc Cert.ReferenceFf2Ideal.main_arg0) = m ((c.tc : Thread Cert.KernelFf2Ideal.nD Cert.KernelFf2Ideal.τ).loc Cert.KernelFf2Ideal.main_arg0)
      ∧ m' ((c.tc : Thread Cert.ReferenceFf2Ideal.nD Cert.ReferenceFf2Ideal.τ).loc Cert.ReferenceFf2Ideal.main_arg1) = m ((c.tc : Thread Cert.KernelFf2Ideal.nD Cert.KernelFf2Ideal.τ).loc Cert.KernelFf2Ideal.main_arg1)) →
    ∃ (v0 : (c : Dev Cert.KernelFf2Ideal.nD) → Buf (Elt Ideal) ((c.tc : Thread Cert.KernelFf2Ideal.nD Cert.KernelFf2Ideal.τ).loc Cert.KernelFf2Ideal.main_v2)),
      θ_run (Cert.KernelFf2Ideal.defs (F := Ideal)) (onTc (τ := Cert.KernelFf2Ideal.τ) (Cert.KernelFf2Ideal.main (F := Ideal))) ⟨m, fun _ => 0, g⟩ (fun r => ∀ c : Dev Cert.KernelFf2Ideal.nD,
          r.2.mem ((c.tc : Thread Cert.KernelFf2Ideal.nD Cert.KernelFf2Ideal.τ).loc Cert.KernelFf2Ideal.main_v2) = v0 c
          ∧ r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
          ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ θ_run (Cert.ReferenceFf2Ideal.defs (F := Ideal)) (onTc (τ := Cert.ReferenceFf2Ideal.τ) (Cert.ReferenceFf2Ideal.main (F := Ideal))) ⟨m', fun _ => 0, g'⟩ (fun r => ∀ c : Dev Cert.ReferenceFf2Ideal.nD,
          r.2.mem ((c.tc : Thread Cert.ReferenceFf2Ideal.nD Cert.ReferenceFf2Ideal.τ).loc Cert.ReferenceFf2Ideal.main_v4) = v0 c
          ∧ r.2.mem ((c.tc : Thread Cert.ReferenceFf2Ideal.nD Cert.ReferenceFf2Ideal.τ).loc Cert.ReferenceFf2Ideal.main_arg0) = m' ((c.tc : Thread Cert.ReferenceFf2Ideal.nD Cert.ReferenceFf2Ideal.τ).loc Cert.ReferenceFf2Ideal.main_arg0)
          ∧ r.2.mem ((c.tc : Thread Cert.ReferenceFf2Ideal.nD Cert.ReferenceFf2Ideal.τ).loc Cert.ReferenceFf2Ideal.main_arg1) = m' ((c.tc : Thread Cert.ReferenceFf2Ideal.nD Cert.ReferenceFf2Ideal.τ).loc Cert.ReferenceFf2Ideal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelFf1_KernelFf1Ideal : Prop :=
  True

def algebraic_KernelFf1Ideal_ReferenceFf1Ideal [hKernelFf1Ideal : Cert.KernelFf1Ideal.Facts] [hReferenceFf1Ideal : Cert.ReferenceFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg)
    (m' : (ℓ : Loc Cert.ReferenceFf1Ideal.nD Cert.ReferenceFf1Ideal.τ Cert.ReferenceFf1Ideal.sig) → Buf (Elt Ideal) ℓ) (g' : Dev Cert.ReferenceFf1Ideal.nD → PrngReg), Pre_KernelFf1Ideal m →
    (∀ c : Dev Cert.KernelFf1Ideal.nD,
      m' ((c.tc : Thread Cert.ReferenceFf1Ideal.nD Cert.ReferenceFf1Ideal.τ).loc Cert.ReferenceFf1Ideal.main_arg0) = m ((c.tc : Thread Cert.KernelFf1Ideal.nD Cert.KernelFf1Ideal.τ).loc Cert.KernelFf1Ideal.main_arg0)
      ∧ m' ((c.tc : Thread Cert.ReferenceFf1Ideal.nD Cert.ReferenceFf1Ideal.τ).loc Cert.ReferenceFf1Ideal.main_arg1) = m ((c.tc : Thread Cert.KernelFf1Ideal.nD Cert.KernelFf1Ideal.τ).loc Cert.KernelFf1Ideal.main_arg1)) →
    ∃ (v0 : (c : Dev Cert.KernelFf1Ideal.nD) → Buf (Elt Ideal) ((c.tc : Thread Cert.KernelFf1Ideal.nD Cert.KernelFf1Ideal.τ).loc Cert.KernelFf1Ideal.main_v2)),
      θ_run (Cert.KernelFf1Ideal.defs (F := Ideal)) (onTc (τ := Cert.KernelFf1Ideal.τ) (Cert.KernelFf1Ideal.main (F := Ideal))) ⟨m, fun _ => 0, g⟩ (fun r => ∀ c : Dev Cert.KernelFf1Ideal.nD,
          r.2.mem ((c.tc : Thread Cert.KernelFf1Ideal.nD Cert.KernelFf1Ideal.τ).loc Cert.KernelFf1Ideal.main_v2) = v0 c
          ∧ r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
          ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ θ_run (Cert.ReferenceFf1Ideal.defs (F := Ideal)) (onTc (τ := Cert.ReferenceFf1Ideal.τ) (Cert.ReferenceFf1Ideal.main (F := Ideal))) ⟨m', fun _ => 0, g'⟩ (fun r => ∀ c : Dev Cert.ReferenceFf1Ideal.nD,
          r.2.mem ((c.tc : Thread Cert.ReferenceFf1Ideal.nD Cert.ReferenceFf1Ideal.τ).loc Cert.ReferenceFf1Ideal.main_v5) = v0 c
          ∧ r.2.mem ((c.tc : Thread Cert.ReferenceFf1Ideal.nD Cert.ReferenceFf1Ideal.τ).loc Cert.ReferenceFf1Ideal.main_arg0) = m' ((c.tc : Thread Cert.ReferenceFf1Ideal.nD Cert.ReferenceFf1Ideal.τ).loc Cert.ReferenceFf1Ideal.main_arg0)
          ∧ r.2.mem ((c.tc : Thread Cert.ReferenceFf1Ideal.nD Cert.ReferenceFf1Ideal.τ).loc Cert.ReferenceFf1Ideal.main_arg1) = m' ((c.tc : Thread Cert.ReferenceFf1Ideal.nD Cert.ReferenceFf1Ideal.τ).loc Cert.ReferenceFf1Ideal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMlp_KernelMlpIdeal : Prop :=
  True

def algebraic_KernelMlpIdeal_ReferenceMlpIdeal_pre_finite_mlp [hKernelMlpIdeal : Cert.KernelMlpIdeal.Facts] [hReferenceMlpIdeal : Cert.ReferenceMlpIdeal.Facts] [hPre_finite_mlp : Cert.Pre_finite_mlp.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal_finite_mlp m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)) →
    ∃ (v0 : (c : Dev Cert.KernelMlpIdeal.nD) → Buf (Elt Ideal) ((c.tc : Thread Cert.KernelMlpIdeal.nD Cert.KernelMlpIdeal.τ).loc Cert.KernelMlpIdeal.main_v4_0)) (v1 : (c : Dev Cert.KernelMlpIdeal.nD) → Buf (Elt Ideal) ((c.tc : Thread Cert.KernelMlpIdeal.nD Cert.KernelMlpIdeal.τ).loc Cert.KernelMlpIdeal.main_v4_1)) (v2 : (c : Dev Cert.KernelMlpIdeal.nD) → Buf (Elt Ideal) ((c.tc : Thread Cert.KernelMlpIdeal.nD Cert.KernelMlpIdeal.τ).loc Cert.KernelMlpIdeal.main_v4_2)) (v3 : (c : Dev Cert.KernelMlpIdeal.nD) → Buf (Elt Ideal) ((c.tc : Thread Cert.KernelMlpIdeal.nD Cert.KernelMlpIdeal.τ).loc Cert.KernelMlpIdeal.main_v4_3)) (v4 : (c : Dev Cert.KernelMlpIdeal.nD) → Buf (Elt Ideal) ((c.tc : Thread Cert.KernelMlpIdeal.nD Cert.KernelMlpIdeal.τ).loc Cert.KernelMlpIdeal.main_v4_4)) (v5 : (c : Dev Cert.KernelMlpIdeal.nD) → Buf (Elt Ideal) ((c.tc : Thread Cert.KernelMlpIdeal.nD Cert.KernelMlpIdeal.τ).loc Cert.KernelMlpIdeal.main_v4_5)) (v6 : (c : Dev Cert.KernelMlpIdeal.nD) → Buf (Elt Ideal) ((c.tc : Thread Cert.KernelMlpIdeal.nD Cert.KernelMlpIdeal.τ).loc Cert.KernelMlpIdeal.main_v4_6)) (v7 : (c : Dev Cert.KernelMlpIdeal.nD) → Buf (Elt Ideal) ((c.tc : Thread Cert.KernelMlpIdeal.nD Cert.KernelMlpIdeal.τ).loc Cert.KernelMlpIdeal.main_v4_7)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v4_0) = v0 c
          ∧ r.2.mem ((c.tc : Thread Cert.KernelMlpIdeal.nD Cert.KernelMlpIdeal.τ).loc Cert.KernelMlpIdeal.main_v4_1) = v1 c
          ∧ r.2.mem ((c.tc : Thread Cert.KernelMlpIdeal.nD Cert.KernelMlpIdeal.τ).loc Cert.KernelMlpIdeal.main_v4_2) = v2 c
          ∧ r.2.mem ((c.tc : Thread Cert.KernelMlpIdeal.nD Cert.KernelMlpIdeal.τ).loc Cert.KernelMlpIdeal.main_v4_3) = v3 c
          ∧ r.2.mem ((c.tc : Thread Cert.KernelMlpIdeal.nD Cert.KernelMlpIdeal.τ).loc Cert.KernelMlpIdeal.main_v4_4) = v4 c
          ∧ r.2.mem ((c.tc : Thread Cert.KernelMlpIdeal.nD Cert.KernelMlpIdeal.τ).loc Cert.KernelMlpIdeal.main_v4_5) = v5 c
          ∧ r.2.mem ((c.tc : Thread Cert.KernelMlpIdeal.nD Cert.KernelMlpIdeal.τ).loc Cert.KernelMlpIdeal.main_v4_6) = v6 c
          ∧ r.2.mem ((c.tc : Thread Cert.KernelMlpIdeal.nD Cert.KernelMlpIdeal.τ).loc Cert.KernelMlpIdeal.main_v4_7) = v7 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v102) = v0 c
          ∧ r.2.mem ((c.tc : Thread Cert.ReferenceMlpIdeal.nD Cert.ReferenceMlpIdeal.τ).loc Cert.ReferenceMlpIdeal.main_v103) = v1 c
          ∧ r.2.mem ((c.tc : Thread Cert.ReferenceMlpIdeal.nD Cert.ReferenceMlpIdeal.τ).loc Cert.ReferenceMlpIdeal.main_v104) = v2 c
          ∧ r.2.mem ((c.tc : Thread Cert.ReferenceMlpIdeal.nD Cert.ReferenceMlpIdeal.τ).loc Cert.ReferenceMlpIdeal.main_v105) = v3 c
          ∧ r.2.mem ((c.tc : Thread Cert.ReferenceMlpIdeal.nD Cert.ReferenceMlpIdeal.τ).loc Cert.ReferenceMlpIdeal.main_v106) = v4 c
          ∧ r.2.mem ((c.tc : Thread Cert.ReferenceMlpIdeal.nD Cert.ReferenceMlpIdeal.τ).loc Cert.ReferenceMlpIdeal.main_v101) = v5 c
          ∧ r.2.mem ((c.tc : Thread Cert.ReferenceMlpIdeal.nD Cert.ReferenceMlpIdeal.τ).loc Cert.ReferenceMlpIdeal.main_v81) = v6 c
          ∧ r.2.mem ((c.tc : Thread Cert.ReferenceMlpIdeal.nD Cert.ReferenceMlpIdeal.τ).loc Cert.ReferenceMlpIdeal.main_v57) = v7 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5))

def Claim : Prop :=
  ∃ (hKernel : Cert.Kernel.Facts) (hKernelIdeal : Cert.KernelIdeal.Facts) (hReferenceIdeal : Cert.ReferenceIdeal.Facts) (hKernelFf2 : Cert.KernelFf2.Facts) (hKernelFf2Ideal : Cert.KernelFf2Ideal.Facts) (hReferenceFf2Ideal : Cert.ReferenceFf2Ideal.Facts) (hKernelOut : Cert.KernelOut.Facts) (hKernelOutIdeal : Cert.KernelOutIdeal.Facts) (hReferenceOutIdeal : Cert.ReferenceOutIdeal.Facts) (hKernelFf1 : Cert.KernelFf1.Facts) (hKernelFf1Ideal : Cert.KernelFf1Ideal.Facts) (hReferenceFf1Ideal : Cert.ReferenceFf1Ideal.Facts) (hKernelIn : Cert.KernelIn.Facts) (hKernelInIdeal : Cert.KernelInIdeal.Facts) (hReferenceInIdeal : Cert.ReferenceInIdeal.Facts) (hKernelMlp : Cert.KernelMlp.Facts) (hKernelMlpIdeal : Cert.KernelMlpIdeal.Facts) (hReferenceMlpIdeal : Cert.ReferenceMlpIdeal.Facts) (hPre_finite : Cert.Pre_finite.Facts) (hPre_finite_mlp : Cert.Pre_finite_mlp.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFf2 (hKernelFf2 := hKernelFf2)
    ∧ quiescent_KernelFf2Ideal (hKernelFf2Ideal := hKernelFf2Ideal)
    ∧ quiescent_ReferenceFf2Ideal (hReferenceFf2Ideal := hReferenceFf2Ideal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFf1 (hKernelFf1 := hKernelFf1)
    ∧ quiescent_KernelFf1Ideal (hKernelFf1Ideal := hKernelFf1Ideal)
    ∧ quiescent_ReferenceFf1Ideal (hReferenceFf1Ideal := hReferenceFf1Ideal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMlp (hKernelMlp := hKernelMlp)
    ∧ quiescent_KernelMlpIdeal (hKernelMlpIdeal := hKernelMlpIdeal)
    ∧ quiescent_KernelMlpIdeal_pre_finite_mlp (hKernelMlpIdeal := hKernelMlpIdeal) (hPre_finite_mlp := hPre_finite_mlp)
    ∧ quiescent_ReferenceMlpIdeal (hReferenceMlpIdeal := hReferenceMlpIdeal)
    ∧ quiescent_ReferenceMlpIdeal_pre_finite_mlp (hReferenceMlpIdeal := hReferenceMlpIdeal) (hPre_finite_mlp := hPre_finite_mlp)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFf2_KernelFf2Ideal
    ∧ algebraic_KernelFf2Ideal_ReferenceFf2Ideal (hKernelFf2Ideal := hKernelFf2Ideal) (hReferenceFf2Ideal := hReferenceFf2Ideal)
    ∧ preserves_KernelOut_KernelOutIdeal
    ∧ algebraic_KernelOutIdeal_ReferenceOutIdeal (hKernelOutIdeal := hKernelOutIdeal) (hReferenceOutIdeal := hReferenceOutIdeal)
    ∧ preserves_KernelFf1_KernelFf1Ideal
    ∧ algebraic_KernelFf1Ideal_ReferenceFf1Ideal (hKernelFf1Ideal := hKernelFf1Ideal) (hReferenceFf1Ideal := hReferenceFf1Ideal)
    ∧ preserves_KernelIn_KernelInIdeal
    ∧ algebraic_KernelInIdeal_ReferenceInIdeal (hKernelInIdeal := hKernelInIdeal) (hReferenceInIdeal := hReferenceInIdeal)
    ∧ preserves_KernelMlp_KernelMlpIdeal
    ∧ algebraic_KernelMlpIdeal_ReferenceMlpIdeal_pre_finite_mlp (hKernelMlpIdeal := hKernelMlpIdeal) (hReferenceMlpIdeal := hReferenceMlpIdeal) (hPre_finite_mlp := hPre_finite_mlp)
-- ==== Pre_finite.lean ====
abbrev S1x4096x8x64 : Shape := ⟨4, ![1, 4096, 8, 64]⟩
abbrev S1x4096x8 : Shape := ⟨3, ![1, 4096, 8]⟩
abbrev S_ : Shape := ⟨0, ![]⟩

class Facts : Prop where
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  h_S_ : 0 < S_.numel
  bcast_S_S1x4096x8 : S_.BroadcastsInDim S1x4096x8 (![] : Fin 0 → Fin S1x4096x8.rank)
  reducesTo_S1x4096x8_S_d0_1_2 : S1x4096x8.ReducesTo [0, 1, 2] S_

variable [Facts]

def fn_part2 {F : FTy → Type} [FloatOps F] (main_arg7 : FVec F S1x4096x8 .f32) (main_v33 : IVec S_ 1) : IVec S_ 1 :=
  let main_v34 : FVec F S1x4096x8 .f32 := Host.absf main_arg7
  let main_cst_12 : FVec F S_ .f32 := constant S_ .f32 0x7F800000#32
  let main_v35 : FVec F S1x4096x8 .f32 := broadcastInDim S1x4096x8 ![] bcast_S_S1x4096x8 main_cst_12
  let main_v36 : IVec S1x4096x8 1 := cmpf .olt main_v34 main_v35
  let main_c_13 : IVec S_ 1 := constantI S_ 1 1#1
  let main_v37 : IVec S_ 1 := (fun x v => Host.reduce IntOp.andi x v reducesTo_S1x4096x8_S_d0_1_2 h_S_) main_v36 main_c_13
  let main_v38 : IVec S_ 1 := andi main_v33 main_v37
  main_v38

def fn_part1 {F : FTy → Type} [FloatOps F] (main_arg4 : FVec F S1x4096x8x64 .f32) (main_arg5 : FVec F S1x4096x8 .f32) (main_arg6 : FVec F S1x4096x8x64 .f32) (main_arg7 : FVec F S1x4096x8 .f32) (main_v13 : IVec S_ 1) (main_v16 : IVec S1x4096x8x64 1) : IVec S_ 1 :=
  let main_c_5 : IVec S_ 1 := constantI S_ 1 1#1
  let main_v17 : IVec S_ 1 := (fun x v => Host.reduce IntOp.andi x v reducesTo_S1x4096x8x64_S_d0_1_2_3 h_S_) main_v16 main_c_5
  let main_v18 : IVec S_ 1 := andi main_v13 main_v17
  let main_v19 : FVec F S1x4096x8x64 .f32 := Host.absf main_arg4
  let main_cst_6 : FVec F S_ .f32 := constant S_ .f32 0x7F800000#32
  let main_v20 : FVec F S1x4096x8x64 .f32 := broadcastInDim S1x4096x8x64 ![] bcast_S_S1x4096x8x64 main_cst_6
  let main_v21 : IVec S1x4096x8x64 1 := cmpf .olt main_v19 main_v20
  let main_c_7 : IVec S_ 1 := constantI S_ 1 1#1
  let main_v22 : IVec S_ 1 := (fun x v => Host.reduce IntOp.andi x v reducesTo_S1x4096x8x64_S_d0_1_2_3 h_S_) main_v21 main_c_7
  let main_v23 : IVec S_ 1 := andi main_v18 main_v22
  let main_v24 : FVec F S1x4096x8 .f32 := Host.absf main_arg5
  let main_cst_8 : FVec F S_ .f32 := constant S_ .f32 0x7F800000#32
  let main_v25 : FVec F S1x4096x8 .f32 := broadcastInDim S1x4096x8 ![] bcast_S_S1x4096x8 main_cst_8
  let main_v26 : IVec S1x4096x8 1 := cmpf .olt main_v24 main_v25
  let main_c_9 : IVec S_ 1 := constantI S_ 1 1#1
  let main_v27 : IVec S_ 1 := (fun x v => Host.reduce IntOp.andi x v reducesTo_S1x4096x8_S_d0_1_2 h_S_) main_v26 main_c_9
  let main_v28 : IVec S_ 1 := andi main_v23 main_v27
  let main_v29 : FVec F S1x4096x8x64 .f32 := Host.absf main_arg6
  let main_cst_10 : FVec F S_ .f32 := constant S_ .f32 0x7F800000#32
  let main_v30 : FVec F S1x4096x8x64 .f32 := broadcastInDim S1x4096x8x64 ![] bcast_S_S1x4096x8x64 main_cst_10
  let main_v31 : IVec S1x4096x8x64 1 := cmpf .olt main_v29 main_v30
  let main_c_11 : IVec S_ 1 := constantI S_ 1 1#1
  let main_v32 : IVec S_ 1 := (fun x v => Host.reduce IntOp.andi x v reducesTo_S1x4096x8x64_S_d0_1_2_3 h_S_) main_v31 main_c_11
  let main_v33 : IVec S_ 1 := andi main_v28 main_v32
  fn_part2 (F := F) main_arg7 main_v33

def fn {F : FTy → Type} [FloatOps F] (main_arg0 : FVec F S1x4096x8x64 .f32) (main_arg1 : FVec F S1x4096x8x64 .f32) (main_arg2 : FVec F S1x4096x8x64 .f32) (main_arg3 : FVec F S1x4096x8x64 .f32) (main_arg4 : FVec F S1x4096x8x64 .f32) (main_arg5 : FVec F S1x4096x8 .f32) (main_arg6 : FVec F S1x4096x8x64 .f32) (main_arg7 : FVec F S1x4096x8 .f32) : IVec S_ 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_c : IVec S_ 1 := constantI S_ 1 1#1
  let main_v3 : IVec S_ 1 := (fun x v => Host.reduce IntOp.andi x v reducesTo_S1x4096x8x64_S_d0_1_2_3 h_S_) main_v2 main_c
  let main_v4 : FVec F S1x4096x8x64 .f32 := Host.absf main_arg1
  let main_cst_0 : FVec F S_ .f32 := constant S_ .f32 0x7F800000#32
  let main_v5 : FVec F S1x4096x8x64 .f32 := broadcastInDim S1x4096x8x64 ![] bcast_S_S1x4096x8x64 main_cst_0
  let main_v6 : IVec S1x4096x8x64 1 := cmpf .olt main_v4 main_v5
  let main_c_1 : IVec S_ 1 := constantI S_ 1 1#1
  let main_v7 : IVec S_ 1 := (fun x v => Host.reduce IntOp.andi x v reducesTo_S1x4096x8x64_S_d0_1_2_3 h_S_) main_v6 main_c_1
  let main_v8 : IVec S_ 1 := andi main_v3 main_v7
  let main_v9 : FVec F S1x4096x8x64 .f32 := Host.absf main_arg2
  let main_cst_2 : FVec F S_ .f32 := constant S_ .f32 0x7F800000#32
  let main_v10 : FVec F S1x4096x8x64 .f32 := broadcastInDim S1x4096x8x64 ![] bcast_S_S1x4096x8x64 main_cst_2
  let main_v11 : IVec S1x4096x8x64 1 := cmpf .olt main_v9 main_v10
  let main_c_3 : IVec S_ 1 := constantI S_ 1 1#1
  let main_v12 : IVec S_ 1 := (fun x v => Host.reduce IntOp.andi x v reducesTo_S1x4096x8x64_S_d0_1_2_3 h_S_) main_v11 main_c_3
  let main_v13 : IVec S_ 1 := andi main_v8 main_v12
  let main_v14 : FVec F S1x4096x8x64 .f32 := Host.absf main_arg3
  let main_cst_4 : FVec F S_ .f32 := constant S_ .f32 0x7F800000#32
  let main_v15 : FVec F S1x4096x8x64 .f32 := broadcastInDim S1x4096x8x64 ![] bcast_S_S1x4096x8x64 main_cst_4
  let main_v16 : IVec S1x4096x8x64 1 := cmpf .olt main_v14 main_v15
  fn_part1 (F := F) main_arg4 main_arg5 main_arg6 main_arg7 main_v13 main_v16
-- ==== Pre_finite_mlp.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1x1024 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x4096 .f32) (main_arg3 : FVec F S4096x1024 .f32) (main_arg4 : FVec F S1x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S1x4096x8x64 : Shape := ⟨4, ![1, 4096, 8, 64]⟩
abbrev S1x4096x8 : Shape := ⟨3, ![1, 4096, 8]⟩
abbrev S8 : Shape := ⟨1, ![8]⟩
abbrev S_ : Shape := ⟨0, ![]⟩
abbrev S1x256x16x8x64 : Shape := ⟨5, ![1, 256, 16, 8, 64]⟩
abbrev S1x16x256x8x64 : Shape := ⟨5, ![1, 16, 256, 8, 64]⟩
abbrev S16x256x8x64 : Shape := ⟨4, ![16, 256, 8, 64]⟩
abbrev S16x2x128x8x64 : Shape := ⟨5, ![16, 2, 128, 8, 64]⟩
abbrev S16x1x128x8x64 : Shape := ⟨5, ![16, 1, 128, 8, 64]⟩
abbrev S16x2x256x8x64 : Shape := ⟨5, ![16, 2, 256, 8, 64]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S8x1x1 : Shape := ⟨3, ![8, 1, 1]⟩
abbrev S8x128x256 : Shape := ⟨3, ![8, 128, 256]⟩
abbrev S1x2x1x128x256 : Shape := ⟨5, ![1, 2, 1, 128, 256]⟩
abbrev S1x1x8x128x256 : Shape := ⟨5, ![1, 1, 8, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x2x128x8x1 : Shape := ⟨5, ![16, 2, 128, 8, 1]⟩
abbrev S16x256x8 : Shape := ⟨3, ![16, 256, 8]⟩
abbrev S1x16x256x8 : Shape := ⟨4, ![1, 16, 256, 8]⟩
abbrev S1x256x16x8 : Shape := ⟨4, ![1, 256, 16, 8]⟩
abbrev S1x4096x8x1 : Shape := ⟨4, ![1, 4096, 8, 1]⟩
abbrev S256x16x512 : Shape := ⟨3, ![256, 16, 512]⟩
abbrev S16x256x512 : Shape := ⟨3, ![16, 256, 512]⟩
abbrev S16x256x1536 : Shape := ⟨3, ![16, 256, 1536]⟩
abbrev S256x16x8 : Shape := ⟨3, ![256, 16, 8]⟩
abbrev S16x256x128 : Shape := ⟨3, ![16, 256, 128]⟩
abbrev S1x128x512 : Shape := ⟨3, ![1, 128, 512]⟩
abbrev S1x128x128 : Shape := ⟨3, ![1, 128, 128]⟩
abbrev S128x512 : Shape := ⟨2, ![128, 512]⟩
abbrev S2x8x128x256 : Shape := ⟨4, ![2, 8, 128, 256]⟩
abbrev S1x1x128x256 : Shape := ⟨4, ![1, 1, 128, 256]⟩
abbrev S128x128 : Shape := ⟨2, ![128, 128]⟩
abbrev S256x128 : Shape := ⟨2, ![256, 128]⟩
abbrev S1x128x1 : Shape := ⟨3, ![1, 128, 1]⟩
abbrev S256x1 : Shape := ⟨2, ![256, 1]⟩
abbrev S256x256 : Shape := ⟨2, ![256, 256]⟩

abbrev nBuf : Space → Nat
  | .hbm => 199
  | .vmem => 25
  | .smem => 0
  | _ => 0

abbrev hbmTy0_0 (i : Nat) : BufTy := match i % 128 with
  | 0 => ⟨S1x4096x8x64, .f32⟩
  | 1 => ⟨S1x4096x8x64, .f32⟩
  | 2 => ⟨S1x4096x8x64, .f32⟩
  | 3 => ⟨S1x4096x8x64, .f32⟩
  | 4 => ⟨S1x4096x8x64, .f32⟩
  | 5 => ⟨S1x4096x8, .f32⟩
  | 6 => ⟨S1x4096x8x64, .f32⟩
  | 7 => ⟨S1x4096x8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S1x256x16x8x64, .f32⟩
  | 22 => ⟨S1x16x256x8x64, .f32⟩
  | 23 => ⟨S16x256x8x64, .f32⟩
  | 24 => ⟨S16x2x128x8x64, .f32⟩
  | 25 => ⟨S1x256x16x8x64, .f32⟩
  | 26 => ⟨S1x16x256x8x64, .f32⟩
  | 27 => ⟨S16x256x8x64, .f32⟩
  | 28 => ⟨S16x2x128x8x64, .f32⟩
  | 29 => ⟨S16x1x128x8x64, .f32⟩
  | 30 => ⟨S_, .f32⟩
  | 31 => ⟨S16x1x128x8x64, .f32⟩
  | 32 => ⟨S16x1x128x8x64, .f32⟩
  | 33 => ⟨S16x2x128x8x64, .f32⟩
  | 34 => ⟨S_, .f32⟩
  | 35 => ⟨S16x1x128x8x64, .f32⟩
  | 36 => ⟨S16x2x256x8x64, .f32⟩
  | 37 => ⟨S1x256x16x8x64, .f32⟩
  | 38 => ⟨S1x16x256x8x64, .f32⟩
  | 39 => ⟨S16x256x8x64, .f32⟩
  | 40 => ⟨S16x2x128x8x64, .f32⟩
  | 41 => ⟨S16x1x128x8x64, .f32⟩
  | 42 => ⟨S_, .f32⟩
  | 43 => ⟨S16x1x128x8x64, .f32⟩
  | 44 => ⟨S16x1x128x8x64, .f32⟩
  | 45 => ⟨S16x2x128x8x64, .f32⟩
  | 46 => ⟨S_, .f32⟩
  | 47 => ⟨S16x1x128x8x64, .f32⟩
  | 48 => ⟨S16x2x256x8x64, .f32⟩
  | 49 => ⟨S16x2x8x128x256, .f32⟩
  | 50 => ⟨S_, .f32⟩
  | 51 => ⟨S16x2x8x128x256, .f32⟩
  | 52 => ⟨S16x2x8x128x256, .f32⟩
  | 53 => ⟨S128, .i32⟩
  | 54 => ⟨S128x1, .i32⟩
  | 55 => ⟨S_, .i32⟩
  | 56 => ⟨S128x1, .i32⟩
  | 57 => ⟨S128x1, .i32⟩
  | 58 => ⟨S256, .i32⟩
  | 59 => ⟨S1x256, .i32⟩
  | 60 => ⟨S128x256, .i32⟩
  | 61 => ⟨S128x256, .i32⟩
  | 62 => ⟨S128x256, .i32⟩
  | 63 => ⟨S2, .i32⟩
  | 64 => ⟨S2x1x1, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S_, .i32⟩
  | 73 => ⟨S2x1x1, .i32⟩
  | 74 => ⟨S2x1x1, .i32⟩
  | 75 => ⟨S1x1x256, .i32⟩
  | 76 => ⟨S2x1x256, .i32⟩
  | 77 => ⟨S2x1x256, .i32⟩
  | 78 => ⟨S2x1x256, .i32⟩
  | 79 => ⟨S_, .i32⟩
  | 80 => ⟨S2x1x256, .i32⟩
  | 81 => ⟨S2x1x256, .i32⟩
  | 82 => ⟨S_, .i32⟩
  | 83 => ⟨S2x1x256, .i32⟩
  | 84 => ⟨S2x1x256, .i1⟩
  | 85 => ⟨S1x128x256, .i1⟩
  | 86 => ⟨S2x128x256, .i1⟩
  | 87 => ⟨S2x128x256, .i1⟩
  | 88 => ⟨S2x128x256, .i1⟩
  | 89 => ⟨S8x1x1, .f32⟩
  | 90 => ⟨S8x1x1, .f32⟩
  | 91 => ⟨S_, .i32⟩
  | 92 => ⟨S128x256, .i32⟩
  | 93 => ⟨S128x256, .i32⟩
  | 94 => ⟨S128x256, .f32⟩
  | 95 => ⟨S1x128x256, .f32⟩
  | 96 => ⟨S8x128x256, .f32⟩
  | 97 => ⟨S8x128x256, .f32⟩
  | 98 => ⟨S8x128x256, .f32⟩
  | 99 => ⟨S1x2x1x128x256, .i1⟩
  | 100 => ⟨S1x1x8x128x256, .f32⟩
  | 101 => ⟨S16x2x8x128x256, .f32⟩
  | 102 => ⟨S16x2x8x128x256, .f32⟩
  | 103 => ⟨S_, .f32⟩
  | 104 => ⟨S_, .f32⟩
  | 105 => ⟨S16x2x8x128x256, .i1⟩
  | 106 => ⟨S16x2x8x128x256, .f32⟩
  | 107 => ⟨S16x2x8x128x256, .f32⟩
  | 108 => ⟨S_, .f32⟩
  | 109 => ⟨S16x2x8x128x256, .f32⟩
  | 110 => ⟨S_, .f32⟩
  | 111 => ⟨S16x2x8x128, .f32⟩
  | 112 => ⟨S16x2x8x128x1, .f32⟩
  | 113 => ⟨S16x2x8x128x256, .f32⟩
  | 114 => ⟨S16x2x8x128x256, .i1⟩
  | 115 => ⟨S16x2x8x128x256, .f32⟩
  | 116 => ⟨S_, .f32⟩
  | 117 => ⟨S16x2x8x128, .f32⟩
  | 118 => ⟨S16x2x8x128x1, .f32⟩
  | 119 => ⟨S16x2x8x128x256, .f32⟩
  | 120 => ⟨S16x2x8x128x256, .f32⟩
  | 121 => ⟨S16x2x8x128x256, .f32⟩
  | 122 => ⟨S_, .f32⟩
  | 123 => ⟨S16x2x8x128, .f32⟩
  | 124 => ⟨S16x2x8x64x128, .f32⟩
  | 125 => ⟨S16x2x128x8x64, .f32⟩
  | 126 => ⟨S16x2x128x8, .f32⟩
  | 127 => ⟨S16x2x128x8x1, .f32⟩
  | _ => ⟨S1x4096x8x64, .f32⟩

abbrev hbmTy0_1 (i : Nat) : BufTy := match i % 128 with
  | 0 => ⟨S16x2x128x8x64, .f32⟩
  | 1 => ⟨S16x2x128x8x64, .f32⟩
  | 2 => ⟨S16x2x128x8x1, .f32⟩
  | 3 => ⟨S_, .f32⟩
  | 4 => ⟨S16x2x128x8x1, .f32⟩
  | 5 => ⟨S16x2x128x8x1, .f32⟩
  | 6 => ⟨S16x2x8x128, .f32⟩
  | 7 => ⟨S16x2x8x128, .f32⟩
  | 8 => ⟨S16x2x8x128, .f32⟩
  | 9 => ⟨S16x2x128x8, .f32⟩
  | 10 => ⟨S16x256x8x64, .f32⟩
  | 11 => ⟨S1x16x256x8x64, .f32⟩
  | 12 => ⟨S1x256x16x8x64, .f32⟩
  | 13 => ⟨S1x4096x8x64, .f32⟩
  | 14 => ⟨S16x256x8, .f32⟩
  | 15 => ⟨S1x16x256x8, .f32⟩
  | 16 => ⟨S1x256x16x8, .f32⟩
  | 17 => ⟨S1x4096x8, .f32⟩
  | 18 => ⟨S1x4096x8, .f32⟩
  | 19 => ⟨S1x4096x8, .f32⟩
  | 20 => ⟨S1x4096x8, .f32⟩
  | 21 => ⟨S1x4096x8, .f32⟩
  | 22 => ⟨S1x4096x8, .f32⟩
  | 23 => ⟨S1x4096x8, .f32⟩
  | 24 => ⟨S1x4096x8, .f32⟩
  | 25 => ⟨S1x4096x8, .f32⟩
  | 26 => ⟨S1x4096x8, .f32⟩
  | 27 => ⟨S1x4096x8, .f32⟩
  | 28 => ⟨S1x4096x8, .f32⟩
  | 29 => ⟨S1x4096x8, .f32⟩
  | 30 => ⟨S1x4096x8x1, .f32⟩
  | 31 => ⟨S1x4096x8x64, .f32⟩
  | 32 => ⟨S1x4096x8x64, .f32⟩
  | 33 => ⟨S1x4096x8x1, .f32⟩
  | 34 => ⟨S1x4096x8x64, .f32⟩
  | 35 => ⟨S1x4096x8x64, .f32⟩
  | 36 => ⟨S1x4096x8x64, .f32⟩
  | 37 => ⟨S1x4096x8x1, .f32⟩
  | 38 => ⟨S1x4096x8x64, .f32⟩
  | 39 => ⟨S1x4096x8x64, .f32⟩
  | 40 => ⟨S1x4096x8x64, .f32⟩
  | 41 => ⟨S1x4096x8x1, .f32⟩
  | 42 => ⟨S1x4096x8x64, .f32⟩
  | 43 => ⟨S1x4096x8x64, .f32⟩
  | 44 => ⟨S1x4096x8x64, .f32⟩
  | 45 => ⟨S_, .f32⟩
  | 46 => ⟨S1x4096x8, .f32⟩
  | 47 => ⟨S256x16x512, .f32⟩
  | 48 => ⟨S16x256x512, .f32⟩
  | 49 => ⟨S256x16x512, .f32⟩
  | 50 => ⟨S16x256x512, .f32⟩
  | 51 => ⟨S256x16x512, .f32⟩
  | 52 => ⟨S16x256x512, .f32⟩
  | 53 => ⟨S16x256x1536, .f32⟩
  | 54 => ⟨S16x256x1536, .bf16⟩
  | 55 => ⟨S256x16x512, .f32⟩
  | 56 => ⟨S16x256x512, .f32⟩
  | 57 => ⟨S16x256x512, .bf16⟩
  | 58 => ⟨S256x16x8, .f32⟩
  | 59 => ⟨S16x256x8, .f32⟩
  | 60 => ⟨S_, .i32⟩
  | 61 => ⟨S_, .f32⟩
  | 62 => ⟨S16x256x128, .f32⟩
  | 63 => ⟨S256x16x8, .f32⟩
  | 64 => ⟨S16x256x8, .f32⟩
  | 65 => ⟨S_, .i32⟩
  | 66 => ⟨S_, .f32⟩
  | 67 => ⟨S16x256x128, .f32⟩
  | 68 => ⟨S16x256x512, .bf16⟩
  | 69 => ⟨S16x256x512, .bf16⟩
  | 70 => ⟨S16x256x512, .bf16⟩
  | _ => ⟨S1x4096x8x64, .f32⟩

abbrev hbmTy (i : Nat) : BufTy := match i / 128 with
  | 0 => hbmTy0_0 i
  | 1 => hbmTy0_1 i
  | _ => ⟨S1x4096x8x64, .f32⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S1x128x512, .bf16⟩
  | .local _ .vmem, ⟨21, _⟩ => ⟨S1x128x512, .bf16⟩
  | .local _ .vmem, ⟨22, _⟩ => ⟨S128x512, .f32⟩
  | .local _ .vmem, ⟨23, _⟩ => ⟨S128x512, .f32⟩
  | .local _ .vmem, ⟨24, _⟩ => ⟨S2x8x128x256, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_call0_v0 : Ref sig .tc := ⟨.hbm, 104, rfl⟩
abbrev main_v79_1 : Ref sig .tc := ⟨.hbm, 105, rfl⟩
abbrev main_call0_v2 : Ref sig .tc := ⟨.hbm, 106, rfl⟩
abbrev main_v79_0 : Ref sig .tc := ⟨.hbm, 107, rfl⟩
abbrev main_call0_cst : Ref sig .tc := ⟨.hbm, 108, rfl⟩
abbrev main_v79_2 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_18 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_19 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_c_20 : Ref sig .tc := ⟨.hbm, 188, rfl⟩
abbrev main_call1_v0 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_c_21 : Ref sig .tc := ⟨.hbm, 193, rfl⟩
abbrev main_call2_v0 : Ref sig .tc := ⟨.hbm, 194, rfl⟩
abbrev main_v156 : Ref sig .tc := ⟨.hbm, 195, rfl⟩
abbrev main_v157_0 : Ref sig .tc := ⟨.hbm, 196, rfl⟩
abbrev main_v157_1 : Ref sig .tc := ⟨.hbm, 197, rfl⟩
abbrev main_v157_2 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v60 : BitVec 32 := Scalar.extui v19
  let v61 : Index := Scalar.indexCast v60
  let c0_40 : Index := 0#32
  let c0_41 : Index := 0#32
  let c0_42 : Index := 0#32
  ![v61.toNat, 0, 0, 0]
def k0_off2 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v60 : BitVec 32 := Scalar.extui v19
  let v64 : Index := Scalar.indexCast v60
  let c1_43 : Index := 1#32
  let c0_44 : Index := 0#32
  let c0_45 : Index := 0#32
  ![v64.toNat, 1, 0, 0]
def k0_off3 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v156 : BitVec 32 := Scalar.extui v19
  let v157 : Index := Scalar.indexCast v156
  let c2_102 : Index := 2#32
  let c0_103 : Index := 0#32
  let c0_104 : Index := 0#32
  ![v157.toNat, 2, 0, 0]
def k0_off4 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v156 : BitVec 32 := Scalar.extui v19
  let v160 : Index := Scalar.indexCast v156
  let c3_105 : Index := 3#32
  let c0_106 : Index := 0#32
  let c0_107 : Index := 0#32
  ![v160.toNat, 3, 0, 0]
def k0_off5 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v252 : BitVec 32 := Scalar.extui v19
  let v253 : Index := Scalar.indexCast v252
  let c4_164 : Index := 4#32
  let c0_165 : Index := 0#32
  let c0_166 : Index := 0#32
  ![v253.toNat, 4, 0, 0]
def k0_off6 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v252 : BitVec 32 := Scalar.extui v19
  let v256 : Index := Scalar.indexCast v252
  let c5_167 : Index := 5#32
  let c0_168 : Index := 0#32
  let c0_169 : Index := 0#32
  ![v256.toNat, 5, 0, 0]
def k0_off7 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v348 : BitVec 32 := Scalar.extui v19
  let v349 : Index := Scalar.indexCast v348
  let c6_226 : Index := 6#32
  let c0_227 : Index := 0#32
  let c0_228 : Index := 0#32
  ![v349.toNat, 6, 0, 0]
def k0_off8 (i : grid0.Coords) : Fin 4 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v348 : BitVec 32 := Scalar.extui v19
  let v352 : Index := Scalar.indexCast v348
  let c7_229 : Index := 7#32
  let c0_230 : Index := 0#32
  let c0_231 : Index := 0#32
  ![v352.toNat, 7, 0, 0]
def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let c0_i32_11 : BitVec 32 := 0#32
  ![v17.toNat, v27.toNat, c1_i32_10.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let c1_i32_12 : BitVec 32 := 1#32
  let c0_i32_13 : BitVec 32 := 0#32
  ![v17.toNat, v29.toNat, c1_i32_12.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32_10 : BitVec 32 := 2#32
  let c0_i32_11 : BitVec 32 := 0#32
  ![v17.toNat, v27.toNat, c2_i32_10.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let c2_i32_12 : BitVec 32 := 2#32
  let c0_i32_13 : BitVec 32 := 0#32
  ![v17.toNat, v29.toNat, c2_i32_12.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x4096x8x64 : Shape := ⟨4, ![1, 4096, 8, 64]⟩
abbrev S1x4096x8 : Shape := ⟨3, ![1, 4096, 8]⟩
abbrev S8 : Shape := ⟨1, ![8]⟩
abbrev S_ : Shape := ⟨0, ![]⟩
abbrev S1x256x16x8x64 : Shape := ⟨5, ![1, 256, 16, 8, 64]⟩
abbrev S1x16x256x8x64 : Shape := ⟨5, ![1, 16, 256, 8, 64]⟩
abbrev S16x256x8x64 : Shape := ⟨4, ![16, 256, 8, 64]⟩
abbrev S16x2x128x8x64 : Shape := ⟨5, ![16, 2, 128, 8, 64]⟩
abbrev S16x1x128x8x64 : Shape := ⟨5, ![16, 1, 128, 8, 64]⟩
abbrev S16x2x256x8x64 : Shape := ⟨5, ![16, 2, 256, 8, 64]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S8x1x1 : Shape := ⟨3, ![8, 1, 1]⟩
abbrev S8x128x256 : Shape := ⟨3, ![8, 128, 256]⟩
abbrev S1x2x1x128x256 : Shape := ⟨5, ![1, 2, 1, 128, 256]⟩
abbrev S1x1x8x128x256 : Shape := ⟨5, ![1, 1, 8, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x2x128x8x1 : Shape := ⟨5, ![16, 2, 128, 8, 1]⟩
abbrev S16x256x8 : Shape := ⟨3, ![16, 256, 8]⟩
abbrev S1x16x256x8 : Shape := ⟨4, ![1, 16, 256, 8]⟩
abbrev S1x256x16x8 : Shape := ⟨4, ![1, 256, 16, 8]⟩
abbrev S1x1x4096x8 : Shape := ⟨4, ![1, 1, 4096, 8]⟩
abbrev S3x1x4096x8 : Shape := ⟨4, ![3, 1, 4096, 8]⟩
abbrev S3x1x4096x8x1 : Shape := ⟨5, ![3, 1, 4096, 8, 1]⟩
abbrev S1x1x4096x8x64 : Shape := ⟨5, ![1, 1, 4096, 8, 64]⟩
abbrev S3x1x4096x8x64 : Shape := ⟨5, ![3, 1, 4096, 8, 64]⟩
abbrev S3x4096x8 : Shape := ⟨3, ![3, 4096, 8]⟩
abbrev S4096x8 : Shape := ⟨2, ![4096, 8]⟩
abbrev S16x2x8x64x256 : Shape := ⟨5, ![16, 2, 8, 64, 256]⟩
abbrev S16x2x8x256x64 : Shape := ⟨5, ![16, 2, 8, 256, 64]⟩
abbrev S16x2x8x128x64 : Shape := ⟨5, ![16, 2, 8, 128, 64]⟩
abbrev S256x16x512 : Shape := ⟨3, ![256, 16, 512]⟩
abbrev S16x256x512 : Shape := ⟨3, ![16, 256, 512]⟩

abbrev nBuf : Space → Nat
  | .hbm => 329
  | .vmem => 0
  | .smem => 0
  | _ => 0

abbrev hbmTy0_0 (i : Nat) : BufTy := match i % 128 with
  | 0 => ⟨S1x4096x8x64, .f32⟩
  | 1 => ⟨S1x4096x8x64, .f32⟩
  | 2 => ⟨S1x4096x8x64, .f32⟩
  | 3 => ⟨S1x4096x8x64, .f32⟩
  | 4 => ⟨S1x4096x8x64, .f32⟩
  | 5 => ⟨S1x4096x8, .f32⟩
  | 6 => ⟨S1x4096x8x64, .f32⟩
  | 7 => ⟨S1x4096x8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S1x256x16x8x64, .f32⟩
  | 22 => ⟨S1x16x256x8x64, .f32⟩
  | 23 => ⟨S16x256x8x64, .f32⟩
  | 24 => ⟨S16x2x128x8x64, .f32⟩
  | 25 => ⟨S1x256x16x8x64, .f32⟩
  | 26 => ⟨S1x16x256x8x64, .f32⟩
  | 27 => ⟨S16x256x8x64, .f32⟩
  | 28 => ⟨S16x2x128x8x64, .f32⟩
  | 29 => ⟨S16x1x128x8x64, .f32⟩
  | 30 => ⟨S_, .f32⟩
  | 31 => ⟨S16x1x128x8x64, .f32⟩
  | 32 => ⟨S16x1x128x8x64, .f32⟩
  | 33 => ⟨S16x2x128x8x64, .f32⟩
  | 34 => ⟨S_, .f32⟩
  | 35 => ⟨S16x1x128x8x64, .f32⟩
  | 36 => ⟨S16x2x256x8x64, .f32⟩
  | 37 => ⟨S1x256x16x8x64, .f32⟩
  | 38 => ⟨S1x16x256x8x64, .f32⟩
  | 39 => ⟨S16x256x8x64, .f32⟩
  | 40 => ⟨S16x2x128x8x64, .f32⟩
  | 41 => ⟨S16x1x128x8x64, .f32⟩
  | 42 => ⟨S_, .f32⟩
  | 43 => ⟨S16x1x128x8x64, .f32⟩
  | 44 => ⟨S16x1x128x8x64, .f32⟩
  | 45 => ⟨S16x2x128x8x64, .f32⟩
  | 46 => ⟨S_, .f32⟩
  | 47 => ⟨S16x1x128x8x64, .f32⟩
  | 48 => ⟨S16x2x256x8x64, .f32⟩
  | 49 => ⟨S16x2x8x128x256, .f32⟩
  | 50 => ⟨S_, .f32⟩
  | 51 => ⟨S16x2x8x128x256, .f32⟩
  | 52 => ⟨S16x2x8x128x256, .f32⟩
  | 53 => ⟨S128, .i32⟩
  | 54 => ⟨S128x1, .i32⟩
  | 55 => ⟨S_, .i32⟩
  | 56 => ⟨S128x1, .i32⟩
  | 57 => ⟨S128x1, .i32⟩
  | 58 => ⟨S256, .i32⟩
  | 59 => ⟨S1x256, .i32⟩
  | 60 => ⟨S128x256, .i32⟩
  | 61 => ⟨S128x256, .i32⟩
  | 62 => ⟨S128x256, .i32⟩
  | 63 => ⟨S2, .i32⟩
  | 64 => ⟨S2x1x1, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S_, .i32⟩
  | 73 => ⟨S2x1x1, .i32⟩
  | 74 => ⟨S2x1x1, .i32⟩
  | 75 => ⟨S1x1x256, .i32⟩
  | 76 => ⟨S2x1x256, .i32⟩
  | 77 => ⟨S2x1x256, .i32⟩
  | 78 => ⟨S2x1x256, .i32⟩
  | 79 => ⟨S_, .i32⟩
  | 80 => ⟨S2x1x256, .i32⟩
  | 81 => ⟨S2x1x256, .i32⟩
  | 82 => ⟨S_, .i32⟩
  | 83 => ⟨S2x1x256, .i32⟩
  | 84 => ⟨S2x1x256, .i1⟩
  | 85 => ⟨S1x128x256, .i1⟩
  | 86 => ⟨S2x128x256, .i1⟩
  | 87 => ⟨S2x128x256, .i1⟩
  | 88 => ⟨S2x128x256, .i1⟩
  | 89 => ⟨S8x1x1, .f32⟩
  | 90 => ⟨S8x1x1, .f32⟩
  | 91 => ⟨S_, .i32⟩
  | 92 => ⟨S128x256, .i32⟩
  | 93 => ⟨S128x256, .i32⟩
  | 94 => ⟨S128x256, .f32⟩
  | 95 => ⟨S1x128x256, .f32⟩
  | 96 => ⟨S8x128x256, .f32⟩
  | 97 => ⟨S8x128x256, .f32⟩
  | 98 => ⟨S8x128x256, .f32⟩
  | 99 => ⟨S1x2x1x128x256, .i1⟩
  | 100 => ⟨S1x1x8x128x256, .f32⟩
  | 101 => ⟨S16x2x8x128x256, .f32⟩
  | 102 => ⟨S16x2x8x128x256, .f32⟩
  | 103 => ⟨S_, .f32⟩
  | 104 => ⟨S_, .f32⟩
  | 105 => ⟨S16x2x8x128x256, .i1⟩
  | 106 => ⟨S16x2x8x128x256, .f32⟩
  | 107 => ⟨S16x2x8x128x256, .f32⟩
  | 108 => ⟨S_, .f32⟩
  | 109 => ⟨S16x2x8x128x256, .f32⟩
  | 110 => ⟨S_, .f32⟩
  | 111 => ⟨S16x2x8x128, .f32⟩
  | 112 => ⟨S16x2x8x128x1, .f32⟩
  | 113 => ⟨S16x2x8x128x256, .f32⟩
  | 114 => ⟨S16x2x8x128x256, .i1⟩
  | 115 => ⟨S16x2x8x128x256, .f32⟩
  | 116 => ⟨S_, .f32⟩
  | 117 => ⟨S16x2x8x128, .f32⟩
  | 118 => ⟨S16x2x8x128x1, .f32⟩
  | 119 => ⟨S16x2x8x128x256, .f32⟩
  | 120 => ⟨S16x2x8x128x256, .f32⟩
  | 121 => ⟨S16x2x8x128x256, .f32⟩
  | 122 => ⟨S_, .f32⟩
  | 123 => ⟨S16x2x8x128, .f32⟩
  | 124 => ⟨S16x2x8x64x128, .f32⟩
  | 125 => ⟨S16x2x128x8x64, .f32⟩
  | 126 => ⟨S16x2x128x8, .f32⟩
  | 127 => ⟨S16x2x128x8x1, .f32⟩
  | _ => ⟨S1x4096x8x64, .f32⟩

abbrev hbmTy0_1 (i : Nat) : BufTy := match i % 128 with
  | 0 => ⟨S16x2x128x8x64, .f32⟩
  | 1 => ⟨S16x2x128x8x64, .f32⟩
  | 2 => ⟨S16x2x128x8x1, .f32⟩
  | 3 => ⟨S_, .f32⟩
  | 4 => ⟨S16x2x128x8x1, .f32⟩
  | 5 => ⟨S16x2x128x8x1, .f32⟩
  | 6 => ⟨S16x2x8x128, .f32⟩
  | 7 => ⟨S16x2x8x128, .f32⟩
  | 8 => ⟨S16x2x8x128, .f32⟩
  | 9 => ⟨S16x2x128x8, .f32⟩
  | 10 => ⟨S16x256x8x64, .f32⟩
  | 11 => ⟨S1x16x256x8x64, .f32⟩
  | 12 => ⟨S1x256x16x8x64, .f32⟩
  | 13 => ⟨S1x4096x8x64, .f32⟩
  | 14 => ⟨S16x256x8, .f32⟩
  | 15 => ⟨S1x16x256x8, .f32⟩
  | 16 => ⟨S1x256x16x8, .f32⟩
  | 17 => ⟨S1x4096x8, .f32⟩
  | 18 => ⟨S1x1x4096x8, .f32⟩
  | 19 => ⟨S1x1x4096x8, .f32⟩
  | 20 => ⟨S1x1x4096x8, .f32⟩
  | 21 => ⟨S3x1x4096x8, .f32⟩
  | 22 => ⟨S_, .f32⟩
  | 23 => ⟨S1x4096x8, .f32⟩
  | 24 => ⟨S_, .f32⟩
  | 25 => ⟨S1x4096x8, .f32⟩
  | 26 => ⟨S_, .f32⟩
  | 27 => ⟨S1x4096x8, .f32⟩
  | 28 => ⟨S1x1x4096x8, .f32⟩
  | 29 => ⟨S3x1x4096x8, .f32⟩
  | 30 => ⟨S3x1x4096x8, .i1⟩
  | 31 => ⟨S3x1x4096x8, .f32⟩
  | 32 => ⟨S_, .f32⟩
  | 33 => ⟨S1x4096x8, .f32⟩
  | 34 => ⟨S_, .f32⟩
  | 35 => ⟨S1x4096x8, .f32⟩
  | 36 => ⟨S1x4096x8, .f32⟩
  | 37 => ⟨S_, .f32⟩
  | 38 => ⟨S1x4096x8, .f32⟩
  | 39 => ⟨S1x4096x8, .i1⟩
  | 40 => ⟨S_, .f32⟩
  | 41 => ⟨S1x4096x8, .f32⟩
  | 42 => ⟨S1x4096x8, .i1⟩
  | 43 => ⟨S_, .f32⟩
  | 44 => ⟨S1x4096x8, .f32⟩
  | 45 => ⟨S_, .f32⟩
  | 46 => ⟨S1x4096x8, .f32⟩
  | 47 => ⟨S_, .f32⟩
  | 48 => ⟨S1x4096x8, .f32⟩
  | 49 => ⟨S1x4096x8, .f32⟩
  | 50 => ⟨S1x4096x8, .f32⟩
  | 51 => ⟨S1x1x4096x8, .f32⟩
  | 52 => ⟨S3x1x4096x8, .f32⟩
  | 53 => ⟨S3x1x4096x8, .f32⟩
  | 54 => ⟨S3x1x4096x8, .f32⟩
  | 55 => ⟨S_, .f32⟩
  | 56 => ⟨S1x4096x8, .f32⟩
  | 57 => ⟨S1x1x4096x8, .f32⟩
  | 58 => ⟨S3x1x4096x8, .f32⟩
  | 59 => ⟨S3x1x4096x8, .f32⟩
  | 60 => ⟨S1x1x4096x8, .f32⟩
  | 61 => ⟨S_, .f32⟩
  | 62 => ⟨S1x1x4096x8, .f32⟩
  | 63 => ⟨S1x1x4096x8, .f32⟩
  | 64 => ⟨S3x1x4096x8x1, .f32⟩
  | 65 => ⟨S1x1x4096x8x64, .f32⟩
  | 66 => ⟨S1x1x4096x8x64, .f32⟩
  | 67 => ⟨S1x1x4096x8x64, .f32⟩
  | 68 => ⟨S3x1x4096x8x64, .f32⟩
  | 69 => ⟨S_, .f32⟩
  | 70 => ⟨S1x4096x8x64, .f32⟩
  | 71 => ⟨S_, .f32⟩
  | 72 => ⟨S1x4096x8x64, .f32⟩
  | 73 => ⟨S3x1x4096x8x64, .f32⟩
  | 74 => ⟨S3x1x4096x8x64, .f32⟩
  | 75 => ⟨S_, .f32⟩
  | 76 => ⟨S1x4096x8x64, .f32⟩
  | 77 => ⟨S3x1x4096x8x64, .f32⟩
  | 78 => ⟨S3x1x4096x8x64, .f32⟩
  | 79 => ⟨S3x1x4096x8x64, .f32⟩
  | 80 => ⟨S3x1x4096x8x64, .f32⟩
  | 81 => ⟨S_, .f32⟩
  | 82 => ⟨S3x1x4096x8, .f32⟩
  | 83 => ⟨S3x1x4096x8x1, .f32⟩
  | 84 => ⟨S1x1x4096x8x64, .f32⟩
  | 85 => ⟨S1x4096x8x64, .f32⟩
  | 86 => ⟨S1x1x4096x8x64, .f32⟩
  | 87 => ⟨S1x4096x8x64, .f32⟩
  | 88 => ⟨S1x1x4096x8x64, .f32⟩
  | 89 => ⟨S1x4096x8x64, .f32⟩
  | 90 => ⟨S_, .f32⟩
  | 91 => ⟨S3x4096x8, .f32⟩
  | 92 => ⟨S3x1x4096x8, .f32⟩
  | 93 => ⟨S3x1x4096x8, .f32⟩
  | 94 => ⟨S3x1x4096x8, .f32⟩
  | 95 => ⟨S3x1x4096x8, .f32⟩
  | 96 => ⟨S_, .f32⟩
  | 97 => ⟨S1x4096x8, .f32⟩
  | 98 => ⟨S1x1x4096x8, .f32⟩
  | 99 => ⟨S1x1x4096x8, .f32⟩
  | 100 => ⟨S3x1x4096x8, .f32⟩
  | 101 => ⟨S3x1x4096x8, .f32⟩
  | 102 => ⟨S_, .f32⟩
  | 103 => ⟨S4096x8, .f32⟩
  | 104 => ⟨S1x4096x8, .f32⟩
  | 105 => ⟨S3x1x4096x8, .f32⟩
  | 106 => ⟨S3x1x4096x8, .f32⟩
  | 107 => ⟨S3x1x4096x8, .f32⟩
  | 108 => ⟨S1x1x4096x8, .f32⟩
  | 109 => ⟨S1x4096x8, .f32⟩
  | 110 => ⟨S1x1x4096x8, .f32⟩
  | 111 => ⟨S1x4096x8, .f32⟩
  | 112 => ⟨S1x1x4096x8, .f32⟩
  | 113 => ⟨S1x4096x8, .f32⟩
  | 114 => ⟨S1x256x16x8, .f32⟩
  | 115 => ⟨S1x16x256x8, .f32⟩
  | 116 => ⟨S16x256x8, .f32⟩
  | 117 => ⟨S16x2x128x8, .f32⟩
  | 118 => ⟨S1x256x16x8x64, .f32⟩
  | 119 => ⟨S1x16x256x8x64, .f32⟩
  | 120 => ⟨S16x256x8x64, .f32⟩
  | 121 => ⟨S16x2x128x8x64, .f32⟩
  | 122 => ⟨S16x2x8x128, .f32⟩
  | 123 => ⟨S16x2x8x128, .f32⟩
  | 124 => ⟨S16x2x8x128x1, .f32⟩
  | 125 => ⟨S16x2x128x8x64, .f32⟩
  | 126 => ⟨S16x2x128x8x64, .f32⟩
  | 127 => ⟨S16x2x128x8x64, .f32⟩
  | _ => ⟨S1x4096x8x64, .f32⟩

abbrev hbmTy0_2 (i : Nat) : BufTy := match i % 128 with
  | 0 => ⟨S_, .f32⟩
  | 1 => ⟨S16x2x128x8, .f32⟩
  | 2 => ⟨S16x2x128x8x1, .f32⟩
  | 3 => ⟨S16x2x128x8x1, .f32⟩
  | 4 => ⟨S16x2x128x8x64, .f32⟩
  | 5 => ⟨S16x2x128x8x64, .f32⟩
  | 6 => ⟨S_, .f32⟩
  | 7 => ⟨S16x2x128x8, .f32⟩
  | 8 => ⟨S16x2x8x128, .f32⟩
  | 9 => ⟨S16x2x8x128, .f32⟩
  | 10 => ⟨S16x2x8x64x128, .f32⟩
  | 11 => ⟨S16x2x8x128x256, .f32⟩
  | 12 => ⟨S16x2x8x64x256, .f32⟩
  | 13 => ⟨S16x2x256x8x64, .f32⟩
  | 14 => ⟨S16x2x8x128x256, .f32⟩
  | 15 => ⟨S16x2x8x128x256, .f32⟩
  | 16 => ⟨S16x2x8x128x256, .f32⟩
  | 17 => ⟨S16x2x8x128x256, .f32⟩
  | 18 => ⟨S_, .f32⟩
  | 19 => ⟨S16x2x8x128, .f32⟩
  | 20 => ⟨S16x2x8x128x1, .f32⟩
  | 21 => ⟨S16x2x8x128x1, .f32⟩
  | 22 => ⟨S_, .f32⟩
  | 23 => ⟨S16x2x8x128, .f32⟩
  | 24 => ⟨S16x2x8x128, .f32⟩
  | 25 => ⟨S16x2x8x128x256, .f32⟩
  | 26 => ⟨S16x2x8x128x256, .f32⟩
  | 27 => ⟨S16x2x8x128x256, .f32⟩
  | 28 => ⟨S_, .f32⟩
  | 29 => ⟨S16x2x8x128x256, .f32⟩
  | 30 => ⟨S16x2x8x128x256, .f32⟩
  | 31 => ⟨S_, .f32⟩
  | 32 => ⟨S16x2x8x128x256, .f32⟩
  | 33 => ⟨S16x2x8x128x256, .f32⟩
  | 34 => ⟨S16x2x8x256x64, .f32⟩
  | 35 => ⟨S16x2x256x8x64, .f32⟩
  | 36 => ⟨S16x2x8x128x64, .f32⟩
  | 37 => ⟨S16x2x128x8x64, .f32⟩
  | 38 => ⟨S16x2x128x8x64, .f32⟩
  | 39 => ⟨S16x2x128x8x64, .f32⟩
  | 40 => ⟨S16x1x128x8x64, .f32⟩
  | 41 => ⟨S16x1x128x8x64, .f32⟩
  | 42 => ⟨S_, .f32⟩
  | 43 => ⟨S16x2x128x8x64, .f32⟩
  | 44 => ⟨S16x2x128x8x64, .f32⟩
  | 45 => ⟨S16x256x8x64, .f32⟩
  | 46 => ⟨S1x16x256x8x64, .f32⟩
  | 47 => ⟨S1x256x16x8x64, .f32⟩
  | 48 => ⟨S1x4096x8x64, .f32⟩
  | 49 => ⟨S16x2x128x8x64, .f32⟩
  | 50 => ⟨S16x2x128x8x64, .f32⟩
  | 51 => ⟨S16x1x128x8x64, .f32⟩
  | 52 => ⟨S16x1x128x8x64, .f32⟩
  | 53 => ⟨S_, .f32⟩
  | 54 => ⟨S16x2x128x8x64, .f32⟩
  | 55 => ⟨S16x2x128x8x64, .f32⟩
  | 56 => ⟨S16x256x8x64, .f32⟩
  | 57 => ⟨S1x16x256x8x64, .f32⟩
  | 58 => ⟨S1x256x16x8x64, .f32⟩
  | 59 => ⟨S1x4096x8x64, .f32⟩
  | 60 => ⟨S16x256x8x64, .f32⟩
  | 61 => ⟨S1x16x256x8x64, .f32⟩
  | 62 => ⟨S1x256x16x8x64, .f32⟩
  | 63 => ⟨S1x4096x8x64, .f32⟩
  | 64 => ⟨S256x16x512, .f32⟩
  | 65 => ⟨S16x256x512, .f32⟩
  | 66 => ⟨S16x256x512, .bf16⟩
  | 67 => ⟨S256x16x512, .f32⟩
  | 68 => ⟨S16x256x512, .f32⟩
  | 69 => ⟨S16x256x512, .bf16⟩
  | 70 => ⟨S256x16x512, .f32⟩
  | 71 => ⟨S16x256x512, .f32⟩
  | 72 => ⟨S16x256x512, .bf16⟩
  | _ => ⟨S1x4096x8x64, .f32⟩

abbrev hbmTy (i : Nat) : BufTy := match i / 128 with
  | 0 => hbmTy0_0 i
  | 1 => hbmTy0_1 i
  | 2 => hbmTy0_2 i
  | _ => ⟨S1x4096x8x64, .f32⟩

abbrev bufTy : (tb : Table) → Fin (tcTables nBuf tb) → BufTy
  | .hbm, ⟨i, _⟩ => hbmTy i
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_call0_v0 : Ref sig .tc := ⟨.hbm, 104, rfl⟩
abbrev main_v79_1 : Ref sig .tc := ⟨.hbm, 105, rfl⟩
abbrev main_call0_v2 : Ref sig .tc := ⟨.hbm, 106, rfl⟩
abbrev main_v79_0 : Ref sig .tc := ⟨.hbm, 107, rfl⟩
abbrev main_call0_cst : Ref sig .tc := ⟨.hbm, 108, rfl⟩
abbrev main_v79_2 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_18 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_19 : Ref sig .tc := ⟨.hbm, 150, rfl⟩
abbrev main_v116 : Ref sig .tc := ⟨.hbm, 151, rfl⟩
abbrev main_cst_20 : Ref sig .tc := ⟨.hbm, 152, rfl⟩
abbrev main_v117 : Ref sig .tc := ⟨.hbm, 153, rfl⟩
abbrev main_cst_21 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_22 : Ref sig .tc := ⟨.hbm, 160, rfl⟩
abbrev main_v123 : Ref sig .tc := ⟨.hbm, 161, rfl⟩
abbrev main_cst_23 : Ref sig .tc := ⟨.hbm, 162, rfl⟩
abbrev main_v124 : Ref sig .tc := ⟨.hbm, 163, rfl⟩
abbrev main_v125 : Ref sig .tc := ⟨.hbm, 164, rfl⟩
abbrev main_cst_24 : Ref sig .tc := ⟨.hbm, 165, rfl⟩
abbrev main_v126 : Ref sig .tc := ⟨.hbm, 166, rfl⟩
abbrev main_v127 : Ref sig .tc := ⟨.hbm, 167, rfl⟩
abbrev main_cst_25 : Ref sig .tc := ⟨.hbm, 168, rfl⟩
abbrev main_v128 : Ref sig .tc := ⟨.hbm, 169, rfl⟩
abbrev main_v129 : Ref sig .tc := ⟨.hbm, 170, rfl⟩
abbrev main_cst_26 : Ref sig .tc := ⟨.hbm, 171, rfl⟩
abbrev main_v130 : Ref sig .tc := ⟨.hbm, 172, rfl⟩
abbrev main_cst_27 : Ref sig .tc := ⟨.hbm, 173, rfl⟩
abbrev main_v131 : Ref sig .tc := ⟨.hbm, 174, rfl⟩
abbrev main_cst_28 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_29 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_30 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_31 : Ref sig .tc := ⟨.hbm, 197, rfl⟩
abbrev main_v151 : Ref sig .tc := ⟨.hbm, 198, rfl⟩
abbrev main_cst_32 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_33 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_34 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_35 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_36 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_cst_37 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_cst_38 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_39 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_40 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_cst_41 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_call1_cst : Ref sig .tc := ⟨.hbm, 284, rfl⟩
abbrev main_call1_v0 : Ref sig .tc := ⟨.hbm, 285, rfl⟩
abbrev main_v227 : Ref sig .tc := ⟨.hbm, 286, rfl⟩
abbrev main_cst_42 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_cst_43 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_cst_44 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩

abbrev nD : Nat := 1
abbrev τ : Topo := Topo.v7x

variable {F : FTy → Type} [FloatOps F]
-- ==== KernelFf2.lean ====
abbrev S4096x4096 : Shape := ⟨2, ![4096, 4096]⟩
abbrev S4096x1024 : Shape := ⟨2, ![4096, 1024]⟩
abbrev S1x4096x1024 : Shape := ⟨3, ![1, 4096, 1024]⟩
abbrev S512x4096 : Shape := ⟨2, ![512, 4096]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S1x4096x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S1x4096x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceFf2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S1x4096x1024 : Shape := ⟨3, ![1, 4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S1x4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFf1.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | .local _ .vmem, ⟨5, _⟩ => ⟨S2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceFf1Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S4096x1024 : Shape := ⟨2, ![4096, 1024]⟩
abbrev S4096x3584 : Shape := ⟨2, ![4096, 3584]⟩
abbrev S4x1024x896 : Shape := ⟨3, ![4, 1024, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3584, .f32⟩
  | .hbm, ⟨2, _⟩ => ⟨S4096x1024, .bf16⟩
  | .hbm, ⟨3, _⟩ => ⟨S4096x3584, .bf16⟩
  | .hbm, ⟨4, _⟩ => ⟨S4x1024x896, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .f32⟩
  | .local _ .vmem, ⟨5, _⟩ => ⟨S1x1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S4096x1024 : Shape := ⟨2, ![4096, 1024]⟩
abbrev S4096x3584 : Shape := ⟨2, ![4096, 3584]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3584, .f32⟩
  | .hbm, ⟨2, _⟩ => ⟨S_, .f32⟩
  | .hbm, ⟨3, _⟩ => ⟨S1024x3584, .f32⟩
  | .hbm, ⟨4, _⟩ => ⟨S4096x3584, .f32⟩
  | .hbm, ⟨5, _⟩ => ⟨S3584x1024, .f32⟩
  | .hbm, ⟨6, _⟩ => ⟨S1024x3584, .f32⟩
  | .hbm, ⟨7, _⟩ => ⟨S1024x4x896, .f32⟩
  | .hbm, ⟨8, _⟩ => ⟨S4x1024x896, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMlp.lean ====
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S512x1024 : Shape := ⟨2, ![512, 1024]⟩
abbrev S1024 : Shape := ⟨1, ![1024]⟩

abbrev nBuf : Space → Nat
  | .hbm => 18
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4096, .bf16⟩
  | .hbm, ⟨13, _⟩ => ⟨S4096x4096, .bf16⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceMlpIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S1x1024, .f32⟩
  | 2 => ⟨S1024x4096, .f32⟩
  | 3 => ⟨S4096x1024, .f32⟩
  | 4 => ⟨S1x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x4096, .f32⟩
  | 26 => ⟨S_, .f32⟩
  | 27 => ⟨S4096x4096, .f32⟩
  | 28 => ⟨S4096x4096, .f32⟩
  | 29 => ⟨S_, .f32⟩
  | 30 => ⟨S4096x4096, .f32⟩
  | 31 => ⟨S4096x4096, .i1⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S4096, .f32⟩
  | 77 => ⟨S_, .f32⟩
  | 78 => ⟨S4096, .f32⟩
  | 79 => ⟨S4096, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1024, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x1024, .f32⟩

abbrev hbmTy0_1 (i : Nat) : BufTy := match i % 128 with
  | 0 => ⟨S4096, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S4096x1024, .bf16⟩
  | 13 => ⟨S4096x4096, .bf16⟩
  | 14 => ⟨S4096x4096, .bf16⟩
  | 15 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_cst_21 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_27 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== Proof.Bits.Body.lean ====
/- One grid point of the attention gradient's body as an entailment, for each of the three ways its conditions on the
   point fall out: the eight input blocks are read and kept; what the output blocks and the scratch hold afterwards is
   left unsaid. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The point is the grid's first: the body clears the carried sums and writes the table of position offsets. -/
abbrev cond0 (i : grid0.Coords) : Prop := (Scalar.cmpi .ne (Scalar.extui (Scalar.cmpi .eq (BitVec.ofNat 32 (i 0).val) 0#32)) 0#32) = 1#1
/-- The point is one of the 32 blocks of queries. -/
abbrev cond1 (i : grid0.Coords) : Prop := k0_cond2 i = 1#1
/-- The point is the one after the last block: it only writes the sums still carried. -/
abbrev cond2 (i : grid0.Coords) : Prop := k0_cond3 i = 1#1

theorem cond0_iff : ∀ t : Fin cfg0.N, cond0 (grid0.coords t) ↔ t.val = 0 :=
  (by decide +kernel : ∀ t : Fin grid0.N, cond0 (grid0.coords t) ↔ t.val = 0)
theorem cond1_iff : ∀ t : Fin cfg0.N, cond1 (grid0.coords t) ↔ t.val < 32 :=
  (by decide +kernel : ∀ t : Fin grid0.N, cond1 (grid0.coords t) ↔ t.val < 32)
theorem cond2_iff : ∀ t : Fin cfg0.N, cond2 (grid0.coords t) ↔ t.val = 32 :=
  (by decide +kernel : ∀ t : Fin grid0.N, cond2 (grid0.coords t) ↔ t.val = 32)

/-- The table's plane a point reads: the second for a residue's first block, the first for its second. -/
theorem off1_eq : ∀ i : grid0.Coords, k0_off1 i = ![1 - (i 0).val % 2, 0, 0, 0] := by decide +kernel
instance (i : grid0.Coords) : ClosedOff (k0_off1 i) := ⟨![1 - (i 0).val % 2, 0, 0, 0], off1_eq i⟩
theorem off2_eq : ∀ i : grid0.Coords, k0_off2 i = ![1 - (i 0).val % 2, 1, 0, 0] := by decide +kernel
instance (i : grid0.Coords) : ClosedOff (k0_off2 i) := ⟨![1 - (i 0).val % 2, 1, 0, 0], off2_eq i⟩
theorem off3_eq : ∀ i : grid0.Coords, k0_off3 i = ![1 - (i 0).val % 2, 2, 0, 0] := by decide +kernel
instance (i : grid0.Coords) : ClosedOff (k0_off3 i) := ⟨![1 - (i 0).val % 2, 2, 0, 0], off3_eq i⟩
theorem off4_eq : ∀ i : grid0.Coords, k0_off4 i = ![1 - (i 0).val % 2, 3, 0, 0] := by decide +kernel
instance (i : grid0.Coords) : ClosedOff (k0_off4 i) := ⟨![1 - (i 0).val % 2, 3, 0, 0], off4_eq i⟩
theorem off5_eq : ∀ i : grid0.Coords, k0_off5 i = ![1 - (i 0).val % 2, 4, 0, 0] := by decide +kernel
instance (i : grid0.Coords) : ClosedOff (k0_off5 i) := ⟨![1 - (i 0).val % 2, 4, 0, 0], off5_eq i⟩
theorem off6_eq : ∀ i : grid0.Coords, k0_off6 i = ![1 - (i 0).val % 2, 5, 0, 0] := by decide +kernel
instance (i : grid0.Coords) : ClosedOff (k0_off6 i) := ⟨![1 - (i 0).val % 2, 5, 0, 0], off6_eq i⟩
theorem off7_eq : ∀ i : grid0.Coords, k0_off7 i = ![1 - (i 0).val % 2, 6, 0, 0] := by decide +kernel
instance (i : grid0.Coords) : ClosedOff (k0_off7 i) := ⟨![1 - (i 0).val % 2, 6, 0, 0], off7_eq i⟩
theorem off8_eq : ∀ i : grid0.Coords, k0_off8 i = ![1 - (i 0).val % 2, 7, 0, 0] := by decide +kernel
instance (i : grid0.Coords) : ClosedOff (k0_off8 i) := ⟨![1 - (i 0).val % 2, 7, 0, 0], off8_eq i⟩

set_option maxHeartbeats 2000000 in
/-- The first point. -/
theorem runA (c : Dev nD) (i : grid0.Coords) (a1 : Memref sig .tc .vmem S1x128x512 .bf16) (h1 : a1.IsWhole) (a2 : Memref sig .tc .vmem S1x128x512 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x128 .f32) (h7 : a7.IsWhole) (a8 : Memref sig .tc .vmem S1x128x128 .f32) (h8 : a8.IsWhole) (a9 : Memref sig .tc .vmem S1x128x512 .bf16) (h9 : a9.IsWhole) (a10 : Memref sig .tc .vmem S1x128x512 .bf16) (h10 : a10.IsWhole) (a11 : Memref sig .tc .vmem S1x128x512 .bf16) (h11 : a11.IsWhole) (a12 : Memref sig .tc .vmem S128x512 .f32) (h12 : a12.IsWhole) (a13 : Memref sig .tc .vmem S128x512 .f32) (h13 : a13.IsWhole) (a14 : Memref sig .tc .vmem S2x8x128x256 .f32) (h14 : a14.IsWhole) (hc0 : cond0 i) (hc1 : cond1 i) (hc2 : ¬cond2 i)
    (x0 : Vec F S1x128x512 .bf16) (x1 : Vec F S1x128x512 .bf16) (x2 : Vec F S1x128x512 .bf16) (x3 : Vec F S1x128x512 .bf16) (x4 : Vec F S1x128x512 .bf16) (x5 : Vec F S1x128x512 .bf16) (x6 : Vec F S1x128x128 .f32) (x7 : Vec F S1x128x128 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
      ⊢ wp frame (wpE (defs₀ (F := F)) Variants.none c none) E (cc0_attn_bwd_d16 i a1 h1 a2 h2 a3 h3 a4 h4 a5 h5 a6 h6 a7 h7 a8 h8 a9 h9 a10 h10 a11 h11 a12 h12 a13 h13 a14 h14) K := by
  simp only [cc0_attn_bwd_d16_eq_skeleton]; unfold cc0_attn_bwd_d16_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
  sl_exec (disch := first | sl_exact hc0 | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

set_option maxHeartbeats 2000000 in
/-- A later block of queries. -/
theorem runB (c : Dev nD) (i : grid0.Coords) (a1 : Memref sig .tc .vmem S1x128x512 .bf16) (h1 : a1.IsWhole) (a2 : Memref sig .tc .vmem S1x128x512 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x128 .f32) (h7 : a7.IsWhole) (a8 : Memref sig .tc .vmem S1x128x128 .f32) (h8 : a8.IsWhole) (a9 : Memref sig .tc .vmem S1x128x512 .bf16) (h9 : a9.IsWhole) (a10 : Memref sig .tc .vmem S1x128x512 .bf16) (h10 : a10.IsWhole) (a11 : Memref sig .tc .vmem S1x128x512 .bf16) (h11 : a11.IsWhole) (a12 : Memref sig .tc .vmem S128x512 .f32) (h12 : a12.IsWhole) (a13 : Memref sig .tc .vmem S128x512 .f32) (h13 : a13.IsWhole) (a14 : Memref sig .tc .vmem S2x8x128x256 .f32) (h14 : a14.IsWhole) (hc0 : ¬cond0 i) (hc1 : cond1 i) (hc2 : ¬cond2 i)
    (x0 : Vec F S1x128x512 .bf16) (x1 : Vec F S1x128x512 .bf16) (x2 : Vec F S1x128x512 .bf16) (x3 : Vec F S1x128x512 .bf16) (x4 : Vec F S1x128x512 .bf16) (x5 : Vec F S1x128x512 .bf16) (x6 : Vec F S1x128x128 .f32) (x7 : Vec F S1x128x128 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
      ⊢ wp frame (wpE (defs₀ (F := F)) Variants.none c none) E (cc0_attn_bwd_d16 i a1 h1 a2 h2 a3 h3 a4 h4 a5 h5 a6 h6 a7 h7 a8 h8 a9 h9 a10 h10 a11 h11 a12 h12 a13 h13 a14 h14) K := by
  simp only [cc0_attn_bwd_d16_eq_skeleton]; unfold cc0_attn_bwd_d16_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
  sl_exec (disch := first | sl_exact hc0 | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

set_option maxHeartbeats 2000000 in
/-- The point after the last block. -/
theorem runC (c : Dev nD) (i : grid0.Coords) (a1 : Memref sig .tc .vmem S1x128x512 .bf16) (h1 : a1.IsWhole) (a2 : Memref sig .tc .vmem S1x128x512 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x128 .f32) (h7 : a7.IsWhole) (a8 : Memref sig .tc .vmem S1x128x128 .f32) (h8 : a8.IsWhole) (a9 : Memref sig .tc .vmem S1x128x512 .bf16) (h9 : a9.IsWhole) (a10 : Memref sig .tc .vmem S1x128x512 .bf16) (h10 : a10.IsWhole) (a11 : Memref sig .tc .vmem S1x128x512 .bf16) (h11 : a11.IsWhole) (a12 : Memref sig .tc .vmem S128x512 .f32) (h12 : a12.IsWhole) (a13 : Memref sig .tc .vmem S128x512 .f32) (h13 : a13.IsWhole) (a14 : Memref sig .tc .vmem S2x8x128x256 .f32) (h14 : a14.IsWhole) (hc0 : ¬cond0 i) (hc1 : ¬cond1 i) (hc2 : cond2 i)
    (x0 : Vec F S1x128x512 .bf16) (x1 : Vec F S1x128x512 .bf16) (x2 : Vec F S1x128x512 .bf16) (x3 : Vec F S1x128x512 .bf16) (x4 : Vec F S1x128x512 .bf16) (x5 : Vec F S1x128x512 .bf16) (x6 : Vec F S1x128x128 .f32) (x7 : Vec F S1x128x128 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
      ⊢ wp frame (wpE (defs₀ (F := F)) Variants.none c none) E (cc0_attn_bwd_d16 i a1 h1 a2 h2 a3 h3 a4 h4 a5 h5 a6 h6 a7 h7 a8 h8 a9 h9 a10 h10 a11 h11 a12 h12 a13 h13 a14 h14) K := by
  simp only [cc0_attn_bwd_d16_eq_skeleton]; unfold cc0_attn_bwd_d16_skel

  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
  sl_exec (disch := first | sl_exact hc0 | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

end Cert.Kernel.Hand
-- ==== Proof.Bits.Frame.lean ====
/- The launch of the attention gradient: every run ends, the argument arrays are as they were and every semaphore
   counter is at zero. What the gradient arrays hold is left unsaid here. -/
module

public import proofs.«01_k».proof.Proof.Bits.Body

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch at some contents and the generator register at some state. -/
theorem scratch_eq (c : Dev nD) :
    (Pipeline.ΦA spec0 c : sProp 𝕄)
      = iprop(iprop((∃ d, owns (c : Thread nD τ) (Memref.whole cc0_scratch0 : Memref sig .tc .vmem S128x512 .f32) fullShare d) ∗ (∃ d, owns (c : Thread nD τ) (Memref.whole cc0_scratch1 : Memref sig .tc .vmem S128x512 .f32) fullShare d) ∗ (∃ d, owns (c : Thread nD τ) (Memref.whole cc0_scratch2 : Memref sig .tc .vmem S2x8x128x256 .f32) fullShare d)) ∗ (∃ r, prngReg c r)) := by
  unfold Pipeline.ΦA; rw [scopedRest0_eq]; simp only [owns_whole]; try rfl

/-- The windows of which nothing is said: the three gradients. -/
def gradWindows : Fin 11 → Bool := fun w => w.val == 8 || w.val == 9 || w.val == 10

/-- Each input's staging buffer holds its block after every point; nothing is said of the gradients'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What it leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 4000000 in
/-- The body at any point, by the three ways its conditions fall out. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, after_0, after_1, after_2, after_3, after_4, after_5, after_6, after_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, scratch_eq]
  have hN : t.val < 33 := lt_of_lt_of_eq t.isLt (show cfg0.N = 33 from N_0)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val = 0
  ·
    iapply (runA c (grid0.coords t) _ _ _ _ _ _ _ _ _ _ _ _ _ _ _ _ _ _ _ _ _ _ _ _ _ _ _ _ ((cond0_iff t).mpr h0) ((cond1_iff t).mpr (by omega)) (fun h => absurd ((cond2_iff t).mp h) (by omega)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

  by_cases h1 : t.val < 32
  ·
    iapply (runB c (grid0.coords t) _ _ _ _ _ _ _ _ _ _ _ _ _ _ _ _ _ _ _ _ _ _ _ _ _ _ _ _ (fun h => h0 ((cond0_iff t).mp h)) ((cond1_iff t).mpr h1) (fun h => absurd ((cond2_iff t).mp h) (by omega)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

  ·
    iapply (runC c (grid0.coords t) _ _ _ _ _ _ _ _ _ _ _ _ _ _ _ _ _ _ _ _ _ _ _ _ _ _ _ _ (fun h => h0 ((cond0_iff t).mp h)) (fun h => h1 ((cond1_iff t).mp h)) ((cond2_iff t).mpr (by omega)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ gradWindows := fun t => by
  rw [bigSep_W0, bigSep_W0, defs₀_row]
  exact triple_restated (sound_body m c t) rfl .rfl fun _ => .rfl

set_option backward.isDefEq.respectTransparency.types false in
/-- The run: the input arrays and every other array outside the gradients at what the launch found, the counters at zero. -/
theorem run : θ_run defs (onTc (τ := τ) (main (F := F))) (s₀ m ρ) (fun r => (Pipeline.RDat.FramePost (cfgs 0) (fun c => (dats m 0 c).toRForget gradWindows) (V m)) r ∧ r.2.sem = fun _ => 0) :=
  Pipeline.θ_run_frame_forget_shared (Q' := _) cfgs (dats m) (0 : Fin 1) launch₀0 defs₀ Variants.none gradWindows m ρ main
    (hbody := fun c => (body_obligation m c).loose) (hq := fun _ _ _ => rfl)
    (howed := fun _ _ => rfl) (V := V m) (hmain := hmain m Variants.none) (hA := A_eq m) (hΦ := fun _ _ => rfl)

/-- Every run ends with the eight argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (run m ρ)

end Cert.Kernel.Hand
-- ==== Proof.Ideal.Run.lean ====
/- One grid point of the attention gradient's body as an entailment, for each of the three ways its conditions on the
   point fall out: the eight input blocks are read and kept, and each block or scratch array the body stores into ends
   with the listed stores written. The lists are found by running the body. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The point is the grid's first: the body clears the carried sums and writes the table of position offsets. -/
abbrev cond0 (i : grid0.Coords) : Prop := (Scalar.cmpi .ne (Scalar.extui (Scalar.cmpi .eq (BitVec.ofNat 32 (i 0).val) 0#32)) 0#32) = 1#1
/-- The point is one of the 32 blocks of queries. -/
abbrev cond1 (i : grid0.Coords) : Prop := k0_cond2 i = 1#1
/-- The point is the one after the last block: it only writes the sums still carried. -/
abbrev cond2 (i : grid0.Coords) : Prop := k0_cond3 i = 1#1

theorem cond0_iff : ∀ t : Fin cfg0.N, cond0 (grid0.coords t) ↔ t.val = 0 :=
  (by decide +kernel : ∀ t : Fin grid0.N, cond0 (grid0.coords t) ↔ t.val = 0)
theorem cond1_iff : ∀ t : Fin cfg0.N, cond1 (grid0.coords t) ↔ t.val < 32 :=
  (by decide +kernel : ∀ t : Fin grid0.N, cond1 (grid0.coords t) ↔ t.val < 32)
theorem cond2_iff : ∀ t : Fin cfg0.N, cond2 (grid0.coords t) ↔ t.val = 32 :=
  (by decide +kernel : ∀ t : Fin grid0.N, cond2 (grid0.coords t) ↔ t.val = 32)

/-- The table's plane a point reads: the second for a residue's first block, the first for its second. -/
theorem off1_eq : ∀ i : grid0.Coords, k0_off1 i = ![1 - (i 0).val % 2, 0, 0, 0] := by decide +kernel
instance (i : grid0.Coords) : ClosedOff (k0_off1 i) := ⟨![1 - (i 0).val % 2, 0, 0, 0], off1_eq i⟩
theorem off2_eq : ∀ i : grid0.Coords, k0_off2 i = ![1 - (i 0).val % 2, 1, 0, 0] := by decide +kernel
instance (i : grid0.Coords) : ClosedOff (k0_off2 i) := ⟨![1 - (i 0).val % 2, 1, 0, 0], off2_eq i⟩
theorem off3_eq : ∀ i : grid0.Coords, k0_off3 i = ![1 - (i 0).val % 2, 2, 0, 0] := by decide +kernel
instance (i : grid0.Coords) : ClosedOff (k0_off3 i) := ⟨![1 - (i 0).val % 2, 2, 0, 0], off3_eq i⟩
theorem off4_eq : ∀ i : grid0.Coords, k0_off4 i = ![1 - (i 0).val % 2, 3, 0, 0] := by decide +kernel
instance (i : grid0.Coords) : ClosedOff (k0_off4 i) := ⟨![1 - (i 0).val % 2, 3, 0, 0], off4_eq i⟩
theorem off5_eq : ∀ i : grid0.Coords, k0_off5 i = ![1 - (i 0).val % 2, 4, 0, 0] := by decide +kernel
instance (i : grid0.Coords) : ClosedOff (k0_off5 i) := ⟨![1 - (i 0).val % 2, 4, 0, 0], off5_eq i⟩
theorem off6_eq : ∀ i : grid0.Coords, k0_off6 i = ![1 - (i 0).val % 2, 5, 0, 0] := by decide +kernel
instance (i : grid0.Coords) : ClosedOff (k0_off6 i) := ⟨![1 - (i 0).val % 2, 5, 0, 0], off6_eq i⟩
theorem off7_eq : ∀ i : grid0.Coords, k0_off7 i = ![1 - (i 0).val % 2, 6, 0, 0] := by decide +kernel
instance (i : grid0.Coords) : ClosedOff (k0_off7 i) := ⟨![1 - (i 0).val % 2, 6, 0, 0], off7_eq i⟩
theorem off8_eq : ∀ i : grid0.Coords, k0_off8 i = ![1 - (i 0).val % 2, 7, 0, 0] := by decide +kernel
instance (i : grid0.Coords) : ClosedOff (k0_off8 i) := ⟨![1 - (i 0).val % 2, 7, 0, 0], off8_eq i⟩

section Runs

variable (c : Dev nD) (i : grid0.Coords)
variable (a1 : Memref sig .tc .vmem S1x128x512 .bf16) (h1 : a1.IsWhole)
variable (a2 : Memref sig .tc .vmem S1x128x512 .bf16) (h2 : a2.IsWhole)
variable (a3 : Memref sig .tc .vmem S1x128x512 .bf16) (h3 : a3.IsWhole)
variable (a4 : Memref sig .tc .vmem S1x128x512 .bf16) (h4 : a4.IsWhole)
variable (a5 : Memref sig .tc .vmem S1x128x512 .bf16) (h5 : a5.IsWhole)
variable (a6 : Memref sig .tc .vmem S1x128x512 .bf16) (h6 : a6.IsWhole)
variable (a7 : Memref sig .tc .vmem S1x128x128 .f32) (h7 : a7.IsWhole)
variable (a8 : Memref sig .tc .vmem S1x128x128 .f32) (h8 : a8.IsWhole)
variable (a9 : Memref sig .tc .vmem S1x128x512 .bf16) (h9 : a9.IsWhole)
variable (a10 : Memref sig .tc .vmem S1x128x512 .bf16) (h10 : a10.IsWhole)
variable (a11 : Memref sig .tc .vmem S1x128x512 .bf16) (h11 : a11.IsWhole)
variable (a12 : Memref sig .tc .vmem S128x512 .f32) (h12 : a12.IsWhole)
variable (a13 : Memref sig .tc .vmem S128x512 .f32) (h13 : a13.IsWhole)
variable (a14 : Memref sig .tc .vmem S2x8x128x256 .f32) (h14 : a14.IsWhole)
variable (x0 : Vec F S1x128x512 .bf16) (x1 : Vec F S1x128x512 .bf16) (x2 : Vec F S1x128x512 .bf16) (x3 : Vec F S1x128x512 .bf16) (x4 : Vec F S1x128x512 .bf16) (x5 : Vec F S1x128x512 .bf16) (x6 : Vec F S1x128x128 .f32) (x7 : Vec F S1x128x128 .f32)

set_option maxHeartbeats 2000000 in
/-- The first point: the stores of the first block's gradients, of the carried sums and of the table of offsets. -/
noncomputable def runA (hc0 : cond0 i) (hc1 : cond1 i) (hc2 : ¬cond2 i) :
    Σ' (L8 : List (View.Piece (Elt F) S1x128x512 .bf16)), Σ' (L9 : List (View.Piece (Elt F) S1x128x512 .bf16)), Σ' (L10 : List (View.Piece (Elt F) S1x128x512 .bf16)), Σ' (L11 : List (View.Piece (Elt F) S128x512 .f32)), Σ' (L12 : List (View.Piece (Elt F) S128x512 .f32)), { L13 : List (View.Piece (Elt F) S2x8x128x256 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ f, a14.view.loc (c : Thread nD τ) ↦[a14.view.set]{fullShare} a14.view.writes (Elt F) f L13)) -∗ K ⟨⟩))
          ⊢ wp frame (wpE (defs₀ (F := F)) Variants.none c none) E (cc0_attn_bwd_d16 i a1 h1 a2 h2 a3 h3 a4 h4 a5 h5 a6 h6 a7 h7 a8 h8 a9 h9 a10 h10 a11 h11 a12 h12 a13 h13 a14 h14) K } := by
  refine ⟨?_, ?_, ?_, ?_, ?_, ?_, fun E K => ?run⟩
  case run =>
    simp only [cc0_attn_bwd_d16_eq_skeleton]; unfold cc0_attn_bwd_d16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 2000000 in
/-- A later block of queries: the carried sums and the table are found at given contents; the table is kept. -/
noncomputable def runB (hc0 : ¬cond0 i) (hc1 : cond1 i) (hc2 : ¬cond2 i) (s11 s12 : Vec F S128x512 .f32) (s13 : Vec F S2x8x128x256 .f32) :
    Σ' (L8 : List (View.Piece (Elt F) S1x128x512 .bf16)), Σ' (L9 : List (View.Piece (Elt F) S1x128x512 .bf16)), Σ' (L10 : List (View.Piece (Elt F) S1x128x512 .bf16)), Σ' (L11 : List (View.Piece (Elt F) S128x512 .f32)), { L12 : List (View.Piece (Elt F) S128x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d) ∗ (∃ d, owns (c : Thread nD τ) a10 fullShare d) ∗ (∃ d, owns (c : Thread nD τ) a11 fullShare d) ∗ owns (c : Thread nD τ) a12 fullShare s11 ∗ owns (c : Thread nD τ) a13 fullShare s12 ∗ owns (c : Thread nD τ) a14 fullShare s13
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ owns (c : Thread nD τ) a14 fullShare s13) -∗ K ⟨⟩))
          ⊢ wp frame (wpE (defs₀ (F := F)) Variants.none c none) E (cc0_attn_bwd_d16 i a1 h1 a2 h2 a3 h3 a4 h4 a5 h5 a6 h6 a7 h7 a8 h8 a9 h9 a10 h10 a11 h11 a12 h12 a13 h13 a14 h14) K } := by
  refine ⟨?_, ?_, ?_, ?_, ?_, fun E K => ?run⟩
  case run =>
    simp only [cc0_attn_bwd_d16_eq_skeleton]; unfold cc0_attn_bwd_d16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h12.eq_unread hf11; obtain rfl := h13.eq_unread hf12; obtain rfl := h14.eq_unread hf13
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; isplitr; · ipureintro; exact h14.read_unread _
    iexact H13

set_option maxHeartbeats 2000000 in
/-- The point after the last block: the carried sums are stored; the first gradient's block is not touched. -/
noncomputable def runC (hc0 : ¬cond0 i) (hc1 : ¬cond1 i) (hc2 : cond2 i) (y8 : Vec F S1x128x512 .bf16) (s11 s12 : Vec F S128x512 .f32) (s13 : Vec F S2x8x128x256 .f32) :
    Σ' (L9 : List (View.Piece (Elt F) S1x128x512 .bf16)), { L10 : List (View.Piece (Elt F) S1x128x512 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare y8 ∗ (∃ d, owns (c : Thread nD τ) a10 fullShare d) ∗ (∃ d, owns (c : Thread nD τ) a11 fullShare d) ∗ owns (c : Thread nD τ) a12 fullShare s11 ∗ owns (c : Thread nD τ) a13 fullShare s12 ∗ owns (c : Thread nD τ) a14 fullShare s13
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare y8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ owns (c : Thread nD τ) a12 fullShare s11 ∗ owns (c : Thread nD τ) a13 fullShare s12 ∗ owns (c : Thread nD τ) a14 fullShare s13) -∗ K ⟨⟩))
          ⊢ wp frame (wpE (defs₀ (F := F)) Variants.none c none) E (cc0_attn_bwd_d16 i a1 h1 a2 h2 a3 h3 a4 h4 a5 h5 a6 h6 a7 h7 a8 h8 a9 h9 a10 h10 a11 h11 a12 h12 a13 h13 a14 h14) K } := by
  refine ⟨?_, ?_, fun E K => ?run⟩
  case run =>
    simp only [cc0_attn_bwd_d16_eq_skeleton]; unfold cc0_attn_bwd_d16_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h9.eq_unread hf8; obtain rfl := h12.eq_unread hf11; obtain rfl := h13.eq_unread hf12; obtain rfl := h14.eq_unread hf13
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]; · iexists _; iexact H9
    isplitl [H10]; · iexists _; iexact H10
    isplitl [H11]
    · iexists _; isplitr; · ipureintro; exact h12.read_unread _
      iexact H11
    isplitl [H12]
    · iexists _; isplitr; · ipureintro; exact h13.read_unread _
      iexact H12
    iexists _; isplitr; · ipureintro; exact h14.read_unread _
    iexact H13

end Runs

end Cert.KernelIdeal.Hand

end
-- ==== Proof.Ideal.Pair.lean ====
/- What the gradient's body computes at one block of queries, entry by entry over extended reals: the scores against the
   block's own keys and those of the block before, the probabilities, and the products that make the three gradients.
   The body works on two heads at a time, stacked in rows; here each stacked array is read at an entry. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe
open Cert.KernelIdeal.Gen

/-- The column of head `h`'s lane `d`. -/
abbrev hcol (h : Fin 8) (d : Fin 64) : Fin 512 := ⟨64 * h.val + d.val, by omega⟩
/-- The head a column belongs to. -/
abbrev headOf (c : Fin 512) : Fin 8 := ⟨c.val / 64, by omega⟩
/-- Lane `l` of head pair `n`. -/
abbrev pcol (n : Fin 4) (l : Fin 128) : Fin 512 := ⟨128 * n.val + l.val, by omega⟩

/-- The blocks one point of the grid reads, as functions of row and column: queries, keys and values of the block and
    of the block before, the cotangent, the log-sum-exp and the correction of every row and head, and the table of
    position offsets the point adds to its scores. -/
structure Blk where
  q : Fin 128 → Fin 512 → EReal
  kc : Fin 128 → Fin 512 → EReal
  kp : Fin 128 → Fin 512 → EReal
  vc : Fin 128 → Fin 512 → EReal
  vp : Fin 128 → Fin 512 → EReal
  ct : Fin 128 → Fin 512 → EReal
  lse : Fin 128 → Fin 8 → EReal
  dl : Fin 128 → Fin 8 → EReal
  B : Fin 8 → Fin 128 → Fin 256 → EReal

/-- Two blocks of rows, one after the other. -/
def two (a b : Fin 128 → Fin 512 → EReal) (j : Fin 256) (c : Fin 512) : EReal :=
  if h : j.val < 128 then a ⟨j.val, h⟩ c else b ⟨j.val - 128, by omega⟩ c

theorem two_low (a b : Fin 128 → Fin 512 → EReal) (j : Fin 128) (c : Fin 512) : two a b ⟨j.val, by omega⟩ c = a j c :=
  dif_pos j.isLt
theorem two_high (a b : Fin 128 → Fin 512 → EReal) (j : Fin 128) (c : Fin 512) : two a b ⟨128 + j.val, by omega⟩ c = b j c := by
  unfold two
  rw [dif_neg (by simp)]
  exact congrArg (fun k => b k c) (Fin.ext (by simp))

namespace Blk

variable (X : Blk)

/-- The scale of the scores as the body's constants spell it. -/
abbrev c8b : EReal := Ideal.ofBits .bf16 0x3E00#16
abbrev c8f : EReal := Ideal.ofBits .f32 0x3E000000#32

/-- The score of query row `i` against key row `j` for head `h`. -/
def s (i : Fin 128) (j : Fin 256) (h : Fin 8) : EReal :=
  (∑ d : Fin 64, X.q i (hcol h d) * c8b * two X.kp X.kc j (hcol h d)) + X.B h i j
/-- Its probability. -/
def p (i : Fin 128) (j : Fin 256) (h : Fin 8) : EReal := Ideal.exp (X.s i j h - X.lse i h)
/-- The gradient of the score. -/
def ds (i : Fin 128) (j : Fin 256) (h : Fin 8) : EReal :=
  X.p i j h * ((∑ d : Fin 64, X.ct i (hcol h d) * two X.vp X.vc j (hcol h d)) - X.dl i h)
/-- The gradient of the queries. -/
def dq (i : Fin 128) (c : Fin 512) : EReal := (∑ j : Fin 256, X.ds i j (headOf c) * two X.kp X.kc j c) * c8f
/-- The block's part of the gradient of the 256 key rows. -/
def dk (j : Fin 256) (c : Fin 512) : EReal := ∑ i : Fin 128, X.ds i j (headOf c) * (X.q i c * c8b)
/-- The block's part of the gradient of the 256 value rows. -/
def dv (j : Fin 256) (c : Fin 512) : EReal := ∑ i : Fin 128, X.p i j (headOf c) * X.ct i c

end Blk

/-- The sixteen loads of one pair of heads are the named parts of the blocks. -/
structure PairLoads (X : Blk) (n : Fin 4) (q dO kp kc vp vc : Vec Ideal S1x128x128 .bf16)
    (l0 l1 d0 d1 : Vec Ideal S1x128x1 .f32) (b0 b1 : Vec Ideal S1x1x128x256 .f32) : Prop where
  hq : ∀ i l, q (ix3 0 i l) = X.q i (pcol n l)
  hct : ∀ i l, dO (ix3 0 i l) = X.ct i (pcol n l)
  hkp : ∀ i l, kp (ix3 0 i l) = X.kp i (pcol n l)
  hkc : ∀ i l, kc (ix3 0 i l) = X.kc i (pcol n l)
  hvp : ∀ i l, vp (ix3 0 i l) = X.vp i (pcol n l)
  hvc : ∀ i l, vc (ix3 0 i l) = X.vc i (pcol n l)
  hl0 : ∀ i, l0 (ix3 0 i 0) = X.lse i ⟨2 * n.val, by omega⟩
  hl1 : ∀ i, l1 (ix3 0 i 0) = X.lse i ⟨2 * n.val + 1, by omega⟩
  hd0 : ∀ i, d0 (ix3 0 i 0) = X.dl i ⟨2 * n.val, by omega⟩
  hd1 : ∀ i, d1 (ix3 0 i 0) = X.dl i ⟨2 * n.val + 1, by omega⟩
  hb0 : ∀ i j, b0 (ix4 0 0 i j) = X.B ⟨2 * n.val, by omega⟩ i j
  hb1 : ∀ i j, b1 (ix4 0 0 i j) = X.B ⟨2 * n.val + 1, by omega⟩ i j

theorem lane_select (l : Fin 128) (a b : EReal) :
    Scalar.select (IntOp.cmpi CmpIPredicate.slt (BitVec.ofNat 32 ↑l) 64#32) a b = if l.val < 64 then a else b := by
  by_cases h : l.val < 64
  · rw [if_pos h]; revert l; intro l h; fin_cases l <;> first | rfl | (exfalso; simp at h)
  · rw [if_neg h]; revert l; intro l h; fin_cases l <;> first | rfl | (exfalso; simp at h)

/-- A sum over both heads' lanes. -/
theorem sum_lanes (f : Fin 128 → EReal) :
    ∑ l, f l = (∑ d : Fin 64, f ⟨d.val, by omega⟩) + ∑ d : Fin 64, f ⟨64 + d.val, by omega⟩ :=
  Fin.sum_univ_add (a := 64) (b := 64) f

/-- A sum over both heads' rows. -/
theorem sum_rows (f : Fin 256 → EReal) :
    ∑ l, f l = (∑ d : Fin 128, f ⟨d.val, by omega⟩) + ∑ d : Fin 128, f ⟨128 + d.val, by omega⟩ :=
  Fin.sum_univ_add (a := 128) (b := 128) f

theorem sum_low (f : Fin 128 → EReal) : (∑ l : Fin 128, if l.val < 64 then f l else 0) = ∑ d : Fin 64, f ⟨d.val, by omega⟩ := by
  rw [sum_lanes]
  rw [Finset.sum_congr rfl (fun d _ => if_pos (show (⟨d.val, by omega⟩ : Fin 128).val < 64 from d.isLt)),
    Finset.sum_eq_zero (s := Finset.univ) (f := fun d : Fin 64 => if (⟨64 + d.val, by omega⟩ : Fin 128).val < 64 then _ else _)
      (fun d _ => if_neg (by simp)), add_zero]

theorem sum_high (f : Fin 128 → EReal) : (∑ l : Fin 128, if l.val < 64 then 0 else f l) = ∑ d : Fin 64, f ⟨64 + d.val, by omega⟩ := by
  rw [sum_lanes]
  rw [Finset.sum_eq_zero (s := Finset.univ) (f := fun d : Fin 64 => if (⟨d.val, by omega⟩ : Fin 128).val < 64 then _ else _)
      (fun d _ => if_pos d.isLt),
    Finset.sum_congr rfl (fun d _ => if_neg (show ¬ (⟨64 + d.val, by omega⟩ : Fin 128).val < 64 by simp)), zero_add]

section Pair

variable {X : Blk} {n : Fin 4} {q dO kp kc vp vc : Vec Ideal S1x128x128 .bf16} {l0 l1 d0 d1 : Vec Ideal S1x128x1 .f32}
  {b0 b1 : Vec Ideal S1x1x128x256 .f32} (H : PairLoads X n q dO kp kc vp vc l0 l1 d0 d1 b0 b1)

include H

theorem two_k (j : Fin 256) (l : Fin 128) :
    (if h : j.val < 128 then kp (ix3 0 ⟨j.val, h⟩ l) else kc (ix3 0 ⟨j.val - 128, by omega⟩ l)) = two X.kp X.kc j (pcol n l) := by
  unfold two; split
  · exact H.hkp _ _
  · exact H.hkc _ _

theorem two_v (j : Fin 256) (l : Fin 128) :
    (if h : j.val < 128 then vp (ix3 0 ⟨j.val, h⟩ l) else vc (ix3 0 ⟨j.val - 128, by omega⟩ l)) = two X.vp X.vc j (pcol n l) := by
  unfold two; split
  · exact H.hvp _ _
  · exact H.hvc _ _

/-- The stacked probabilities: first head. -/
theorem p_low (i : Fin 128) (j : Fin 256) :
    k0_pay41 (F := Ideal) (k0_pay38 q) (k0_pay40 kp kc) l0 l1 b0 b1 (ix2 (⟨i.val, by omega⟩ : Fin 256) j)
      = X.p i j ⟨2 * n.val, by omega⟩ := by
  pointwise [k0_pay41, k0_pay38, k0_pay40]
  simp only [lane_select, two_k H, H.hq, H.hb0, H.hl0]
  rw [sum_low (fun l => X.q i (pcol n l) * Ideal.ofBits FTy.bf16 15872#16 * two X.kp X.kc j (pcol n l))]
  unfold Blk.p Blk.s
  congr 3
  refine Finset.sum_congr rfl fun d _ => ?_
  rw [show pcol n ⟨d.val, by omega⟩ = hcol ⟨2 * n.val, by omega⟩ d from Fin.ext (by simp only; omega)]

/-- The stacked probabilities: second head. -/
theorem p_high (i : Fin 128) (j : Fin 256) :
    k0_pay41 (F := Ideal) (k0_pay38 q) (k0_pay40 kp kc) l0 l1 b0 b1 (ix2 (⟨128 + i.val, by omega⟩ : Fin 256) j)
      = X.p i j ⟨2 * n.val + 1, by omega⟩ := by
  pointwise [k0_pay41, k0_pay38, k0_pay40]
  simp only [lane_select, two_k H, H.hq, H.hb1, H.hl1]
  rw [sum_high (fun l => X.q i (pcol n l) * Ideal.ofBits FTy.bf16 15872#16 * two X.kp X.kc j (pcol n l))]
  unfold Blk.p Blk.s
  congr 3
  refine Finset.sum_congr rfl fun d _ => ?_
  rw [show pcol n ⟨64 + d.val, by omega⟩ = hcol ⟨2 * n.val + 1, by omega⟩ d from Fin.ext (by simp only; omega)]

/-- The stacked score gradients: first head. -/
theorem ds_low (i : Fin 128) (j : Fin 256) :
    k0_pay42 (F := Ideal) (k0_pay38 q) (k0_pay39 dO) (k0_pay40 kp kc) vp vc l0 l1 d0 d1 b0 b1 (ix2 (⟨i.val, by omega⟩ : Fin 256) j)
      = X.ds i j ⟨2 * n.val, by omega⟩ := by
  have hp := p_low H i j
  unfold k0_pay42
  generalize k0_pay41 (F := Ideal) (k0_pay38 q) (k0_pay40 kp kc) l0 l1 b0 b1 = P at hp ⊢
  pointwise [k0_pay39]
  rw [hp]
  simp only [lane_select, two_v H, H.hct, H.hd0]
  rw [sum_low (fun l => X.ct i (pcol n l) * two X.vp X.vc j (pcol n l))]
  unfold Blk.ds
  congr 2
  refine Finset.sum_congr rfl fun d _ => ?_
  rw [show pcol n ⟨d.val, by omega⟩ = hcol ⟨2 * n.val, by omega⟩ d from Fin.ext (by simp only; omega)]

/-- The stacked score gradients: second head. -/
theorem ds_high (i : Fin 128) (j : Fin 256) :
    k0_pay42 (F := Ideal) (k0_pay38 q) (k0_pay39 dO) (k0_pay40 kp kc) vp vc l0 l1 d0 d1 b0 b1 (ix2 (⟨128 + i.val, by omega⟩ : Fin 256) j)
      = X.ds i j ⟨2 * n.val + 1, by omega⟩ := by
  have hp := p_high H i j
  unfold k0_pay42
  generalize k0_pay41 (F := Ideal) (k0_pay38 q) (k0_pay40 kp kc) l0 l1 b0 b1 = P at hp ⊢
  pointwise [k0_pay39]
  rw [hp]
  simp only [lane_select, two_v H, H.hct, H.hd1]
  rw [sum_high (fun l => X.ct i (pcol n l) * two X.vp X.vc j (pcol n l))]
  unfold Blk.ds
  congr 2
  refine Finset.sum_congr rfl fun d _ => ?_
  rw [show pcol n ⟨64 + d.val, by omega⟩ = hcol ⟨2 * n.val + 1, by omega⟩ d from Fin.ext (by simp only; omega)]

theorem headOf_low (l : Fin 128) (h : l.val < 64) : headOf (pcol n l) = ⟨2 * n.val, by omega⟩ := Fin.ext (by simp only; omega)
theorem headOf_high (l : Fin 128) (h : ¬ l.val < 64) : headOf (pcol n l) = ⟨2 * n.val + 1, by omega⟩ := Fin.ext (by simp only; omega)

/-- The pair's store into the queries' gradient. -/
theorem dq_pair (i : Fin 128) (l : Fin 128) :
    k0_pay43 (F := Ideal) (k0_pay40 kp kc)
        (k0_pay42 (k0_pay38 q) (k0_pay39 dO) (k0_pay40 kp kc) vp vc l0 l1 d0 d1 b0 b1)
        (constant S256x128 .f32 0x00000000#32) (ix3 0 i l) = X.dq i (pcol n l) := by
  have hlo := ds_low H i
  have hhi := ds_high H i
  generalize k0_pay42 (F := Ideal) (k0_pay38 q) (k0_pay39 dO) (k0_pay40 kp kc) vp vc l0 l1 d0 d1 b0 b1 = D at hlo hhi ⊢
  pointwise [k0_pay43, k0_pay40]
  simp only [lane_select, two_k H, hlo, hhi]
  unfold Blk.dq
  rw [sum_rows]
  simp only [two_low, two_high, H.hkp, H.hkc]
  by_cases h : l.val < 64
  · rw [if_pos h, headOf_low H l h]
  · rw [if_neg h, headOf_high H l h]

/-- The pair's product for the keys' gradient. -/
theorem dk_pair (j : Fin 256) (l : Fin 128) :
    k0_pay44 (F := Ideal) (k0_pay38 q)
        (k0_pay42 (k0_pay38 q) (k0_pay39 dO) (k0_pay40 kp kc) vp vc l0 l1 d0 d1 b0 b1) (ix2 j l) = X.dk j (pcol n l) := by
  have hlo := fun i => ds_low H i j
  have hhi := fun i => ds_high H i j
  generalize k0_pay42 (F := Ideal) (k0_pay38 q) (k0_pay39 dO) (k0_pay40 kp kc) vp vc l0 l1 d0 d1 b0 b1 = D at hlo hhi ⊢
  pointwise [k0_pay44]
  rw [sum_rows]
  simp only [hlo, hhi]
  pointwise [k0_pay38]
  simp only [lane_select, H.hq]
  unfold Blk.dk
  by_cases h : l.val < 64
  · simp only [if_pos h, headOf_low H l h, mul_zero, Finset.sum_const_zero, add_zero]
  · simp only [if_neg h, headOf_high H l h, mul_zero, Finset.sum_const_zero, zero_add]

/-- The pair's product for the values' gradient. -/
theorem dv_pair (j : Fin 256) (l : Fin 128) :
    k0_pay45 (F := Ideal) (k0_pay39 dO) (k0_pay41 (k0_pay38 q) (k0_pay40 kp kc) l0 l1 b0 b1) (ix2 j l) = X.dv j (pcol n l) := by
  have hlo := fun i => p_low H i j
  have hhi := fun i => p_high H i j
  generalize k0_pay41 (F := Ideal) (k0_pay38 q) (k0_pay40 kp kc) l0 l1 b0 b1 = D at hlo hhi ⊢
  pointwise [k0_pay45]
  rw [sum_rows]
  simp only [hlo, hhi]
  pointwise [k0_pay39]
  simp only [lane_select, H.hct]
  unfold Blk.dv
  by_cases h : l.val < 64
  · simp only [if_pos h, headOf_low H l h, mul_zero, Finset.sum_const_zero, add_zero]
  · simp only [if_neg h, headOf_high H l h, mul_zero, Finset.sum_const_zero, zero_add]

end Pair

end Cert.KernelIdeal.Hand

end
-- ==== Proof.Ideal.Point.lean ====
/- One grid point's stores read back: whatever the output blocks and the scratch held before, after the body they hold
   the gradients `Ideal/Pair.lean` writes entry by entry, over the blocks the point reads. -/
module

public import proofs.«01_k».proof.Proof.Ideal.Run
public import proofs.«01_k».proof.Proof.Ideal.Pair

@[expose] public section

set_option maxRecDepth 16384

noncomputable section

namespace Cert.KernelIdeal.Hand

open Idealize.ShloMosaic Idealize.ShloMosaic.TcCoe Idealize.ShloMosaic.Tactic
open Cert.KernelIdeal.Gen

section Loads

variable (x0 x1 x2 x3 x4 x5 : Vec Ideal S1x128x512 .bf16) (x6 x7 : Vec Ideal S1x128x128 .f32)
  (B : Fin 8 → Fin 128 → Fin 256 → EReal)

/-- The blocks staged at a point, as functions of row and column. -/
def blkOf : Blk where
  q i c := x0 (ix3 0 i c)
  kc i c := x1 (ix3 0 i c)
  kp i c := x2 (ix3 0 i c)
  vc i c := x3 (ix3 0 i c)
  vp i c := x4 (ix3 0 i c)
  ct i c := x5 (ix3 0 i c)
  lse i h := x6 (ix3 0 i ⟨h.val, by omega⟩)
  dl i h := x7 (ix3 0 i ⟨h.val, by omega⟩)
  B := B

/-- The loads of head pair 0. -/
theorem loads0 (b0 b1 : Vec Ideal S1x1x128x256 .f32) (hb0 : ∀ i j, b0 (ix4 0 0 i j) = B 0 i j)
    (hb1 : ∀ i j, b1 (ix4 0 0 i j) = B 1 i j) :
    PairLoads (blkOf x0 x1 x2 x3 x4 x5 x6 x7 B) 0 (View.ld x0 (Rect.unit ![0, 0, 0] ![1, 128, 128] inb_S1x128x512_S1x128x128_0_0_0)) (View.ld x5 (Rect.unit ![0, 0, 0] ![1, 128, 128] inb_S1x128x512_S1x128x128_0_0_0)) (View.ld x2 (Rect.unit ![0, 0, 0] ![1, 128, 128] inb_S1x128x512_S1x128x128_0_0_0)) (View.ld x1 (Rect.unit ![0, 0, 0] ![1, 128, 128] inb_S1x128x512_S1x128x128_0_0_0)) (View.ld x4 (Rect.unit ![0, 0, 0] ![1, 128, 128] inb_S1x128x512_S1x128x128_0_0_0)) (View.ld x3 (Rect.unit ![0, 0, 0] ![1, 128, 128] inb_S1x128x512_S1x128x128_0_0_0)) (View.ld x6 (Rect.unit ![0, 0, 0] ![1, 128, 1] inb_S1x128x128_S1x128x1_0_0_0)) (View.ld x6 (Rect.unit ![0, 0, 1] ![1, 128, 1] inb_S1x128x128_S1x128x1_0_0_1)) (View.ld x7 (Rect.unit ![0, 0, 0] ![1, 128, 1] inb_S1x128x128_S1x128x1_0_0_0)) (View.ld x7 (Rect.unit ![0, 0, 1] ![1, 128, 1] inb_S1x128x128_S1x128x1_0_0_1)) b0 b1 where
  hq i l := by
    pointwise [blkOf] <;> exact congrArg (fun k => x0 (ix3 0 i k)) (Fin.ext (by first | rfl | simp))
  hct i l := by
    pointwise [blkOf] <;> exact congrArg (fun k => x5 (ix3 0 i k)) (Fin.ext (by first | rfl | simp))
  hkp i l := by
    pointwise [blkOf] <;> exact congrArg (fun k => x2 (ix3 0 i k)) (Fin.ext (by first | rfl | simp))
  hkc i l := by
    pointwise [blkOf] <;> exact congrArg (fun k => x1 (ix3 0 i k)) (Fin.ext (by first | rfl | simp))
  hvp i l := by
    pointwise [blkOf] <;> exact congrArg (fun k => x4 (ix3 0 i k)) (Fin.ext (by first | rfl | simp))
  hvc i l := by
    pointwise [blkOf] <;> exact congrArg (fun k => x3 (ix3 0 i k)) (Fin.ext (by first | rfl | simp))
  hl0 i := by pointwise [blkOf]; try rfl
  hl1 i := by pointwise [blkOf]; try rfl
  hd0 i := by pointwise [blkOf]; try rfl
  hd1 i := by pointwise [blkOf]; try rfl
  hb0 i j := hb0 i j
  hb1 i j := hb1 i j

/-- The loads of head pair 1. -/
theorem loads1 (b0 b1 : Vec Ideal S1x1x128x256 .f32) (hb0 : ∀ i j, b0 (ix4 0 0 i j) = B 2 i j)
    (hb1 : ∀ i j, b1 (ix4 0 0 i j) = B 3 i j) :
    PairLoads (blkOf x0 x1 x2 x3 x4 x5 x6 x7 B) 1 (View.ld x0 (Rect.unit ![0, 0, 128] ![1, 128, 128] inb_S1x128x512_S1x128x128_0_0_128)) (View.ld x5 (Rect.unit ![0, 0, 128] ![1, 128, 128] inb_S1x128x512_S1x128x128_0_0_128)) (View.ld x2 (Rect.unit ![0, 0, 128] ![1, 128, 128] inb_S1x128x512_S1x128x128_0_0_128)) (View.ld x1 (Rect.unit ![0, 0, 128] ![1, 128, 128] inb_S1x128x512_S1x128x128_0_0_128)) (View.ld x4 (Rect.unit ![0, 0, 128] ![1, 128, 128] inb_S1x128x512_S1x128x128_0_0_128)) (View.ld x3 (Rect.unit ![0, 0, 128] ![1, 128, 128] inb_S1x128x512_S1x128x128_0_0_128)) (View.ld x6 (Rect.unit ![0, 0, 2] ![1, 128, 1] inb_S1x128x128_S1x128x1_0_0_2)) (View.ld x6 (Rect.unit ![0, 0, 3] ![1, 128, 1] inb_S1x128x128_S1x128x1_0_0_3)) (View.ld x7 (Rect.unit ![0, 0, 2] ![1, 128, 1] inb_S1x128x128_S1x128x1_0_0_2)) (View.ld x7 (Rect.unit ![0, 0, 3] ![1, 128, 1] inb_S1x128x128_S1x128x1_0_0_3)) b0 b1 where
  hq i l := by
    pointwise [blkOf] <;> exact congrArg (fun k => x0 (ix3 0 i k)) (Fin.ext (by first | rfl | simp))
  hct i l := by
    pointwise [blkOf] <;> exact congrArg (fun k => x5 (ix3 0 i k)) (Fin.ext (by first | rfl | simp))
  hkp i l := by
    pointwise [blkOf] <;> exact congrArg (fun k => x2 (ix3 0 i k)) (Fin.ext (by first | rfl | simp))
  hkc i l := by
    pointwise [blkOf] <;> exact congrArg (fun k => x1 (ix3 0 i k)) (Fin.ext (by first | rfl | simp))
  hvp i l := by
    pointwise [blkOf] <;> exact congrArg (fun k => x4 (ix3 0 i k)) (Fin.ext (by first | rfl | simp))
  hvc i l := by
    pointwise [blkOf] <;> exact congrArg (fun k => x3 (ix3 0 i k)) (Fin.ext (by first | rfl | simp))
  hl0 i := by pointwise [blkOf]; try rfl
  hl1 i := by pointwise [blkOf]; try rfl
  hd0 i := by pointwise [blkOf]; try rfl
  hd1 i := by pointwise [blkOf]; try rfl
  hb0 i j := hb0 i j
  hb1 i j := hb1 i j

/-- The loads of head pair 2. -/
theorem loads2 (b0 b1 : Vec Ideal S1x1x128x256 .f32) (hb0 : ∀ i j, b0 (ix4 0 0 i j) = B 4 i j)
    (hb1 : ∀ i j, b1 (ix4 0 0 i j) = B 5 i j) :
    PairLoads (blkOf x0 x1 x2 x3 x4 x5 x6 x7 B) 2 (View.ld x0 (Rect.unit ![0, 0, 256] ![1, 128, 128] inb_S1x128x512_S1x128x128_0_0_256)) (View.ld x5 (Rect.unit ![0, 0, 256] ![1, 128, 128] inb_S1x128x512_S1x128x128_0_0_256)) (View.ld x2 (Rect.unit ![0, 0, 256] ![1, 128, 128] inb_S1x128x512_S1x128x128_0_0_256)) (View.ld x1 (Rect.unit ![0, 0, 256] ![1, 128, 128] inb_S1x128x512_S1x128x128_0_0_256)) (View.ld x4 (Rect.unit ![0, 0, 256] ![1, 128, 128] inb_S1x128x512_S1x128x128_0_0_256)) (View.ld x3 (Rect.unit ![0, 0, 256] ![1, 128, 128] inb_S1x128x512_S1x128x128_0_0_256)) (View.ld x6 (Rect.unit ![0, 0, 4] ![1, 128, 1] inb_S1x128x128_S1x128x1_0_0_4)) (View.ld x6 (Rect.unit ![0, 0, 5] ![1, 128, 1] inb_S1x128x128_S1x128x1_0_0_5)) (View.ld x7 (Rect.unit ![0, 0, 4] ![1, 128, 1] inb_S1x128x128_S1x128x1_0_0_4)) (View.ld x7 (Rect.unit ![0, 0, 5] ![1, 128, 1] inb_S1x128x128_S1x128x1_0_0_5)) b0 b1 where
  hq i l := by
    pointwise [blkOf] <;> exact congrArg (fun k => x0 (ix3 0 i k)) (Fin.ext (by first | rfl | simp))
  hct i l := by
    pointwise [blkOf] <;> exact congrArg (fun k => x5 (ix3 0 i k)) (Fin.ext (by first | rfl | simp))
  hkp i l := by
    pointwise [blkOf] <;> exact congrArg (fun k => x2 (ix3 0 i k)) (Fin.ext (by first | rfl | simp))
  hkc i l := by
    pointwise [blkOf] <;> exact congrArg (fun k => x1 (ix3 0 i k)) (Fin.ext (by first | rfl | simp))
  hvp i l := by
    pointwise [blkOf] <;> exact congrArg (fun k => x4 (ix3 0 i k)) (Fin.ext (by first | rfl | simp))
  hvc i l := by
    pointwise [blkOf] <;> exact congrArg (fun k => x3 (ix3 0 i k)) (Fin.ext (by first | rfl | simp))
  hl0 i := by pointwise [blkOf]; try rfl
  hl1 i := by pointwise [blkOf]; try rfl
  hd0 i := by pointwise [blkOf]; try rfl
  hd1 i := by pointwise [blkOf]; try rfl
  hb0 i j := hb0 i j
  hb1 i j := hb1 i j

/-- The loads of head pair 3. -/
theorem loads3 (b0 b1 : Vec Ideal S1x1x128x256 .f32) (hb0 : ∀ i j, b0 (ix4 0 0 i j) = B 6 i j)
    (hb1 : ∀ i j, b1 (ix4 0 0 i j) = B 7 i j) :
    PairLoads (blkOf x0 x1 x2 x3 x4 x5 x6 x7 B) 3 (View.ld x0 (Rect.unit ![0, 0, 384] ![1, 128, 128] inb_S1x128x512_S1x128x128_0_0_384)) (View.ld x5 (Rect.unit ![0, 0, 384] ![1, 128, 128] inb_S1x128x512_S1x128x128_0_0_384)) (View.ld x2 (Rect.unit ![0, 0, 384] ![1, 128, 128] inb_S1x128x512_S1x128x128_0_0_384)) (View.ld x1 (Rect.unit ![0, 0, 384] ![1, 128, 128] inb_S1x128x512_S1x128x128_0_0_384)) (View.ld x4 (Rect.unit ![0, 0, 384] ![1, 128, 128] inb_S1x128x512_S1x128x128_0_0_384)) (View.ld x3 (Rect.unit ![0, 0, 384] ![1, 128, 128] inb_S1x128x512_S1x128x128_0_0_384)) (View.ld x6 (Rect.unit ![0, 0, 6] ![1, 128, 1] inb_S1x128x128_S1x128x1_0_0_6)) (View.ld x6 (Rect.unit ![0, 0, 7] ![1, 128, 1] inb_S1x128x128_S1x128x1_0_0_7)) (View.ld x7 (Rect.unit ![0, 0, 6] ![1, 128, 1] inb_S1x128x128_S1x128x1_0_0_6)) (View.ld x7 (Rect.unit ![0, 0, 7] ![1, 128, 1] inb_S1x128x128_S1x128x1_0_0_7)) b0 b1 where
  hq i l := by
    pointwise [blkOf] <;> exact congrArg (fun k => x0 (ix3 0 i k)) (Fin.ext (by first | rfl | simp))
  hct i l := by
    pointwise [blkOf] <;> exact congrArg (fun k => x5 (ix3 0 i k)) (Fin.ext (by first | rfl | simp))
  hkp i l := by
    pointwise [blkOf] <;> exact congrArg (fun k => x2 (ix3 0 i k)) (Fin.ext (by first | rfl | simp))
  hkc i l := by
    pointwise [blkOf] <;> exact congrArg (fun k => x1 (ix3 0 i k)) (Fin.ext (by first | rfl | simp))
  hvp i l := by
    pointwise [blkOf] <;> exact congrArg (fun k => x4 (ix3 0 i k)) (Fin.ext (by first | rfl | simp))
  hvc i l := by
    pointwise [blkOf] <;> exact congrArg (fun k => x3 (ix3 0 i k)) (Fin.ext (by first | rfl | simp))
  hl0 i := by pointwise [blkOf]; try rfl
  hl1 i := by pointwise [blkOf]; try rfl
  hd0 i := by pointwise [blkOf]; try rfl
  hd1 i := by pointwise [blkOf]; try rfl
  hb0 i j := hb0 i j
  hb1 i j := hb1 i j

end Loads

end Cert.KernelIdeal.Hand

end
-- ==== Proof.Ideal.Stores.lean ====
/- What one head pair stores, tile by tile: the gradient of the queries, the sums of the block's own rows (the carried
   sum added) and the sums passed on to the next point. -/
module

public import proofs.«01_k».proof.Proof.Ideal.Point

@[expose] public section

set_option maxRecDepth 16384

noncomputable section

namespace Cert.KernelIdeal.Hand

open Idealize.ShloMosaic Idealize.ShloMosaic.TcCoe Idealize.ShloMosaic.Tactic
open Cert.KernelIdeal.Gen

section Tiles

variable {X : Blk} {n : Fin 4} {q dO kp kc vp vc : Vec Ideal S1x128x128 .bf16}
  {l0 l1 d0 d1 : Vec Ideal S1x128x1 .f32} {b0 b1 : Vec Ideal S1x1x128x256 .f32}

/-- The first half of the keys' sums, added to what was carried. -/
theorem dk_low (H : PairLoads X n q dO kp kc vp vc l0 l1 d0 d1 b0 b1) (C : Fin 128 → Fin 512 → EReal)
    (ck : Vec Ideal S128x128 .f32) (hC : ∀ j l, ck (ix2 j l) = C j (pcol n l)) (j l : Fin 128) :
    k0_pay46 (k0_pay38 q) (k0_pay42 (k0_pay38 q) (k0_pay39 dO) (k0_pay40 kp kc) vp vc l0 l1 d0 d1 b0 b1) ck (ix3 0 j l)
      = C j (pcol n l) + X.dk ⟨j.val, by omega⟩ (pcol n l) := by
  have h : k0_pay46 (k0_pay38 q) (k0_pay42 (k0_pay38 q) (k0_pay39 dO) (k0_pay40 kp kc) vp vc l0 l1 d0 d1 b0 b1) ck (ix3 0 j l)
      = ck (ix2 j l) + k0_pay44 (k0_pay38 q) (k0_pay42 (k0_pay38 q) (k0_pay39 dO) (k0_pay40 kp kc) vp vc l0 l1 d0 d1 b0 b1) (ix2 ⟨j.val, by omega⟩ l) := by
    pointwise [k0_pay46] <;> rfl
  rw [h, hC, dk_pair H]

/-- The first half of the values' sums, added to what was carried. -/
theorem dv_low (H : PairLoads X n q dO kp kc vp vc l0 l1 d0 d1 b0 b1) (C : Fin 128 → Fin 512 → EReal)
    (cv : Vec Ideal S128x128 .f32) (hC : ∀ j l, cv (ix2 j l) = C j (pcol n l)) (j l : Fin 128) :
    k0_pay47 (k0_pay39 dO) (k0_pay41 (k0_pay38 q) (k0_pay40 kp kc) l0 l1 b0 b1) cv (ix3 0 j l)
      = C j (pcol n l) + X.dv ⟨j.val, by omega⟩ (pcol n l) := by
  have h : k0_pay47 (k0_pay39 dO) (k0_pay41 (k0_pay38 q) (k0_pay40 kp kc) l0 l1 b0 b1) cv (ix3 0 j l)
      = cv (ix2 j l) + k0_pay45 (k0_pay39 dO) (k0_pay41 (k0_pay38 q) (k0_pay40 kp kc) l0 l1 b0 b1) (ix2 ⟨j.val, by omega⟩ l) := by
    pointwise [k0_pay47] <;> rfl
  rw [h, hC, dv_pair H]

/-- The second half of the keys' sums. -/
theorem dk_high (H : PairLoads X n q dO kp kc vp vc l0 l1 d0 d1 b0 b1) (j l : Fin 128) :
    k0_pay48 (k0_pay38 q) (k0_pay42 (k0_pay38 q) (k0_pay39 dO) (k0_pay40 kp kc) vp vc l0 l1 d0 d1 b0 b1) (ix2 j l) = X.dk ⟨128 + j.val, by omega⟩ (pcol n l) := by
  have h : k0_pay48 (k0_pay38 q) (k0_pay42 (k0_pay38 q) (k0_pay39 dO) (k0_pay40 kp kc) vp vc l0 l1 d0 d1 b0 b1) (ix2 j l)
      = k0_pay44 (k0_pay38 q) (k0_pay42 (k0_pay38 q) (k0_pay39 dO) (k0_pay40 kp kc) vp vc l0 l1 d0 d1 b0 b1) (ix2 ⟨128 + j.val, by omega⟩ l) := by
    pointwise [k0_pay48] <;> rfl
  rw [h, dk_pair H]

/-- The second half of the values' sums. -/
theorem dv_high (H : PairLoads X n q dO kp kc vp vc l0 l1 d0 d1 b0 b1) (j l : Fin 128) :
    k0_pay50 (k0_pay49 (k0_pay39 dO) (k0_pay41 (k0_pay38 q) (k0_pay40 kp kc) l0 l1 b0 b1)) (ix2 j l) = X.dv ⟨128 + j.val, by omega⟩ (pcol n l) := by
  have h : k0_pay50 (k0_pay49 (k0_pay39 dO) (k0_pay41 (k0_pay38 q) (k0_pay40 kp kc) l0 l1 b0 b1)) (ix2 j l)
      = k0_pay45 (k0_pay39 dO) (k0_pay41 (k0_pay38 q) (k0_pay40 kp kc) l0 l1 b0 b1) (ix2 ⟨128 + j.val, by omega⟩ l) := by
    pointwise [k0_pay50, k0_pay49] <;> rfl
  rw [h, dv_pair H]

end Tiles

/-- A tile of four heads' columns holds a table's entries where it lies. -/
theorem tile3 (n : Fin 4) (f : Fin 128 → Fin 512 → EReal) (v : Vec Ideal S1x128x128 .bf16)
    (hv : ∀ i l, v (ix3 0 i l) = f i (pcol n l)) (x : S1x128x128.Idx) (y : S1x128x512.Idx) (o : ℕ) (ho : o = 128 * n.val)
    (e1 : (y 1).val = 0 + (x 1).val) (e2 : (y 2).val = o + (x 2).val) : v x = f (y 1) (y 2) := by
  have hx : x = (ix3 0 (x 1 : Fin 128) (x 2 : Fin 128) : S1x128x128.Idx) := by
    funext a; fin_cases a
    · exact Fin.ext (by have := (x 0).isLt; simp at this ⊢)
    · rfl
    · rfl
  refine (congrArg v hx).trans ((hv _ _).trans (congrArg₂ f ?_ ?_))
  · exact Fin.ext (by omega)
  · exact Fin.ext (by simp only [pcol]; omega)

/-- The same for a tile of the carried sums. -/
theorem tile2 (n : Fin 4) (f : Fin 128 → Fin 512 → EReal) (v : Vec Ideal S128x128 .f32)
    (hv : ∀ i l, v (ix2 i l) = f i (pcol n l)) (x : S128x128.Idx) (y : S128x512.Idx) (o : ℕ) (ho : o = 128 * n.val)
    (e1 : (y 0).val = 0 + (x 0).val) (e2 : (y 1).val = o + (x 1).val) : v x = f (y 0) (y 1) := by
  have hx : x = (ix2 (x 0 : Fin 128) (x 1 : Fin 128) : S128x128.Idx) := by
    funext a; fin_cases a <;> rfl
  refine (congrArg v hx).trans ((hv _ _).trans (congrArg₂ f ?_ ?_))
  · exact Fin.ext (by omega)
  · exact Fin.ext (by simp only [pcol]; omega)

/-- One head's plane of the table of offsets, loaded. -/
theorem ld_bias (s : Vec Ideal S2x8x128x256 .f32) (off : Fin 4 → ℕ) (inb) (pl : Fin 2) (h : Fin 8)
    (e : off = ![pl.val, h.val, 0, 0]) (i : Fin 128) (j : Fin 256) :
    View.ld s (Rect.unit off ![1, 1, 128, 256] inb) (ix4 0 0 i j) = s (ix4 pl h i j) := by
  subst e
  refine congrArg s ?_
  funext a; fin_cases a <;> exact Fin.ext (by simp [Rect.unit])

/-- A tile of the carried sums, loaded. -/
theorem ld_carry (s : Vec Ideal S128x512 .f32) (n : Fin 4) (o : ℕ) (ho : o = 128 * n.val) (inb) (j l : Fin 128) :
    View.ld s (Rect.unit ![0, o] ![128, 128] inb) (ix2 j l) = s (ix2 j (pcol n l)) := by
  subst ho
  refine congrArg s ?_
  funext a; fin_cases a <;> exact Fin.ext (by simp [Rect.unit, pcol])

/-- The plane of the table a point reads. -/
def plane (i : grid0.Coords) : Fin 2 := ⟨1 - (i 0).val % 2, by omega⟩

end Cert.KernelIdeal.Hand

end
-- ==== Proof.Ideal.Table.lean ====
/- The table of offsets the first point writes, and what it holds. -/
module

public import proofs.«01_k».proof.Proof.Ideal.Stores

@[expose] public section

set_option maxRecDepth 16384

noncomputable section

namespace Cert.KernelIdeal.Hand

open Idealize.ShloMosaic Idealize.ShloMosaic.TcCoe Idealize.ShloMosaic.Tactic
open Cert.KernelIdeal.Gen

/-- One entry of the table of offsets: the distance times the head's slope where the key is one of the query's
    window, minus infinity elsewhere. -/
def edge (w : EReal) (i : Fin 128) (j : Fin 256) : EReal :=
  if j.val ≤ i.val + 128 ∧ i.val ≤ j.val then (((((i.val : ℤ) + 128 - (j.val : ℤ) : ℤ) : ℝ)) : EReal) * w else ⊥

/-- The slopes of the eight heads times the dilation, negated, as the kernel writes them. -/
def slopeBits : Fin 8 → BitVec 32 :=
  ![0xC1000000#32, 0xC0800000#32, 0xC0000000#32, 0xBF800000#32, 0xBF000000#32, 0xBE800000#32, 0xBE000000#32, 0xBD800000#32]

/-- The table of offsets: plane 1 hides the block before, which the first block has not. -/
def tab (p : Fin 2) (h : Fin 8) (i : Fin 128) (j : Fin 256) : EReal :=
  if p = 1 ∧ j.val < 128 then ⊥ else edge (Ideal.ofBits .f32 (slopeBits h)) i j

theorem mask_bot : (Named.named (F := Ideal) κ "mask" 0xF149F2CA#32 : Ideal .f32) = (⊥ : EReal) :=
  IdealRules.named_const.ideal_named_scalar _ _ _ _ rfl

theorem dist_toInt (i : Fin 128) (j : Fin 256) :
    (BitVec.ofNat 32 i.val + 128#32 - BitVec.ofNat 32 j.val).toInt = (i.val : ℤ) + 128 - j.val := by
  have : BitVec.ofNat 32 i.val + 128#32 - BitVec.ofNat 32 j.val = BitVec.ofInt 32 ((i.val : ℤ) + 128 - j.val) := by
    apply BitVec.eq_of_toNat_eq
    simp [BitVec.toNat_sub, BitVec.toNat_add, BitVec.toNat_ofInt]
    omega
  rw [this, BitVec.toInt_ofInt]
  have h1 := i.isLt; have h2 := j.isLt
  simp only [Int.bmod]
  omega

/-- The kernel's choice at one entry is the table's. -/
theorem edge_eq (w : EReal) (i : Fin 128) (j : Fin 256) :
    Scalar.select
      (IntOp.andi
        (IntOp.cmpi CmpIPredicate.sge (IntOp.subi (IntOp.addi (BitVec.ofNat 32 i.val) 128#32) (BitVec.ofNat 32 j.val)) 0#32)
        (IntOp.cmpi CmpIPredicate.sle (IntOp.subi (IntOp.addi (BitVec.ofNat 32 i.val) 128#32) (BitVec.ofNat 32 j.val)) 128#32))
      ((FloatOps.sitofp FTy.f32 (IntOp.subi (IntOp.addi (BitVec.ofNat 32 i.val) 128#32) (BitVec.ofNat 32 j.val)) : Ideal .f32) * w)
      (Named.named (F := Ideal) κ "mask" 0xF149F2CA#32 : Ideal .f32) = edge w i j := by
  have hd := dist_toInt i j
  rw [mask_bot]
  have hs : IntOp.cmpi CmpIPredicate.sge (IntOp.subi (IntOp.addi (BitVec.ofNat 32 i.val) 128#32) (BitVec.ofNat 32 j.val)) 0#32
      = BitVec.ofBool (decide (j.val ≤ i.val + 128)) := by
    refine congrArg BitVec.ofBool ?_
    show decide ((0#32).toInt ≤ (BitVec.ofNat 32 i.val + 128#32 - BitVec.ofNat 32 j.val).toInt) = _
    rw [hd]
    refine decide_eq_decide.2 ?_
    have : (0#32).toInt = 0 := by decide
    omega
  have ht : IntOp.cmpi CmpIPredicate.sle (IntOp.subi (IntOp.addi (BitVec.ofNat 32 i.val) 128#32) (BitVec.ofNat 32 j.val)) 128#32
      = BitVec.ofBool (decide (i.val ≤ j.val)) := by
    refine congrArg BitVec.ofBool ?_
    show decide ((BitVec.ofNat 32 i.val + 128#32 - BitVec.ofNat 32 j.val).toInt ≤ (128#32).toInt) = _
    rw [hd]
    refine decide_eq_decide.2 ?_
    have : (128#32).toInt = 128 := by decide
    omega
  have hf : (FloatOps.sitofp FTy.f32 (IntOp.subi (IntOp.addi (BitVec.ofNat 32 i.val) 128#32) (BitVec.ofNat 32 j.val)) : Ideal .f32)
      = ((((((i.val : ℤ) + 128 - (j.val : ℤ) : ℤ) : ℝ)) : EReal)) := by
    rw [← hd]; rfl
  rw [hs, ht, hf]
  unfold edge
  by_cases h1 : j.val ≤ i.val + 128 <;> by_cases h2 : i.val ≤ j.val <;>
    simp [Scalar.select, IntOp.andi, h1, h2]

theorem low_eq (j : Fin 256) (a b : EReal) :
    Scalar.select (IntOp.cmpi CmpIPredicate.sge (BitVec.ofNat 32 j.val) 128#32) a b = if j.val < 128 then b else a := by
  have : (BitVec.ofNat 32 j.val).toInt = j.val := by
    rw [BitVec.toInt_eq_toNat_of_lt (by have := j.isLt; simp; omega)]
    have := j.isLt; simp; omega
  have hs : IntOp.cmpi CmpIPredicate.sge (BitVec.ofNat 32 j.val) 128#32 = BitVec.ofBool (decide (¬ j.val < 128)) := by
    refine congrArg BitVec.ofBool ?_
    show decide ((128#32).toInt ≤ (BitVec.ofNat 32 j.val).toInt) = _
    rw [this]
    refine decide_eq_decide.2 ?_
    have : (128#32).toInt = 128 := by decide
    omega
  rw [hs]
  by_cases h : j.val < 128 <;> simp [Scalar.select, h]

/-- What a head's plane holds without the block before hidden. -/
theorem plane0 (h : Fin 8) (i : Fin 128) (j : Fin 256) : edge (Ideal.ofBits .f32 (slopeBits h)) i j = tab 0 h i j := by
  unfold tab; rw [if_neg (by simp)]

/-- What a head's plane holds with the block before hidden. -/
theorem plane1 (h : Fin 8) (i : Fin 128) (j : Fin 256) :
    (if j.val < 128 then ⊥ else edge (Ideal.ofBits .f32 (slopeBits h)) i j) = tab 1 h i j := by
  unfold tab; simp

/-- A plane of the table holds its entries where it lies. -/
theorem tile4 (p : Fin 2) (h : Fin 8) (v : Vec Ideal S1x1x128x256 .f32)
    (hv : ∀ i j, v (ix4 0 0 i j) = tab p h i j) (x : S1x1x128x256.Idx) (y : S2x8x128x256.Idx)
    (e0 : (y 0).val = p.val) (e1 : (y 1).val = h.val) (e2 : (y 2).val = (x 2).val) (e3 : (y 3).val = (x 3).val) :
    v x = tab (y 0) (y 1) (y 2) (y 3) := by
  have hx : x = (ix4 0 0 (x 2 : Fin 128) (x 3 : Fin 256) : S1x1x128x256.Idx) := by
    funext a; fin_cases a
    · exact Fin.ext (by have := (x 0).isLt; simp at this ⊢)
    · exact Fin.ext (by have := (x 1).isLt; simp at this ⊢)
    · rfl
    · rfl
  refine (congrArg v hx).trans ((hv _ _).trans ?_)
  rw [show y 0 = p from Fin.ext e0, show y 1 = h from Fin.ext e1,
    show y 2 = x 2 from Fin.ext e2, show y 3 = x 3 from Fin.ext e3]

section Reads

variable (c : Dev nD) (i : grid0.Coords)
variable (a1 : Memref sig .tc .vmem S1x128x512 .bf16) (h1 : a1.IsWhole)
variable (a2 : Memref sig .tc .vmem S1x128x512 .bf16) (h2 : a2.IsWhole)
variable (a3 : Memref sig .tc .vmem S1x128x512 .bf16) (h3 : a3.IsWhole)
variable (a4 : Memref sig .tc .vmem S1x128x512 .bf16) (h4 : a4.IsWhole)
variable (a5 : Memref sig .tc .vmem S1x128x512 .bf16) (h5 : a5.IsWhole)
variable (a6 : Memref sig .tc .vmem S1x128x512 .bf16) (h6 : a6.IsWhole)
variable (a7 : Memref sig .tc .vmem S1x128x128 .f32) (h7 : a7.IsWhole)
variable (a8 : Memref sig .tc .vmem S1x128x128 .f32) (h8 : a8.IsWhole)
variable (a9 : Memref sig .tc .vmem S1x128x512 .bf16) (h9 : a9.IsWhole)
variable (a10 : Memref sig .tc .vmem S1x128x512 .bf16) (h10 : a10.IsWhole)
variable (a11 : Memref sig .tc .vmem S1x128x512 .bf16) (h11 : a11.IsWhole)
variable (a12 : Memref sig .tc .vmem S128x512 .f32) (h12 : a12.IsWhole)
variable (a13 : Memref sig .tc .vmem S128x512 .f32) (h13 : a13.IsWhole)
variable (a14 : Memref sig .tc .vmem S2x8x128x256 .f32) (h14 : a14.IsWhole)
variable (x0 : Vec Ideal S1x128x512 .bf16) (x1 : Vec Ideal S1x128x512 .bf16) (x2 : Vec Ideal S1x128x512 .bf16) (x3 : Vec Ideal S1x128x512 .bf16) (x4 : Vec Ideal S1x128x512 .bf16) (x5 : Vec Ideal S1x128x512 .bf16) (x6 : Vec Ideal S1x128x128 .f32) (x7 : Vec Ideal S1x128x128 .f32)

variable (hc0 : cond0 i) (hc1 : cond1 i) (hc2 : ¬cond2 i)

/-- The first point writes the table. -/
theorem runA_tab (y : S2x8x128x256.Idx) :
    View.canon (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.2.2.1 y = tab (y 0) (y 1) (y 2) (y 3) := by
  unfold runA
  frame_out
  canon_tiles x e
  case piece15 => exact tile4 0 0 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 0 i j)) x y (by simp; omega) (by simp; omega) (by omega) (by omega)
  case piece14 => exact tile4 1 0 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 0 i j))) x y (by simp; omega) (by simp; omega) (by omega) (by omega)
  case piece13 => exact tile4 0 1 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 1 i j)) x y (by simp; omega) (by simp; omega) (by omega) (by omega)
  case piece12 => exact tile4 1 1 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 1 i j))) x y (by simp; omega) (by simp; omega) (by omega) (by omega)
  case piece11 => exact tile4 0 2 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 2 i j)) x y (by simp; omega) (by simp; omega) (by omega) (by omega)
  case piece10 => exact tile4 1 2 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 2 i j))) x y (by simp; omega) (by simp; omega) (by omega) (by omega)
  case piece9 => exact tile4 0 3 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 3 i j)) x y (by simp; omega) (by simp; omega) (by omega) (by omega)
  case piece8 => exact tile4 1 3 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 3 i j))) x y (by simp; omega) (by simp; omega) (by omega) (by omega)
  case piece7 => exact tile4 0 4 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 4 i j)) x y (by simp; omega) (by simp; omega) (by omega) (by omega)
  case piece6 => exact tile4 1 4 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 4 i j))) x y (by simp; omega) (by simp; omega) (by omega) (by omega)
  case piece5 => exact tile4 0 5 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 5 i j)) x y (by simp; omega) (by simp; omega) (by omega) (by omega)
  case piece4 => exact tile4 1 5 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 5 i j))) x y (by simp; omega) (by simp; omega) (by omega) (by omega)
  case piece3 => exact tile4 0 6 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 6 i j)) x y (by simp; omega) (by simp; omega) (by omega) (by omega)
  case piece2 => exact tile4 1 6 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 6 i j))) x y (by simp; omega) (by simp; omega) (by omega) (by omega)
  case piece1 => exact tile4 0 7 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (edge_eq _ i j).trans (plane0 7 i j)) x y (by simp; omega) (by simp; omega) (by omega) (by omega)
  case piece0 => exact tile4 1 7 _ (fun i j => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]; exact (low_eq j _ _).trans ((congrArg₂ (fun a b => if j.val < 128 then a else b) mask_bot (edge_eq _ i j)).trans (plane1 7 i j))) x y (by simp; omega) (by simp; omega) (by omega) (by omega)

end Reads

end Cert.KernelIdeal.Hand

end
-- ==== Proof.Ideal.ReadA.lean ====
/- What the first point's stores leave in the three output blocks and in the two carried sums. -/
module

public import proofs.«01_k».proof.Proof.Ideal.Table

@[expose] public section

set_option maxRecDepth 16384

noncomputable section

namespace Cert.KernelIdeal.Hand

open Idealize.ShloMosaic Idealize.ShloMosaic.TcCoe Idealize.ShloMosaic.Tactic
open Cert.KernelIdeal.Gen

/-- An entry right of a tile of columns is not in it. -/
theorem not_in_tile (o : ℕ) (inb : ∀ d, (![0, o] : Fin 2 → ℕ) d + (![128, 128] : Fin 2 → ℕ) d ≤ S128x512.size d) (w : S128x512.Idx)
    (h : o + 128 ≤ (w 1).val) : w ∉ (Rect.unit (s := S128x512) ![0, o] ![128, 128] inb).set := by
  intro hm
  obtain ⟨x, rfl⟩ := (Rect.unit (s := S128x512) ![0, o] ![128, 128] inb).exists_idx_of_mem hm
  have h1 : (x 1).val < 128 := (x 1).isLt
  have h2 : (((Rect.unit (s := S128x512) ![0, o] ![128, 128] inb).idx x) 1).val = o + 1 * (x 1).val := rfl
  omega

/-- The entries of a tile lie right of its first column. -/
theorem tile_from (o : ℕ) (inb : ∀ d, (![0, o] : Fin 2 → ℕ) d + (![128, 128] : Fin 2 → ℕ) d ≤ S128x512.size d) (x : S128x128.Idx) :
    o ≤ (((Rect.unit (s := S128x512) ![0, o] ![128, 128] inb).toLoadRect.idx x) 1).val :=
  Nat.le_add_right _ _

/-- A tile of sums set to zero, below stores left of it, reads zero. -/
theorem canon_zero (z : Vec Ideal S128x512 .f32) (hz : ∀ y, z y = (0 : EReal)) (inb) (w : S128x512.Idx) :
    View.canon [(⟨Rect.unit ![0, 0] ![128, 512] inb, z⟩ : View.Piece (Elt Ideal) S128x512 .f32)] w = (0 : EReal) :=
  (congrFun (View.canon_unit_zero (by funext a; fin_cases a <;> rfl) inb z) w).trans (hz w)

/-- The entries of tile 0 under the stores of the tiles before it are zero. -/
theorem canon_zero0 (z : Vec Ideal S128x512 .f32) (hz : ∀ y, z y = (0 : EReal)) (inb)
    (w : S128x512.Idx) (hw : 0 ≤ (w 1).val) :
    View.canon [(⟨Rect.unit ![0, 0] ![128, 512] inb, z⟩ : View.Piece (Elt Ideal) S128x512 .f32)] w = (0 : EReal) := by
  exact canon_zero z hz inb w

/-- A load of tile 0 of sums set to zero, after the stores of the tiles before it, finds zero. -/
theorem zero_carry0 (a : Memref sig .tc .vmem S128x512 .f32) (z : Vec Ideal S128x512 .f32) (hz : ∀ y, z y = (0 : EReal)) (inb)
    (it : ∀ d, (![0, 0] : Fin 2 → ℕ) d + (![128, 128] : Fin 2 → ℕ) d ≤ S128x512.size d) (y : S128x128.Idx) :
    (a.view.readCov [(⟨Rect.unit ![0, 0] ![128, 512] inb, z⟩ : View.Piece (Elt Ideal) S128x512 .f32)]
      (Rect.unit (s := S128x512) ![0, 0] ![128, 128] it).toLoadRect : Vec Ideal S128x128 .f32) y = (0 : EReal) := by
  rw [View.readCov_eq_canon']
  exact canon_zero0 z hz inb  _ (tile_from 0 it y)

/-- The entries of tile 1 under the stores of the tiles before it are zero. -/
theorem canon_zero1 (z : Vec Ideal S128x512 .f32) (hz : ∀ y, z y = (0 : EReal)) (inb) (w0 : Vec Ideal S128x128 .f32) (i0)
    (w : S128x512.Idx) (hw : 128 ≤ (w 1).val) :
    View.canon [(⟨Rect.unit ![0, 0] ![128, 128] i0, w0⟩ : View.Piece (Elt Ideal) S128x512 .f32), (⟨Rect.unit ![0, 0] ![128, 512] inb, z⟩ : View.Piece (Elt Ideal) S128x512 .f32)] w = (0 : EReal) := by
  rw [View.canon_cons_of_not_mem (Val := Elt Ideal) (⟨Rect.unit ![0, 0] ![128, 128] i0, w0⟩ : View.Piece (Elt Ideal) S128x512 .f32) _ (not_in_tile 0 i0 w (by omega))]
  exact canon_zero z hz inb w

/-- A load of tile 1 of sums set to zero, after the stores of the tiles before it, finds zero. -/
theorem zero_carry1 (a : Memref sig .tc .vmem S128x512 .f32) (z : Vec Ideal S128x512 .f32) (hz : ∀ y, z y = (0 : EReal)) (inb) (w0 : Vec Ideal S128x128 .f32) (i0)
    (it : ∀ d, (![0, 128] : Fin 2 → ℕ) d + (![128, 128] : Fin 2 → ℕ) d ≤ S128x512.size d) (y : S128x128.Idx) :
    (a.view.readCov [(⟨Rect.unit ![0, 0] ![128, 128] i0, w0⟩ : View.Piece (Elt Ideal) S128x512 .f32), (⟨Rect.unit ![0, 0] ![128, 512] inb, z⟩ : View.Piece (Elt Ideal) S128x512 .f32)]
      (Rect.unit (s := S128x512) ![0, 128] ![128, 128] it).toLoadRect : Vec Ideal S128x128 .f32) y = (0 : EReal) := by
  rw [View.readCov_eq_canon']
  exact canon_zero1 z hz inb w0 i0 _ (tile_from 128 it y)

/-- The entries of tile 2 under the stores of the tiles before it are zero. -/
theorem canon_zero2 (z : Vec Ideal S128x512 .f32) (hz : ∀ y, z y = (0 : EReal)) (inb) (w0 : Vec Ideal S128x128 .f32) (i0) (w1 : Vec Ideal S128x128 .f32) (i1)
    (w : S128x512.Idx) (hw : 256 ≤ (w 1).val) :
    View.canon [(⟨Rect.unit ![0, 128] ![128, 128] i1, w1⟩ : View.Piece (Elt Ideal) S128x512 .f32), (⟨Rect.unit ![0, 0] ![128, 128] i0, w0⟩ : View.Piece (Elt Ideal) S128x512 .f32), (⟨Rect.unit ![0, 0] ![128, 512] inb, z⟩ : View.Piece (Elt Ideal) S128x512 .f32)] w = (0 : EReal) := by
  rw [View.canon_cons_of_not_mem (Val := Elt Ideal) (⟨Rect.unit ![0, 128] ![128, 128] i1, w1⟩ : View.Piece (Elt Ideal) S128x512 .f32) _ (not_in_tile 128 i1 w (by omega))]
  rw [View.canon_cons_of_not_mem (Val := Elt Ideal) (⟨Rect.unit ![0, 0] ![128, 128] i0, w0⟩ : View.Piece (Elt Ideal) S128x512 .f32) _ (not_in_tile 0 i0 w (by omega))]
  exact canon_zero z hz inb w

/-- A load of tile 2 of sums set to zero, after the stores of the tiles before it, finds zero. -/
theorem zero_carry2 (a : Memref sig .tc .vmem S128x512 .f32) (z : Vec Ideal S128x512 .f32) (hz : ∀ y, z y = (0 : EReal)) (inb) (w0 : Vec Ideal S128x128 .f32) (i0) (w1 : Vec Ideal S128x128 .f32) (i1)
    (it : ∀ d, (![0, 256] : Fin 2 → ℕ) d + (![128, 128] : Fin 2 → ℕ) d ≤ S128x512.size d) (y : S128x128.Idx) :
    (a.view.readCov [(⟨Rect.unit ![0, 128] ![128, 128] i1, w1⟩ : View.Piece (Elt Ideal) S128x512 .f32), (⟨Rect.unit ![0, 0] ![128, 128] i0, w0⟩ : View.Piece (Elt Ideal) S128x512 .f32), (⟨Rect.unit ![0, 0] ![128, 512] inb, z⟩ : View.Piece (Elt Ideal) S128x512 .f32)]
      (Rect.unit (s := S128x512) ![0, 256] ![128, 128] it).toLoadRect : Vec Ideal S128x128 .f32) y = (0 : EReal) := by
  rw [View.readCov_eq_canon']
  exact canon_zero2 z hz inb w0 i0 w1 i1 _ (tile_from 256 it y)

/-- The entries of tile 3 under the stores of the tiles before it are zero. -/
theorem canon_zero3 (z : Vec Ideal S128x512 .f32) (hz : ∀ y, z y = (0 : EReal)) (inb) (w0 : Vec Ideal S128x128 .f32) (i0) (w1 : Vec Ideal S128x128 .f32) (i1) (w2 : Vec Ideal S128x128 .f32) (i2)
    (w : S128x512.Idx) (hw : 384 ≤ (w 1).val) :
    View.canon [(⟨Rect.unit ![0, 256] ![128, 128] i2, w2⟩ : View.Piece (Elt Ideal) S128x512 .f32), (⟨Rect.unit ![0, 128] ![128, 128] i1, w1⟩ : View.Piece (Elt Ideal) S128x512 .f32), (⟨Rect.unit ![0, 0] ![128, 128] i0, w0⟩ : View.Piece (Elt Ideal) S128x512 .f32), (⟨Rect.unit ![0, 0] ![128, 512] inb, z⟩ : View.Piece (Elt Ideal) S128x512 .f32)] w = (0 : EReal) := by
  rw [View.canon_cons_of_not_mem (Val := Elt Ideal) (⟨Rect.unit ![0, 256] ![128, 128] i2, w2⟩ : View.Piece (Elt Ideal) S128x512 .f32) _ (not_in_tile 256 i2 w (by omega))]
  rw [View.canon_cons_of_not_mem (Val := Elt Ideal) (⟨Rect.unit ![0, 128] ![128, 128] i1, w1⟩ : View.Piece (Elt Ideal) S128x512 .f32) _ (not_in_tile 128 i1 w (by omega))]
  rw [View.canon_cons_of_not_mem (Val := Elt Ideal) (⟨Rect.unit ![0, 0] ![128, 128] i0, w0⟩ : View.Piece (Elt Ideal) S128x512 .f32) _ (not_in_tile 0 i0 w (by omega))]
  exact canon_zero z hz inb w

/-- A load of tile 3 of sums set to zero, after the stores of the tiles before it, finds zero. -/
theorem zero_carry3 (a : Memref sig .tc .vmem S128x512 .f32) (z : Vec Ideal S128x512 .f32) (hz : ∀ y, z y = (0 : EReal)) (inb) (w0 : Vec Ideal S128x128 .f32) (i0) (w1 : Vec Ideal S128x128 .f32) (i1) (w2 : Vec Ideal S128x128 .f32) (i2)
    (it : ∀ d, (![0, 384] : Fin 2 → ℕ) d + (![128, 128] : Fin 2 → ℕ) d ≤ S128x512.size d) (y : S128x128.Idx) :
    (a.view.readCov [(⟨Rect.unit ![0, 256] ![128, 128] i2, w2⟩ : View.Piece (Elt Ideal) S128x512 .f32), (⟨Rect.unit ![0, 128] ![128, 128] i1, w1⟩ : View.Piece (Elt Ideal) S128x512 .f32), (⟨Rect.unit ![0, 0] ![128, 128] i0, w0⟩ : View.Piece (Elt Ideal) S128x512 .f32), (⟨Rect.unit ![0, 0] ![128, 512] inb, z⟩ : View.Piece (Elt Ideal) S128x512 .f32)]
      (Rect.unit (s := S128x512) ![0, 384] ![128, 128] it).toLoadRect : Vec Ideal S128x128 .f32) y = (0 : EReal) := by
  rw [View.readCov_eq_canon']
  exact canon_zero3 z hz inb w0 i0 w1 i1 w2 i2 _ (tile_from 384 it y)

/-- A store every entry of which is overwritten later leaves nothing. -/
theorem canon_drop {S : Shape} {e : EltTy} (L : List (View.Piece (Elt Ideal) S e)) (p : View.Piece (Elt Ideal) S e) (y : S.Idx)
    (h : ∃ q ∈ L, y ∈ q.1.set) : View.canon (L ++ [p]) y = View.canon L y := by
  induction L with
  | nil => obtain ⟨q, hq, _⟩ := h; simp at hq
  | cons a L ih =>
    by_cases hm : y ∈ a.1.set
    · obtain ⟨x, rfl⟩ := a.1.exists_idx_of_mem hm
      rw [List.cons_append, show a.1.idx x = a.1.emb x from rfl, View.canon_cons_emb, View.canon_cons_emb]
    · rw [List.cons_append, View.canon_cons_of_not_mem _ _ hm, View.canon_cons_of_not_mem _ _ hm]
      refine ih ?_
      obtain ⟨q, hq, hy⟩ := h
      rcases List.mem_cons.mp hq with rfl | hq'
      · exact absurd hy hm
      · exact ⟨q, hq', hy⟩

theorem pay8_zero (y : S128x512.Idx) : k0_pay8 (F := Ideal) y = (0 : EReal) := by
  show Ideal.ofBits .f32 0x00000000#32 = 0
  simp [Ideal.ofBits, Ideal.ieee, -EReal.coe_mul]

theorem pay9_zero (y : S128x512.Idx) : k0_pay9 (F := Ideal) y = (0 : EReal) := pay8_zero y

section Reads

variable (c : Dev nD) (i : grid0.Coords)
variable (a1 : Memref sig .tc .vmem S1x128x512 .bf16) (h1 : a1.IsWhole)
variable (a2 : Memref sig .tc .vmem S1x128x512 .bf16) (h2 : a2.IsWhole)
variable (a3 : Memref sig .tc .vmem S1x128x512 .bf16) (h3 : a3.IsWhole)
variable (a4 : Memref sig .tc .vmem S1x128x512 .bf16) (h4 : a4.IsWhole)
variable (a5 : Memref sig .tc .vmem S1x128x512 .bf16) (h5 : a5.IsWhole)
variable (a6 : Memref sig .tc .vmem S1x128x512 .bf16) (h6 : a6.IsWhole)
variable (a7 : Memref sig .tc .vmem S1x128x128 .f32) (h7 : a7.IsWhole)
variable (a8 : Memref sig .tc .vmem S1x128x128 .f32) (h8 : a8.IsWhole)
variable (a9 : Memref sig .tc .vmem S1x128x512 .bf16) (h9 : a9.IsWhole)
variable (a10 : Memref sig .tc .vmem S1x128x512 .bf16) (h10 : a10.IsWhole)
variable (a11 : Memref sig .tc .vmem S1x128x512 .bf16) (h11 : a11.IsWhole)
variable (a12 : Memref sig .tc .vmem S128x512 .f32) (h12 : a12.IsWhole)
variable (a13 : Memref sig .tc .vmem S128x512 .f32) (h13 : a13.IsWhole)
variable (a14 : Memref sig .tc .vmem S2x8x128x256 .f32) (h14 : a14.IsWhole)
variable (x0 : Vec Ideal S1x128x512 .bf16) (x1 : Vec Ideal S1x128x512 .bf16) (x2 : Vec Ideal S1x128x512 .bf16) (x3 : Vec Ideal S1x128x512 .bf16) (x4 : Vec Ideal S1x128x512 .bf16) (x5 : Vec Ideal S1x128x512 .bf16) (x6 : Vec Ideal S1x128x128 .f32) (x7 : Vec Ideal S1x128x128 .f32)

variable (hc0 : cond0 i) (hc1 : cond1 i) (hc2 : ¬cond2 i)

set_option maxHeartbeats 2000000 in
/-- The first point stores the gradient of the block's queries. -/
theorem runA_dq (y : S1x128x512.Idx) : View.canon (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).1 y = (blkOf x0 x1 x2 x3 x4 x5 x6 x7 (tab (plane i))).dq (y 1) (y 2) := by
  unfold runA
  frame_out
  canon_tiles x e
  case piece3 => exact tile3 0 (blkOf x0 x1 x2 x3 x4 x5 x6 x7 (tab (plane i))).dq _ (fun i' l => dq_pair (loads0 x0 x1 x2 x3 x4 x5 x6 x7 (tab (plane i)) _ _ (fun i' j => (ld_bias _ _ _ (plane i) 0 (off1_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 0 i' j))) (fun i' j => (ld_bias _ _ _ (plane i) 1 (off2_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 1 i' j)))) i' l) x y 0 rfl (by omega) (by omega)
  case piece2 => exact tile3 1 (blkOf x0 x1 x2 x3 x4 x5 x6 x7 (tab (plane i))).dq _ (fun i' l => dq_pair (loads1 x0 x1 x2 x3 x4 x5 x6 x7 (tab (plane i)) _ _ (fun i' j => (ld_bias _ _ _ (plane i) 2 (off3_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 2 i' j))) (fun i' j => (ld_bias _ _ _ (plane i) 3 (off4_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 3 i' j)))) i' l) x y 128 rfl (by omega) (by omega)
  case piece1 => exact tile3 2 (blkOf x0 x1 x2 x3 x4 x5 x6 x7 (tab (plane i))).dq _ (fun i' l => dq_pair (loads2 x0 x1 x2 x3 x4 x5 x6 x7 (tab (plane i)) _ _ (fun i' j => (ld_bias _ _ _ (plane i) 4 (off5_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 4 i' j))) (fun i' j => (ld_bias _ _ _ (plane i) 5 (off6_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 5 i' j)))) i' l) x y 256 rfl (by omega) (by omega)
  case piece0 => exact tile3 3 (blkOf x0 x1 x2 x3 x4 x5 x6 x7 (tab (plane i))).dq _ (fun i' l => dq_pair (loads3 x0 x1 x2 x3 x4 x5 x6 x7 (tab (plane i)) _ _ (fun i' j => (ld_bias _ _ _ (plane i) 6 (off7_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 6 i' j))) (fun i' j => (ld_bias _ _ _ (plane i) 7 (off8_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 7 i' j)))) i' l) x y 384 rfl (by omega) (by omega)

set_option maxHeartbeats 2000000 in
/-- The first point stores the rows of the keys' gradient passed on. -/
theorem runA_ck (y : S128x512.Idx) : View.canon (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.1 y = (blkOf x0 x1 x2 x3 x4 x5 x6 x7 (tab (plane i))).dk ⟨128 + (y 0).val, Nat.add_lt_add_left (y 0).isLt 128⟩ (y 1) := by
  unfold runA
  refine (canon_drop [_, _, _, _] _ y (View.cover_of_tiledL (s := S128x512) _ ![128, 128] (by sl_kernel_rfl) y)).trans ?_
  frame_out
  canon_tiles x e
  case piece3 => exact tile2 0 (fun j k => (blkOf x0 x1 x2 x3 x4 x5 x6 x7 (tab (plane i))).dk ⟨128 + j.val, by omega⟩ k) _ (fun j l => dk_high (loads0 x0 x1 x2 x3 x4 x5 x6 x7 (tab (plane i)) _ _ (fun i' j => (ld_bias _ _ _ (plane i) 0 (off1_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 0 i' j))) (fun i' j => (ld_bias _ _ _ (plane i) 1 (off2_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 1 i' j)))) j l) x y 0 rfl (by omega) (by omega)
  case piece2 => exact tile2 1 (fun j k => (blkOf x0 x1 x2 x3 x4 x5 x6 x7 (tab (plane i))).dk ⟨128 + j.val, by omega⟩ k) _ (fun j l => dk_high (loads1 x0 x1 x2 x3 x4 x5 x6 x7 (tab (plane i)) _ _ (fun i' j => (ld_bias _ _ _ (plane i) 2 (off3_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 2 i' j))) (fun i' j => (ld_bias _ _ _ (plane i) 3 (off4_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 3 i' j)))) j l) x y 128 rfl (by omega) (by omega)
  case piece1 => exact tile2 2 (fun j k => (blkOf x0 x1 x2 x3 x4 x5 x6 x7 (tab (plane i))).dk ⟨128 + j.val, by omega⟩ k) _ (fun j l => dk_high (loads2 x0 x1 x2 x3 x4 x5 x6 x7 (tab (plane i)) _ _ (fun i' j => (ld_bias _ _ _ (plane i) 4 (off5_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 4 i' j))) (fun i' j => (ld_bias _ _ _ (plane i) 5 (off6_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 5 i' j)))) j l) x y 256 rfl (by omega) (by omega)
  case piece0 => exact tile2 3 (fun j k => (blkOf x0 x1 x2 x3 x4 x5 x6 x7 (tab (plane i))).dk ⟨128 + j.val, by omega⟩ k) _ (fun j l => dk_high (loads3 x0 x1 x2 x3 x4 x5 x6 x7 (tab (plane i)) _ _ (fun i' j => (ld_bias _ _ _ (plane i) 6 (off7_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 6 i' j))) (fun i' j => (ld_bias _ _ _ (plane i) 7 (off8_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 7 i' j)))) j l) x y 384 rfl (by omega) (by omega)

set_option maxHeartbeats 2000000 in
/-- The first point stores the rows of the values' gradient passed on. -/
theorem runA_cv (y : S128x512.Idx) : View.canon (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.2.1 y = (blkOf x0 x1 x2 x3 x4 x5 x6 x7 (tab (plane i))).dv ⟨128 + (y 0).val, Nat.add_lt_add_left (y 0).isLt 128⟩ (y 1) := by
  unfold runA
  refine (canon_drop [_, _, _, _] _ y (View.cover_of_tiledL (s := S128x512) _ ![128, 128] (by sl_kernel_rfl) y)).trans ?_
  frame_out
  canon_tiles x e
  case piece3 => exact tile2 0 (fun j k => (blkOf x0 x1 x2 x3 x4 x5 x6 x7 (tab (plane i))).dv ⟨128 + j.val, by omega⟩ k) _ (fun j l => dv_high (loads0 x0 x1 x2 x3 x4 x5 x6 x7 (tab (plane i)) _ _ (fun i' j => (ld_bias _ _ _ (plane i) 0 (off1_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 0 i' j))) (fun i' j => (ld_bias _ _ _ (plane i) 1 (off2_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 1 i' j)))) j l) x y 0 rfl (by omega) (by omega)
  case piece2 => exact tile2 1 (fun j k => (blkOf x0 x1 x2 x3 x4 x5 x6 x7 (tab (plane i))).dv ⟨128 + j.val, by omega⟩ k) _ (fun j l => dv_high (loads1 x0 x1 x2 x3 x4 x5 x6 x7 (tab (plane i)) _ _ (fun i' j => (ld_bias _ _ _ (plane i) 2 (off3_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 2 i' j))) (fun i' j => (ld_bias _ _ _ (plane i) 3 (off4_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 3 i' j)))) j l) x y 128 rfl (by omega) (by omega)
  case piece1 => exact tile2 2 (fun j k => (blkOf x0 x1 x2 x3 x4 x5 x6 x7 (tab (plane i))).dv ⟨128 + j.val, by omega⟩ k) _ (fun j l => dv_high (loads2 x0 x1 x2 x3 x4 x5 x6 x7 (tab (plane i)) _ _ (fun i' j => (ld_bias _ _ _ (plane i) 4 (off5_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 4 i' j))) (fun i' j => (ld_bias _ _ _ (plane i) 5 (off6_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 5 i' j)))) j l) x y 256 rfl (by omega) (by omega)
  case piece0 => exact tile2 3 (fun j k => (blkOf x0 x1 x2 x3 x4 x5 x6 x7 (tab (plane i))).dv ⟨128 + j.val, by omega⟩ k) _ (fun j l => dv_high (loads3 x0 x1 x2 x3 x4 x5 x6 x7 (tab (plane i)) _ _ (fun i' j => (ld_bias _ _ _ (plane i) 6 (off7_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 6 i' j))) (fun i' j => (ld_bias _ _ _ (plane i) 7 (off8_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 7 i' j)))) j l) x y 384 rfl (by omega) (by omega)

set_option maxHeartbeats 2000000 in
/-- The first point stores zero plus the block before's own rows of the keys' gradient. -/
theorem runA_dk (y : S1x128x512.Idx) : View.canon (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.1 y = 0 + (blkOf x0 x1 x2 x3 x4 x5 x6 x7 (tab (plane i))).dk ⟨(y 1).val, Nat.lt_of_lt_of_le (y 1).isLt (by decide)⟩ (y 2) := by
  unfold runA
  frame_out
  canon_tiles x e
  case piece3 => exact tile3 0 (fun j k => 0 + (blkOf x0 x1 x2 x3 x4 x5 x6 x7 (tab (plane i))).dk ⟨j.val, by omega⟩ k) _ (fun j l => dk_low (loads0 x0 x1 x2 x3 x4 x5 x6 x7 (tab (plane i)) _ _ (fun i' j => (ld_bias _ _ _ (plane i) 0 (off1_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 0 i' j))) (fun i' j => (ld_bias _ _ _ (plane i) 1 (off2_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 1 i' j)))) (fun j k => 0) _ (fun j l => zero_carry0 a12 _ pay8_zero _ _ (ix2 j l)) j l) x y 0 rfl (by omega) (by omega)
  case piece2 => exact tile3 1 (fun j k => 0 + (blkOf x0 x1 x2 x3 x4 x5 x6 x7 (tab (plane i))).dk ⟨j.val, by omega⟩ k) _ (fun j l => dk_low (loads1 x0 x1 x2 x3 x4 x5 x6 x7 (tab (plane i)) _ _ (fun i' j => (ld_bias _ _ _ (plane i) 2 (off3_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 2 i' j))) (fun i' j => (ld_bias _ _ _ (plane i) 3 (off4_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 3 i' j)))) (fun j k => 0) _ (fun j l => zero_carry1 a12 _ pay8_zero _ _ _ _ (ix2 j l)) j l) x y 128 rfl (by omega) (by omega)
  case piece1 => exact tile3 2 (fun j k => 0 + (blkOf x0 x1 x2 x3 x4 x5 x6 x7 (tab (plane i))).dk ⟨j.val, by omega⟩ k) _ (fun j l => dk_low (loads2 x0 x1 x2 x3 x4 x5 x6 x7 (tab (plane i)) _ _ (fun i' j => (ld_bias _ _ _ (plane i) 4 (off5_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 4 i' j))) (fun i' j => (ld_bias _ _ _ (plane i) 5 (off6_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 5 i' j)))) (fun j k => 0) _ (fun j l => zero_carry2 a12 _ pay8_zero _ _ _ _ _ _ (ix2 j l)) j l) x y 256 rfl (by omega) (by omega)
  case piece0 => exact tile3 3 (fun j k => 0 + (blkOf x0 x1 x2 x3 x4 x5 x6 x7 (tab (plane i))).dk ⟨j.val, by omega⟩ k) _ (fun j l => dk_low (loads3 x0 x1 x2 x3 x4 x5 x6 x7 (tab (plane i)) _ _ (fun i' j => (ld_bias _ _ _ (plane i) 6 (off7_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 6 i' j))) (fun i' j => (ld_bias _ _ _ (plane i) 7 (off8_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 7 i' j)))) (fun j k => 0) _ (fun j l => zero_carry3 a12 _ pay8_zero _ _ _ _ _ _ _ _ (ix2 j l)) j l) x y 384 rfl (by omega) (by omega)

set_option maxHeartbeats 2000000 in
/-- The first point stores zero plus the block before's own rows of the values' gradient. -/
theorem runA_dv (y : S1x128x512.Idx) : View.canon (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.1 y = 0 + (blkOf x0 x1 x2 x3 x4 x5 x6 x7 (tab (plane i))).dv ⟨(y 1).val, Nat.lt_of_lt_of_le (y 1).isLt (by decide)⟩ (y 2) := by
  unfold runA
  frame_out
  canon_tiles x e
  case piece3 => exact tile3 0 (fun j k => 0 + (blkOf x0 x1 x2 x3 x4 x5 x6 x7 (tab (plane i))).dv ⟨j.val, by omega⟩ k) _ (fun j l => dv_low (loads0 x0 x1 x2 x3 x4 x5 x6 x7 (tab (plane i)) _ _ (fun i' j => (ld_bias _ _ _ (plane i) 0 (off1_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 0 i' j))) (fun i' j => (ld_bias _ _ _ (plane i) 1 (off2_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 1 i' j)))) (fun j k => 0) _ (fun j l => zero_carry0 a13 _ pay9_zero _ _ (ix2 j l)) j l) x y 0 rfl (by omega) (by omega)
  case piece2 => exact tile3 1 (fun j k => 0 + (blkOf x0 x1 x2 x3 x4 x5 x6 x7 (tab (plane i))).dv ⟨j.val, by omega⟩ k) _ (fun j l => dv_low (loads1 x0 x1 x2 x3 x4 x5 x6 x7 (tab (plane i)) _ _ (fun i' j => (ld_bias _ _ _ (plane i) 2 (off3_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 2 i' j))) (fun i' j => (ld_bias _ _ _ (plane i) 3 (off4_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 3 i' j)))) (fun j k => 0) _ (fun j l => zero_carry1 a13 _ pay9_zero _ _ _ _ (ix2 j l)) j l) x y 128 rfl (by omega) (by omega)
  case piece1 => exact tile3 2 (fun j k => 0 + (blkOf x0 x1 x2 x3 x4 x5 x6 x7 (tab (plane i))).dv ⟨j.val, by omega⟩ k) _ (fun j l => dv_low (loads2 x0 x1 x2 x3 x4 x5 x6 x7 (tab (plane i)) _ _ (fun i' j => (ld_bias _ _ _ (plane i) 4 (off5_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 4 i' j))) (fun i' j => (ld_bias _ _ _ (plane i) 5 (off6_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 5 i' j)))) (fun j k => 0) _ (fun j l => zero_carry2 a13 _ pay9_zero _ _ _ _ _ _ (ix2 j l)) j l) x y 256 rfl (by omega) (by omega)
  case piece0 => exact tile3 3 (fun j k => 0 + (blkOf x0 x1 x2 x3 x4 x5 x6 x7 (tab (plane i))).dv ⟨j.val, by omega⟩ k) _ (fun j l => dv_low (loads3 x0 x1 x2 x3 x4 x5 x6 x7 (tab (plane i)) _ _ (fun i' j => (ld_bias _ _ _ (plane i) 6 (off7_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 6 i' j))) (fun i' j => (ld_bias _ _ _ (plane i) 7 (off8_eq i) i' j).trans (runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 (ix4 (plane i) 7 i' j)))) (fun j k => 0) _ (fun j l => zero_carry3 a13 _ pay9_zero _ _ _ _ _ _ _ _ (ix2 j l)) j l) x y 384 rfl (by omega) (by omega)

end Reads

end Cert.KernelIdeal.Hand

end
-- ==== Proof.Ideal.ReadB.lean ====
/- What a later point's stores leave in the three output blocks and in the two carried sums. -/
module

public import proofs.«01_k».proof.Proof.Ideal.Stores

@[expose] public section

set_option maxRecDepth 16384

noncomputable section

namespace Cert.KernelIdeal.Hand

open Idealize.ShloMosaic Idealize.ShloMosaic.TcCoe Idealize.ShloMosaic.Tactic
open Cert.KernelIdeal.Gen

section Reads

variable (c : Dev nD) (i : grid0.Coords)
variable (a1 : Memref sig .tc .vmem S1x128x512 .bf16) (h1 : a1.IsWhole)
variable (a2 : Memref sig .tc .vmem S1x128x512 .bf16) (h2 : a2.IsWhole)
variable (a3 : Memref sig .tc .vmem S1x128x512 .bf16) (h3 : a3.IsWhole)
variable (a4 : Memref sig .tc .vmem S1x128x512 .bf16) (h4 : a4.IsWhole)
variable (a5 : Memref sig .tc .vmem S1x128x512 .bf16) (h5 : a5.IsWhole)
variable (a6 : Memref sig .tc .vmem S1x128x512 .bf16) (h6 : a6.IsWhole)
variable (a7 : Memref sig .tc .vmem S1x128x128 .f32) (h7 : a7.IsWhole)
variable (a8 : Memref sig .tc .vmem S1x128x128 .f32) (h8 : a8.IsWhole)
variable (a9 : Memref sig .tc .vmem S1x128x512 .bf16) (h9 : a9.IsWhole)
variable (a10 : Memref sig .tc .vmem S1x128x512 .bf16) (h10 : a10.IsWhole)
variable (a11 : Memref sig .tc .vmem S1x128x512 .bf16) (h11 : a11.IsWhole)
variable (a12 : Memref sig .tc .vmem S128x512 .f32) (h12 : a12.IsWhole)
variable (a13 : Memref sig .tc .vmem S128x512 .f32) (h13 : a13.IsWhole)
variable (a14 : Memref sig .tc .vmem S2x8x128x256 .f32) (h14 : a14.IsWhole)
variable (x0 : Vec Ideal S1x128x512 .bf16) (x1 : Vec Ideal S1x128x512 .bf16) (x2 : Vec Ideal S1x128x512 .bf16) (x3 : Vec Ideal S1x128x512 .bf16) (x4 : Vec Ideal S1x128x512 .bf16) (x5 : Vec Ideal S1x128x512 .bf16) (x6 : Vec Ideal S1x128x128 .f32) (x7 : Vec Ideal S1x128x128 .f32)

variable (hc0 : ¬cond0 i) (hc1 : cond1 i) (hc2 : ¬cond2 i) (s11 s12 : Vec Ideal S128x512 .f32) (s13 : Vec Ideal S2x8x128x256 .f32)
  (B : Fin 8 → Fin 128 → Fin 256 → EReal) (hB : ∀ h i' j, s13 (ix4 (plane i) h i' j) = B h i' j)

include hB in
/-- A later point stores the gradient of the block's queries. -/
theorem runB_dq (y : S1x128x512.Idx) : View.canon (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).1 y = (blkOf x0 x1 x2 x3 x4 x5 x6 x7 B).dq (y 1) (y 2) := by
  unfold runB
  frame_out
  canon_tiles x e
  case piece3 => exact tile3 0 (blkOf x0 x1 x2 x3 x4 x5 x6 x7 B).dq _ (fun i' l => dq_pair (loads0 x0 x1 x2 x3 x4 x5 x6 x7 B _ _ (fun i' j => (ld_bias s13 _ _ (plane i) 0 (off1_eq i) i' j).trans (hB 0 i' j)) (fun i' j => (ld_bias s13 _ _ (plane i) 1 (off2_eq i) i' j).trans (hB 1 i' j))) i' l) x y 0 rfl (by omega) (by omega)
  case piece2 => exact tile3 1 (blkOf x0 x1 x2 x3 x4 x5 x6 x7 B).dq _ (fun i' l => dq_pair (loads1 x0 x1 x2 x3 x4 x5 x6 x7 B _ _ (fun i' j => (ld_bias s13 _ _ (plane i) 2 (off3_eq i) i' j).trans (hB 2 i' j)) (fun i' j => (ld_bias s13 _ _ (plane i) 3 (off4_eq i) i' j).trans (hB 3 i' j))) i' l) x y 128 rfl (by omega) (by omega)
  case piece1 => exact tile3 2 (blkOf x0 x1 x2 x3 x4 x5 x6 x7 B).dq _ (fun i' l => dq_pair (loads2 x0 x1 x2 x3 x4 x5 x6 x7 B _ _ (fun i' j => (ld_bias s13 _ _ (plane i) 4 (off5_eq i) i' j).trans (hB 4 i' j)) (fun i' j => (ld_bias s13 _ _ (plane i) 5 (off6_eq i) i' j).trans (hB 5 i' j))) i' l) x y 256 rfl (by omega) (by omega)
  case piece0 => exact tile3 3 (blkOf x0 x1 x2 x3 x4 x5 x6 x7 B).dq _ (fun i' l => dq_pair (loads3 x0 x1 x2 x3 x4 x5 x6 x7 B _ _ (fun i' j => (ld_bias s13 _ _ (plane i) 6 (off7_eq i) i' j).trans (hB 6 i' j)) (fun i' j => (ld_bias s13 _ _ (plane i) 7 (off8_eq i) i' j).trans (hB 7 i' j))) i' l) x y 384 rfl (by omega) (by omega)

include hB in
/-- A later point stores the carried sum plus the block before's own rows of the keys' gradient. -/
theorem runB_dk (y : S1x128x512.Idx) : View.canon (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.1 y = s11 (ix2 (y 1) (y 2)) + (blkOf x0 x1 x2 x3 x4 x5 x6 x7 B).dk ⟨(y 1).val, Nat.lt_of_lt_of_le (y 1).isLt (by decide)⟩ (y 2) := by
  unfold runB
  frame_out
  canon_tiles x e
  case piece3 => exact tile3 0 (fun j k => s11 (ix2 j k) + (blkOf x0 x1 x2 x3 x4 x5 x6 x7 B).dk ⟨j.val, by omega⟩ k) _ (fun j l => dk_low (loads0 x0 x1 x2 x3 x4 x5 x6 x7 B _ _ (fun i' j => (ld_bias s13 _ _ (plane i) 0 (off1_eq i) i' j).trans (hB 0 i' j)) (fun i' j => (ld_bias s13 _ _ (plane i) 1 (off2_eq i) i' j).trans (hB 1 i' j))) (fun j k => s11 (ix2 j k)) _ (fun j l => ld_carry s11 0 0 rfl _ j l) j l) x y 0 rfl (by omega) (by omega)
  case piece2 => exact tile3 1 (fun j k => s11 (ix2 j k) + (blkOf x0 x1 x2 x3 x4 x5 x6 x7 B).dk ⟨j.val, by omega⟩ k) _ (fun j l => dk_low (loads1 x0 x1 x2 x3 x4 x5 x6 x7 B _ _ (fun i' j => (ld_bias s13 _ _ (plane i) 2 (off3_eq i) i' j).trans (hB 2 i' j)) (fun i' j => (ld_bias s13 _ _ (plane i) 3 (off4_eq i) i' j).trans (hB 3 i' j))) (fun j k => s11 (ix2 j k)) _ (fun j l => ld_carry s11 1 128 rfl _ j l) j l) x y 128 rfl (by omega) (by omega)
  case piece1 => exact tile3 2 (fun j k => s11 (ix2 j k) + (blkOf x0 x1 x2 x3 x4 x5 x6 x7 B).dk ⟨j.val, by omega⟩ k) _ (fun j l => dk_low (loads2 x0 x1 x2 x3 x4 x5 x6 x7 B _ _ (fun i' j => (ld_bias s13 _ _ (plane i) 4 (off5_eq i) i' j).trans (hB 4 i' j)) (fun i' j => (ld_bias s13 _ _ (plane i) 5 (off6_eq i) i' j).trans (hB 5 i' j))) (fun j k => s11 (ix2 j k)) _ (fun j l => ld_carry s11 2 256 rfl _ j l) j l) x y 256 rfl (by omega) (by omega)
  case piece0 => exact tile3 3 (fun j k => s11 (ix2 j k) + (blkOf x0 x1 x2 x3 x4 x5 x6 x7 B).dk ⟨j.val, by omega⟩ k) _ (fun j l => dk_low (loads3 x0 x1 x2 x3 x4 x5 x6 x7 B _ _ (fun i' j => (ld_bias s13 _ _ (plane i) 6 (off7_eq i) i' j).trans (hB 6 i' j)) (fun i' j => (ld_bias s13 _ _ (plane i) 7 (off8_eq i) i' j).trans (hB 7 i' j))) (fun j k => s11 (ix2 j k)) _ (fun j l => ld_carry s11 3 384 rfl _ j l) j l) x y 384 rfl (by omega) (by omega)

include hB in
/-- A later point stores the carried sum plus the block before's own rows of the values' gradient. -/
theorem runB_dv (y : S1x128x512.Idx) : View.canon (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.1 y = s12 (ix2 (y 1) (y 2)) + (blkOf x0 x1 x2 x3 x4 x5 x6 x7 B).dv ⟨(y 1).val, Nat.lt_of_lt_of_le (y 1).isLt (by decide)⟩ (y 2) := by
  unfold runB
  frame_out
  canon_tiles x e
  case piece3 => exact tile3 0 (fun j k => s12 (ix2 j k) + (blkOf x0 x1 x2 x3 x4 x5 x6 x7 B).dv ⟨j.val, by omega⟩ k) _ (fun j l => dv_low (loads0 x0 x1 x2 x3 x4 x5 x6 x7 B _ _ (fun i' j => (ld_bias s13 _ _ (plane i) 0 (off1_eq i) i' j).trans (hB 0 i' j)) (fun i' j => (ld_bias s13 _ _ (plane i) 1 (off2_eq i) i' j).trans (hB 1 i' j))) (fun j k => s12 (ix2 j k)) _ (fun j l => ld_carry s12 0 0 rfl _ j l) j l) x y 0 rfl (by omega) (by omega)
  case piece2 => exact tile3 1 (fun j k => s12 (ix2 j k) + (blkOf x0 x1 x2 x3 x4 x5 x6 x7 B).dv ⟨j.val, by omega⟩ k) _ (fun j l => dv_low (loads1 x0 x1 x2 x3 x4 x5 x6 x7 B _ _ (fun i' j => (ld_bias s13 _ _ (plane i) 2 (off3_eq i) i' j).trans (hB 2 i' j)) (fun i' j => (ld_bias s13 _ _ (plane i) 3 (off4_eq i) i' j).trans (hB 3 i' j))) (fun j k => s12 (ix2 j k)) _ (fun j l => ld_carry s12 1 128 rfl _ j l) j l) x y 128 rfl (by omega) (by omega)
  case piece1 => exact tile3 2 (fun j k => s12 (ix2 j k) + (blkOf x0 x1 x2 x3 x4 x5 x6 x7 B).dv ⟨j.val, by omega⟩ k) _ (fun j l => dv_low (loads2 x0 x1 x2 x3 x4 x5 x6 x7 B _ _ (fun i' j => (ld_bias s13 _ _ (plane i) 4 (off5_eq i) i' j).trans (hB 4 i' j)) (fun i' j => (ld_bias s13 _ _ (plane i) 5 (off6_eq i) i' j).trans (hB 5 i' j))) (fun j k => s12 (ix2 j k)) _ (fun j l => ld_carry s12 2 256 rfl _ j l) j l) x y 256 rfl (by omega) (by omega)
  case piece0 => exact tile3 3 (fun j k => s12 (ix2 j k) + (blkOf x0 x1 x2 x3 x4 x5 x6 x7 B).dv ⟨j.val, by omega⟩ k) _ (fun j l => dv_low (loads3 x0 x1 x2 x3 x4 x5 x6 x7 B _ _ (fun i' j => (ld_bias s13 _ _ (plane i) 6 (off7_eq i) i' j).trans (hB 6 i' j)) (fun i' j => (ld_bias s13 _ _ (plane i) 7 (off8_eq i) i' j).trans (hB 7 i' j))) (fun j k => s12 (ix2 j k)) _ (fun j l => ld_carry s12 3 384 rfl _ j l) j l) x y 384 rfl (by omega) (by omega)

include hB in
/-- A later point stores the rows of the keys' gradient passed on. -/
theorem runB_ck (y : S128x512.Idx) : View.canon (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.2.1 y = (blkOf x0 x1 x2 x3 x4 x5 x6 x7 B).dk ⟨128 + (y 0).val, Nat.add_lt_add_left (y 0).isLt 128⟩ (y 1) := by
  unfold runB
  frame_out
  canon_tiles x e
  case piece3 => exact tile2 0 (fun j k => (blkOf x0 x1 x2 x3 x4 x5 x6 x7 B).dk ⟨128 + j.val, by omega⟩ k) _ (fun j l => dk_high (loads0 x0 x1 x2 x3 x4 x5 x6 x7 B _ _ (fun i' j => (ld_bias s13 _ _ (plane i) 0 (off1_eq i) i' j).trans (hB 0 i' j)) (fun i' j => (ld_bias s13 _ _ (plane i) 1 (off2_eq i) i' j).trans (hB 1 i' j))) j l) x y 0 rfl (by omega) (by omega)
  case piece2 => exact tile2 1 (fun j k => (blkOf x0 x1 x2 x3 x4 x5 x6 x7 B).dk ⟨128 + j.val, by omega⟩ k) _ (fun j l => dk_high (loads1 x0 x1 x2 x3 x4 x5 x6 x7 B _ _ (fun i' j => (ld_bias s13 _ _ (plane i) 2 (off3_eq i) i' j).trans (hB 2 i' j)) (fun i' j => (ld_bias s13 _ _ (plane i) 3 (off4_eq i) i' j).trans (hB 3 i' j))) j l) x y 128 rfl (by omega) (by omega)
  case piece1 => exact tile2 2 (fun j k => (blkOf x0 x1 x2 x3 x4 x5 x6 x7 B).dk ⟨128 + j.val, by omega⟩ k) _ (fun j l => dk_high (loads2 x0 x1 x2 x3 x4 x5 x6 x7 B _ _ (fun i' j => (ld_bias s13 _ _ (plane i) 4 (off5_eq i) i' j).trans (hB 4 i' j)) (fun i' j => (ld_bias s13 _ _ (plane i) 5 (off6_eq i) i' j).trans (hB 5 i' j))) j l) x y 256 rfl (by omega) (by omega)
  case piece0 => exact tile2 3 (fun j k => (blkOf x0 x1 x2 x3 x4 x5 x6 x7 B).dk ⟨128 + j.val, by omega⟩ k) _ (fun j l => dk_high (loads3 x0 x1 x2 x3 x4 x5 x6 x7 B _ _ (fun i' j => (ld_bias s13 _ _ (plane i) 6 (off7_eq i) i' j).trans (hB 6 i' j)) (fun i' j => (ld_bias s13 _ _ (plane i) 7 (off8_eq i) i' j).trans (hB 7 i' j))) j l) x y 384 rfl (by omega) (by omega)

include hB in
/-- A later point stores the rows of the values' gradient passed on. -/
theorem runB_cv (y : S128x512.Idx) : View.canon (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.2.2.1 y = (blkOf x0 x1 x2 x3 x4 x5 x6 x7 B).dv ⟨128 + (y 0).val, Nat.add_lt_add_left (y 0).isLt 128⟩ (y 1) := by
  unfold runB
  frame_out
  canon_tiles x e
  case piece3 => exact tile2 0 (fun j k => (blkOf x0 x1 x2 x3 x4 x5 x6 x7 B).dv ⟨128 + j.val, by omega⟩ k) _ (fun j l => dv_high (loads0 x0 x1 x2 x3 x4 x5 x6 x7 B _ _ (fun i' j => (ld_bias s13 _ _ (plane i) 0 (off1_eq i) i' j).trans (hB 0 i' j)) (fun i' j => (ld_bias s13 _ _ (plane i) 1 (off2_eq i) i' j).trans (hB 1 i' j))) j l) x y 0 rfl (by omega) (by omega)
  case piece2 => exact tile2 1 (fun j k => (blkOf x0 x1 x2 x3 x4 x5 x6 x7 B).dv ⟨128 + j.val, by omega⟩ k) _ (fun j l => dv_high (loads1 x0 x1 x2 x3 x4 x5 x6 x7 B _ _ (fun i' j => (ld_bias s13 _ _ (plane i) 2 (off3_eq i) i' j).trans (hB 2 i' j)) (fun i' j => (ld_bias s13 _ _ (plane i) 3 (off4_eq i) i' j).trans (hB 3 i' j))) j l) x y 128 rfl (by omega) (by omega)
  case piece1 => exact tile2 2 (fun j k => (blkOf x0 x1 x2 x3 x4 x5 x6 x7 B).dv ⟨128 + j.val, by omega⟩ k) _ (fun j l => dv_high (loads2 x0 x1 x2 x3 x4 x5 x6 x7 B _ _ (fun i' j => (ld_bias s13 _ _ (plane i) 4 (off5_eq i) i' j).trans (hB 4 i' j)) (fun i' j => (ld_bias s13 _ _ (plane i) 5 (off6_eq i) i' j).trans (hB 5 i' j))) j l) x y 256 rfl (by omega) (by omega)
  case piece0 => exact tile2 3 (fun j k => (blkOf x0 x1 x2 x3 x4 x5 x6 x7 B).dv ⟨128 + j.val, by omega⟩ k) _ (fun j l => dv_high (loads3 x0 x1 x2 x3 x4 x5 x6 x7 B _ _ (fun i' j => (ld_bias s13 _ _ (plane i) 6 (off7_eq i) i' j).trans (hB 6 i' j)) (fun i' j => (ld_bias s13 _ _ (plane i) 7 (off8_eq i) i' j).trans (hB 7 i' j))) j l) x y 384 rfl (by omega) (by omega)

end Reads

end Cert.KernelIdeal.Hand

end
-- ==== Proof.Ideal.ReadC.lean ====
/- What the last point's stores leave in the output blocks of the keys and of the values. -/
module

public import proofs.«01_k».proof.Proof.Ideal.Stores

@[expose] public section

set_option maxRecDepth 16384

noncomputable section

namespace Cert.KernelIdeal.Hand

open Idealize.ShloMosaic Idealize.ShloMosaic.TcCoe Idealize.ShloMosaic.Tactic
open Cert.KernelIdeal.Gen

section Reads

variable (c : Dev nD) (i : grid0.Coords)
variable (a1 : Memref sig .tc .vmem S1x128x512 .bf16) (h1 : a1.IsWhole)
variable (a2 : Memref sig .tc .vmem S1x128x512 .bf16) (h2 : a2.IsWhole)
variable (a3 : Memref sig .tc .vmem S1x128x512 .bf16) (h3 : a3.IsWhole)
variable (a4 : Memref sig .tc .vmem S1x128x512 .bf16) (h4 : a4.IsWhole)
variable (a5 : Memref sig .tc .vmem S1x128x512 .bf16) (h5 : a5.IsWhole)
variable (a6 : Memref sig .tc .vmem S1x128x512 .bf16) (h6 : a6.IsWhole)
variable (a7 : Memref sig .tc .vmem S1x128x128 .f32) (h7 : a7.IsWhole)
variable (a8 : Memref sig .tc .vmem S1x128x128 .f32) (h8 : a8.IsWhole)
variable (a9 : Memref sig .tc .vmem S1x128x512 .bf16) (h9 : a9.IsWhole)
variable (a10 : Memref sig .tc .vmem S1x128x512 .bf16) (h10 : a10.IsWhole)
variable (a11 : Memref sig .tc .vmem S1x128x512 .bf16) (h11 : a11.IsWhole)
variable (a12 : Memref sig .tc .vmem S128x512 .f32) (h12 : a12.IsWhole)
variable (a13 : Memref sig .tc .vmem S128x512 .f32) (h13 : a13.IsWhole)
variable (a14 : Memref sig .tc .vmem S2x8x128x256 .f32) (h14 : a14.IsWhole)
variable (x0 : Vec Ideal S1x128x512 .bf16) (x1 : Vec Ideal S1x128x512 .bf16) (x2 : Vec Ideal S1x128x512 .bf16) (x3 : Vec Ideal S1x128x512 .bf16) (x4 : Vec Ideal S1x128x512 .bf16) (x5 : Vec Ideal S1x128x512 .bf16) (x6 : Vec Ideal S1x128x128 .f32) (x7 : Vec Ideal S1x128x128 .f32)

variable (hc0 : ¬cond0 i) (hc1 : ¬cond1 i) (hc2 : cond2 i) (y8 : Vec Ideal S1x128x512 .bf16) (s11 s12 : Vec Ideal S128x512 .f32) (s13 : Vec Ideal S2x8x128x256 .f32)

/-- The last point stores the carried sums. -/
theorem runC_dk (y : S1x128x512.Idx) : View.canon (runC (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13).1 y = s11 (ix2 (y 1) (y 2)) := by
  unfold runC
  frame_out
  have hy : y = (ix3 0 (y 1 : Fin 128) (y 2 : Fin 512) : S1x128x512.Idx) := by
    funext a; fin_cases a
    · exact Fin.ext (by have := (y 0).isLt; simp at this ⊢)
    · rfl
    · rfl
  have hv : ∀ (i : Fin 128) (k : Fin 512), k0_pay6 (F := Ideal) s11 (ix3 0 i k) = s11 (ix2 i k) := fun i k => by
    pointwise [k0_pay6]
  exact (congrArg _ hy).trans (hv _ _)

/-- The last point stores the carried sums. -/
theorem runC_dv (y : S1x128x512.Idx) : View.canon (runC (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13).2.1 y = s12 (ix2 (y 1) (y 2)) := by
  unfold runC
  frame_out
  have hy : y = (ix3 0 (y 1 : Fin 128) (y 2 : Fin 512) : S1x128x512.Idx) := by
    funext a; fin_cases a
    · exact Fin.ext (by have := (y 0).isLt; simp at this ⊢)
    · rfl
    · rfl
  have hv : ∀ (i : Fin 128) (k : Fin 512), k0_pay7 (F := Ideal) s12 (ix3 0 i k) = s12 (ix2 i k) := fun i k => by
    pointwise [k0_pay7]
  exact (congrArg _ hy).trans (hv _ _)

end Reads

end Cert.KernelIdeal.Hand

end
-- ==== Proof.Ideal.Left.lean ====
/- What each buffer reads after the body of a point, whatever it held before. -/
module

public import proofs.«01_k».proof.Proof.Ideal.ReadA
public import proofs.«01_k».proof.Proof.Ideal.ReadB
public import proofs.«01_k».proof.Proof.Ideal.ReadC

@[expose] public section

set_option maxRecDepth 16384

noncomputable section

namespace Cert.KernelIdeal.Hand

open Idealize.ShloMosaic Idealize.ShloMosaic.TcCoe Idealize.ShloMosaic.Tactic
open Cert.KernelIdeal.Gen

section Lefts

variable (c : Dev nD) (i : grid0.Coords)
variable (a1 : Memref sig .tc .vmem S1x128x512 .bf16) (h1 : a1.IsWhole)
variable (a2 : Memref sig .tc .vmem S1x128x512 .bf16) (h2 : a2.IsWhole)
variable (a3 : Memref sig .tc .vmem S1x128x512 .bf16) (h3 : a3.IsWhole)
variable (a4 : Memref sig .tc .vmem S1x128x512 .bf16) (h4 : a4.IsWhole)
variable (a5 : Memref sig .tc .vmem S1x128x512 .bf16) (h5 : a5.IsWhole)
variable (a6 : Memref sig .tc .vmem S1x128x512 .bf16) (h6 : a6.IsWhole)
variable (a7 : Memref sig .tc .vmem S1x128x128 .f32) (h7 : a7.IsWhole)
variable (a8 : Memref sig .tc .vmem S1x128x128 .f32) (h8 : a8.IsWhole)
variable (a9 : Memref sig .tc .vmem S1x128x512 .bf16) (h9 : a9.IsWhole)
variable (a10 : Memref sig .tc .vmem S1x128x512 .bf16) (h10 : a10.IsWhole)
variable (a11 : Memref sig .tc .vmem S1x128x512 .bf16) (h11 : a11.IsWhole)
variable (a12 : Memref sig .tc .vmem S128x512 .f32) (h12 : a12.IsWhole)
variable (a13 : Memref sig .tc .vmem S128x512 .f32) (h13 : a13.IsWhole)
variable (a14 : Memref sig .tc .vmem S2x8x128x256 .f32) (h14 : a14.IsWhole)
variable (x0 : Vec Ideal S1x128x512 .bf16) (x1 : Vec Ideal S1x128x512 .bf16) (x2 : Vec Ideal S1x128x512 .bf16) (x3 : Vec Ideal S1x128x512 .bf16) (x4 : Vec Ideal S1x128x512 .bf16) (x5 : Vec Ideal S1x128x512 .bf16) (x6 : Vec Ideal S1x128x128 .f32) (x7 : Vec Ideal S1x128x128 .f32)

theorem leftA_dq (hc0 : cond0 i) (hc1 : cond1 i) (hc2 : ¬cond2 i)
    (f : a9.view.ty.Contents (Elt Ideal)) :
    a9.view.read (Elt Ideal) (a9.view.writes (Elt Ideal) f (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).1) = fun y => (blkOf x0 x1 x2 x3 x4 x5 x6 x7 (tab (plane i))).dq (y 1) (y 2) :=
  (View.read_writes_eq_canon _ _ _ (fun y => View.cover_of_tiledL (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).1 ![1, 128, 128] (by sl_kernel_rfl) y)).trans
    (funext fun y => runA_dq c i a1 h1 a2 h2 a3 h3 a4 h4 a5 h5 a6 h6 a7 h7 a8 h8 a9 h9 a10 h10 a11 h11 a12 h12 a13 h13 a14 h14 x0 x1 x2 x3 x4 x5 x6 x7 hc0 hc1 hc2 y)

theorem leftA_dk (hc0 : cond0 i) (hc1 : cond1 i) (hc2 : ¬cond2 i)
    (f : a10.view.ty.Contents (Elt Ideal)) :
    a10.view.read (Elt Ideal) (a10.view.writes (Elt Ideal) f (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.1) = fun y => 0 + (blkOf x0 x1 x2 x3 x4 x5 x6 x7 (tab (plane i))).dk ⟨(y 1).val, Nat.lt_of_lt_of_le (y 1).isLt (by decide)⟩ (y 2) :=
  (View.read_writes_eq_canon _ _ _ (fun y => View.cover_of_tiledL (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.1 ![1, 128, 128] (by sl_kernel_rfl) y)).trans
    (funext fun y => runA_dk c i a1 h1 a2 h2 a3 h3 a4 h4 a5 h5 a6 h6 a7 h7 a8 h8 a9 h9 a10 h10 a11 h11 a12 h12 a13 h13 a14 h14 x0 x1 x2 x3 x4 x5 x6 x7 hc0 hc1 hc2 y)

theorem leftA_dv (hc0 : cond0 i) (hc1 : cond1 i) (hc2 : ¬cond2 i)
    (f : a11.view.ty.Contents (Elt Ideal)) :
    a11.view.read (Elt Ideal) (a11.view.writes (Elt Ideal) f (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.1) = fun y => 0 + (blkOf x0 x1 x2 x3 x4 x5 x6 x7 (tab (plane i))).dv ⟨(y 1).val, Nat.lt_of_lt_of_le (y 1).isLt (by decide)⟩ (y 2) :=
  (View.read_writes_eq_canon _ _ _ (fun y => View.cover_of_tiledL (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.1 ![1, 128, 128] (by sl_kernel_rfl) y)).trans
    (funext fun y => runA_dv c i a1 h1 a2 h2 a3 h3 a4 h4 a5 h5 a6 h6 a7 h7 a8 h8 a9 h9 a10 h10 a11 h11 a12 h12 a13 h13 a14 h14 x0 x1 x2 x3 x4 x5 x6 x7 hc0 hc1 hc2 y)

theorem leftA_ck (hc0 : cond0 i) (hc1 : cond1 i) (hc2 : ¬cond2 i)
    (f : a12.view.ty.Contents (Elt Ideal)) :
    a12.view.read (Elt Ideal) (a12.view.writes (Elt Ideal) f (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.1) = fun y => (blkOf x0 x1 x2 x3 x4 x5 x6 x7 (tab (plane i))).dk ⟨128 + (y 0).val, Nat.add_lt_add_left (y 0).isLt 128⟩ (y 1) :=
  (View.read_writes_eq_canon _ _ _ (fun y => View.cover_of_wholeMem (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.1 (by sl_whole_mem) y)).trans
    (funext fun y => runA_ck c i a1 h1 a2 h2 a3 h3 a4 h4 a5 h5 a6 h6 a7 h7 a8 h8 a9 h9 a10 h10 a11 h11 a12 h12 a13 h13 a14 h14 x0 x1 x2 x3 x4 x5 x6 x7 hc0 hc1 hc2 y)

theorem leftA_cv (hc0 : cond0 i) (hc1 : cond1 i) (hc2 : ¬cond2 i)
    (f : a13.view.ty.Contents (Elt Ideal)) :
    a13.view.read (Elt Ideal) (a13.view.writes (Elt Ideal) f (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.2.1) = fun y => (blkOf x0 x1 x2 x3 x4 x5 x6 x7 (tab (plane i))).dv ⟨128 + (y 0).val, Nat.add_lt_add_left (y 0).isLt 128⟩ (y 1) :=
  (View.read_writes_eq_canon _ _ _ (fun y => View.cover_of_wholeMem (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.2.1 (by sl_whole_mem) y)).trans
    (funext fun y => runA_cv c i a1 h1 a2 h2 a3 h3 a4 h4 a5 h5 a6 h6 a7 h7 a8 h8 a9 h9 a10 h10 a11 h11 a12 h12 a13 h13 a14 h14 x0 x1 x2 x3 x4 x5 x6 x7 hc0 hc1 hc2 y)

theorem leftA_tab (hc0 : cond0 i) (hc1 : cond1 i) (hc2 : ¬cond2 i)
    (f : a14.view.ty.Contents (Elt Ideal)) :
    a14.view.read (Elt Ideal) (a14.view.writes (Elt Ideal) f (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.2.2.1) = fun y => tab (y 0) (y 1) (y 2) (y 3) :=
  (View.read_writes_eq_canon _ _ _ (fun y => View.cover_of_tiledL (runA (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2).2.2.2.2.2.1 ![1, 1, 128, 256] (by sl_kernel_rfl) y)).trans
    (funext fun y => runA_tab c i a1 h1 a2 h2 a3 h3 a4 h4 a5 h5 a6 h6 a7 h7 a8 h8 a9 h9 a10 h10 a11 h11 a12 h12 a13 h13 a14 h14 x0 x1 x2 x3 x4 x5 x6 x7 hc0 hc1 hc2 y)

theorem leftB_dq (hc0 : ¬cond0 i) (hc1 : cond1 i) (hc2 : ¬cond2 i) (s11 s12 : Vec Ideal S128x512 .f32) (s13 : Vec Ideal S2x8x128x256 .f32)
    (B : Fin 8 → Fin 128 → Fin 256 → EReal) (hB : ∀ h i' j, s13 (ix4 (plane i) h i' j) = B h i' j)
    (f : a9.view.ty.Contents (Elt Ideal)) :
    a9.view.read (Elt Ideal) (a9.view.writes (Elt Ideal) f (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).1) = fun y => (blkOf x0 x1 x2 x3 x4 x5 x6 x7 B).dq (y 1) (y 2) :=
  (View.read_writes_eq_canon _ _ _ (fun y => View.cover_of_tiledL (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).1 ![1, 128, 128] (by sl_kernel_rfl) y)).trans
    (funext fun y => runB_dq c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13 B hB y)

theorem leftB_dk (hc0 : ¬cond0 i) (hc1 : cond1 i) (hc2 : ¬cond2 i) (s11 s12 : Vec Ideal S128x512 .f32) (s13 : Vec Ideal S2x8x128x256 .f32)
    (B : Fin 8 → Fin 128 → Fin 256 → EReal) (hB : ∀ h i' j, s13 (ix4 (plane i) h i' j) = B h i' j)
    (f : a10.view.ty.Contents (Elt Ideal)) :
    a10.view.read (Elt Ideal) (a10.view.writes (Elt Ideal) f (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.1) = fun y => s11 (ix2 (y 1) (y 2)) + (blkOf x0 x1 x2 x3 x4 x5 x6 x7 B).dk ⟨(y 1).val, Nat.lt_of_lt_of_le (y 1).isLt (by decide)⟩ (y 2) :=
  (View.read_writes_eq_canon _ _ _ (fun y => View.cover_of_tiledL (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.1 ![1, 128, 128] (by sl_kernel_rfl) y)).trans
    (funext fun y => runB_dk c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13 B hB y)

theorem leftB_dv (hc0 : ¬cond0 i) (hc1 : cond1 i) (hc2 : ¬cond2 i) (s11 s12 : Vec Ideal S128x512 .f32) (s13 : Vec Ideal S2x8x128x256 .f32)
    (B : Fin 8 → Fin 128 → Fin 256 → EReal) (hB : ∀ h i' j, s13 (ix4 (plane i) h i' j) = B h i' j)
    (f : a11.view.ty.Contents (Elt Ideal)) :
    a11.view.read (Elt Ideal) (a11.view.writes (Elt Ideal) f (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.1) = fun y => s12 (ix2 (y 1) (y 2)) + (blkOf x0 x1 x2 x3 x4 x5 x6 x7 B).dv ⟨(y 1).val, Nat.lt_of_lt_of_le (y 1).isLt (by decide)⟩ (y 2) :=
  (View.read_writes_eq_canon _ _ _ (fun y => View.cover_of_tiledL (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.1 ![1, 128, 128] (by sl_kernel_rfl) y)).trans
    (funext fun y => runB_dv c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13 B hB y)

theorem leftB_ck (hc0 : ¬cond0 i) (hc1 : cond1 i) (hc2 : ¬cond2 i) (s11 s12 : Vec Ideal S128x512 .f32) (s13 : Vec Ideal S2x8x128x256 .f32)
    (B : Fin 8 → Fin 128 → Fin 256 → EReal) (hB : ∀ h i' j, s13 (ix4 (plane i) h i' j) = B h i' j)
    (f : a12.view.ty.Contents (Elt Ideal)) :
    a12.view.read (Elt Ideal) (a12.view.writes (Elt Ideal) f (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.2.1) = fun y => (blkOf x0 x1 x2 x3 x4 x5 x6 x7 B).dk ⟨128 + (y 0).val, Nat.add_lt_add_left (y 0).isLt 128⟩ (y 1) :=
  (View.read_writes_eq_canon _ _ _ (fun y => View.cover_of_tiledL (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.2.1 ![128, 128] (by sl_kernel_rfl) y)).trans
    (funext fun y => runB_ck c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13 B hB y)

theorem leftB_cv (hc0 : ¬cond0 i) (hc1 : cond1 i) (hc2 : ¬cond2 i) (s11 s12 : Vec Ideal S128x512 .f32) (s13 : Vec Ideal S2x8x128x256 .f32)
    (B : Fin 8 → Fin 128 → Fin 256 → EReal) (hB : ∀ h i' j, s13 (ix4 (plane i) h i' j) = B h i' j)
    (f : a13.view.ty.Contents (Elt Ideal)) :
    a13.view.read (Elt Ideal) (a13.view.writes (Elt Ideal) f (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.2.2.1) = fun y => (blkOf x0 x1 x2 x3 x4 x5 x6 x7 B).dv ⟨128 + (y 0).val, Nat.add_lt_add_left (y 0).isLt 128⟩ (y 1) :=
  (View.read_writes_eq_canon _ _ _ (fun y => View.cover_of_tiledL (runB (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13).2.2.2.2.1 ![128, 128] (by sl_kernel_rfl) y)).trans
    (funext fun y => runB_cv c i a1 h1 a2 h2 a3 h3 a4 h4 a5 h5 a6 h6 a7 h7 a8 h8 a9 h9 a10 h10 a11 h11 a12 h12 a13 h13 a14 h14 x0 x1 x2 x3 x4 x5 x6 x7 hc0 hc1 hc2 s11 s12 s13 B hB y)

theorem leftC_dk (hc0 : ¬cond0 i) (hc1 : ¬cond1 i) (hc2 : cond2 i) (y8 : Vec Ideal S1x128x512 .bf16) (s11 s12 : Vec Ideal S128x512 .f32) (s13 : Vec Ideal S2x8x128x256 .f32)
    (f : a10.view.ty.Contents (Elt Ideal)) :
    a10.view.read (Elt Ideal) (a10.view.writes (Elt Ideal) f (runC (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13).1) = fun y => s11 (ix2 (y 1) (y 2)) :=
  (View.read_writes_eq_canon _ _ _ (fun y => View.cover_of_wholeMem (runC (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13).1 (by sl_whole_mem) y)).trans
    (funext fun y => runC_dk c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13 y)

theorem leftC_dv (hc0 : ¬cond0 i) (hc1 : ¬cond1 i) (hc2 : cond2 i) (y8 : Vec Ideal S1x128x512 .bf16) (s11 s12 : Vec Ideal S128x512 .f32) (s13 : Vec Ideal S2x8x128x256 .f32)
    (f : a11.view.ty.Contents (Elt Ideal)) :
    a11.view.read (Elt Ideal) (a11.view.writes (Elt Ideal) f (runC (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13).2.1) = fun y => s12 (ix2 (y 1) (y 2)) :=
  (View.read_writes_eq_canon _ _ _ (fun y => View.cover_of_wholeMem (runC (F := Ideal) c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13).2.1 (by sl_whole_mem) y)).trans
    (funext fun y => runC_dv c i a1 h1 a2 h2 a3 h3 a4 h4 a5 h5 a6 h6 a7 h7 a8 h8 a9 h9 a10 h10 a11 h11 a12 h12 a13 h13 a14 h14 x0 x1 x2 x3 x4 x5 x6 x7 hc0 hc1 hc2 y8 s11 s12 s13 y)

end Lefts

end Cert.KernelIdeal.Hand

end
-- ==== Proof.Ideal.Launch.lean ====
/- The launch of the attention gradient with its values: after every point each output's staging buffer holds the
   gradient of the block it is written back to, the carried sums hold the next block's share, and the table its offsets. -/
module

public import proofs.«01_k».proof.Proof.Ideal.Left
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Block `n` of 128 rows of queries, or the last block from there on. -/
def pt (n : ℕ) : Fin cfg0.N := ⟨min n 31, lt_of_le_of_lt (Nat.min_le_right _ _) (by rw [show cfg0.N = 33 from N_0]; decide)⟩

theorem pt_of_lt (t : Fin cfg0.N) (h : t.val < 32) : pt t.val = t := Fin.ext (by simp only [pt]; omega)

/-- What the point of a block reads, with the block's plane of the table. -/
def blk (c : Dev nD) (t : Fin cfg0.N) : Blk :=
  blkOf (iblk m c 0 t) (iblk m c 1 t) (iblk m c 2 t) (iblk m c 3 t) (iblk m c 4 t) (iblk m c 5 t) (iblk m c 6 t) (iblk m c 7 t)
    (tab (plane (grid0.coords t)))

/-- The gradient of a block's queries. -/
def dqAt (c : Dev nD) (n : ℕ) : Vec Ideal S1x128x512 .bf16 := fun y => (blk m c (pt n)).dq (y 1) (y 2)

/-- The sums a point hands on: the keys' and values' gradients of its own block of rows, so far. -/
def ckAt (c : Dev nD) (n : ℕ) : Vec Ideal S128x512 .f32 := fun y =>
  (blk m c (pt n)).dk ⟨128 + (y 0).val, Nat.add_lt_add_left (y 0).isLt 128⟩ (y 1)
def cvAt (c : Dev nD) (n : ℕ) : Vec Ideal S128x512 .f32 := fun y =>
  (blk m c (pt n)).dv ⟨128 + (y 0).val, Nat.add_lt_add_left (y 0).isLt 128⟩ (y 1)

/-- The table of offsets. -/
def tabAt : Vec Ideal S2x8x128x256 .f32 := fun y => tab (y 0) (y 1) (y 2) (y 3)

/-- What the keys' output block holds after a point: the sums carried there, and the point's share of the block before. -/
def dkAt (c : Dev nD) : ℕ → Vec Ideal S1x128x512 .bf16
  | 0 => fun y => 0 + (blk m c (pt 0)).dk ⟨(y 1).val, Nat.lt_of_lt_of_le (y 1).isLt (by decide)⟩ (y 2)
  | n + 1 => if n + 1 < 32
    then fun y => ckAt m c n (ix2 (y 1) (y 2)) + (blk m c (pt (n + 1))).dk ⟨(y 1).val, Nat.lt_of_lt_of_le (y 1).isLt (by decide)⟩ (y 2)
    else fun y => ckAt m c n (ix2 (y 1) (y 2))

/-- The same for the values. -/
def dvAt (c : Dev nD) : ℕ → Vec Ideal S1x128x512 .bf16
  | 0 => fun y => 0 + (blk m c (pt 0)).dv ⟨(y 1).val, Nat.lt_of_lt_of_le (y 1).isLt (by decide)⟩ (y 2)
  | n + 1 => if n + 1 < 32
    then fun y => cvAt m c n (ix2 (y 1) (y 2)) + (blk m c (pt (n + 1))).dv ⟨(y 1).val, Nat.lt_of_lt_of_le (y 1).isLt (by decide)⟩ (y 2)
    else fun y => cvAt m c n (ix2 (y 1) (y 2))

theorem dkAt_lt (c : Dev nD) (n : ℕ) (h : n + 1 < 32) : dkAt m c (n + 1) = fun y =>
    ckAt m c n (ix2 (y 1) (y 2)) + (blk m c (pt (n + 1))).dk ⟨(y 1).val, Nat.lt_of_lt_of_le (y 1).isLt (by decide)⟩ (y 2) := if_pos h

theorem dkAt_ge (c : Dev nD) (n : ℕ) (h : ¬ n + 1 < 32) : dkAt m c (n + 1) = fun y => ckAt m c n (ix2 (y 1) (y 2)) := if_neg h

theorem dvAt_lt (c : Dev nD) (n : ℕ) (h : n + 1 < 32) : dvAt m c (n + 1) = fun y =>
    cvAt m c n (ix2 (y 1) (y 2)) + (blk m c (pt (n + 1))).dv ⟨(y 1).val, Nat.lt_of_lt_of_le (y 1).isLt (by decide)⟩ (y 2) := if_pos h

theorem dvAt_ge (c : Dev nD) (n : ℕ) (h : ¬ n + 1 < 32) : dvAt m c (n + 1) = fun y => cvAt m c n (ix2 (y 1) (y 2)) := if_neg h

/-- The scratch at some contents and the generator register at some state. -/
theorem scratch_eq (c : Dev nD) :
    (Pipeline.ΦA spec0 c : sProp 𝕄)
      = iprop(iprop((∃ d, owns (c : Thread nD τ) (Memref.whole cc0_scratch0 : Memref sig .tc .vmem S128x512 .f32) fullShare d) ∗ (∃ d, owns (c : Thread nD τ) (Memref.whole cc0_scratch1 : Memref sig .tc .vmem S128x512 .f32) fullShare d) ∗ (∃ d, owns (c : Thread nD τ) (Memref.whole cc0_scratch2 : Memref sig .tc .vmem S2x8x128x256 .f32) fullShare d)) ∗ (∃ r, prngReg c r)) := by
  unfold Pipeline.ΦA; rw [scopedRest0_eq]; simp only [owns_whole]; try rfl

/-- The scratch before point `n`: anything before the first, afterwards the carried sums and the table. -/
def kept (c : Dev nD) : ℕ → sProp 𝕄
  | 0 => Pipeline.ΦA spec0 c
  | n + 1 => iprop(iprop(owns (c : Thread nD τ) (Memref.whole cc0_scratch0 : Memref sig .tc .vmem S128x512 .f32) fullShare (ckAt m c n) ∗ owns (c : Thread nD τ) (Memref.whole cc0_scratch1 : Memref sig .tc .vmem S128x512 .f32) fullShare (cvAt m c n) ∗ owns (c : Thread nD τ) (Memref.whole cc0_scratch2 : Memref sig .tc .vmem S2x8x128x256 .f32) fullShare tabAt) ∗ (∃ r, prngReg c r))

theorem kept_succ (c : Dev nD) (n : ℕ) : kept m c (n + 1) = iprop(iprop(owns (c : Thread nD τ) (Memref.whole cc0_scratch0 : Memref sig .tc .vmem S128x512 .f32) fullShare (ckAt m c n) ∗ owns (c : Thread nD τ) (Memref.whole cc0_scratch1 : Memref sig .tc .vmem S128x512 .f32) fullShare (cvAt m c n) ∗ owns (c : Thread nD τ) (Memref.whole cc0_scratch2 : Memref sig .tc .vmem S2x8x128x256 .f32) fullShare tabAt) ∗ (∃ r, prngReg c r)) := rfl

/-- What the launch is shown to do: the inputs' buffers hold their blocks, the outputs' the gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t.val
    | ⟨9, _⟩ => dkAt m c t.val
    | ⟨10, _⟩ => dvAt m c t.val
  Φ t := kept m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dqAt m c t.val := by dsimp only [dats]
theorem after_9 (c : Dev nD) (t : Fin cfg0.N) : (dats m 0 c).after 9 t = dkAt m c t.val := by dsimp only [dats]
theorem after_10 (c : Dev nD) (t : Fin cfg0.N) : (dats m 0 c).after 10 t = dvAt m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The queries' window is stored up to the last block; where it is not, its block is being written back. -/
theorem idle_or_flush : ∀ (w : Fin cfg0.W) (t : Fin cfg0.N),
    cfg0.idle w (cfg0.grid.coords t) = false ∨ (cfg0.win w).flush t = true := by decide +kernel

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rcases idle_or_flush w t with h | h
  · rw [h]
  · rw [h]; cases cfg0.idle w (cfg0.grid.coords t) <;> rfl

theorem leaves_0 (c : Dev nD) (t : Fin cfg0.N) : (dats m 0 c).leavesExact 0 t = owns (c : Thread nD τ) (st0_0 t) fullShare ((dats m 0 c).after 0 t) := leaves_eq m c 0 t
theorem leaves_1 (c : Dev nD) (t : Fin cfg0.N) : (dats m 0 c).leavesExact 1 t = owns (c : Thread nD τ) (st0_1 t) fullShare ((dats m 0 c).after 1 t) := leaves_eq m c 1 t
theorem leaves_2 (c : Dev nD) (t : Fin cfg0.N) : (dats m 0 c).leavesExact 2 t = owns (c : Thread nD τ) (st0_2 t) fullShare ((dats m 0 c).after 2 t) := leaves_eq m c 2 t
theorem leaves_3 (c : Dev nD) (t : Fin cfg0.N) : (dats m 0 c).leavesExact 3 t = owns (c : Thread nD τ) (st0_3 t) fullShare ((dats m 0 c).after 3 t) := leaves_eq m c 3 t
theorem leaves_4 (c : Dev nD) (t : Fin cfg0.N) : (dats m 0 c).leavesExact 4 t = owns (c : Thread nD τ) (st0_4 t) fullShare ((dats m 0 c).after 4 t) := leaves_eq m c 4 t
theorem leaves_5 (c : Dev nD) (t : Fin cfg0.N) : (dats m 0 c).leavesExact 5 t = owns (c : Thread nD τ) (st0_5 t) fullShare ((dats m 0 c).after 5 t) := leaves_eq m c 5 t
theorem leaves_6 (c : Dev nD) (t : Fin cfg0.N) : (dats m 0 c).leavesExact 6 t = owns (c : Thread nD τ) (st0_6 t) fullShare ((dats m 0 c).after 6 t) := leaves_eq m c 6 t
theorem leaves_7 (c : Dev nD) (t : Fin cfg0.N) : (dats m 0 c).leavesExact 7 t = owns (c : Thread nD τ) (st0_7 t) fullShare ((dats m 0 c).after 7 t) := leaves_eq m c 7 t
theorem leaves_8 (c : Dev nD) (t : Fin cfg0.N) : (dats m 0 c).leavesExact 8 t = owns (c : Thread nD τ) (st0_8 t) fullShare ((dats m 0 c).after 8 t) := leaves_eq m c 8 t
theorem leaves_9 (c : Dev nD) (t : Fin cfg0.N) : (dats m 0 c).leavesExact 9 t = owns (c : Thread nD τ) (st0_9 t) fullShare ((dats m 0 c).after 9 t) := leaves_eq m c 9 t
theorem leaves_10 (c : Dev nD) (t : Fin cfg0.N) : (dats m 0 c).leavesExact 10 t = owns (c : Thread nD τ) (st0_10 t) fullShare ((dats m 0 c).after 10 t) := leaves_eq m c 10 t

/-- The queries' window is idle only at the point after the last block. -/
theorem idle_8 : ∀ t : Fin cfg0.N, cfg0.idle 8 (cfg0.grid.coords t) = true → t.val = 32 := by decide +kernel

/-- At the point after the last block the queries' buffer still holds the last block's gradient. -/
theorem before_8_last (c : Dev nD) (t : Fin cfg0.N) (ht : t.val = 32) (d) : (dats m 0 c).before 8 t d = dqAt m c 31 := by
  rw [(dats m 0 c).before_out_traj 8 rfl (fun i a => rfl) (fun t h0 hi hf => ?_) t.val t rfl d]
  · obtain ⟨tv, hlt⟩ := t
    simp only at ht; subst ht
    rw [show cfg0.fresh 8 32 = false from by decide +kernel, if_neg Bool.false_ne_true, after_8]; rfl
  · have h := idle_8 t hi
    rw [after_8, after_8]
    show dqAt m c t.val = dqAt m c (t.val - 1)
    rw [h]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it leaves there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point, by the three ways its conditions fall out. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [leaves_0, leaves_1, leaves_2, leaves_3, leaves_4, leaves_5, leaves_6, leaves_7, leaves_8, leaves_9, leaves_10, before_0, before_1, before_2, before_3, before_4, before_5, before_6, before_7, after_0, after_1, after_2, after_3, after_4, after_5, after_6, after_7, after_8, after_9, after_10]
  rw [show (dats m 0 c).owesAt () t.succ = (dats m 0 c).owesAt () t.castSucc from rfl]
  rw [show (dats m 0 c).Φ t.succ = kept m c (t.val + 1) from rfl, show (dats m 0 c).Φ t.castSucc = kept m c t.val from rfl]
  have hN : t.val < 33 := lt_of_lt_of_eq t.isLt (show cfg0.N = 33 from N_0)
  by_cases h0 : t.val = 0
  · rw [h0, show kept m c 0 = Pipeline.ΦA spec0 c from rfl, scratch_eq, kept_succ]
    have hp : pt 0 = t := by rw [← h0]; exact pt_of_lt t (by omega)
    unfold ckAt cvAt dqAt dkAt dvAt tabAt; rw [hp]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA (F := Ideal) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cond0_iff t).mpr h0) ((cond1_iff t).mpr (by omega)) (fun h => absurd ((cond2_iff t).mp h) (by omega))).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, ⟨%e8, H8⟩, ⟨%e9, H9⟩, ⟨%e10, H10⟩, ⟨%es0, HS0⟩, ⟨%es1, HS1⟩, ⟨%es2, HS2⟩⟩
    isplitl [HS0 HS1 HS2 Hg]
    · isplitl [HS0 HS1 HS2]
      · isplitl [HS0]
        · unfold owns; iexists _; isplitr; (swap; · iexact HS0); ipureintro; exact (leftA_ck c _ _ _ _ _ _ _ _ _ _ _ _ _ _ _ _ _ _ _ _ _ _ _ _ _ _ _ _ _ _ _ _ _ _ _ _ _ _ _ _ _)
        isplitl [HS1]
        · unfold owns; iexists _; isplitr; (swap; · iexact HS1); ipureintro; exact (leftA_cv c _ _ _ _ _ _ _ _ _ _ _ _ _ _ _ _ _ _ _ _ _ _ _ _ _ _ _ _ _ _ _ _ _ _ _ _ _ _ _ _ _)
        unfold owns; iexists _; isplitr; (swap; · iexact HS2); ipureintro; exact (leftA_tab c _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; (swap; · iexact H8); ipureintro; exact (leftA_dq c _ _ _ _ _ _ _ _ _ _ _ _ _ _ _ _ _ _ _ _ _ _ _ _ _ _ _ _ _ _ _ _ _ _ _ _ _ _ _ _ _)
    isplitl [H9]
    · unfold owns; iexists _; isplitr; (swap; · iexact H9); ipureintro; exact (leftA_dk c _ _ _ _ _ _ _ _ _ _ _ _ _ _ _ _ _ _ _ _ _ _ _ _ _ _ _ _ _ _ _ _ _ _ _ _ _ _ _ _ _)
    unfold owns; iexists _; isplitr; (swap; · iexact H10); ipureintro; exact (leftA_dv c _ _ _ _ _ _ _ _ _ _ _ _ _ _ _ _ _ _ _ _ _ _ _ _ _ _ _ _ _ _ _ _ _ _ _ _ _ _ _ _ _)
  obtain ⟨n, hn⟩ : ∃ n, t.val = n + 1 := ⟨t.val - 1, by omega⟩
  rw [hn, kept_succ, kept_succ]
  by_cases h1 : t.val < 32
  · have hp : pt (n + 1) = t := by rw [← hn]; exact pt_of_lt t h1
    rw [dkAt_lt m c n (by omega), dvAt_lt m c n (by omega)]
    unfold ckAt cvAt dqAt tabAt; rw [hp]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB (F := Ideal) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((cond0_iff t).mp h)) ((cond1_iff t).mpr h1) (fun h => absurd ((cond2_iff t).mp h) (by omega)) (ckAt m c n) (cvAt m c n) tabAt).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, ⟨%e8, H8⟩, ⟨%e9, H9⟩, ⟨%e10, H10⟩, ⟨%es0, HS0⟩, ⟨%es1, HS1⟩, HS2⟩
    isplitl [HS0 HS1 HS2 Hg]
    · isplitl [HS0 HS1 HS2]
      · isplitl [HS0]
        · unfold owns; iexists _; isplitr; (swap; · iexact HS0); ipureintro; exact (leftB_ck c _ _ _ _ _ _ _ _ _ _ _ _ _ _ _ _ _ _ _ _ _ _ _ _ _ _ _ _ _ _ _ _ _ _ _ _ _ _ _ _ _ _ _ _ (fun _ _ _ => rfl) _)
        isplitl [HS1]
        · unfold owns; iexists _; isplitr; (swap; · iexact HS1); ipureintro; exact (leftB_cv c _ _ _ _ _ _ _ _ _ _ _ _ _ _ _ _ _ _ _ _ _ _ _ _ _ _ _ _ _ _ _ _ _ _ _ _ _ _ _ _ _ _ _ _ (fun _ _ _ => rfl) _)
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; (swap; · iexact H8); ipureintro; exact (leftB_dq c _ _ _ _ _ _ _ _ _ _ _ _ _ _ _ _ _ _ _ _ _ _ _ _ _ _ _ _ _ _ _ _ _ _ _ _ _ _ _ _ _ _ _ _ (fun _ _ _ => rfl) _)
    isplitl [H9]
    · unfold owns; iexists _; isplitr; (swap; · iexact H9); ipureintro; exact (leftB_dk c _ _ _ _ _ _ _ _ _ _ _ _ _ _ _ _ _ _ _ _ _ _ _ _ _ _ _ _ _ _ _ _ _ _ _ _ _ _ _ _ _ _ _ _ (fun _ _ _ => rfl) _)
    unfold owns; iexists _; isplitr; (swap; · iexact H10); ipureintro; exact (leftB_dv c _ _ _ _ _ _ _ _ _ _ _ _ _ _ _ _ _ _ _ _ _ _ _ _ _ _ _ _ _ _ _ _ _ _ _ _ _ _ _ _ _ _ _ _ (fun _ _ _ => rfl) _)
  · have h31 : n = 31 := by omega
    subst h31
    simp only [before_8_last m c t hn]
    rw [show ckAt m c (31 + 1) = ckAt m c 31 from rfl, show cvAt m c (31 + 1) = cvAt m c 31 from rfl, show dqAt m c (31 + 1) = dqAt m c 31 from rfl, dkAt_ge m c 31 (by decide), dvAt_ge m c 31 (by decide)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runC (F := Ideal) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((cond0_iff t).mp h)) (fun h => h1 ((cond1_iff t).mp h)) ((cond2_iff t).mpr (by omega)) (dqAt m c 31) (ckAt m c 31) (cvAt m c 31) tabAt).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, ⟨%e9, H9⟩, ⟨%e10, H10⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexact H8
    isplitl [H9]
    · unfold owns; iexists _; isplitr; (swap; · iexact H9); ipureintro; exact (leftC_dk c _ _ _ _ _ _ _ _ _ _ _ _ _ _ _ _ _ _ _ _ _ _ _ _ _ _ _ _ _ _ _ _ _ _ _ _ _ _ _ _ _ _ _ _ _)
    unfold owns; iexists _; isplitr; (swap; · iexact H10); ipureintro; exact (leftC_dv c _ _ _ _ _ _ _ _ _ _ _ _ _ _ _ _ _ _ _ _ _ _ _ _ _ _ _ _ _ _ _ _ _ _ _ _ _ _ _ _ _ _ _ _ _)

/-- The body table's row at a point is the body there. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = kept m c 0 from rfl, show kept m c 0 = Pipeline.ΦA spec0 c from rfl]

theorem hout (c : Dev nD) : (dats m 0 c).Φ (Fin.last cfg0.N) ⊢ Pipeline.ΦA spec0 c := by
  rw [show (dats m 0 c).Φ (Fin.last cfg0.N) = kept m c (32 + 1) from rfl, kept_succ, scratch_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every run ends with the pipeline's arrays at what the data says, every other array as the launch found it, and the counters at zero. -/
theorem run : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Hand

end
-- ==== Proof.Ideal.Host.lean ====
/- The host's lines before the kernel, one equation a line. The lines of the branch's own forward pass hold what the
   reference's lines hold; each line after it is stated over the contents of the buffers it reads. -/
module

public import proofs.«01_k».proof.Proof.Gen.KernelIdeal.Frame
public import proofs.«01_k».proof.Proof.Gen.ReferenceIdeal.Read

@[expose] public section

set_option maxRecDepth 16384

noncomputable section

namespace Cert.KernelIdeal.Hand

open Idealize.ShloMosaic Idealize.ShloMosaic.TcCoe Idealize.ShloMosaic.StableHlo
open Cert.KernelIdeal.Gen
open Cert.ReferenceIdeal.Read

section Lines

variable {τ : Topo} {sig : RefSig} {Val : EltTy → Type} [∀ e, Inhabited (Val e)]

/-- A line of operations cut at one of them. -/
theorem after_cut (ops : List (HloOp τ sig Val)) : ∀ (k : ℕ) (op : HloOp τ sig Val) (_ : ops[k]? = some op) (F : Valuation τ sig Val),
    after ops F = after (ops.drop (k + 1)) (op.result (after (ops.take k) F)) := by
  induction ops with
  | nil => intro k op h; simp at h
  | cons o ops ih =>
    intro k op h F
    cases k with
    | zero => simp at h; subst h; rfl
    | succ k => simp at h; simpa using ih k op h (o.result F)

/-- A line of operations run in two parts. -/
theorem after_part (ops : List (HloOp τ sig Val)) : ∀ (k : ℕ) (F : Valuation τ sig Val),
    after ops F = after (ops.drop k) (after (ops.take k) F) := by
  induction ops with
  | nil => intro k F; simp
  | cons o ops ih =>
    intro k F
    cases k with
    | zero => rfl
    | succ k => simpa using ih k (o.result F)

variable {ops : List (HloOp τ sig Val)} {W : List (Ref sig .tc)}

theorem writes_drop (hW : ops.map HloOp.writes = W.map fun r => {Proc.devRef (τ := τ) .tc r}) (k : ℕ) :
    (ops.drop k).map HloOp.writes = (W.drop k).map fun r => {Proc.devRef (τ := τ) .tc r} := by
  rw [List.map_drop, hW, List.map_drop]

/-- What operation `k` writes, where no later one writes it again. -/
theorem line_dst (hW : ops.map HloOp.writes = W.map fun r => {Proc.devRef (τ := τ) .tc r}) (F : Valuation τ sig Val)
    {y : Ref sig .tc} (k : ℕ) {op : HloOp τ sig Val} (hk : ops[k]? = some op) (hy : y ∉ W.drop (k + 1)) :
    after ops F (Proc.devRef .tc y) = op.result (after (ops.take k) F) (Proc.devRef .tc y) := by
  rw [after_cut ops k op hk F]
  exact after_of_writes_sub _ _ (forall_writes_sub_of_map (writes_drop hW (k + 1))) hy

/-- What operation `k` reads, where it isn't written from there on. -/
theorem line_src (hW : ops.map HloOp.writes = W.map fun r => {Proc.devRef (τ := τ) .tc r}) (F : Valuation τ sig Val)
    {x : Ref sig .tc} (k : ℕ) (hx : x ∉ W.drop k) :
    after (ops.take k) F (Proc.devRef .tc x) = after ops F (Proc.devRef .tc x) := by
  rw [after_part ops k F]
  exact (after_of_writes_sub _ _ (forall_writes_sub_of_map (writes_drop hW k)) hx).symm

variable (hW : ops.map HloOp.writes = W.map fun r => {Proc.devRef (τ := τ) .tc r}) {F : Valuation τ sig Val} {a b e y : Ref sig .tc}
include hW

theorem line0 {v : y.ty.Contents Val} {hy} (k : ℕ) (hk : ops[k]? = some (nullary y v hy)) (h : y ∉ W.drop (k + 1)) :
    after ops F (Proc.devRef .tc y) = v :=
  (line_dst hW F k hk h).trans (nullary_result y v hy _)

theorem line1 {f : a.ty.Contents Val → y.ty.Contents Val} {ha hy} (k : ℕ) (hk : ops[k]? = some (unary a y f ha hy))
    (h : y ∉ W.drop (k + 1)) (h1 : a ∉ W.drop k) {u : a.ty.Contents Val} (hu : after ops F (Proc.devRef .tc a) = u) :
    after ops F (Proc.devRef .tc y) = f u :=
  (line_dst hW F k hk h).trans ((unary_result a y f ha hy _).trans (congrArg f ((line_src hW F k h1).trans hu)))

theorem line2 {f : a.ty.Contents Val → b.ty.Contents Val → y.ty.Contents Val} {ha hb hy} (k : ℕ)
    (hk : ops[k]? = some (binary a b y f ha hb hy)) (h : y ∉ W.drop (k + 1)) (h1 : a ∉ W.drop k) (h2 : b ∉ W.drop k)
    {u : a.ty.Contents Val} {v : b.ty.Contents Val} (hu : after ops F (Proc.devRef .tc a) = u)
    (hv : after ops F (Proc.devRef .tc b) = v) : after ops F (Proc.devRef .tc y) = f u v :=
  (line_dst hW F k hk h).trans ((binary_result a b y f ha hb hy _).trans
    (congrArg₂ f ((line_src hW F k h1).trans hu) ((line_src hW F k h2).trans hv)))

theorem line3 {f : a.ty.Contents Val → b.ty.Contents Val → e.ty.Contents Val → y.ty.Contents Val} {ha hb he hy} (k : ℕ)
    (hk : ops[k]? = some (ternary a b e y f ha hb he hy)) (h : y ∉ W.drop (k + 1)) (h1 : a ∉ W.drop k) (h2 : b ∉ W.drop k)
    (h3 : e ∉ W.drop k) {u : a.ty.Contents Val} {v : b.ty.Contents Val} {w : e.ty.Contents Val}
    (hu : after ops F (Proc.devRef .tc a) = u) (hv : after ops F (Proc.devRef .tc b) = v)
    (hw : after ops F (Proc.devRef .tc e) = w) : after ops F (Proc.devRef .tc y) = f u v w := by
  rw [line_dst hW F k hk h, ternary_result, line_src hW F k h1, line_src hW F k h2, line_src hW F k h3, hu, hv, hw]

theorem liner {ht hn ha hy} (k : ℕ) (hk : ops[k]? = some (reshape a y ht hn ha hy))
    (h : y ∉ W.drop (k + 1)) (h1 : a ∉ W.drop k) {u : a.ty.Contents Val} (hu : after ops F (Proc.devRef .tc a) = u) :
    after ops F (Proc.devRef .tc y) = fun i => ht ▸ shapeCast y.ty.shape u hn i := by
  rw [line_dst hW F k hk h, reshape_result, line_src hW F k h1, hu]

theorem linen {n : ℕ} {xs : Fin n → Ref sig .tc} {f : ((k : Fin n) → (xs k).ty.Contents Val) → y.ty.Contents Val} {hxs hy} (k : ℕ)
    (hk : ops[k]? = some (nary xs y f hxs hy)) (h : y ∉ W.drop (k + 1)) (h1 : ∀ j, xs j ∉ W.drop k) :
    after ops F (Proc.devRef .tc y) = f fun j => after ops F (Proc.devRef .tc (xs j)) :=
  (line_dst hW F k hk h).trans ((nary_result xs y f hxs hy _).trans (congrArg f (funext fun j => line_src hW F k (h1 j))))

end Lines

/-- The host's lines before the kernel. -/
abbrev hostOps : List (HloOp τ sig (Elt Ideal)) := List.flatten [hostOps0, hostOps0_1, hostOps0_2, hostOps0_3, hostOps0_4, hostOps0_5]

/-- What they write, in order. -/
def written : List (Ref sig .tc) :=
  [main_v0, main_cst, main_v1, main_v2, main_cst_0, main_v3, main_v4, main_cst_1, main_v5, main_v6, main_cst_2,
    main_v7, main_v8, main_v9, main_v10, main_v11, main_v12, main_v13, main_v14, main_v15, main_v16, main_v17,
    main_cst_3, main_v18, main_v19, main_v20, main_cst_4, main_v21, main_v22, main_v23, main_v24, main_v25, main_v26,
    main_v27, main_cst_5, main_v28, main_v29, main_v30, main_cst_6, main_v31, main_v32, main_v33, main_cst_7, main_v34,
    main_v35, main_v36, main_v37, main_c, main_v38, main_v39, main_v40, main_v41, main_v42, main_v43, main_v44,
    main_v45, main_v46, main_c_8, main_v47, main_v48, main_c_9, main_v49, main_v50, main_v51, main_c_10, main_v52,
    main_v53, main_v54, main_v55, main_v56, main_v57, main_c_11, main_v58, main_v59, main_c_12, main_v60, main_v61,
    main_v62, main_v63, main_v64, main_v65, main_v66, main_v67, main_c_13, main_v68, main_v69, main_v70, main_v71,
    main_v72, main_v73, main_v74, main_v75, main_v76, main_v77, main_v78, main_cst_14, main_call0_v0, main_v79_1,
    main_call0_v2, main_v79_0, main_call0_cst, main_v79_2, main_cst_15, main_v80, main_v81, main_v82, main_v83,
    main_v84, main_cst_16, main_v85, main_v86, main_v87, main_v88, main_v89, main_cst_17, main_v90, main_v91, main_v92,
    main_v93, main_v94, main_v95, main_v96, main_v97, main_cst_18, main_v98, main_v99, main_v100, main_v101, main_v102,
    main_v103, main_v104, main_v105, main_v106, main_v107, main_v108, main_v109, main_v110, main_v111, main_v112,
    main_v113, main_v114, main_v115, main_v116, main_v117, main_v118, main_v119, main_v120, main_v121, main_v122,
    main_v123, main_v124, main_v125, main_v126, main_v127, main_v128, main_v129, main_v130, main_v131, main_v132,
    main_v133, main_v134, main_v135, main_v136, main_v137, main_v138, main_cst_19, main_v139, main_v140, main_v141,
    main_v142, main_v143, main_v144, main_v145, main_v146, main_v147, main_v148, main_v149, main_v150, main_v151,
    main_v152, main_c_20, main_call1_v0, main_v153, main_v154, main_v155, main_c_21, main_call2_v0, main_v156]

theorem ops_writes : hostOps.map HloOp.writes = written.map fun r => {Proc.devRef (τ := τ) .tc r} := rfl

variable (m : (ℓ : Loc nD τ sig) → Buf (Elt Ideal) ℓ) (c : Dev nD)

theorem k_v0 : V m c main_v0 = val_main_v0 (F := Ideal) :=
  (line0 ops_writes  (y := main_v0) 0 rfl (by decide) ).trans rfl

theorem k_cst : V m c main_cst = val_main_cst (F := Ideal) :=
  (line0 ops_writes  (y := main_cst) 1 rfl (by decide) ).trans rfl

theorem k_v1 : V m c main_v1 = val_main_v1 (F := Ideal) :=
  (line1 ops_writes (a := main_cst) (y := main_v1) 2 rfl (by decide) (by decide) (k_cst m c)).trans rfl

theorem k_v2 : V m c main_v2 = val_main_v2 (F := Ideal) :=
  (line2 ops_writes (a := main_v1) (b := main_v0) (y := main_v2) 3 rfl (by decide) (by decide) (by decide) (k_v1 m c) (k_v0 m c)).trans rfl

theorem k_cst_0 : V m c main_cst_0 = val_main_cst_0 (F := Ideal) :=
  (line0 ops_writes  (y := main_cst_0) 4 rfl (by decide) ).trans rfl

theorem k_v3 : V m c main_v3 = val_main_v3 (F := Ideal) :=
  (line1 ops_writes (a := main_cst_0) (y := main_v3) 5 rfl (by decide) (by decide) (k_cst_0 m c)).trans rfl

theorem k_v4 : V m c main_v4 = val_main_v4 (F := Ideal) :=
  (line2 ops_writes (a := main_v3) (b := main_v2) (y := main_v4) 6 rfl (by decide) (by decide) (by decide) (k_v3 m c) (k_v2 m c)).trans rfl

theorem k_cst_1 : V m c main_cst_1 = val_main_cst_1 (F := Ideal) :=
  (line0 ops_writes  (y := main_cst_1) 7 rfl (by decide) ).trans rfl

theorem k_v5 : V m c main_v5 = val_main_v5 (F := Ideal) :=
  (line1 ops_writes (a := main_cst_1) (y := main_v5) 8 rfl (by decide) (by decide) (k_cst_1 m c)).trans rfl

theorem k_v6 : V m c main_v6 = val_main_v6 (F := Ideal) :=
  (line2 ops_writes (a := main_v4) (b := main_v5) (y := main_v6) 9 rfl (by decide) (by decide) (by decide) (k_v4 m c) (k_v5 m c)).trans rfl

theorem k_cst_2 : V m c main_cst_2 = val_main_cst_2 (F := Ideal) :=
  (line0 ops_writes  (y := main_cst_2) 10 rfl (by decide) ).trans rfl

theorem k_v7 : V m c main_v7 = val_main_v7 (F := Ideal) :=
  (line1 ops_writes (a := main_cst_2) (y := main_v7) 11 rfl (by decide) (by decide) (k_cst_2 m c)).trans rfl

theorem k_v8 : V m c main_v8 = val_main_v8 (F := Ideal) :=
  (line2 ops_writes (a := main_v7) (b := main_v6) (y := main_v8) 12 rfl (by decide) (by decide) (by decide) (k_v7 m c) (k_v6 m c)).trans rfl

theorem k_v9 {x0} (e0 : V m c main_arg0 = x0) : V m c main_v9 = val_main_v9 (F := Ideal) x0 :=
  (liner ops_writes (a := main_arg0) (y := main_v9) 13 rfl (by decide) (by decide) e0).trans rfl

theorem k_v10 {x0} (e0 : V m c main_arg0 = x0) : V m c main_v10 = val_main_v10 (F := Ideal) x0 :=
  (line1 ops_writes (a := main_v9) (y := main_v10) 14 rfl (by decide) (by decide) (k_v9 m c e0)).trans rfl

theorem k_v11 {x0} (e0 : V m c main_arg0 = x0) : V m c main_v11 = val_main_v11 (F := Ideal) x0 :=
  (liner ops_writes (a := main_v10) (y := main_v11) 15 rfl (by decide) (by decide) (k_v10 m c e0)).trans rfl

theorem k_v12 {x0} (e0 : V m c main_arg0 = x0) : V m c main_v12 = val_main_v12 (F := Ideal) x0 :=
  (liner ops_writes (a := main_v11) (y := main_v12) 16 rfl (by decide) (by decide) (k_v11 m c e0)).trans rfl

theorem k_v13 {x1} (e1 : V m c main_arg1 = x1) : V m c main_v13 = val_main_v13 (F := Ideal) x1 :=
  (liner ops_writes (a := main_arg1) (y := main_v13) 17 rfl (by decide) (by decide) e1).trans rfl

theorem k_v14 {x1} (e1 : V m c main_arg1 = x1) : V m c main_v14 = val_main_v14 (F := Ideal) x1 :=
  (line1 ops_writes (a := main_v13) (y := main_v14) 18 rfl (by decide) (by decide) (k_v13 m c e1)).trans rfl

theorem k_v15 {x1} (e1 : V m c main_arg1 = x1) : V m c main_v15 = val_main_v15 (F := Ideal) x1 :=
  (liner ops_writes (a := main_v14) (y := main_v15) 19 rfl (by decide) (by decide) (k_v14 m c e1)).trans rfl

theorem k_v16 {x1} (e1 : V m c main_arg1 = x1) : V m c main_v16 = val_main_v16 (F := Ideal) x1 :=
  (liner ops_writes (a := main_v15) (y := main_v16) 20 rfl (by decide) (by decide) (k_v15 m c e1)).trans rfl

theorem k_v17 {x1} (e1 : V m c main_arg1 = x1) : V m c main_v17 = val_main_v17 (F := Ideal) x1 :=
  (line1 ops_writes (a := main_v16) (y := main_v17) 21 rfl (by decide) (by decide) (k_v16 m c e1)).trans rfl

theorem k_cst_3 : V m c main_cst_3 = val_main_cst_3 (F := Ideal) :=
  (line0 ops_writes  (y := main_cst_3) 22 rfl (by decide) ).trans rfl

theorem k_v18 : V m c main_v18 = val_main_v18 (F := Ideal) :=
  (line1 ops_writes (a := main_cst_3) (y := main_v18) 23 rfl (by decide) (by decide) (k_cst_3 m c)).trans rfl

theorem k_v19 {x1} (e1 : V m c main_arg1 = x1) : V m c main_v19 = val_main_v17 (F := Ideal) x1 :=
  (line1 ops_writes (a := main_v16) (y := main_v19) 24 rfl (by decide) (by decide) (k_v16 m c e1)).trans rfl

theorem k_v20 {x1} (e1 : V m c main_arg1 = x1) : V m c main_v20 = val_main_v20 (F := Ideal) x1 :=
  (line2 ops_writes (a := main_v18) (b := main_v19) (y := main_v20) 25 rfl (by decide) (by decide) (by decide) (k_v18 m c) (k_v19 m c e1)).trans rfl

theorem k_v22 {x1} (e1 : V m c main_arg1 = x1) : V m c main_v22 = val_main_v22 (F := Ideal) x1 :=
  (line2 ops_writes (a := main_v20) (b := main_v16) (y := main_v22) 28 rfl (by decide) (by decide) (by decide) (k_v20 m c e1) (k_v16 m c e1)).trans rfl

theorem k_v23 {x2} (e2 : V m c main_arg2 = x2) : V m c main_v23 = val_main_v23 (F := Ideal) x2 :=
  (liner ops_writes (a := main_arg2) (y := main_v23) 29 rfl (by decide) (by decide) e2).trans rfl

theorem k_v24 {x2} (e2 : V m c main_arg2 = x2) : V m c main_v24 = val_main_v24 (F := Ideal) x2 :=
  (line1 ops_writes (a := main_v23) (y := main_v24) 30 rfl (by decide) (by decide) (k_v23 m c e2)).trans rfl

theorem k_v25 {x2} (e2 : V m c main_arg2 = x2) : V m c main_v25 = val_main_v25 (F := Ideal) x2 :=
  (liner ops_writes (a := main_v24) (y := main_v25) 31 rfl (by decide) (by decide) (k_v24 m c e2)).trans rfl

theorem k_v26 {x2} (e2 : V m c main_arg2 = x2) : V m c main_v26 = val_main_v26 (F := Ideal) x2 :=
  (liner ops_writes (a := main_v25) (y := main_v26) 32 rfl (by decide) (by decide) (k_v25 m c e2)).trans rfl

theorem k_v27 {x2} (e2 : V m c main_arg2 = x2) : V m c main_v27 = val_main_v27 (F := Ideal) x2 :=
  (line1 ops_writes (a := main_v26) (y := main_v27) 33 rfl (by decide) (by decide) (k_v26 m c e2)).trans rfl

theorem k_cst_5 : V m c main_cst_5 = val_main_cst_3 (F := Ideal) :=
  (line0 ops_writes  (y := main_cst_5) 34 rfl (by decide) ).trans rfl

theorem k_v28 : V m c main_v28 = val_main_v18 (F := Ideal) :=
  (line1 ops_writes (a := main_cst_5) (y := main_v28) 35 rfl (by decide) (by decide) (k_cst_5 m c)).trans rfl

theorem k_v29 {x2} (e2 : V m c main_arg2 = x2) : V m c main_v29 = val_main_v27 (F := Ideal) x2 :=
  (line1 ops_writes (a := main_v26) (y := main_v29) 36 rfl (by decide) (by decide) (k_v26 m c e2)).trans rfl

theorem k_v30 {x2} (e2 : V m c main_arg2 = x2) : V m c main_v30 = val_main_v30 (F := Ideal) x2 :=
  (line2 ops_writes (a := main_v28) (b := main_v29) (y := main_v30) 37 rfl (by decide) (by decide) (by decide) (k_v28 m c) (k_v29 m c e2)).trans rfl

theorem k_v32 {x2} (e2 : V m c main_arg2 = x2) : V m c main_v32 = val_main_v32 (F := Ideal) x2 :=
  (line2 ops_writes (a := main_v30) (b := main_v26) (y := main_v32) 40 rfl (by decide) (by decide) (by decide) (k_v30 m c e2) (k_v26 m c e2)).trans rfl

theorem k_v33 {x0} (e0 : V m c main_arg0 = x0) {x1} (e1 : V m c main_arg1 = x1) : V m c main_v33 = val_main_v33 (F := Ideal) x0 x1 :=
  (line2 ops_writes (a := main_v12) (b := main_v22) (y := main_v33) 41 rfl (by decide) (by decide) (by decide) (k_v12 m c e0) (k_v22 m c e1)).trans rfl

theorem k_cst_7 : V m c main_cst_7 = val_main_cst_7 (F := Ideal) :=
  (line0 ops_writes  (y := main_cst_7) 42 rfl (by decide) ).trans rfl

theorem k_v34 : V m c main_v34 = val_main_v34 (F := Ideal) :=
  (line1 ops_writes (a := main_cst_7) (y := main_v34) 43 rfl (by decide) (by decide) (k_cst_7 m c)).trans rfl

theorem k_v35 {x0} (e0 : V m c main_arg0 = x0) {x1} (e1 : V m c main_arg1 = x1) : V m c main_v35 = val_main_v35 (F := Ideal) x0 x1 :=
  (line2 ops_writes (a := main_v33) (b := main_v34) (y := main_v35) 44 rfl (by decide) (by decide) (by decide) (k_v33 m c e0 e1) (k_v34 m c)).trans rfl

theorem k_v36 : V m c main_v36 = val_main_v36 (F := Ideal) :=
  (line0 ops_writes  (y := main_v36) 45 rfl (by decide) ).trans rfl

theorem k_v37 : V m c main_v37 = val_main_v37 (F := Ideal) :=
  (line1 ops_writes (a := main_v36) (y := main_v37) 46 rfl (by decide) (by decide) (k_v36 m c)).trans rfl

theorem k_c : V m c main_c = val_main_c (F := Ideal) :=
  (line0 ops_writes  (y := main_c) 47 rfl (by decide) ).trans rfl

theorem k_v38 : V m c main_v38 = val_main_v38 (F := Ideal) :=
  (line1 ops_writes (a := main_c) (y := main_v38) 48 rfl (by decide) (by decide) (k_c m c)).trans rfl

theorem k_v39 : V m c main_v39 = val_main_v39 (F := Ideal) :=
  (line2 ops_writes (a := main_v37) (b := main_v38) (y := main_v39) 49 rfl (by decide) (by decide) (by decide) (k_v37 m c) (k_v38 m c)).trans rfl

theorem k_v40 : V m c main_v40 = val_main_v40 (F := Ideal) :=
  (line0 ops_writes  (y := main_v40) 50 rfl (by decide) ).trans rfl

theorem k_v41 : V m c main_v41 = val_main_v41 (F := Ideal) :=
  (line1 ops_writes (a := main_v40) (y := main_v41) 51 rfl (by decide) (by decide) (k_v40 m c)).trans rfl

theorem k_v42 : V m c main_v42 = val_main_v42 (F := Ideal) :=
  (line1 ops_writes (a := main_v39) (y := main_v42) 52 rfl (by decide) (by decide) (k_v39 m c)).trans rfl

theorem k_v43 : V m c main_v43 = val_main_v43 (F := Ideal) :=
  (line1 ops_writes (a := main_v41) (y := main_v43) 53 rfl (by decide) (by decide) (k_v41 m c)).trans rfl

theorem k_v44 : V m c main_v44 = val_main_v44 (F := Ideal) :=
  (line2 ops_writes (a := main_v42) (b := main_v43) (y := main_v44) 54 rfl (by decide) (by decide) (by decide) (k_v42 m c) (k_v43 m c)).trans rfl

theorem k_v45 : V m c main_v45 = val_main_v45 (F := Ideal) :=
  (line0 ops_writes  (y := main_v45) 55 rfl (by decide) ).trans rfl

theorem k_v46 : V m c main_v46 = val_main_v46 (F := Ideal) :=
  (line1 ops_writes (a := main_v45) (y := main_v46) 56 rfl (by decide) (by decide) (k_v45 m c)).trans rfl

theorem k_c_8 : V m c main_c_8 = val_main_c_8 (F := Ideal) :=
  (line0 ops_writes  (y := main_c_8) 57 rfl (by decide) ).trans rfl

theorem k_v47 : V m c main_v47 = val_main_v47 (F := Ideal) :=
  (line1 ops_writes (a := main_c_8) (y := main_v47) 58 rfl (by decide) (by decide) (k_c_8 m c)).trans rfl

theorem k_v48 : V m c main_v48 = val_main_v48 (F := Ideal) :=
  (line2 ops_writes (a := main_v44) (b := main_v47) (y := main_v48) 59 rfl (by decide) (by decide) (by decide) (k_v44 m c) (k_v47 m c)).trans rfl

theorem k_c_9 : V m c main_c_9 = val_main_c (F := Ideal) :=
  (line0 ops_writes  (y := main_c_9) 60 rfl (by decide) ).trans rfl

theorem k_v49 : V m c main_v49 = val_main_v49 (F := Ideal) :=
  (line1 ops_writes (a := main_c_9) (y := main_v49) 61 rfl (by decide) (by decide) (k_c_9 m c)).trans rfl

theorem k_v50 : V m c main_v50 = val_main_v50 (F := Ideal) :=
  (line2 ops_writes (a := main_v44) (b := main_v49) (y := main_v50) 62 rfl (by decide) (by decide) (by decide) (k_v44 m c) (k_v49 m c)).trans rfl

theorem k_v51 : V m c main_v51 = val_main_v51 (F := Ideal) :=
  (line2 ops_writes (a := main_v48) (b := main_v50) (y := main_v51) 63 rfl (by decide) (by decide) (by decide) (k_v48 m c) (k_v50 m c)).trans rfl

theorem k_c_10 : V m c main_c_10 = val_main_c (F := Ideal) :=
  (line0 ops_writes  (y := main_c_10) 64 rfl (by decide) ).trans rfl

theorem k_v52 : V m c main_v52 = val_main_v52 (F := Ideal) :=
  (line1 ops_writes (a := main_c_10) (y := main_v52) 65 rfl (by decide) (by decide) (k_c_10 m c)).trans rfl

theorem k_v53 : V m c main_v53 = val_main_v53 (F := Ideal) :=
  (line2 ops_writes (a := main_v46) (b := main_v52) (y := main_v53) 66 rfl (by decide) (by decide) (by decide) (k_v46 m c) (k_v52 m c)).trans rfl

theorem k_v54 : V m c main_v54 = val_main_v54 (F := Ideal) :=
  (line1 ops_writes (a := main_v41) (y := main_v54) 67 rfl (by decide) (by decide) (k_v41 m c)).trans rfl

theorem k_v55 : V m c main_v55 = val_main_v55 (F := Ideal) :=
  (line1 ops_writes (a := main_v53) (y := main_v55) 68 rfl (by decide) (by decide) (k_v53 m c)).trans rfl

theorem k_v56 : V m c main_v56 = val_main_v56 (F := Ideal) :=
  (line1 ops_writes (a := main_v54) (y := main_v56) 69 rfl (by decide) (by decide) (k_v54 m c)).trans rfl

theorem k_v57 : V m c main_v57 = val_main_v57 (F := Ideal) :=
  (line2 ops_writes (a := main_v55) (b := main_v56) (y := main_v57) 70 rfl (by decide) (by decide) (by decide) (k_v55 m c) (k_v56 m c)).trans rfl

theorem k_c_11 : V m c main_c_11 = val_main_c (F := Ideal) :=
  (line0 ops_writes  (y := main_c_11) 71 rfl (by decide) ).trans rfl

theorem k_v58 : V m c main_v58 = val_main_v58 (F := Ideal) :=
  (line1 ops_writes (a := main_c_11) (y := main_v58) 72 rfl (by decide) (by decide) (k_c_11 m c)).trans rfl

theorem k_v59 : V m c main_v59 = val_main_v59 (F := Ideal) :=
  (line2 ops_writes (a := main_v57) (b := main_v58) (y := main_v59) 73 rfl (by decide) (by decide) (by decide) (k_v57 m c) (k_v58 m c)).trans rfl

theorem k_c_12 : V m c main_c_12 = val_main_c_8 (F := Ideal) :=
  (line0 ops_writes  (y := main_c_12) 74 rfl (by decide) ).trans rfl

theorem k_v60 : V m c main_v60 = val_main_v60 (F := Ideal) :=
  (line1 ops_writes (a := main_c_12) (y := main_v60) 75 rfl (by decide) (by decide) (k_c_12 m c)).trans rfl

theorem k_v61 : V m c main_v61 = val_main_v61 (F := Ideal) :=
  (line2 ops_writes (a := main_v59) (b := main_v60) (y := main_v61) 76 rfl (by decide) (by decide) (by decide) (k_v59 m c) (k_v60 m c)).trans rfl

theorem k_v62 : V m c main_v62 = val_main_v62 (F := Ideal) :=
  (line1 ops_writes (a := main_v51) (y := main_v62) 77 rfl (by decide) (by decide) (k_v51 m c)).trans rfl

theorem k_v63 : V m c main_v63 = val_main_v63 (F := Ideal) :=
  (line1 ops_writes (a := main_v62) (y := main_v63) 78 rfl (by decide) (by decide) (k_v62 m c)).trans rfl

theorem k_v64 : V m c main_v64 = val_main_v64 (F := Ideal) :=
  (line1 ops_writes (a := main_v61) (y := main_v64) 79 rfl (by decide) (by decide) (k_v61 m c)).trans rfl

theorem k_v65 : V m c main_v65 = val_main_v65 (F := Ideal) :=
  (line2 ops_writes (a := main_v63) (b := main_v64) (y := main_v65) 80 rfl (by decide) (by decide) (by decide) (k_v63 m c) (k_v64 m c)).trans rfl

theorem k_v66 : V m c main_v66 = val_main_v66 (F := Ideal) :=
  (line1 ops_writes (a := main_v8) (y := main_v66) 81 rfl (by decide) (by decide) (k_v8 m c)).trans rfl

theorem k_v67 : V m c main_v67 = val_main_v67 (F := Ideal) :=
  (line1 ops_writes (a := main_v66) (y := main_v67) 82 rfl (by decide) (by decide) (k_v66 m c)).trans rfl

theorem k_c_13 : V m c main_c_13 = val_main_c_13 (F := Ideal) :=
  (line0 ops_writes  (y := main_c_13) 83 rfl (by decide) ).trans rfl

theorem k_v68 : V m c main_v68 = val_main_v68 (F := Ideal) :=
  (line1 ops_writes (a := main_c_13) (y := main_v68) 84 rfl (by decide) (by decide) (k_c_13 m c)).trans rfl

theorem k_v69 : V m c main_v69 = val_main_v69 (F := Ideal) :=
  (line2 ops_writes (a := main_v44) (b := main_v68) (y := main_v69) 85 rfl (by decide) (by decide) (by decide) (k_v44 m c) (k_v68 m c)).trans rfl

theorem k_v70 : V m c main_v70 = val_main_v70 (F := Ideal) :=
  (line1 ops_writes (a := main_v69) (y := main_v70) 86 rfl (by decide) (by decide) (k_v69 m c)).trans rfl

theorem k_v71 : V m c main_v71 = val_main_v71 (F := Ideal) :=
  (line1 ops_writes (a := main_v70) (y := main_v71) 87 rfl (by decide) (by decide) (k_v70 m c)).trans rfl

theorem k_v72 : V m c main_v72 = val_main_v72 (F := Ideal) :=
  (line1 ops_writes (a := main_v67) (y := main_v72) 88 rfl (by decide) (by decide) (k_v67 m c)).trans rfl

theorem k_v73 : V m c main_v73 = val_main_v73 (F := Ideal) :=
  (line1 ops_writes (a := main_v71) (y := main_v73) 89 rfl (by decide) (by decide) (k_v71 m c)).trans rfl

theorem k_v74 : V m c main_v74 = val_main_v74 (F := Ideal) :=
  (line2 ops_writes (a := main_v72) (b := main_v73) (y := main_v74) 90 rfl (by decide) (by decide) (by decide) (k_v72 m c) (k_v73 m c)).trans rfl

theorem k_v75 : V m c main_v75 = val_main_v75 (F := Ideal) :=
  (line1 ops_writes (a := main_v65) (y := main_v75) 91 rfl (by decide) (by decide) (k_v65 m c)).trans rfl

theorem k_v76 : V m c main_v76 = val_main_v76 (F := Ideal) :=
  (line1 ops_writes (a := main_v74) (y := main_v76) 92 rfl (by decide) (by decide) (k_v74 m c)).trans rfl

theorem k_v77 : V m c main_v77 = val_main_v77 (F := Ideal) :=
  (line1 ops_writes (a := main_v76) (y := main_v77) 93 rfl (by decide) (by decide) (k_v76 m c)).trans rfl

theorem k_v78 {x0} (e0 : V m c main_arg0 = x0) {x1} (e1 : V m c main_arg1 = x1) : V m c main_v78 = val_main_v78 (F := Ideal) x0 x1 :=
  (line2 ops_writes (a := main_v35) (b := main_v77) (y := main_v78) 94 rfl (by decide) (by decide) (by decide) (k_v35 m c e0 e1) (k_v77 m c)).trans rfl

theorem k_cst_14 : V m c main_cst_14 = val_main_cst_14 (F := Ideal) :=
  (line0 ops_writes  (y := main_cst_14) 95 rfl (by decide) ).trans rfl

theorem k_call0_v0 : V m c main_call0_v0 = val_main_call0_v0 (F := Ideal) :=
  (line1 ops_writes (a := main_cst_14) (y := main_call0_v0) 96 rfl (by decide) (by decide) (k_cst_14 m c)).trans rfl

theorem k_v79_1 : V m c main_v79_1 = val_main_v79_1 (F := Ideal) :=
  (line1 ops_writes (a := main_v75) (y := main_v79_1) 97 rfl (by decide) (by decide) (k_v75 m c)).trans rfl

theorem k_call0_v2 : V m c main_call0_v2 = val_main_call0_v2 (F := Ideal) :=
  (line1 ops_writes (a := main_call0_v0) (y := main_call0_v2) 98 rfl (by decide) (by decide) (k_call0_v0 m c)).trans rfl

theorem k_v79_0 {x0} (e0 : V m c main_arg0 = x0) {x1} (e1 : V m c main_arg1 = x1) : V m c main_v79_0 = val_main_v79_0 (F := Ideal) x0 x1 :=
  (line3 ops_writes (a := main_v79_1) (b := main_v78) (e := main_call0_v2) (y := main_v79_0) 99 rfl (by decide) (by decide) (by decide) (by decide) (k_v79_1 m c) (k_v78 m c e0 e1) (k_call0_v2 m c)).trans rfl

theorem k_cst_15 : V m c main_cst_15 = val_main_cst_14 (F := Ideal) :=
  (line0 ops_writes  (y := main_cst_15) 102 rfl (by decide) ).trans rfl

theorem k_v80 {x0} (e0 : V m c main_arg0 = x0) {x1} (e1 : V m c main_arg1 = x1) : V m c main_v80 = val_main_v80 (F := Ideal) x0 x1 :=
  (line2 ops_writes (a := main_v79_0) (b := main_cst_15) (y := main_v80) 103 rfl (by decide) (by decide) (by decide) (k_v79_0 m c e0 e1) (k_cst_15 m c)).trans rfl

theorem k_v86 {x0} (e0 : V m c main_arg0 = x0) {x1} (e1 : V m c main_arg1 = x1) : V m c main_v86 = val_main_v86 (F := Ideal) x0 x1 :=
  (line1 ops_writes (a := main_v80) (y := main_v86) 110 rfl (by decide) (by decide) (k_v80 m c e0 e1)).trans rfl

theorem k_v87 {x0} (e0 : V m c main_arg0 = x0) {x1} (e1 : V m c main_arg1 = x1) : V m c main_v87 = val_main_v87 (F := Ideal) x0 x1 :=
  (line1 ops_writes (a := main_v86) (y := main_v87) 111 rfl (by decide) (by decide) (k_v86 m c e0 e1)).trans rfl

theorem k_v88 {x0} (e0 : V m c main_arg0 = x0) {x1} (e1 : V m c main_arg1 = x1) : V m c main_v88 = val_main_v88 (F := Ideal) x0 x1 :=
  (line2 ops_writes (a := main_v79_0) (b := main_v87) (y := main_v88) 112 rfl (by decide) (by decide) (by decide) (k_v79_0 m c e0 e1) (k_v87 m c e0 e1)).trans rfl

theorem k_v89 {x0} (e0 : V m c main_arg0 = x0) {x1} (e1 : V m c main_arg1 = x1) : V m c main_v89 = val_main_v89 (F := Ideal) x0 x1 :=
  (line1 ops_writes (a := main_v88) (y := main_v89) 113 rfl (by decide) (by decide) (k_v88 m c e0 e1)).trans rfl

theorem k_cst_17 : V m c main_cst_17 = val_main_cst_3 (F := Ideal) :=
  (line0 ops_writes  (y := main_cst_17) 114 rfl (by decide) ).trans rfl

theorem k_v90 {x0} (e0 : V m c main_arg0 = x0) {x1} (e1 : V m c main_arg1 = x1) : V m c main_v90 = val_main_v90 (F := Ideal) x0 x1 :=
  (line2 ops_writes (a := main_v89) (b := main_cst_17) (y := main_v90) 115 rfl (by decide) (by decide) (by decide) (k_v89 m c e0 e1) (k_cst_17 m c)).trans rfl

theorem k_v91 {x0} (e0 : V m c main_arg0 = x0) {x1} (e1 : V m c main_arg1 = x1) {x2} (e2 : V m c main_arg2 = x2) : V m c main_v91 = val_main_v91 (F := Ideal) x0 x1 x2 :=
  (line2 ops_writes (a := main_v32) (b := main_v89) (y := main_v91) 116 rfl (by decide) (by decide) (by decide) (k_v32 m c e2) (k_v89 m c e0 e1)).trans rfl

theorem k_v92 {x0} (e0 : V m c main_arg0 = x0) {x1} (e1 : V m c main_arg1 = x1) {x2} (e2 : V m c main_arg2 = x2) : V m c main_v92 = val_main_v92 (F := Ideal) x0 x1 x2 :=
  (line1 ops_writes (a := main_v91) (y := main_v92) 117 rfl (by decide) (by decide) (k_v91 m c e0 e1 e2)).trans rfl

theorem k_v93 {x0} (e0 : V m c main_arg0 = x0) {x1} (e1 : V m c main_arg1 = x1) : V m c main_v93 = val_main_v93 (F := Ideal) x0 x1 :=
  (line1 ops_writes (a := main_v90) (y := main_v93) 118 rfl (by decide) (by decide) (k_v90 m c e0 e1)).trans rfl

theorem k_v94 {x0} (e0 : V m c main_arg0 = x0) {x1} (e1 : V m c main_arg1 = x1) : V m c main_v94 = val_main_v94 (F := Ideal) x0 x1 :=
  (line1 ops_writes (a := main_v93) (y := main_v94) 119 rfl (by decide) (by decide) (k_v93 m c e0 e1)).trans rfl

theorem k_v95 {x0} (e0 : V m c main_arg0 = x0) {x1} (e1 : V m c main_arg1 = x1) : V m c main_v95 = val_main_v95 (F := Ideal) x0 x1 :=
  (line1 ops_writes (a := main_v94) (y := main_v95) 120 rfl (by decide) (by decide) (k_v94 m c e0 e1)).trans rfl

theorem k_v96 {x0} (e0 : V m c main_arg0 = x0) {x1} (e1 : V m c main_arg1 = x1) {x2} (e2 : V m c main_arg2 = x2) : V m c main_v96 = val_main_v96 (F := Ideal) x0 x1 x2 :=
  (line2 ops_writes (a := main_v92) (b := main_v95) (y := main_v96) 121 rfl (by decide) (by decide) (by decide) (k_v92 m c e0 e1 e2) (k_v95 m c e0 e1)).trans rfl

theorem k_v100 {x0} (e0 : V m c main_arg0 = x0) {x1} (e1 : V m c main_arg1 = x1) : V m c main_v100 = val_main_v100 (F := Ideal) x0 x1 :=
  (liner ops_writes (a := main_v86) (y := main_v100) 126 rfl (by decide) (by decide) (k_v86 m c e0 e1)).trans rfl

theorem k_v101 {x0} (e0 : V m c main_arg0 = x0) {x1} (e1 : V m c main_arg1 = x1) : V m c main_v101 = val_main_v101 (F := Ideal) x0 x1 :=
  (line1 ops_writes (a := main_v90) (y := main_v101) 127 rfl (by decide) (by decide) (k_v90 m c e0 e1)).trans rfl

theorem k_v102 {x0} (e0 : V m c main_arg0 = x0) {x1} (e1 : V m c main_arg1 = x1) : V m c main_v102 = val_main_v102 (F := Ideal) x0 x1 :=
  (line2 ops_writes (a := main_v100) (b := main_v101) (y := main_v102) 128 rfl (by decide) (by decide) (by decide) (k_v100 m c e0 e1) (k_v101 m c e0 e1)).trans rfl

theorem k_v103 {x0} (e0 : V m c main_arg0 = x0) {x1} (e1 : V m c main_arg1 = x1) : V m c main_v103 = val_main_v103 (F := Ideal) x0 x1 :=
  (line1 ops_writes (a := main_v102) (y := main_v103) 129 rfl (by decide) (by decide) (k_v102 m c e0 e1)).trans rfl

theorem k_v104 {x0} (e0 : V m c main_arg0 = x0) {x1} (e1 : V m c main_arg1 = x1) {x2} (e2 : V m c main_arg2 = x2) : V m c main_v104 = val_main_v104 (F := Ideal) x0 x1 x2 :=
  (liner ops_writes (a := main_v96) (y := main_v104) 130 rfl (by decide) (by decide) (k_v96 m c e0 e1 e2)).trans rfl

theorem k_v105 {x0} (e0 : V m c main_arg0 = x0) {x1} (e1 : V m c main_arg1 = x1) {x2} (e2 : V m c main_arg2 = x2) : V m c main_v105 = val_main_v105 (F := Ideal) x0 x1 x2 :=
  (liner ops_writes (a := main_v104) (y := main_v105) 131 rfl (by decide) (by decide) (k_v104 m c e0 e1 e2)).trans rfl

theorem k_v106 {x0} (e0 : V m c main_arg0 = x0) {x1} (e1 : V m c main_arg1 = x1) {x2} (e2 : V m c main_arg2 = x2) : V m c main_v106 = val_main_v106 (F := Ideal) x0 x1 x2 :=
  (line1 ops_writes (a := main_v105) (y := main_v106) 132 rfl (by decide) (by decide) (k_v105 m c e0 e1 e2)).trans rfl

theorem k_v107 {x0} (e0 : V m c main_arg0 = x0) {x1} (e1 : V m c main_arg1 = x1) {x2} (e2 : V m c main_arg2 = x2) : V m c main_v107 = val_main_v107 (F := Ideal) x0 x1 x2 :=
  (liner ops_writes (a := main_v106) (y := main_v107) 133 rfl (by decide) (by decide) (k_v106 m c e0 e1 e2)).trans rfl

theorem k_v108 {x0} (e0 : V m c main_arg0 = x0) {x1} (e1 : V m c main_arg1 = x1) : V m c main_v108 = val_main_v108 (F := Ideal) x0 x1 :=
  (liner ops_writes (a := main_v103) (y := main_v108) 134 rfl (by decide) (by decide) (k_v103 m c e0 e1)).trans rfl

theorem k_v109 {x0} (e0 : V m c main_arg0 = x0) {x1} (e1 : V m c main_arg1 = x1) : V m c main_v109 = val_main_v109 (F := Ideal) x0 x1 :=
  (liner ops_writes (a := main_v108) (y := main_v109) 135 rfl (by decide) (by decide) (k_v108 m c e0 e1)).trans rfl

theorem k_v110 {x0} (e0 : V m c main_arg0 = x0) {x1} (e1 : V m c main_arg1 = x1) : V m c main_v110 = val_main_v110 (F := Ideal) x0 x1 :=
  (line1 ops_writes (a := main_v109) (y := main_v110) 136 rfl (by decide) (by decide) (k_v109 m c e0 e1)).trans rfl

theorem k_v111 {x0} (e0 : V m c main_arg0 = x0) {x1} (e1 : V m c main_arg1 = x1) : V m c main_v111 = val_main_v111 (F := Ideal) x0 x1 :=
  (liner ops_writes (a := main_v110) (y := main_v111) 137 rfl (by decide) (by decide) (k_v110 m c e0 e1)).trans rfl

theorem k_v112 : V m c main_v112 = (maximumf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_arg5) (V m c main_arg7) :=
  (line2 ops_writes (a := main_arg5) (b := main_arg7) (y := main_v112) 138 rfl (by decide) (by decide) (by decide) rfl rfl).trans rfl

theorem k_v113 : V m c main_v113 = (maximumf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_v112) (V m c main_v111) :=
  (line2 ops_writes (a := main_v112) (b := main_v111) (y := main_v113) 139 rfl (by decide) (by decide) (by decide) rfl rfl).trans rfl

theorem k_v114 : V m c main_v114 = (subf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_arg5) (V m c main_v113) :=
  (line2 ops_writes (a := main_arg5) (b := main_v113) (y := main_v114) 140 rfl (by decide) (by decide) (by decide) rfl rfl).trans rfl

theorem k_v115 : V m c main_v115 = (Host.exp (F := Ideal) (φ := .f32) : (⟨S1x4096x8, .f32⟩ : BufTy).Contents (Elt Ideal) → (⟨S1x4096x8, .f32⟩ : BufTy).Contents (Elt Ideal)) (V m c main_v114) :=
  (line1 ops_writes (a := main_v114) (y := main_v115) 141 rfl (by decide) (by decide) rfl).trans rfl

theorem k_v116 : V m c main_v116 = (subf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_arg7) (V m c main_v113) :=
  (line2 ops_writes (a := main_arg7) (b := main_v113) (y := main_v116) 142 rfl (by decide) (by decide) (by decide) rfl rfl).trans rfl

theorem k_v117 : V m c main_v117 = (Host.exp (F := Ideal) (φ := .f32) : (⟨S1x4096x8, .f32⟩ : BufTy).Contents (Elt Ideal) → (⟨S1x4096x8, .f32⟩ : BufTy).Contents (Elt Ideal)) (V m c main_v116) :=
  (line1 ops_writes (a := main_v116) (y := main_v117) 143 rfl (by decide) (by decide) rfl).trans rfl

theorem k_v118 : V m c main_v118 = (subf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_v111) (V m c main_v113) :=
  (line2 ops_writes (a := main_v111) (b := main_v113) (y := main_v118) 144 rfl (by decide) (by decide) (by decide) rfl rfl).trans rfl

theorem k_v119 : V m c main_v119 = (Host.exp (F := Ideal) (φ := .f32) : (⟨S1x4096x8, .f32⟩ : BufTy).Contents (Elt Ideal) → (⟨S1x4096x8, .f32⟩ : BufTy).Contents (Elt Ideal)) (V m c main_v118) :=
  (line1 ops_writes (a := main_v118) (y := main_v119) 145 rfl (by decide) (by decide) rfl).trans rfl

theorem k_v120 : V m c main_v120 = (addf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_v115) (V m c main_v117) :=
  (line2 ops_writes (a := main_v115) (b := main_v117) (y := main_v120) 146 rfl (by decide) (by decide) (by decide) rfl rfl).trans rfl

theorem k_v121 : V m c main_v121 = (addf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_v120) (V m c main_v119) :=
  (line2 ops_writes (a := main_v120) (b := main_v119) (y := main_v121) 147 rfl (by decide) (by decide) (by decide) rfl rfl).trans rfl

theorem k_v122 : V m c main_v122 = (Host.log (F := Ideal) (φ := .f32) : (⟨S1x4096x8, .f32⟩ : BufTy).Contents (Elt Ideal) → (⟨S1x4096x8, .f32⟩ : BufTy).Contents (Elt Ideal)) (V m c main_v121) :=
  (line1 ops_writes (a := main_v121) (y := main_v122) 148 rfl (by decide) (by decide) rfl).trans rfl

theorem k_v123 : V m c main_v123 = (addf (F := Ideal) (φ := .f32) : (⟨S1x4096x8, .f32⟩ : BufTy).Contents (Elt Ideal) → (⟨S1x4096x8, .f32⟩ : BufTy).Contents (Elt Ideal) → (⟨S1x4096x8, .f32⟩ : BufTy).Contents (Elt Ideal)) (V m c main_v113) (V m c main_v122) :=
  (line2 ops_writes (a := main_v113) (b := main_v122) (y := main_v123) 149 rfl (by decide) (by decide) (by decide) rfl rfl).trans rfl

theorem k_v124 : V m c main_v124 = (broadcastInDim S1x4096x8x1 ![0, 1, 2] bcast_S1x4096x8_S1x4096x8x1_0_1_2 : (⟨S1x4096x8, .f32⟩ : BufTy).Contents (Elt Ideal) → (⟨S1x4096x8x1, .f32⟩ : BufTy).Contents (Elt Ideal)) (V m c main_v115) :=
  (line1 ops_writes (a := main_v115) (y := main_v124) 150 rfl (by decide) (by decide) rfl).trans rfl

theorem k_v125 : V m c main_v125 = (broadcastInDim S1x4096x8x64 ![0, 1, 2, 3] bcast_S1x4096x8x1_S1x4096x8x64_0_1_2_3 : (⟨S1x4096x8x1, .f32⟩ : BufTy).Contents (Elt Ideal) → (⟨S1x4096x8x64, .f32⟩ : BufTy).Contents (Elt Ideal)) (V m c main_v124) :=
  (line1 ops_writes (a := main_v124) (y := main_v125) 151 rfl (by decide) (by decide) rfl).trans rfl

theorem k_v126 : V m c main_v126 = (mulf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_v125) (V m c main_arg4) :=
  (line2 ops_writes (a := main_v125) (b := main_arg4) (y := main_v126) 152 rfl (by decide) (by decide) (by decide) rfl rfl).trans rfl

theorem k_v127 : V m c main_v127 = (broadcastInDim S1x4096x8x1 ![0, 1, 2] bcast_S1x4096x8_S1x4096x8x1_0_1_2 : (⟨S1x4096x8, .f32⟩ : BufTy).Contents (Elt Ideal) → (⟨S1x4096x8x1, .f32⟩ : BufTy).Contents (Elt Ideal)) (V m c main_v117) :=
  (line1 ops_writes (a := main_v117) (y := main_v127) 153 rfl (by decide) (by decide) rfl).trans rfl

theorem k_v128 : V m c main_v128 = (broadcastInDim S1x4096x8x64 ![0, 1, 2, 3] bcast_S1x4096x8x1_S1x4096x8x64_0_1_2_3 : (⟨S1x4096x8x1, .f32⟩ : BufTy).Contents (Elt Ideal) → (⟨S1x4096x8x64, .f32⟩ : BufTy).Contents (Elt Ideal)) (V m c main_v127) :=
  (line1 ops_writes (a := main_v127) (y := main_v128) 154 rfl (by decide) (by decide) rfl).trans rfl

theorem k_v129 : V m c main_v129 = (mulf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_v128) (V m c main_arg6) :=
  (line2 ops_writes (a := main_v128) (b := main_arg6) (y := main_v129) 155 rfl (by decide) (by decide) (by decide) rfl rfl).trans rfl

theorem k_v130 : V m c main_v130 = (addf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_v126) (V m c main_v129) :=
  (line2 ops_writes (a := main_v126) (b := main_v129) (y := main_v130) 156 rfl (by decide) (by decide) (by decide) rfl rfl).trans rfl

theorem k_v131 : V m c main_v131 = (broadcastInDim S1x4096x8x1 ![0, 1, 2] bcast_S1x4096x8_S1x4096x8x1_0_1_2 : (⟨S1x4096x8, .f32⟩ : BufTy).Contents (Elt Ideal) → (⟨S1x4096x8x1, .f32⟩ : BufTy).Contents (Elt Ideal)) (V m c main_v119) :=
  (line1 ops_writes (a := main_v119) (y := main_v131) 157 rfl (by decide) (by decide) rfl).trans rfl

theorem k_v132 : V m c main_v132 = (broadcastInDim S1x4096x8x64 ![0, 1, 2, 3] bcast_S1x4096x8x1_S1x4096x8x64_0_1_2_3 : (⟨S1x4096x8x1, .f32⟩ : BufTy).Contents (Elt Ideal) → (⟨S1x4096x8x64, .f32⟩ : BufTy).Contents (Elt Ideal)) (V m c main_v131) :=
  (line1 ops_writes (a := main_v131) (y := main_v132) 158 rfl (by decide) (by decide) rfl).trans rfl

theorem k_v133 : V m c main_v133 = (mulf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_v132) (V m c main_v107) :=
  (line2 ops_writes (a := main_v132) (b := main_v107) (y := main_v133) 159 rfl (by decide) (by decide) (by decide) rfl rfl).trans rfl

theorem k_v134 : V m c main_v134 = (addf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_v130) (V m c main_v133) :=
  (line2 ops_writes (a := main_v130) (b := main_v133) (y := main_v134) 160 rfl (by decide) (by decide) (by decide) rfl rfl).trans rfl

theorem k_v135 : V m c main_v135 = (broadcastInDim S1x4096x8x1 ![0, 1, 2] bcast_S1x4096x8_S1x4096x8x1_0_1_2 : (⟨S1x4096x8, .f32⟩ : BufTy).Contents (Elt Ideal) → (⟨S1x4096x8x1, .f32⟩ : BufTy).Contents (Elt Ideal)) (V m c main_v121) :=
  (line1 ops_writes (a := main_v121) (y := main_v135) 161 rfl (by decide) (by decide) rfl).trans rfl

theorem k_v136 : V m c main_v136 = (broadcastInDim S1x4096x8x64 ![0, 1, 2, 3] bcast_S1x4096x8x1_S1x4096x8x64_0_1_2_3 : (⟨S1x4096x8x1, .f32⟩ : BufTy).Contents (Elt Ideal) → (⟨S1x4096x8x64, .f32⟩ : BufTy).Contents (Elt Ideal)) (V m c main_v135) :=
  (line1 ops_writes (a := main_v135) (y := main_v136) 162 rfl (by decide) (by decide) rfl).trans rfl

theorem k_v137 : V m c main_v137 = (Host.divf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_v134) (V m c main_v136) :=
  (line2 ops_writes (a := main_v134) (b := main_v136) (y := main_v137) 163 rfl (by decide) (by decide) (by decide) rfl rfl).trans rfl

theorem k_v138 : V m c main_v138 = (mulf (F := Ideal) (φ := .f32) : (⟨S1x4096x8x64, .f32⟩ : BufTy).Contents (Elt Ideal) → (⟨S1x4096x8x64, .f32⟩ : BufTy).Contents (Elt Ideal) → (⟨S1x4096x8x64, .f32⟩ : BufTy).Contents (Elt Ideal)) (V m c main_arg3) (V m c main_v137) :=
  (line2 ops_writes (a := main_arg3) (b := main_v137) (y := main_v138) 164 rfl (by decide) (by decide) (by decide) rfl rfl).trans rfl

theorem k_cst_19 : V m c main_cst_19 = val_main_cst_3 (F := Ideal) :=
  (line0 ops_writes  (y := main_cst_19) 165 rfl (by decide) ).trans rfl

theorem k_v139 : V m c main_v139 = ((fun x v => Host.reduceAdd (F := Ideal) (φ := .f32) x v reducesTo_S1x4096x8x64_S1x4096x8_d3 h_S_) : (⟨S1x4096x8x64, .f32⟩ : BufTy).Contents (Elt Ideal) → (⟨S_, .f32⟩ : BufTy).Contents (Elt Ideal) → (⟨S1x4096x8, .f32⟩ : BufTy).Contents (Elt Ideal)) (V m c main_v138) (V m c main_cst_19) :=
  (line2 ops_writes (a := main_v138) (b := main_cst_19) (y := main_v139) 166 rfl (by decide) (by decide) (by decide) rfl rfl).trans rfl

theorem k_v140 : V m c main_v140 = shapeCast S256x16x512 (V m c main_arg0) shapeCasts_S1x4096x8x64_S256x16x512 :=
  (liner ops_writes (a := main_arg0) (y := main_v140) 167 rfl (by decide) (by decide) rfl).trans rfl

theorem k_v141 : V m c main_v141 = ((transpose S16x256x512 [1, 0, 2] · transposes_S256x16x512_S16x256x512_1_0_2) : (⟨S256x16x512, .f32⟩ : BufTy).Contents (Elt Ideal) → (⟨S16x256x512, .f32⟩ : BufTy).Contents (Elt Ideal)) (V m c main_v140) :=
  (line1 ops_writes (a := main_v140) (y := main_v141) 168 rfl (by decide) (by decide) rfl).trans rfl

theorem k_v142 : V m c main_v142 = shapeCast S256x16x512 (V m c main_arg1) shapeCasts_S1x4096x8x64_S256x16x512 :=
  (liner ops_writes (a := main_arg1) (y := main_v142) 169 rfl (by decide) (by decide) rfl).trans rfl

theorem k_v143 : V m c main_v143 = ((transpose S16x256x512 [1, 0, 2] · transposes_S256x16x512_S16x256x512_1_0_2) : (⟨S256x16x512, .f32⟩ : BufTy).Contents (Elt Ideal) → (⟨S16x256x512, .f32⟩ : BufTy).Contents (Elt Ideal)) (V m c main_v142) :=
  (line1 ops_writes (a := main_v142) (y := main_v143) 170 rfl (by decide) (by decide) rfl).trans rfl

theorem k_v144 : V m c main_v144 = shapeCast S256x16x512 (V m c main_arg2) shapeCasts_S1x4096x8x64_S256x16x512 :=
  (liner ops_writes (a := main_arg2) (y := main_v144) 171 rfl (by decide) (by decide) rfl).trans rfl

theorem k_v145 : V m c main_v145 = ((transpose S16x256x512 [1, 0, 2] · transposes_S256x16x512_S16x256x512_1_0_2) : (⟨S256x16x512, .f32⟩ : BufTy).Contents (Elt Ideal) → (⟨S16x256x512, .f32⟩ : BufTy).Contents (Elt Ideal)) (V m c main_v144) :=
  (line1 ops_writes (a := main_v144) (y := main_v145) 172 rfl (by decide) (by decide) rfl).trans rfl

theorem k_v146 : V m c main_v146 = (concatenate S16x256x1536 2 [⟨S16x256x512, (V m c main_v141)⟩, ⟨S16x256x512, (V m c main_v143)⟩, ⟨S16x256x512, (V m c main_v145)⟩] concatenates_S16x256x512_S16x256x512_S16x256x512_S16x256x1536_d2 : (⟨S16x256x1536, .f32⟩ : BufTy).Contents (Elt Ideal)) :=
  (linen ops_writes (y := main_v146) 173 rfl (by decide) (by decide)).trans rfl

theorem k_v147 : V m c main_v147 = ((truncf (F := Ideal) (φ := .f32) .bf16 · bitsLt_bf16_f32) : (⟨S16x256x1536, .f32⟩ : BufTy).Contents (Elt Ideal) → (⟨S16x256x1536, .bf16⟩ : BufTy).Contents (Elt Ideal)) (V m c main_v146) :=
  (line1 ops_writes (a := main_v146) (y := main_v147) 174 rfl (by decide) (by decide) rfl).trans rfl

theorem k_v148 : V m c main_v148 = shapeCast S256x16x512 (V m c main_arg3) shapeCasts_S1x4096x8x64_S256x16x512 :=
  (liner ops_writes (a := main_arg3) (y := main_v148) 175 rfl (by decide) (by decide) rfl).trans rfl

theorem k_v149 : V m c main_v149 = ((transpose S16x256x512 [1, 0, 2] · transposes_S256x16x512_S16x256x512_1_0_2) : (⟨S256x16x512, .f32⟩ : BufTy).Contents (Elt Ideal) → (⟨S16x256x512, .f32⟩ : BufTy).Contents (Elt Ideal)) (V m c main_v148) :=
  (line1 ops_writes (a := main_v148) (y := main_v149) 176 rfl (by decide) (by decide) rfl).trans rfl

theorem k_v150 : V m c main_v150 = ((truncf (F := Ideal) (φ := .f32) .bf16 · bitsLt_bf16_f32) : (⟨S16x256x512, .f32⟩ : BufTy).Contents (Elt Ideal) → (⟨S16x256x512, .bf16⟩ : BufTy).Contents (Elt Ideal)) (V m c main_v149) :=
  (line1 ops_writes (a := main_v149) (y := main_v150) 177 rfl (by decide) (by decide) rfl).trans rfl

theorem k_v151 : V m c main_v151 = shapeCast S256x16x8 (V m c main_v123) shapeCasts_S1x4096x8_S256x16x8 :=
  (liner ops_writes (a := main_v123) (y := main_v151) 178 rfl (by decide) (by decide) rfl).trans rfl

theorem k_v152 : V m c main_v152 = ((transpose S16x256x8 [1, 0, 2] · transposes_S256x16x8_S16x256x8_1_0_2) : (⟨S256x16x8, .f32⟩ : BufTy).Contents (Elt Ideal) → (⟨S16x256x8, .f32⟩ : BufTy).Contents (Elt Ideal)) (V m c main_v151) :=
  (line1 ops_writes (a := main_v151) (y := main_v152) 179 rfl (by decide) (by decide) rfl).trans rfl

theorem k_c_20 : V m c main_c_20 = val_main_c_8 (F := Ideal) :=
  (line0 ops_writes  (y := main_c_20) 180 rfl (by decide) ).trans rfl

theorem k_call1_v0 : V m c main_call1_v0 = (sitofp (F := Ideal) .f32) ((V m c main_c_20) : IVec S_ 32) :=
  (line1 ops_writes (a := main_c_20) (y := main_call1_v0) 181 rfl (by decide) (by decide) rfl).trans rfl

theorem k_v153 : V m c main_v153 = (fun x v => pad S16x256x128 ![0, 0, 0] ![0, 0, 120] ![0, 0, 0] x v pads_S16x256x8_S16x256x128_000_000_01200 h_S_) (V m c main_v152) (V m c main_call1_v0) :=
  (line2 ops_writes (a := main_v152) (b := main_call1_v0) (y := main_v153) 182 rfl (by decide) (by decide) (by decide) rfl rfl).trans rfl

theorem k_v154 : V m c main_v154 = shapeCast S256x16x8 (V m c main_v139) shapeCasts_S1x4096x8_S256x16x8 :=
  (liner ops_writes (a := main_v139) (y := main_v154) 183 rfl (by decide) (by decide) rfl).trans rfl

theorem k_v155 : V m c main_v155 = ((transpose S16x256x8 [1, 0, 2] · transposes_S256x16x8_S16x256x8_1_0_2) : (⟨S256x16x8, .f32⟩ : BufTy).Contents (Elt Ideal) → (⟨S16x256x8, .f32⟩ : BufTy).Contents (Elt Ideal)) (V m c main_v154) :=
  (line1 ops_writes (a := main_v154) (y := main_v155) 184 rfl (by decide) (by decide) rfl).trans rfl

theorem k_c_21 : V m c main_c_21 = val_main_c_8 (F := Ideal) :=
  (line0 ops_writes  (y := main_c_21) 185 rfl (by decide) ).trans rfl

theorem k_call2_v0 : V m c main_call2_v0 = (sitofp (F := Ideal) .f32) ((V m c main_c_21) : IVec S_ 32) :=
  (line1 ops_writes (a := main_c_21) (y := main_call2_v0) 186 rfl (by decide) (by decide) rfl).trans rfl

theorem k_v156 : V m c main_v156 = (fun x v => pad S16x256x128 ![0, 0, 0] ![0, 0, 120] ![0, 0, 0] x v pads_S16x256x8_S16x256x128_000_000_01200 h_S_) (V m c main_v155) (V m c main_call2_v0) :=
  (line2 ops_writes (a := main_v155) (b := main_call2_v0) (y := main_v156) 187 rfl (by decide) (by decide) (by decide) rfl rfl).trans rfl

end Cert.KernelIdeal.Hand
-- ==== Proof.Spec.lean ====
/- The gradient of the dilated attention's widest branch, over the real numbers: the mixture's scores, weights and
   gradients for one query, and the sums over a block. Nothing here mentions a program. -/
module

public import Idealize.ShloMosaic.PureOps.Ideal.Laws

@[expose] public section

noncomputable section

namespace Cert.Attn

open Idealize.ShloMosaic

/-- What the gradient is taken of: queries, keys, values, the incoming gradient, and the two narrower branches' outputs
    and logarithms of their normalisers. -/
structure Args where
  q : Fin 4096 → Fin 8 → Fin 64 → ℝ
  k : Fin 4096 → Fin 8 → Fin 64 → ℝ
  v : Fin 4096 → Fin 8 → Fin 64 → ℝ
  ct : Fin 4096 → Fin 8 → Fin 64 → ℝ
  o1 : Fin 4096 → Fin 8 → Fin 64 → ℝ
  l1 : Fin 4096 → Fin 8 → ℝ
  o4 : Fin 4096 → Fin 8 → Fin 64 → ℝ
  l4 : Fin 4096 → Fin 8 → ℝ

/-- The position of row `i` of block `n` of the positions that are `r` modulo sixteen. -/
def pos (r : Fin 16) (n : Fin 2) (i : Fin 128) : Fin 4096 := ⟨(n.val * 128 + i.val) * 16 + r.val, by omega⟩

/-- A block's rows after those of the block before it, which are zero for the first block. -/
def cat (x : Fin 4096 → Fin 8 → Fin 64 → ℝ) (r : Fin 16) (n : Fin 2) (j : Fin 256) (h : Fin 8) (d : Fin 64) : ℝ :=
  if hj : j.val < 128 then if n.val < 1 then 0 else x (pos r ⟨n.val - 1, by omega⟩ ⟨j.val, hj⟩) h d
  else x (pos r n ⟨j.val - 128, by omega⟩) h d

/-- Query `i` of block `n` sees key `j`: at most 128 rows back, none ahead, and none before the first. -/
def Sees (n : Fin 2) (i : Fin 128) (j : Fin 256) : Prop :=
  (j.val ≤ i.val + 128 ∧ i.val ≤ j.val) ∧ (n.val = 1 ∨ 128 ≤ j.val)

instance (n : Fin 2) (i : Fin 128) (j : Fin 256) : Decidable (Sees n i j) := by unfold Sees; infer_instance

/-- A query sees itself. -/
theorem sees_self (n : Fin 2) (i : Fin 128) : Sees n i ⟨i.val + 128, by omega⟩ :=
  ⟨⟨by simp, by simp⟩, Or.inr (by simp)⟩

/-- The linear offset of a head. -/
def bias (h : Fin 8) (i : Fin 128) (j : Fin 256) : ℝ :=
  -((1 / 2 : ℝ) ^ (h.val + 1)) * (((((i.val : ℤ) + 128 - j.val) * 16 : ℤ)) : ℝ)

namespace Args

variable (a : Args) (r : Fin 16) (n : Fin 2) (h : Fin 8) (i : Fin 128) (j : Fin 256) (d : Fin 64)

/-- The score of a key. -/
def s : ℝ := (∑ d, a.q (pos r n i) h d * cat a.k r n j h d) * (1 / 8) + bias h i j

/-- The score, or minus infinity for a key not seen. -/
def sE : EReal := if Sees n i j then (a.s r n h i j : EReal) else ⊥

/-- The greatest score of a query. -/
def M : ℝ := (Finset.univ.fold max ⊥ (fun j => a.sE r n h i j)).toReal

/-- The greatest score is a score. -/
theorem M_spec : Finset.univ.fold max ⊥ (fun j => a.sE r n h i j) = (a.M r n h i : EReal) ∧
    ∃ j, a.sE r n h i j = (a.M r n h i : EReal) := by
  have hs : Finset.univ.fold max ⊥ (fun j => a.sE r n h i j) = Finset.univ.sup (fun j => a.sE r n h i j) := rfl
  obtain ⟨j, -, hj⟩ := Finset.exists_mem_eq_sup (Finset.univ : Finset (Fin 256)) ⟨0, Finset.mem_univ _⟩ (fun j => a.sE r n h i j)
  have hle : (a.s r n h i ⟨i.val + 128, by omega⟩ : EReal) ≤ Finset.univ.sup (fun j => a.sE r n h i j) := by
    have := Finset.le_sup (f := fun j => a.sE r n h i j) (Finset.mem_univ (⟨i.val + 128, by omega⟩ : Fin 256))
    refine le_trans (le_of_eq ?_) this
    simp only [sE, if_pos (sees_self n i)]
  have hM : Finset.univ.sup (fun j => a.sE r n h i j) = (a.M r n h i : EReal) := by
    unfold M; rw [hs]
    refine (EReal.coe_toReal ?_ ?_).symm
    · rw [hj]; unfold sE; split
      · exact EReal.coe_ne_top _
      · exact bot_ne_top
    · exact fun hb => absurd (hb ▸ hle) (by simp)
  exact ⟨hs.trans hM, j, hj.symm.trans hM⟩

/-- A key's weight in its branch, before the division. -/
def p : ℝ := if Sees n i j then Real.exp (a.s r n h i j - a.M r n h i) else 0

/-- The branch's normaliser. -/
def den : ℝ := ∑ j, a.p r n h i j

theorem den_pos : 0 < a.den r n h i := by
  refine Finset.sum_pos' (fun j _ => ?_) ⟨⟨i.val + 128, by omega⟩, Finset.mem_univ _, ?_⟩
  · unfold p; split
    · exact (Real.exp_pos _).le
    · exact le_rfl
  · unfold p; rw [if_pos (sees_self n i)]; exact Real.exp_pos _

/-- The branch's output before the division, and after. -/
def ou : ℝ := ∑ j, cat a.v r n j h d * a.p r n h i j
def o : ℝ := a.ou r n h i d / a.den r n h i

/-- The logarithm of the branch's normaliser. -/
def L : ℝ := a.M r n h i + Real.log (a.den r n h i)

/-- The greatest of the three branches' logarithms, and the branches' shares. -/
def mm : ℝ := max (max (a.l1 (pos r n i) h) (a.l4 (pos r n i) h)) (a.L r n h i)
def e1 : ℝ := Real.exp (a.l1 (pos r n i) h - a.mm r n h i)
def e4 : ℝ := Real.exp (a.l4 (pos r n i) h - a.mm r n h i)
def e16 : ℝ := Real.exp (a.L r n h i - a.mm r n h i)
def E : ℝ := a.e1 r n h i + a.e4 r n h i + a.e16 r n h i

theorem E_pos : 0 < a.E r n h i := by unfold E e1 e4 e16; positivity

/-- The products of the incoming gradient with the branches' outputs. -/
def T1 : ℝ := ∑ d, a.ct (pos r n i) h d * a.o1 (pos r n i) h d
def T4 : ℝ := ∑ d, a.ct (pos r n i) h d * a.o4 (pos r n i) h d
def T16 : ℝ := ∑ d, a.ct (pos r n i) h d * a.o r n h i d

/-- The logarithm of the mixture's normaliser. -/
def lse : ℝ := a.mm r n h i + Real.log (a.E r n h i)

/-- The product of the incoming gradient with the mixture. -/
def delta : ℝ := ∑ d, a.ct (pos r n i) h d *
  ((a.e1 r n h i * a.o1 (pos r n i) h d + a.e4 r n h i * a.o4 (pos r n i) h d + a.e16 r n h i * a.o r n h i d) / a.E r n h i)

/-- A key's weight in the mixture. -/
def P : ℝ := if Sees n i j then Real.exp (a.s r n h i j - a.lse r n h i) else 0

/-- The gradient of a score. -/
def g : ℝ := a.P r n h i j * ((∑ d, a.ct (pos r n i) h d * cat a.v r n j h d) - a.delta r n h i)

/-- The gradients of a block's queries, and of the keys and values it sees. -/
def dq : ℝ := (∑ j, a.g r n h i j * cat a.k r n j h d) * (1 / 8)
def dkc : ℝ := ∑ i, a.g r n h i j * (a.q (pos r n i) h d * (1 / 8))
def dvc : ℝ := ∑ i, a.P r n h i j * a.ct (pos r n i) h d

/-- The gradients of the keys and the values: each is seen from its own block and from the next. -/
def dk : ℝ := a.dkc r n h ⟨128 + i.val, by omega⟩ d + if n.val < 1 then a.dkc r 1 h ⟨i.val, by omega⟩ d else 0
def dv : ℝ := a.dvc r n h ⟨128 + i.val, by omega⟩ d + if n.val < 1 then a.dvc r 1 h ⟨i.val, by omega⟩ d else 0

/-! ### The gradient taken step by step agrees -/

theorem delta_eq : a.delta r n h i =
    (a.e1 r n h i * a.T1 r n h i + a.e4 r n h i * a.T4 r n h i + a.e16 r n h i * a.T16 r n h i) / a.E r n h i := by
  unfold delta T1 T4 T16
  rw [Finset.mul_sum, Finset.mul_sum, Finset.mul_sum, ← Finset.sum_add_distrib, ← Finset.sum_add_distrib, Finset.sum_div]
  exact Finset.sum_congr rfl fun d _ => by ring

/-- The mixture's weight is the branch's, times the branch's share. -/
theorem P_eq : a.P r n h i j = a.p r n h i j * (a.e16 r n h i / a.E r n h i) / a.den r n h i := by
  have hE := a.E_pos r n h i
  have hd := a.den_pos r n h i
  unfold P p
  split
  · have e : a.e16 r n h i = Real.exp (a.M r n h i) * a.den r n h i / Real.exp (a.mm r n h i) := by
      unfold e16 L; rw [Real.exp_sub, Real.exp_add, Real.exp_log hd]
    rw [e]; unfold lse
    rw [Real.exp_sub, Real.exp_add, Real.exp_log hE, Real.exp_sub]
    have h1 := (Real.exp_pos (a.M r n h i)).ne'
    have h2 := (Real.exp_pos (a.mm r n h i)).ne'
    have h3 := hE.ne'; have h4 := hd.ne'
    field_simp
  · simp

/-- The gradient of the branch's logarithm. -/
def dl : ℝ := (a.T16 r n h i / a.E r n h i + -(a.T1 r n h i * (1 / (a.E r n h i * a.E r n h i)) * a.e1 r n h i
  + a.T4 r n h i * (1 / (a.E r n h i * a.E r n h i)) * a.e4 r n h i
  + a.T16 r n h i * (1 / (a.E r n h i * a.E r n h i)) * a.e16 r n h i)) * a.e16 r n h i

/-- The gradient of the branch's output. -/
def dout : ℝ := a.e16 r n h i / a.E r n h i * a.ct (pos r n i) h d

/-- The gradient of the branch's normaliser. -/
def dden : ℝ := a.dl r n h i / a.den r n h i
  + -(∑ d, a.dout r n h i d * (1 / (a.den r n h i * a.den r n h i)) * a.ou r n h i d)

/-- The gradient of a score, the greatest score held fixed. -/
def g0 : ℝ := ((∑ d, a.dout r n h i d / a.den r n h i * cat a.v r n j h d) + a.dden r n h i) * a.p r n h i j

theorem dden_eq : a.dden r n h i = -(a.e16 r n h i / a.E r n h i / a.den r n h i * a.delta r n h i) := by
  have hE := (a.E_pos r n h i).ne'
  have hd := (a.den_pos r n h i).ne'
  have hT : (∑ d, a.dout r n h i d * (1 / (a.den r n h i * a.den r n h i)) * a.ou r n h i d)
      = a.e16 r n h i / a.E r n h i / a.den r n h i * a.T16 r n h i := by
    unfold T16 dout o; rw [Finset.mul_sum]
    exact Finset.sum_congr rfl fun d _ => by field_simp
  unfold dden; rw [hT, delta_eq]; unfold dl
  field_simp
  ring

theorem g0_eq : a.g0 r n h i j = a.g r n h i j := by
  have hd := (a.den_pos r n h i).ne'
  unfold g0 g; rw [dden_eq, P_eq]
  have hT : (∑ d, a.dout r n h i d / a.den r n h i * cat a.v r n j h d)
      = a.e16 r n h i / a.E r n h i / a.den r n h i * ∑ d, a.ct (pos r n i) h d * cat a.v r n j h d := by
    unfold dout; rw [Finset.mul_sum]
    exact Finset.sum_congr rfl fun d _ => by ring
  rw [hT]; ring

/-- Nothing reaches the greatest score. -/
theorem no_max : a.dl r n h i + ∑ j, -a.g0 r n h i j = 0 := by
  have hd := (a.den_pos r n h i).ne'
  have hE := (a.E_pos r n h i).ne'
  have h1 : (∑ j, a.g0 r n h i j) = (∑ d, a.dout r n h i d / a.den r n h i * a.ou r n h i d) + a.dden r n h i * a.den r n h i := by
    unfold g0
    simp only [add_mul, Finset.sum_add_distrib]
    congr 1
    · unfold ou
      simp only [Finset.sum_mul, Finset.mul_sum]
      rw [Finset.sum_comm]
      exact Finset.sum_congr rfl fun d _ => Finset.sum_congr rfl fun j _ => by ring
    · unfold den; rw [Finset.mul_sum]
  have h2 : (∑ d, a.dout r n h i d / a.den r n h i * a.ou r n h i d) = a.e16 r n h i / a.E r n h i * a.T16 r n h i := by
    unfold T16 dout o; rw [Finset.mul_sum]
    exact Finset.sum_congr rfl fun d _ => by field_simp
  rw [Finset.sum_neg_distrib, h1, h2, dden_eq, delta_eq]; unfold dl
  field_simp
  ring

theorem dout_p : a.dout r n h i d / a.den r n h i * a.p r n h i j = a.P r n h i j * a.ct (pos r n i) h d := by
  rw [P_eq]; unfold dout; ring

theorem dk_eq_sum : a.dkc r n h j d = ∑ i, a.g r n h i j * (1 / 8) * a.q (pos r n i) h d :=
  Finset.sum_congr rfl fun i _ => by ring

theorem dq_eq_sum : a.dq r n h i d = ∑ j, a.g r n h i j * (1 / 8) * cat a.k r n j h d := by
  unfold dq; rw [Finset.sum_mul]; exact Finset.sum_congr rfl fun j _ => by ring

theorem dv_eq_sum : a.dvc r n h j d = ∑ i, a.dout r n h i d / a.den r n h i * a.p r n h i j :=
  Finset.sum_congr rfl fun i _ => (a.dout_p r n h i j d).symm

/-- A key not seen gets no weight. -/
theorem P_of_not (hn : ¬ Sees n i j) : a.P r n h i j = 0 := if_neg hn
theorem g_of_not (hn : ¬ Sees n i j) : a.g r n h i j = 0 := by unfold g; rw [a.P_of_not r n h i j hn, zero_mul]

end Args

/-! ### Real numbers among the extended ones -/

theorem coe_sum {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

theorem div_real (x y : ℝ) (hy : y ≠ 0) : Ideal.div (x : EReal) (y : EReal) = ((x / y : ℝ) : EReal) := by
  rw [Ideal.div_coe hy, ← EReal.coe_mul]; congr 1; ring

theorem log_real (x : ℝ) (hx : 0 < x) : Ideal.log (x : EReal) = (Real.log x : EReal) := by
  rw [Ideal.log_coe, if_neg (not_le.2 hx)]

end Cert.Attn

end
-- ==== Proof.Ref.Fwd.lean ====
/- The reference's forward lines read over real arguments: scores, weights, the widest branch's output and the logarithm
   of its normaliser are the ones `Spec.lean` writes. -/
module

public import proofs.«01_k».proof.Proof.Spec
public import proofs.«01_k».proof.Proof.Gen.ReferenceIdeal.Read
public import Idealize.ShloMosaic.Lib.Tactic
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Read Cert.Attn

/-- An array of 4096 positions, 8 heads and 64 lanes holds real numbers. -/
def Holds (x : (⟨S1x4096x8x64, .f32⟩ : BufTy).Contents (Elt Ideal)) (f : Fin 4096 → Fin 8 → Fin 64 → ℝ) : Prop :=
  ∀ p h d, x (ix4 0 p h d) = (f p h d : EReal)

/-- The same without lanes. -/
def HoldsRows (x : (⟨S1x4096x8, .f32⟩ : BufTy).Contents (Elt Ideal)) (f : Fin 4096 → Fin 8 → ℝ) : Prop :=
  ∀ p h, x (ix3 0 p h) = (f p h : EReal)

/-! ### Constants -/

theorem c_eighth : Ideal.ofBits .f32 0x3E000000#32 = ((1 / 8 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_eight : Ideal.ofBits .f32 0x41000000#32 = ((8 : ℝ) : EReal) := by
  simp [Ideal.ofBits, Ideal.ieee, -EReal.coe_mul]; norm_num
theorem c_minus_eight : Ideal.ofBits .f32 0xC1000000#32 = ((-8 : ℝ) : EReal) := by
  simp [Ideal.ofBits, Ideal.ieee, -EReal.coe_mul]; norm_num
theorem c_bot : Ideal.ofBits .f32 0xFF800000#32 = (⊥ : EReal) := by
  simp [Ideal.ofBits, Ideal.ieee]

/-! ### The mask and the offsets -/

theorem small_toInt (z : ℤ) (hz : -2 ^ 20 < z ∧ z < 2 ^ 20) : (BitVec.ofInt 32 z).toInt = z := by
  rw [BitVec.toInt_ofInt]
  simp only [Int.bmod]
  omega

theorem sub_ofInt (i : Fin 128) (j : Fin 256) :
    IntOp.subi (IntOp.addi (BitVec.ofNat 32 i.val) 128#32) (BitVec.ofNat 32 j.val) = BitVec.ofInt 32 ((i.val : ℤ) + 128 - j.val) := by
  show BitVec.ofNat 32 i.val + 128#32 - BitVec.ofNat 32 j.val = _
  rw [Int.sub_eq_add_neg, BitVec.ofInt_add, BitVec.ofInt_add, BitVec.ofInt_neg, BitVec.sub_eq_add_neg]
  rfl

theorem key_ofInt (n : Fin 2) (j : Fin 256) :
    IntOp.subi (IntOp.addi (IntOp.muli (BitVec.ofNat 32 n.val) 128#32) (BitVec.ofNat 32 j.val)) 128#32
      = BitVec.ofInt 32 ((n.val : ℤ) * 128 + j.val - 128) := by
  show BitVec.ofNat 32 n.val * 128#32 + BitVec.ofNat 32 j.val - 128#32 = _
  rw [Int.sub_eq_add_neg, BitVec.ofInt_add, BitVec.ofInt_add, BitVec.ofInt_mul, BitVec.ofInt_neg, BitVec.sub_eq_add_neg]
  rfl

theorem sge_ofInt (z c : ℤ) (hz : -2 ^ 20 < z ∧ z < 2 ^ 20) (hc : -2 ^ 20 < c ∧ c < 2 ^ 20) :
    IntOp.cmpi CmpIPredicate.sge (BitVec.ofInt 32 z) (BitVec.ofInt 32 c) = BitVec.ofBool (decide (c ≤ z)) := by
  show BitVec.ofBool (decide ((BitVec.ofInt 32 c).toInt ≤ (BitVec.ofInt 32 z).toInt)) = _
  rw [small_toInt z hz, small_toInt c hc]

theorem sle_ofInt (z c : ℤ) (hz : -2 ^ 20 < z ∧ z < 2 ^ 20) (hc : -2 ^ 20 < c ∧ c < 2 ^ 20) :
    IntOp.cmpi CmpIPredicate.sle (BitVec.ofInt 32 z) (BitVec.ofInt 32 c) = BitVec.ofBool (decide (z ≤ c)) := by
  show BitVec.ofBool (decide ((BitVec.ofInt 32 z).toInt ≤ (BitVec.ofInt 32 c).toInt)) = _
  rw [small_toInt z hz, small_toInt c hc]

theorem and_ofBool (x y : Bool) : IntOp.andi (BitVec.ofBool x) (BitVec.ofBool y) = BitVec.ofBool (x && y) := by
  cases x <;> cases y <;> decide

theorem seen_bits (n : Fin 2) (i : Fin 128) (j : Fin 256) :
    IntOp.andi
      (IntOp.andi
        (IntOp.cmpi CmpIPredicate.sge (IntOp.subi (IntOp.addi (BitVec.ofNat 32 i.val) 128#32) (BitVec.ofNat 32 j.val)) 0#32)
        (IntOp.cmpi CmpIPredicate.sle (IntOp.subi (IntOp.addi (BitVec.ofNat 32 i.val) 128#32) (BitVec.ofNat 32 j.val)) 128#32))
      (IntOp.cmpi CmpIPredicate.sge
        (IntOp.subi (IntOp.addi (IntOp.muli (BitVec.ofNat 32 n.val) 128#32) (BitVec.ofNat 32 j.val)) 128#32) 0#32)
      = BitVec.ofBool (decide (Sees n i j)) := by
  have hn := n.isLt; have hi := i.isLt; have hj := j.isLt
  rw [sub_ofInt, key_ofInt, show (0#32 : BitVec 32) = BitVec.ofInt 32 0 from rfl, show (128#32 : BitVec 32) = BitVec.ofInt 32 128 from rfl,
    sge_ofInt _ _ (by omega) (by omega), sle_ofInt _ _ (by omega) (by omega), sge_ofInt _ _ (by omega) (by omega), and_ofBool, and_ofBool,
    ← Bool.decide_and, ← Bool.decide_and]
  refine congrArg BitVec.ofBool (decide_eq_decide.2 ?_)
  unfold Sees
  omega

theorem dist_bits (i : Fin 128) (j : Fin 256) :
    (IntOp.muli (IntOp.subi (IntOp.addi (BitVec.ofNat 32 i.val) 128#32) (BitVec.ofNat 32 j.val)) 16#32).toInt
      = ((i.val : ℤ) + 128 - j.val) * 16 := by
  have hi := i.isLt; have hj := j.isLt
  rw [sub_ofInt]
  show (BitVec.ofInt 32 ((i.val : ℤ) + 128 - j.val) * BitVec.ofInt 32 16).toInt = _
  rw [← BitVec.ofInt_mul, small_toInt _ (by omega)]

theorem head_bits : ∀ h : Fin 8, (BitVec.ofNat 32 h.val).toInt = (h.val : ℤ) := by decide

theorem mask_val (n : Fin 2) (i : Fin 128) (j : Fin 256) :
    val_main_v75 (F := Ideal) (ix5 0 n 0 i j) = BitVec.ofBool (decide (Sees n i j)) := by
  pointwise [val_main_v75, val_main_v65, val_main_v64, val_main_v63, val_main_v62, val_main_v61, val_main_v60, val_main_c_12, val_main_v59, val_main_v58, val_main_c_11, val_main_v57, val_main_v56, val_main_v55, val_main_v54, val_main_v53, val_main_v52, val_main_c_10, val_main_v51, val_main_v50, val_main_v49, val_main_c_9, val_main_v48, val_main_v47, val_main_c_8, val_main_v46, val_main_v45, val_main_v44, val_main_v43, val_main_v42, val_main_v41, val_main_v40, val_main_v39, val_main_v38, val_main_v37, val_main_v36, val_main_c]
  exact seen_bits n i j

theorem bias_val (h : Fin 8) (i : Fin 128) (j : Fin 256) :
    val_main_v74 (F := Ideal) (ix3 h i j) = (bias h i j : EReal) := by
  pointwise [val_main_v74, val_main_v73, val_main_v72, val_main_v71, val_main_v70, val_main_v69, val_main_v68, val_main_c_13, val_main_v67,val_main_v66, val_main_v8, val_main_v7, val_main_cst_2, val_main_v6, val_main_v5, val_main_cst_1, val_main_v4, val_main_v3, val_main_cst_0, val_main_v2, val_main_v1, val_main_cst, val_main_v0, val_main_v44, val_main_v43, val_main_v42, val_main_v41, val_main_v40, val_main_v39, val_main_v38, val_main_v37, val_main_v36, val_main_c]
  rw [c_two, c_eight, c_minus_eight]
  have e1 : (FloatOps.sitofp FTy.f32 (BitVec.ofNat 32 h.val) : Ideal .f32) = ((h.val : ℝ) : EReal) := by
    show (((BitVec.ofNat 32 h.val).toInt : ℝ) : EReal) = _
    rw [head_bits]; push_cast; rfl
  have e2 : (FloatOps.sitofp FTy.f32 (IntOp.muli (IntOp.subi (IntOp.addi (BitVec.ofNat 32 i.val) 128#32) (BitVec.ofNat 32 j.val)) 16#32) : Ideal .f32)
      = (((((i.val : ℤ) + 128 - j.val) * 16 : ℤ) : ℝ) : EReal) := by
    show ((BitVec.toInt _ : ℝ) : EReal) = _
    rw [dist_bits]
  rw [e1, e2]
  have e3 : ((-8 : ℝ) : EReal) * (1 + ((h.val : ℝ) : EReal)) = ((-8 * (1 + h.val) : ℝ) : EReal) := by push_cast; rfl
  rw [e3, div_real _ _ (by norm_num), Ideal.pow_coe_coe, ← EReal.coe_neg, ← EReal.coe_mul]
  congr 1
  unfold bias
  congr 2
  show (2 : ℝ) ^ (-8 * (1 + (h.val : ℝ)) / 8) = _
  rw [show -8 * (1 + (h.val : ℝ)) / 8 = -((h.val + 1 : ℕ) : ℝ) by push_cast; ring, Real.rpow_neg (by norm_num), Real.rpow_natCast]
  rw [one_div, inv_pow]

/-! ### Positions -/

theorem pos_mod (r : Fin 16) (n : Fin 2) (i : Fin 128) (hp) : (⟨(pos r n i).val % 16, hp⟩ : Fin 16) = r :=
  Fin.ext (by unfold pos; have := r.isLt; dsimp only; omega)
theorem pos_div (r : Fin 16) (n : Fin 2) (i : Fin 128) (hp) : (⟨(pos r n i).val / 16 / 128, hp⟩ : Fin 2) = n :=
  Fin.ext (by unfold pos; have := r.isLt; have := i.isLt; dsimp only; omega)
theorem pos_row (r : Fin 16) (n : Fin 2) (i : Fin 128) (hp) : (⟨(pos r n i).val / 16 % 128, hp⟩ : Fin 128) = i :=
  Fin.ext (by unfold pos; have := r.isLt; have := i.isLt; dsimp only; omega)

section Forward

variable {x0 x1 x2 : (⟨S1x4096x8x64, .f32⟩ : BufTy).Contents (Elt Ideal)} (a : Args)
  (h0 : Holds x0 a.q) (h1 : Holds x1 a.k) (h2 : Holds x2 a.v)
  (r : Fin 16) (n : Fin 2) (h : Fin 8) (i : Fin 128) (j : Fin 256) (d : Fin 64)

include h0 in
theorem q_val : val_main_v12 (F := Ideal) x0 (ix5 r n i h d) = (a.q (pos r n i) h d : EReal) := by
  pointwise [val_main_v12, val_main_v11, val_main_v10, val_main_v9]
  exact h0 _ _ _

include h1 in
theorem k_val : val_main_v22 (F := Ideal) x1 (ix5 r n j h d) = (cat a.k r n j h d : EReal) := by
  pointwise [val_main_v22, val_main_v20, val_main_v18, val_main_v19, val_main_cst_3, val_main_v16, val_main_v15, val_main_v14, val_main_v13]
  unfold cat
  split
  · split
    · simp
    · exact h1 _ _ _
  · exact h1 _ _ _

include h2 in
theorem v_val : val_main_v32 (F := Ideal) x2 (ix5 r n j h d) = (cat a.v r n j h d : EReal) := by
  pointwise [val_main_v32, val_main_v30, val_main_v28, val_main_v29, val_main_cst_5, val_main_v26, val_main_v25, val_main_v24, val_main_v23]
  unfold cat
  split
  · split
    · simp
    · exact h2 _ _ _
  · exact h2 _ _ _

include h0 h1 in
theorem s_val : val_main_v79_0 (F := Ideal) x0 x1 (ix5 r n h i j) = a.sE r n h i j := by
  pointwise [val_main_v79_0, val_main_v79_1, val_main_v78, val_main_v77, val_main_v76, val_main_v35, val_main_v34, val_main_v33, val_main_cst_7, val_main_call0_v2, val_main_call0_v0, val_main_cst_14]
  rw [mask_val, bias_val, c_eighth, show (id (constant (F := Ideal) S_ .f32 0xFF800000#32) ix0 : Ideal .f32) = ⊥ from c_bot]
  simp only [q_val a h0, k_val a h1, ← EReal.coe_mul, ← coe_sum, ← EReal.coe_add]
  unfold Args.sE Args.s
  by_cases hs : Sees n i j
  · rw [if_pos hs, decide_eq_true hs]; rfl
  · rw [if_neg hs, decide_eq_false hs]; rfl

include h0 h1 in
theorem M_val : val_main_v80 (F := Ideal) x0 x1 (ix4 r n h i) = (a.M r n h i : EReal) := by
  pointwise [val_main_v80, val_main_cst_15]
  simp only [c_bot, s_val a h0 h1]
  exact (a.M_spec r n h i).1

include h0 h1 in
theorem p_val : val_main_v89 (F := Ideal) x0 x1 (ix5 r n h i j) = (a.p r n h i j : EReal) := by
  pointwise [val_main_v89, val_main_v88, val_main_v87, val_main_v86]
  rw [s_val a h0 h1, M_val a h0 h1]
  unfold Args.sE Args.p
  split
  · rw [← EReal.coe_sub, Ideal.exp_coe]
  · rw [EReal.bot_sub, Ideal.exp_bot, EReal.coe_zero]

include h0 h1 in
theorem den_val : val_main_v90 (F := Ideal) x0 x1 (ix4 r n h i) = (a.den r n h i : EReal) := by
  pointwise [val_main_v90, val_main_cst_17]
  simp only [p_val a h0 h1, ← coe_sum]
  rfl

include h0 h1 h2 in
theorem ou_val : val_main_v91 (F := Ideal) x0 x1 x2 (ix5 r n h d i) = (a.ou r n h i d : EReal) := by
  pointwise [val_main_v91]
  simp only [p_val a h0 h1, v_val a h2, ← EReal.coe_mul, ← coe_sum]
  rfl

include h0 h1 h2 in
theorem o_val : val_main_v107 (F := Ideal) x0 x1 x2 (ix4 0 (pos r n i) h d) = (a.o r n h i d : EReal) := by
  have e : val_main_v107 (F := Ideal) x0 x1 x2 (ix4 0 (pos r n i) h d) = val_main_v96 (F := Ideal) x0 x1 x2 (ix5 r n i h d) := by
    pointwise [val_main_v107, val_main_v106, val_main_v105, val_main_v104]
    rw [pos_mod, pos_div, pos_row]
  rw [e]
  pointwise [val_main_v96, val_main_v95, val_main_v94, val_main_v93, val_main_v92]
  rw [ou_val a h0 h1 h2, den_val a h0 h1, div_real _ _ (a.den_pos r n h i).ne']
  rfl

theorem addf_ideal (x y : Ideal .f32) : FloatOps.addf x y = (x + y : EReal) := rfl
theorem log_ideal (x : Ideal .f32) : FloatOps.hostUnary .log x = Ideal.log x := rfl

theorem v111_at : val_main_v111 (F := Ideal) x0 x1 (ix3 0 (pos r n i) h) = val_main_v103 (F := Ideal) x0 x1 (ix4 r n i h) := by
  pointwise [val_main_v111, val_main_v110, val_main_v109, val_main_v108]
  rw [pos_mod, pos_div, pos_row]

theorem v103_at : val_main_v103 (F := Ideal) x0 x1 (ix4 r n i h) = val_main_v102 (F := Ideal) x0 x1 (ix4 r n h i) := by
  pointwise [val_main_v103]

theorem v100_at : val_main_v100 (F := Ideal) x0 x1 (ix4 r n h i) = val_main_v80 (F := Ideal) x0 x1 (ix4 r n h i) := by
  pointwise [val_main_v100, val_main_v86]

include h0 h1 in
theorem L_val : val_main_v111 (F := Ideal) x0 x1 (ix3 0 (pos r n i) h) = (a.L r n h i : EReal) := by
  rw [v111_at, v103_at, val_main_v102_apply, val_main_v101_apply, addf_ideal, log_ideal, v100_at,
    M_val a h0 h1, den_val a h0 h1, log_real _ (a.den_pos r n h i), ← EReal.coe_add]
  unfold Args.L
  with_reducible rfl

end Forward

end Cert.ReferenceIdeal.Hand

end
-- ==== Proof.Ideal.Tail.lean ====
/- The kernel's arguments read over real arguments: the queries, keys and values side by side, the incoming gradient,
   the logarithm of the mixture's normaliser, and the product of the gradient with the mixture. -/
module

public import proofs.«01_k».proof.Proof.Ideal.Host
public import proofs.«01_k».proof.Proof.Ref.Fwd
public import Idealize.ShloMosaic.Lib.Tactic
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen Cert.Attn
open Cert.ReferenceIdeal.Hand (Holds HoldsRows o_val L_val)

/-! ### Operations of an entry -/

section Entry
variable {s : Shape} (x y : FVec Ideal s .f32) (i : s.Idx)
theorem max_at : maximumf (F := Ideal) (φ := .f32) x y i = max (x i : EReal) (y i) := rfl
theorem sub_at : subf (F := Ideal) (φ := .f32) x y i = (x i - y i : EReal) := rfl
theorem add_at : addf (F := Ideal) (φ := .f32) x y i = (x i + y i : EReal) := rfl
theorem mul_at : mulf (F := Ideal) (φ := .f32) x y i = (x i * y i : EReal) := rfl
theorem div_at : Host.divf (F := Ideal) (φ := .f32) x y i = Ideal.div (x i) (y i) := rfl
theorem exp_at : Host.exp (F := Ideal) (φ := .f32) x i = Ideal.exp (x i) := rfl
theorem log_at : Host.log (F := Ideal) (φ := .f32) x i = Ideal.log (x i) := rfl
theorem narrow_at : (truncf (F := Ideal) (φ := .f32) .bf16 x bitsLt_bf16_f32) i = (x i : EReal) := rfl
end Entry

/-! ### Layout -/

section Layout
variable (x : (⟨S1x4096x8x64, .f32⟩ : BufTy).Contents (Elt Ideal)) (y : (⟨S1x4096x8, .f32⟩ : BufTy).Contents (Elt Ideal))
  (z : (⟨S1x4096x8x1, .f32⟩ : BufTy).Contents (Elt Ideal))
  (p : Fin 4096) (h : Fin 8) (d : Fin 64) (r : Fin 16) (w : Fin 256)

theorem spread_at : broadcastInDim (α := Elt Ideal .f32) S1x4096x8x1 ![0, 1, 2] bcast_S1x4096x8_S1x4096x8x1_0_1_2 y (ix4 0 p h 0) = y (ix3 0 p h) := by
  pointwise

theorem lanes_at : broadcastInDim (α := Elt Ideal .f32) S1x4096x8x64 ![0, 1, 2, 3] bcast_S1x4096x8x1_S1x4096x8x64_0_1_2_3 z (ix4 0 p h d) = z (ix4 0 p h 0) := by
  pointwise

theorem rows_at (k : Fin 512) : transpose (α := Elt Ideal .f32) S16x256x512 [1, 0, 2] (shapeCast S256x16x512 x shapeCasts_S1x4096x8x64_S256x16x512)
      transposes_S256x16x512_S16x256x512_1_0_2 (ix3 r w k)
    = x (ix4 0 (⟨w.val * 16 + r.val, by omega⟩ : Fin 4096) (⟨k.val / 64, by omega⟩ : Fin 8) (⟨k.val % 64, by omega⟩ : Fin 64)) := by
  pointwise

theorem heads_at : transpose (α := Elt Ideal .f32) S16x256x8 [1, 0, 2] (shapeCast S256x16x8 y shapeCasts_S1x4096x8_S256x16x8)
      transposes_S256x16x8_S16x256x8_1_0_2 (ix3 r w h)
    = y (ix3 0 (⟨w.val * 16 + r.val, by omega⟩ : Fin 4096) h) := by
  pointwise

theorem pad_at (u : (⟨S16x256x8, .f32⟩ : BufTy).Contents (Elt Ideal)) (v : (⟨S_, .f32⟩ : BufTy).Contents (Elt Ideal)) :
    pad S16x256x128 ![0, 0, 0] ![0, 0, 120] ![0, 0, 0] u v pads_S16x256x8_S16x256x128_000_000_01200 h_S_ (ix3 r w (⟨h.val, by omega⟩ : Fin 128))
    = u (ix3 r w h) := by
  pointwise

variable (a b e : (⟨S16x256x512, .f32⟩ : BufTy).Contents (Elt Ideal)) (k : Fin 512)

theorem side0_at : concatenate (α := Elt Ideal .f32) S16x256x1536 2 [⟨S16x256x512, a⟩, ⟨S16x256x512, b⟩, ⟨S16x256x512, e⟩]
    concatenates_S16x256x512_S16x256x512_S16x256x512_S16x256x1536_d2 (ix3 r w (⟨k.val, by omega⟩ : Fin 1536)) = a (ix3 r w k) := by
  pointwise

theorem side1_at : concatenate (α := Elt Ideal .f32) S16x256x1536 2 [⟨S16x256x512, a⟩, ⟨S16x256x512, b⟩, ⟨S16x256x512, e⟩]
    concatenates_S16x256x512_S16x256x512_S16x256x512_S16x256x1536_d2 (ix3 r w (⟨512 + k.val, by omega⟩ : Fin 1536)) = b (ix3 r w k) := by
  pointwise

theorem side2_at : concatenate (α := Elt Ideal .f32) S16x256x1536 2 [⟨S16x256x512, a⟩, ⟨S16x256x512, b⟩, ⟨S16x256x512, e⟩]
    concatenates_S16x256x512_S16x256x512_S16x256x512_S16x256x1536_d2 (ix3 r w (⟨1024 + k.val, by omega⟩ : Fin 1536)) = e (ix3 r w k) := by
  pointwise
  rw [dif_neg (by omega), dif_neg (by omega)]
  exact congrArg (fun q : Fin 512 => e (ix3 r w q)) (Fin.ext (by simp only; omega))

theorem lane_sum (v : (⟨S_, .f32⟩ : BufTy).Contents (Elt Ideal)) :
    Host.reduceAdd (F := Ideal) (φ := .f32) x v reducesTo_S1x4096x8x64_S1x4096x8_d3 h_S_ (ix3 0 p h) = (v ix0 : EReal) + ∑ d : Fin 64, (x (ix4 0 p h d) : EReal) := by
  pointwise
  congr 2
  exact funext fun a => Fin.elim0 a

end Layout

/-! ### The lines after the branch's own forward pass -/

section Values

variable (m : (ℓ : Loc nD τ sig) → Buf (Elt Ideal) ℓ) (c : Dev nD)

/-- The kernel is launched on the arguments. -/
structure Given (a : Args) : Prop where
  q : Holds (V m c main_arg0) a.q
  k : Holds (V m c main_arg1) a.k
  v : Holds (V m c main_arg2) a.v
  ct : Holds (V m c main_arg3) a.ct
  o1 : Holds (V m c main_arg4) a.o1
  l1 : HoldsRows (V m c main_arg5) a.l1
  o4 : Holds (V m c main_arg6) a.o4
  l4 : HoldsRows (V m c main_arg7) a.l4

variable {m c} {a : Args} (H : Given m c a) (r : Fin 16) (n : Fin 2) (h : Fin 8) (i : Fin 128) (d : Fin 64)
include H

theorem t_o : (V m c main_v107 : (⟨S1x4096x8x64, .f32⟩ : BufTy).Contents (Elt Ideal)) (ix4 0 (pos r n i) h d) = (a.o r n h i d : EReal) := by
  rw [k_v107 m c rfl rfl rfl]; exact o_val a H.q H.k H.v r n h i d

theorem t_L : (V m c main_v111 : (⟨S1x4096x8, .f32⟩ : BufTy).Contents (Elt Ideal)) (ix3 0 (pos r n i) h) = (a.L r n h i : EReal) := by
  rw [k_v111 m c rfl rfl]; exact L_val a H.q H.k r n h i

theorem t_mm : (V m c main_v113 : (⟨S1x4096x8, .f32⟩ : BufTy).Contents (Elt Ideal)) (ix3 0 (pos r n i) h) = (a.mm r n h i : EReal) := by
  rw [k_v113]; refine (max_at _ _ _).trans ?_
  rw [k_v112]; rw [max_at, H.l1, H.l4, t_L H, ← EReal.coe_strictMono.monotone.map_max, ← EReal.coe_strictMono.monotone.map_max]
  rfl

theorem t_e1 : (V m c main_v115 : (⟨S1x4096x8, .f32⟩ : BufTy).Contents (Elt Ideal)) (ix3 0 (pos r n i) h) = (a.e1 r n h i : EReal) := by
  rw [k_v115]; refine (exp_at _ _).trans ?_
  rw [k_v114]; rw [sub_at, H.l1, t_mm H, ← EReal.coe_sub, Ideal.exp_coe]
  rfl

theorem t_e4 : (V m c main_v117 : (⟨S1x4096x8, .f32⟩ : BufTy).Contents (Elt Ideal)) (ix3 0 (pos r n i) h) = (a.e4 r n h i : EReal) := by
  rw [k_v117]; refine (exp_at _ _).trans ?_
  rw [k_v116]; rw [sub_at, H.l4, t_mm H, ← EReal.coe_sub, Ideal.exp_coe]
  rfl

theorem t_e16 : (V m c main_v119 : (⟨S1x4096x8, .f32⟩ : BufTy).Contents (Elt Ideal)) (ix3 0 (pos r n i) h) = (a.e16 r n h i : EReal) := by
  rw [k_v119]; refine (exp_at _ _).trans ?_
  rw [k_v118]; rw [sub_at, t_L H, t_mm H, ← EReal.coe_sub, Ideal.exp_coe]
  rfl

theorem t_E : (V m c main_v121 : (⟨S1x4096x8, .f32⟩ : BufTy).Contents (Elt Ideal)) (ix3 0 (pos r n i) h) = (a.E r n h i : EReal) := by
  rw [k_v121]; refine (add_at _ _ _).trans ?_
  rw [k_v120]; rw [add_at, t_e1 H, t_e4 H, t_e16 H, ← EReal.coe_add, ← EReal.coe_add]
  rfl

theorem t_lse : (V m c main_v123 : (⟨S1x4096x8, .f32⟩ : BufTy).Contents (Elt Ideal)) (ix3 0 (pos r n i) h) = (a.lse r n h i : EReal) := by
  rw [k_v123]; refine (add_at _ _ _).trans ?_
  rw [k_v122]; rw [log_at, t_mm H, t_E H, log_real _ (a.E_pos r n h i), ← EReal.coe_add]
  rfl

theorem t_m1 : (V m c main_v126 : (⟨S1x4096x8x64, .f32⟩ : BufTy).Contents (Elt Ideal)) (ix4 0 (pos r n i) h d)
    = ((a.e1 r n h i * a.o1 (pos r n i) h d : ℝ) : EReal) := by
  rw [k_v126]; refine (mul_at _ _ _).trans ?_
  rw [k_v125, lanes_at, k_v124, spread_at, t_e1 H, H.o1, ← EReal.coe_mul]

theorem t_m4 : (V m c main_v129 : (⟨S1x4096x8x64, .f32⟩ : BufTy).Contents (Elt Ideal)) (ix4 0 (pos r n i) h d)
    = ((a.e4 r n h i * a.o4 (pos r n i) h d : ℝ) : EReal) := by
  rw [k_v129]; refine (mul_at _ _ _).trans ?_
  rw [k_v128, lanes_at, k_v127, spread_at, t_e4 H, H.o4, ← EReal.coe_mul]

theorem t_m16 : (V m c main_v133 : (⟨S1x4096x8x64, .f32⟩ : BufTy).Contents (Elt Ideal)) (ix4 0 (pos r n i) h d)
    = ((a.e16 r n h i * a.o r n h i d : ℝ) : EReal) := by
  rw [k_v133]; refine (mul_at _ _ _).trans ?_
  rw [k_v132, lanes_at, k_v131, spread_at, t_e16 H, t_o H, ← EReal.coe_mul]

/-- The mixture. -/
theorem t_mix : (V m c main_v137 : (⟨S1x4096x8x64, .f32⟩ : BufTy).Contents (Elt Ideal)) (ix4 0 (pos r n i) h d)
    = (((a.e1 r n h i * a.o1 (pos r n i) h d + a.e4 r n h i * a.o4 (pos r n i) h d + a.e16 r n h i * a.o r n h i d) / a.E r n h i : ℝ) : EReal) := by
  rw [k_v137]; refine (div_at _ _ _).trans ?_
  rw [k_v136, lanes_at, k_v135, spread_at, t_E H, k_v134, add_at, k_v130, add_at, t_m1 H, t_m4 H, t_m16 H, ← EReal.coe_add, ← EReal.coe_add,
    div_real _ _ (a.E_pos r n h i).ne']

theorem t_delta : (V m c main_v139 : (⟨S1x4096x8, .f32⟩ : BufTy).Contents (Elt Ideal)) (ix3 0 (pos r n i) h) = (a.delta r n h i : EReal) := by
  rw [k_v139]; refine (lane_sum _ _ _ _).trans ?_
  rw [k_cst_19, k_v138]
  simp only [mul_at, t_mix H, H.ct (pos r n i) h, ← EReal.coe_mul, ← coe_sum]
  rw [show (Cert.ReferenceIdeal.Read.val_main_cst_3 (F := Ideal) ix0 : EReal) = 0 from by pointwise [Cert.ReferenceIdeal.Read.val_main_cst_3], zero_add]
  rfl

/-! ### The kernel's four arguments -/

/-- Row `w` of residue `r`. -/
theorem row_eq : (⟨(n.val * 128 + i.val) * 16 + r.val, by omega⟩ : Fin 4096) = pos r n i := rfl

theorem in_q (k : Fin 512) : (V m c main_v147 : (⟨S16x256x1536, .bf16⟩ : BufTy).Contents (Elt Ideal))
      (ix3 r (⟨n.val * 128 + i.val, by omega⟩ : Fin 256) (⟨k.val, by omega⟩ : Fin 1536))
    = (a.q (pos r n i) (⟨k.val / 64, by omega⟩ : Fin 8) (⟨k.val % 64, by omega⟩ : Fin 64) : EReal) := by
  rw [k_v147]; refine (narrow_at _ _).trans ?_
  rw [k_v146, side0_at, k_v141, k_v140]
  exact (rows_at _ _ _ _).trans (H.q _ _ _)

theorem in_k (k : Fin 512) : (V m c main_v147 : (⟨S16x256x1536, .bf16⟩ : BufTy).Contents (Elt Ideal))
      (ix3 r (⟨n.val * 128 + i.val, by omega⟩ : Fin 256) (⟨512 + k.val, by omega⟩ : Fin 1536))
    = (a.k (pos r n i) (⟨k.val / 64, by omega⟩ : Fin 8) (⟨k.val % 64, by omega⟩ : Fin 64) : EReal) := by
  rw [k_v147]; refine (narrow_at _ _).trans ?_
  rw [k_v146, side1_at, k_v143, k_v142]
  exact (rows_at _ _ _ _).trans (H.k _ _ _)

theorem in_v (k : Fin 512) : (V m c main_v147 : (⟨S16x256x1536, .bf16⟩ : BufTy).Contents (Elt Ideal))
      (ix3 r (⟨n.val * 128 + i.val, by omega⟩ : Fin 256) (⟨1024 + k.val, by omega⟩ : Fin 1536))
    = (a.v (pos r n i) (⟨k.val / 64, by omega⟩ : Fin 8) (⟨k.val % 64, by omega⟩ : Fin 64) : EReal) := by
  rw [k_v147]; refine (narrow_at _ _).trans ?_
  rw [k_v146, side2_at, k_v145, k_v144]
  exact (rows_at _ _ _ _).trans (H.v _ _ _)

theorem in_ct (k : Fin 512) : (V m c main_v150 : (⟨S16x256x512, .bf16⟩ : BufTy).Contents (Elt Ideal))
      (ix3 r (⟨n.val * 128 + i.val, by omega⟩ : Fin 256) k)
    = (a.ct (pos r n i) (⟨k.val / 64, by omega⟩ : Fin 8) (⟨k.val % 64, by omega⟩ : Fin 64) : EReal) := by
  rw [k_v150]; refine (narrow_at _ _).trans ?_
  rw [k_v149, k_v148]
  exact (rows_at _ _ _ _).trans (H.ct _ _ _)

theorem in_lse : (V m c main_v153 : (⟨S16x256x128, .f32⟩ : BufTy).Contents (Elt Ideal))
      (ix3 r (⟨n.val * 128 + i.val, by omega⟩ : Fin 256) (⟨h.val, by omega⟩ : Fin 128)) = (a.lse r n h i : EReal) := by
  rw [k_v153]; refine (pad_at _ _ _ _ _).trans ?_
  rw [k_v152, k_v151]
  exact (heads_at _ _ _ _).trans (t_lse H r n h i)

theorem in_delta : (V m c main_v156 : (⟨S16x256x128, .f32⟩ : BufTy).Contents (Elt Ideal))
      (ix3 r (⟨n.val * 128 + i.val, by omega⟩ : Fin 256) (⟨h.val, by omega⟩ : Fin 128)) = (a.delta r n h i : EReal) := by
  rw [k_v156]; refine (pad_at _ _ _ _ _).trans ?_
  rw [k_v155, k_v154]
  exact (heads_at _ _ _ _).trans (t_delta H r n h i)

end Values

end Cert.KernelIdeal.Hand
-- ==== Proof.Ideal.Real.lean ====
/- A block read over real arguments: the probabilities, the scores' gradients and the three sums are the ones
   `Spec.lean` writes. -/
module

public import proofs.«01_k».proof.Proof.Ideal.Point
public import proofs.«01_k».proof.Proof.Ideal.Table
public import proofs.«01_k».proof.Proof.Spec

@[expose] public section

set_option maxRecDepth 16384

noncomputable section

namespace Cert.KernelIdeal.Hand

open Idealize.ShloMosaic Idealize.ShloMosaic.TcCoe
open Cert.KernelIdeal.Gen Cert.Attn

/-- The block before, or the first block itself. -/
def pre (n : Fin 2) : Fin 2 := ⟨n.val - 1, by omega⟩

/-- The plane of the table a block reads. -/
def side (n : Fin 2) : Fin 2 := ⟨1 - n.val, by omega⟩

/-- The rows a block reads: those of the block before (or its own, where there is none) and its own. -/
def catu (x : Fin 4096 → Fin 8 → Fin 64 → ℝ) (r : Fin 16) (n : Fin 2) (j : Fin 256) (h : Fin 8) (d : Fin 64) : ℝ :=
  if hj : j.val < 128 then x (pos r (pre n) ⟨j.val, hj⟩) h d else x (pos r n ⟨j.val - 128, by omega⟩) h d

theorem catu_eq (x : Fin 4096 → Fin 8 → Fin 64 → ℝ) (r : Fin 16) (n : Fin 2) (i : Fin 128) (j : Fin 256) (h : Fin 8) (d : Fin 64)
    (hs : Sees n i j) : catu x r n j h d = cat x r n j h d := by
  unfold catu cat
  split
  · rename_i hj
    rw [if_neg (by have := hs.2; omega)]
    rfl
  · rfl

/-- What a block holds. -/
structure Reads (X : Blk) (a : Args) (r : Fin 16) (n : Fin 2) : Prop where
  q : ∀ i h d, X.q i (hcol h d) = (a.q (pos r n i) h d : EReal)
  kc : ∀ i h d, X.kc i (hcol h d) = (a.k (pos r n i) h d : EReal)
  kp : ∀ i h d, X.kp i (hcol h d) = (a.k (pos r (pre n) i) h d : EReal)
  vc : ∀ i h d, X.vc i (hcol h d) = (a.v (pos r n i) h d : EReal)
  vp : ∀ i h d, X.vp i (hcol h d) = (a.v (pos r (pre n) i) h d : EReal)
  ct : ∀ i h d, X.ct i (hcol h d) = (a.ct (pos r n i) h d : EReal)
  lse : ∀ i h, X.lse i h = (a.lse r n h i : EReal)
  dl : ∀ i h, X.dl i h = (a.delta r n h i : EReal)
  B : ∀ h i j, X.B h i j = tab (side n) h i j

theorem c8b_val : Blk.c8b = ((1 / 8 : ℝ) : EReal) := by
  simp [Blk.c8b, Ideal.ofBits, Ideal.ieee, -EReal.coe_mul]; norm_num
theorem c8f_val : Blk.c8f = ((1 / 8 : ℝ) : EReal) := by
  simp [Blk.c8f, Ideal.ofBits, Ideal.ieee, -EReal.coe_mul]; norm_num

/-- A head's slope is its power of a half, times the dilation. -/
theorem slope_val (h : Fin 8) : Ideal.ofBits .f32 (slopeBits h) = ((-((1 / 2 : ℝ) ^ (h.val + 1)) * 16 : ℝ) : EReal) := by
  fin_cases h <;> simp [slopeBits, Ideal.ofBits, Ideal.ieee, -EReal.coe_mul] <;> norm_num

/-- The table holds the offset of a key seen, and minus infinity elsewhere. -/
theorem tab_val (n : Fin 2) (h : Fin 8) (i : Fin 128) (j : Fin 256) :
    tab (side n) h i j = if Sees n i j then (bias h i j : EReal) else ⊥ := by
  unfold tab
  by_cases h1 : side n = 1 ∧ j.val < 128
  · rw [if_pos h1, if_neg]
    rintro ⟨-, h2⟩
    have := congrArg Fin.val h1.1
    simp only [side] at this
    have e : ((1 : Fin 2) : ℕ) = 1 := rfl
    omega
  · rw [if_neg h1]
    have h2 : n.val = 1 ∨ 128 ≤ j.val := by
      by_contra hc
      refine h1 ⟨Fin.ext ?_, by omega⟩
      have e : ((1 : Fin 2) : ℕ) = 1 := rfl
      simp only [side]; omega
    unfold edge
    by_cases h3 : j.val ≤ i.val + 128 ∧ i.val ≤ j.val
    · rw [if_pos h3, if_pos ⟨h3, h2⟩, slope_val, ← EReal.coe_mul]
      congr 1
      unfold bias
      push_cast
      ring
    · rw [if_neg h3, if_neg fun hc => h3 hc.1]

section
variable {X : Blk} {a : Args} {r : Fin 16} {n : Fin 2} (R : Reads X a r n) (h : Fin 8) (i : Fin 128) (j : Fin 256) (d : Fin 64)
include R

theorem keys_val : two X.kp X.kc j (hcol h d) = (catu a.k r n j h d : EReal) := by
  unfold two catu
  split
  · exact R.kp _ _ _
  · exact R.kc _ _ _

theorem vals_val : two X.vp X.vc j (hcol h d) = (catu a.v r n j h d : EReal) := by
  unfold two catu
  split
  · exact R.vp _ _ _
  · exact R.vc _ _ _

/-- The scores before the offset. -/
theorem dots_val : (∑ d : Fin 64, X.q i (hcol h d) * Blk.c8b * two X.kp X.kc j (hcol h d))
    = (((∑ d, a.q (pos r n i) h d * catu a.k r n j h d) * (1 / 8) : ℝ) : EReal) := by
  rw [Finset.sum_mul, coe_sum]
  refine Finset.sum_congr rfl fun d _ => ?_
  rw [R.q, keys_val R, c8b_val, ← EReal.coe_mul, ← EReal.coe_mul]
  congr 1; ring

theorem bp_val : X.p i j h = (a.P r n h i j : EReal) := by
  unfold Blk.p Blk.s Args.P
  rw [dots_val R, R.B, R.lse, tab_val]
  split
  · rename_i hs
    rw [← EReal.coe_add, ← EReal.coe_sub, Ideal.exp_coe]
    unfold Args.s
    simp only [catu_eq a.k r n i j h _ hs]
  · rw [EReal.add_bot, EReal.bot_sub, Ideal.exp_bot, EReal.coe_zero]

theorem bds_val : X.ds i j h = (a.g r n h i j : EReal) := by
  unfold Blk.ds
  rw [bp_val R, R.dl]
  simp only [R.ct, vals_val R, ← EReal.coe_mul, ← coe_sum, ← EReal.coe_sub]
  congr 1
  by_cases hs : Sees n i j
  · unfold Args.g
    simp only [catu_eq a.v r n i j h _ hs]
  · rw [a.P_of_not r n h i j hs, a.g_of_not r n h i j hs, zero_mul]

theorem headOf_hcol (h : Fin 8) (d : Fin 64) : headOf (hcol h d) = h := Fin.ext (by simp only [headOf, hcol]; omega)

theorem bdq_val : X.dq i (hcol h d) = (a.dq r n h i d : EReal) := by
  unfold Blk.dq
  rw [headOf_hcol R, c8f_val]
  simp only [bds_val R, keys_val R, ← EReal.coe_mul, ← coe_sum]
  congr 1
  unfold Args.dq
  congr 1
  refine Finset.sum_congr rfl fun j _ => ?_
  by_cases hs : Sees n i j
  · rw [catu_eq a.k r n i j h d hs]
  · rw [a.g_of_not r n h i j hs, zero_mul, zero_mul]

theorem bdk_val : X.dk j (hcol h d) = (a.dkc r n h j d : EReal) := by
  unfold Blk.dk
  rw [headOf_hcol R]
  simp only [bds_val R, R.q, c8b_val, ← EReal.coe_mul, ← coe_sum]
  rfl

theorem bdv_val : X.dv j (hcol h d) = (a.dvc r n h j d : EReal) := by
  unfold Blk.dv
  rw [headOf_hcol R]
  simp only [bp_val R, R.ct, ← EReal.coe_mul, ← coe_sum]
  rfl

end

/-- The first block's keys before it get nothing: they are not seen. -/
theorem dkc_first (a : Args) (r : Fin 16) (h : Fin 8) (j : Fin 256) (hj : j.val < 128) (d : Fin 64) : a.dkc r 0 h j d = 0 := by
  unfold Args.dkc
  refine Finset.sum_eq_zero fun i _ => ?_
  rw [a.g_of_not r 0 h i j (by rintro ⟨-, h2⟩; rcases h2 with h2 | h2; · exact absurd h2 (by decide)
                               · omega), zero_mul]

theorem dvc_first (a : Args) (r : Fin 16) (h : Fin 8) (j : Fin 256) (hj : j.val < 128) (d : Fin 64) : a.dvc r 0 h j d = 0 := by
  unfold Args.dvc
  refine Finset.sum_eq_zero fun i _ => ?_
  rw [a.P_of_not r 0 h i j (by rintro ⟨-, h2⟩; rcases h2 with h2 | h2; · exact absurd h2 (by decide)
                               · omega), zero_mul]

end Cert.KernelIdeal.Hand

end
-- ==== Proof.Ideal.Value.lean ====
/- What each point of the grid reads: its blocks of the kernel's arguments, over real arguments. -/
module

public import proofs.«01_k».proof.Proof.Ideal.Launch
public import proofs.«01_k».proof.Proof.Ideal.Tail
public import proofs.«01_k».proof.Proof.Ideal.Real

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal.Gen Cert.Attn

variable {m : (ℓ : Loc nD τ sig) → Buf (Elt Ideal) ℓ} {c : Dev nD}

/-- Where every point's blocks lie. -/
theorem idx_in : ∀ t : Fin cfg0.N, win0_0.index t = ![min t.val 31 / 2, min t.val 31 % 2, 0]
    ∧ win0_1.index t = ![min t.val 31 / 2, min t.val 31 % 2, 1]
    ∧ win0_2.index t = ![min t.val 31 / 2, min t.val 31 % 2 - 1, 1]
    ∧ win0_3.index t = ![min t.val 31 / 2, min t.val 31 % 2, 2]
    ∧ win0_4.index t = ![min t.val 31 / 2, min t.val 31 % 2 - 1, 2]
    ∧ win0_5.index t = ![min t.val 31 / 2, min t.val 31 % 2, 0]
    ∧ win0_6.index t = ![min t.val 31 / 2, min t.val 31 % 2, 0]
    ∧ win0_7.index t = ![min t.val 31 / 2, min t.val 31 % 2, 0] := (by decide +kernel : ∀ t : Fin grid0.N, _)

theorem idx_out : ∀ t : Fin cfg0.N, win0_8.index t = ![min t.val 31 / 2, min t.val 31 % 2, 0]
    ∧ win0_9.index t = ![(t.val - 1) / 2, (t.val - 1) % 2, 0]
    ∧ win0_10.index t = ![(t.val - 1) / 2, (t.val - 1) % 2, 0] := (by decide +kernel : ∀ t : Fin grid0.N, _)

theorem coord_val : ∀ t : Fin cfg0.N, (grid0.coords t 0).val = t.val := (by decide +kernel : ∀ t : Fin grid0.N, _)

/-- The point of a block. -/
theorem pt_val (k : ℕ) (hk : k < 32) : (pt k).val = k := by simp only [pt]; omega

/-- A block made of arrays reads what the arrays hold. -/
theorem reads_of (x0 x1 x2 x3 x4 x5 : Vec Ideal S1x128x512 .bf16) (x6 x7 : Vec Ideal S1x128x128 .f32)
    (B : Fin 8 → Fin 128 → Fin 256 → EReal) (a : Args) (r : Fin 16) (n : Fin 2)
    (h0 : ∀ i h d, x0 (ix3 0 i (hcol h d)) = (a.q (pos r n i) h d : EReal))
    (h1 : ∀ i h d, x1 (ix3 0 i (hcol h d)) = (a.k (pos r n i) h d : EReal))
    (h2 : ∀ i h d, x2 (ix3 0 i (hcol h d)) = (a.k (pos r (pre n) i) h d : EReal))
    (h3 : ∀ i h d, x3 (ix3 0 i (hcol h d)) = (a.v (pos r n i) h d : EReal))
    (h4 : ∀ i h d, x4 (ix3 0 i (hcol h d)) = (a.v (pos r (pre n) i) h d : EReal))
    (h5 : ∀ i h d, x5 (ix3 0 i (hcol h d)) = (a.ct (pos r n i) h d : EReal))
    (h6 : ∀ (i : Fin 128) (h : Fin 8), x6 (ix3 0 i (⟨h.val, by omega⟩ : Fin 128)) = (a.lse r n h i : EReal))
    (h7 : ∀ (i : Fin 128) (h : Fin 8), x7 (ix3 0 i (⟨h.val, by omega⟩ : Fin 128)) = (a.delta r n h i : EReal))
    (h8 : ∀ h i j, B h i j = tab (side n) h i j) : Reads (blkOf x0 x1 x2 x3 x4 x5 x6 x7 B) a r n :=
  ⟨h0, h1, h2, h3, h4, h5, h6, h7, h8⟩

theorem col_div (h : Fin 8) (d : Fin 64) : (⟨(hcol h d).val / 64, by omega⟩ : Fin 8) = h := Fin.ext (by simp only [hcol]; omega)
theorem col_mod (h : Fin 8) (d : Fin 64) : (⟨(hcol h d).val % 64, by omega⟩ : Fin 64) = d := Fin.ext (by simp only [hcol]; omega)

section
variable (r : Fin 16) (n : Fin 2) (t : Fin cfg0.N) (ht : t.val = 2 * r.val + n.val) (i : Fin 128)
include ht

theorem r_q (k : Fin 512) : (iblk m c 0 t : Vec Ideal S1x128x512 .bf16) (ix3 0 i k)
    = (V m c main_v147 : (⟨S16x256x1536, .bf16⟩ : BufTy).Contents (Elt Ideal)) (ix3 r (⟨n.val * 128 + i.val, by omega⟩ : Fin 256) (⟨k.val, by omega⟩ : Fin 1536)) := by
  have h1 : min t.val 31 / 2 = r.val := by omega
  have h2 : min t.val 31 % 2 = n.val := by omega
  blk_ext [iblk, idx_in t, h1, h2]

theorem r_kc (k : Fin 512) : (iblk m c 1 t : Vec Ideal S1x128x512 .bf16) (ix3 0 i k)
    = (V m c main_v147 : (⟨S16x256x1536, .bf16⟩ : BufTy).Contents (Elt Ideal)) (ix3 r (⟨n.val * 128 + i.val, by omega⟩ : Fin 256) (⟨512 + k.val, by omega⟩ : Fin 1536)) := by
  have h1 : min t.val 31 / 2 = r.val := by omega
  have h2 : min t.val 31 % 2 = n.val := by omega
  blk_ext [iblk, idx_in t, h1, h2]

theorem r_kp (k : Fin 512) : (iblk m c 2 t : Vec Ideal S1x128x512 .bf16) (ix3 0 i k)
    = (V m c main_v147 : (⟨S16x256x1536, .bf16⟩ : BufTy).Contents (Elt Ideal)) (ix3 r (⟨(n.val - 1) * 128 + i.val, by omega⟩ : Fin 256) (⟨512 + k.val, by omega⟩ : Fin 1536)) := by
  have h1 : min t.val 31 / 2 = r.val := by omega
  have h2 : min t.val 31 % 2 = n.val := by omega
  blk_ext [iblk, idx_in t, h1, h2]

theorem r_vc (k : Fin 512) : (iblk m c 3 t : Vec Ideal S1x128x512 .bf16) (ix3 0 i k)
    = (V m c main_v147 : (⟨S16x256x1536, .bf16⟩ : BufTy).Contents (Elt Ideal)) (ix3 r (⟨n.val * 128 + i.val, by omega⟩ : Fin 256) (⟨1024 + k.val, by omega⟩ : Fin 1536)) := by
  have h1 : min t.val 31 / 2 = r.val := by omega
  have h2 : min t.val 31 % 2 = n.val := by omega
  blk_ext [iblk, idx_in t, h1, h2]

theorem r_vp (k : Fin 512) : (iblk m c 4 t : Vec Ideal S1x128x512 .bf16) (ix3 0 i k)
    = (V m c main_v147 : (⟨S16x256x1536, .bf16⟩ : BufTy).Contents (Elt Ideal)) (ix3 r (⟨(n.val - 1) * 128 + i.val, by omega⟩ : Fin 256) (⟨1024 + k.val, by omega⟩ : Fin 1536)) := by
  have h1 : min t.val 31 / 2 = r.val := by omega
  have h2 : min t.val 31 % 2 = n.val := by omega
  blk_ext [iblk, idx_in t, h1, h2]

theorem r_ct (k : Fin 512) : (iblk m c 5 t : Vec Ideal S1x128x512 .bf16) (ix3 0 i k)
    = (V m c main_v150 : (⟨S16x256x512, .bf16⟩ : BufTy).Contents (Elt Ideal)) (ix3 r (⟨n.val * 128 + i.val, by omega⟩ : Fin 256) k) := by
  have h1 : min t.val 31 / 2 = r.val := by omega
  have h2 : min t.val 31 % 2 = n.val := by omega
  blk_ext [iblk, idx_in t, h1, h2]

theorem r_lse (k : Fin 128) : (iblk m c 6 t : Vec Ideal S1x128x128 .f32) (ix3 0 i k)
    = (V m c main_v153 : (⟨S16x256x128, .f32⟩ : BufTy).Contents (Elt Ideal)) (ix3 r (⟨n.val * 128 + i.val, by omega⟩ : Fin 256) k) := by
  have h1 : min t.val 31 / 2 = r.val := by omega
  have h2 : min t.val 31 % 2 = n.val := by omega
  blk_ext [iblk, idx_in t, h1, h2]

theorem r_dl (k : Fin 128) : (iblk m c 7 t : Vec Ideal S1x128x128 .f32) (ix3 0 i k)
    = (V m c main_v156 : (⟨S16x256x128, .f32⟩ : BufTy).Contents (Elt Ideal)) (ix3 r (⟨n.val * 128 + i.val, by omega⟩ : Fin 256) k) := by
  have h1 : min t.val 31 / 2 = r.val := by omega
  have h2 : min t.val 31 % 2 = n.val := by omega
  blk_ext [iblk, idx_in t, h1, h2]

variable {a : Args} (H : Given m c a)

include H

theorem g_q (h : Fin 8) (d : Fin 64) : (iblk m c 0 t : Vec Ideal S1x128x512 .bf16) (ix3 0 i (hcol h d)) = (a.q (pos r n i) h d : EReal) :=
  (r_q r n t ht i (hcol h d)).trans ((in_q H r n i (hcol h d)).trans (congrArg₂ (fun u w => (a.q (pos r n i) u w : EReal)) (col_div h d) (col_mod h d)))

theorem g_kc (h : Fin 8) (d : Fin 64) : (iblk m c 1 t : Vec Ideal S1x128x512 .bf16) (ix3 0 i (hcol h d)) = (a.k (pos r n i) h d : EReal) :=
  (r_kc r n t ht i (hcol h d)).trans ((in_k H r n i (hcol h d)).trans (congrArg₂ (fun u w => (a.k (pos r n i) u w : EReal)) (col_div h d) (col_mod h d)))

theorem g_kp (h : Fin 8) (d : Fin 64) : (iblk m c 2 t : Vec Ideal S1x128x512 .bf16) (ix3 0 i (hcol h d)) = (a.k (pos r (pre n) i) h d : EReal) :=
  (r_kp r n t ht i (hcol h d)).trans ((in_k H r (pre n) i (hcol h d)).trans (congrArg₂ (fun u w => (a.k (pos r (pre n) i) u w : EReal)) (col_div h d) (col_mod h d)))

theorem g_vc (h : Fin 8) (d : Fin 64) : (iblk m c 3 t : Vec Ideal S1x128x512 .bf16) (ix3 0 i (hcol h d)) = (a.v (pos r n i) h d : EReal) :=
  (r_vc r n t ht i (hcol h d)).trans ((in_v H r n i (hcol h d)).trans (congrArg₂ (fun u w => (a.v (pos r n i) u w : EReal)) (col_div h d) (col_mod h d)))

theorem g_vp (h : Fin 8) (d : Fin 64) : (iblk m c 4 t : Vec Ideal S1x128x512 .bf16) (ix3 0 i (hcol h d)) = (a.v (pos r (pre n) i) h d : EReal) :=
  (r_vp r n t ht i (hcol h d)).trans ((in_v H r (pre n) i (hcol h d)).trans (congrArg₂ (fun u w => (a.v (pos r (pre n) i) u w : EReal)) (col_div h d) (col_mod h d)))

theorem g_ct (h : Fin 8) (d : Fin 64) : (iblk m c 5 t : Vec Ideal S1x128x512 .bf16) (ix3 0 i (hcol h d)) = (a.ct (pos r n i) h d : EReal) :=
  (r_ct r n t ht i (hcol h d)).trans ((in_ct H r n i (hcol h d)).trans (congrArg₂ (fun u w => (a.ct (pos r n i) u w : EReal)) (col_div h d) (col_mod h d)))

theorem g_lse (h : Fin 8) : (iblk m c 6 t : Vec Ideal S1x128x128 .f32) (ix3 0 i (⟨h.val, by omega⟩ : Fin 128)) = (a.lse r n h i : EReal) :=
  (r_lse r n t ht i _).trans (in_lse H r n h i)

theorem g_dl (h : Fin 8) : (iblk m c 7 t : Vec Ideal S1x128x128 .f32) (ix3 0 i (⟨h.val, by omega⟩ : Fin 128)) = (a.delta r n h i : EReal) :=
  (r_dl r n t ht i _).trans (in_delta H r n h i)

omit H in
theorem g_B (h : Fin 8) (j : Fin 256) : tab (plane (grid0.coords t)) h i j = tab (side n) h i j :=
  congrArg (fun p => tab p h i j) (Fin.ext (by simp only [plane, side, coord_val t]; omega))

/-- What the point of a block reads. -/
theorem reads : Reads (blk m c t) a r n :=
  reads_of _ _ _ _ _ _ _ _ _ a r n (fun i h d => g_q r n t ht i H h d) (fun i h d => g_kc r n t ht i H h d)
    (fun i h d => g_kp r n t ht i H h d) (fun i h d => g_vc r n t ht i H h d) (fun i h d => g_vp r n t ht i H h d)
    (fun i h d => g_ct r n t ht i H h d) (fun i h => g_lse r n t ht i H h) (fun i h => g_dl r n t ht i H h)
    (fun h i j => g_B r n t ht i h j)

end

end Cert.KernelIdeal.Hand

end
-- ==== Proof.Ideal.Out.lean ====
/- What the three result arrays hold after the run: the gradients of the queries, the keys and the values. -/
module

public import proofs.«01_k».proof.Proof.Ideal.Value

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal.Gen Cert.Attn

variable {m : (ℓ : Loc nD τ sig) → Buf (Elt Ideal) ℓ} {c : Dev nD}

/-! ### The result arrays -/

/-- Of a row of 256 its block and its place there; of a column of 512 its head and its lane. -/
def rb (i : Fin 256) : Fin 2 := ⟨i.val / 128, by omega⟩
def ri (i : Fin 256) : Fin 128 := ⟨i.val % 128, by omega⟩
def ch (k : Fin 512) : Fin 8 := ⟨k.val / 64, by omega⟩
def cd (k : Fin 512) : Fin 64 := ⟨k.val % 64, by omega⟩

/-- An array of the sixteen residues' rows holding `f` of residue, block, head, row and lane. -/
def laid (f : Fin 16 → Fin 2 → Fin 8 → Fin 128 → Fin 64 → ℝ) : Vec Ideal S16x256x512 .bf16 :=
  fun y => (f (y 0) (rb (y 1)) (ch (y 2)) (ri (y 1)) (cd (y 2)) : EReal)

theorem laid_of (f : Fin 16 → Fin 2 → Fin 8 → Fin 128 → Fin 64 → ℝ) (r r' : Fin 16) (n : Fin 2) (h : Fin 8) (i : Fin 128) (d : Fin 64)
    (y1 : Fin 256) (y2 : Fin 512) (e0 : r'.val = r.val) (e1 : y1.val = n.val * 128 + i.val) (e2 : y2.val = 64 * h.val + d.val) :
    (f r' (rb y1) (ch y2) (ri y1) (cd y2) : EReal) = (f r n h i d : EReal) := by
  have g0 : r' = r := Fin.ext e0
  have g1 : rb y1 = n := Fin.ext (by simp only [rb]; omega)
  have g2 : ch y2 = h := Fin.ext (by simp only [ch]; omega)
  have g3 : ri y1 = i := Fin.ext (by simp only [ri]; omega)
  have g4 : cd y2 = d := Fin.ext (by simp only [cd]; omega)
  rw [g0, g1, g2, g3, g4]

theorem laid_at (f : Fin 16 → Fin 2 → Fin 8 → Fin 128 → Fin 64 → ℝ) (r : Fin 16) (n : Fin 2) (h : Fin 8) (i : Fin 128) (d : Fin 64)
    (y : S16x256x512.Idx) (e0 : (y 0).val = r.val) (e1 : (y 1).val = n.val * 128 + i.val) (e2 : (y 2).val = 64 * h.val + d.val) :
    laid f y = (f r n h i d : EReal) :=
  laid_of f r (y 0) n h i d (y 1) (y 2) e0 e1 e2

theorem col_of (k : Fin 512) : hcol (ch k) (cd k) = k := Fin.ext (by simp only [hcol, ch, cd]; omega)

variable {a : Args} (H : Given m c a)
include H

/-- The gradient of the queries, at the point of a block. -/
theorem blk_dq (r : Fin 16) (n : Fin 2) (t : Fin cfg0.N) (hk : t.val = 2 * r.val + n.val) (i : Fin 128) (j : Fin 512) :
    (blk m c t).dq i j = (a.dq r n (ch j) i (cd j) : EReal) :=
  (congrArg ((blk m c t).dq i) (col_of j).symm).trans (bdq_val (reads r n t hk H) (ch j) i (cd j))

theorem blk_dk (r : Fin 16) (n : Fin 2) (t : Fin cfg0.N) (hk : t.val = 2 * r.val + n.val) (i : Fin 256) (j : Fin 512) :
    (blk m c t).dk i j = (a.dkc r n (ch j) i (cd j) : EReal) :=
  (congrArg ((blk m c t).dk i) (col_of j).symm).trans (bdk_val (reads r n t hk H) (ch j) i (cd j))

/-- What the block after it adds to a block's keys: its share, or nothing where a new residue begins. -/
theorem late_k (r : Fin 16) (n : Fin 2) (b : ℕ) (hb : b = 2 * r.val + n.val) (hl : b + 1 < 32) (i : Fin 128) (i' : Fin 256) (hi : i'.val = i.val) (j : Fin 512) :
    (blk m c (pt (b + 1))).dk i' j = ((if n.val < 1 then a.dkc r 1 (ch j) ⟨i.val, by omega⟩ (cd j) else 0 : ℝ) : EReal) := by
  have e : i' = ⟨i.val, by omega⟩ := Fin.ext hi
  by_cases hn : n.val < 1
  · rw [if_pos hn, blk_dk H r 1 (pt (b + 1)) (by rw [pt_val _ hl]; show _ = 2 * r.val + 1; omega)]; exact congrArg (fun u => (a.dkc r 1 (ch j) u (cd j) : EReal)) e
  · rw [if_neg hn, blk_dk H ⟨r.val + 1, by omega⟩ 0 (pt (b + 1)) (by rw [pt_val _ hl]; show _ = 2 * (r.val + 1) + 0; omega), dkc_first]
    omega

/-- What the array of keys gets from the point after a block's own. -/
theorem dkAt_val (r : Fin 16) (n : Fin 2) (b : ℕ) (hb : b = 2 * r.val + n.val) (y : S1x128x512.Idx) (i : Fin 128) (j : Fin 512)
    (h1 : (y 1).val = i.val) (h2 : (y 2).val = j.val) :
    dkAt m c (b + 1) y = (a.dk r n (ch j) i (cd j) : EReal) := by
  have hb32 : b < 32 := by omega
  have e2 : (y 2 : Fin 512) = j := Fin.ext h2
  have own : ckAt m c b (ix2 (y 1) (y 2)) = (a.dkc r n (ch j) ⟨128 + i.val, by omega⟩ (cd j) : EReal) := by
    refine (blk_dk H r n (pt b) (by rw [pt_val _ hb32]; exact hb) _ (y 2)).trans ?_
    rw [e2]
    exact congrArg (fun u => (a.dkc r n (ch j) u (cd j) : EReal)) (Fin.ext (congrArg (128 + ·) h1))
  by_cases hl : b + 1 < 32
  · rw [dkAt_lt m c b hl]
    refine (congrArg₂ (fun u w : EReal => u + w) own (late_k H r n b hb hl i _ h1 (y 2))).trans ?_
    rw [e2]
    exact (EReal.coe_add _ _).symm
  · rw [dkAt_ge m c b hl]
    refine own.trans ?_
    unfold Args.dk
    rw [if_neg (by omega), add_zero]

theorem blk_dv (r : Fin 16) (n : Fin 2) (t : Fin cfg0.N) (hk : t.val = 2 * r.val + n.val) (i : Fin 256) (j : Fin 512) :
    (blk m c t).dv i j = (a.dvc r n (ch j) i (cd j) : EReal) :=
  (congrArg ((blk m c t).dv i) (col_of j).symm).trans (bdv_val (reads r n t hk H) (ch j) i (cd j))

/-- What the block after it adds to a block's values: its share, or nothing where a new residue begins. -/
theorem late_v (r : Fin 16) (n : Fin 2) (b : ℕ) (hb : b = 2 * r.val + n.val) (hl : b + 1 < 32) (i : Fin 128) (i' : Fin 256) (hi : i'.val = i.val) (j : Fin 512) :
    (blk m c (pt (b + 1))).dv i' j = ((if n.val < 1 then a.dvc r 1 (ch j) ⟨i.val, by omega⟩ (cd j) else 0 : ℝ) : EReal) := by
  have e : i' = ⟨i.val, by omega⟩ := Fin.ext hi
  by_cases hn : n.val < 1
  · rw [if_pos hn, blk_dv H r 1 (pt (b + 1)) (by rw [pt_val _ hl]; show _ = 2 * r.val + 1; omega)]; exact congrArg (fun u => (a.dvc r 1 (ch j) u (cd j) : EReal)) e
  · rw [if_neg hn, blk_dv H ⟨r.val + 1, by omega⟩ 0 (pt (b + 1)) (by rw [pt_val _ hl]; show _ = 2 * (r.val + 1) + 0; omega), dvc_first]
    omega

/-- What the array of values gets from the point after a block's own. -/
theorem dvAt_val (r : Fin 16) (n : Fin 2) (b : ℕ) (hb : b = 2 * r.val + n.val) (y : S1x128x512.Idx) (i : Fin 128) (j : Fin 512)
    (h1 : (y 1).val = i.val) (h2 : (y 2).val = j.val) :
    dvAt m c (b + 1) y = (a.dv r n (ch j) i (cd j) : EReal) := by
  have hb32 : b < 32 := by omega
  have e2 : (y 2 : Fin 512) = j := Fin.ext h2
  have own : cvAt m c b (ix2 (y 1) (y 2)) = (a.dvc r n (ch j) ⟨128 + i.val, by omega⟩ (cd j) : EReal) := by
    refine (blk_dv H r n (pt b) (by rw [pt_val _ hb32]; exact hb) _ (y 2)).trans ?_
    rw [e2]
    exact congrArg (fun u => (a.dvc r n (ch j) u (cd j) : EReal)) (Fin.ext (congrArg (128 + ·) h1))
  by_cases hl : b + 1 < 32
  · rw [dvAt_lt m c b hl]
    refine (congrArg₂ (fun u w : EReal => u + w) own (late_v H r n b hb hl i _ h1 (y 2))).trans ?_
    rw [e2]
    exact (EReal.coe_add _ _).symm
  · rw [dvAt_ge m c b hl]
    refine own.trans ?_
    unfold Args.dv
    rw [if_neg (by omega), add_zero]

theorem final_q : (dats m 0 c).arrAt 8 (cfgs 0).N = laid fun r n h i d => a.dq r n h i d := by
  refine (dats m 0 c).arrAt_eq_of_covers 8 _ (by decide +kernel) fun t hf y => ?_
  blk_simp
  rw [after_8]
  have ht : t.val < 33 := t.isLt
  have hk : (pt t.val).val = 2 * (⟨min t.val 31 / 2, by omega⟩ : Fin 16).val + (⟨min t.val 31 % 2, by omega⟩ : Fin 2).val := by
    simp only [pt]; omega
  refine Eq.trans (blk_dq H _ _ (pt t.val) hk (y 1) (y 2)) (laid_at _ (⟨min t.val 31 / 2, by omega⟩ : Fin 16) (⟨min t.val 31 % 2, by omega⟩ : Fin 2)
    (ch (y 2)) (y 1) (cd (y 2)) _ ?_ ?_ ?_).symm
  · blk_simp [idx_out t]
  · blk_simp [idx_out t]
  · blk_simp [idx_out t]
    exact (congrArg Fin.val (col_of (y 2))).symm

omit H in
/-- The keys' and values' blocks are written back after the first point alone. -/
theorem late_9 : ∀ t : Fin cfg0.N, (cfg0.win 9).flush t = true → 1 ≤ t.val := (by decide +kernel : ∀ t : Fin grid0.N, _)
omit H in
theorem late_10 : ∀ t : Fin cfg0.N, (cfg0.win 10).flush t = true → 1 ≤ t.val := (by decide +kernel : ∀ t : Fin grid0.N, _)

theorem final_k : (dats m 0 c).arrAt 9 (cfgs 0).N = laid fun r n h i d => a.dk r n h i d := by
  refine (dats m 0 c).arrAt_eq_of_covers 9 _ (by decide +kernel) fun t hf y => ?_
  blk_simp
  rw [after_9]
  have ht : t.val < 33 := t.isLt
  have h1 : 1 ≤ t.val := late_9 t hf
  obtain ⟨b, hb⟩ : ∃ b, t.val = b + 1 := ⟨t.val - 1, by omega⟩
  rw [hb]
  refine Eq.trans (dkAt_val H (⟨b / 2, by omega⟩ : Fin 16) (⟨b % 2, by omega⟩ : Fin 2) b (by show b = 2 * (b / 2) + b % 2; omega) y (y 1) (y 2) rfl rfl) (laid_at _ (⟨b / 2, by omega⟩ : Fin 16) (⟨b % 2, by omega⟩ : Fin 2)
    (ch (y 2)) (y 1) (cd (y 2)) _ ?_ ?_ ?_).symm
  · blk_simp [idx_out t, hb]; rfl
  · blk_simp [idx_out t, hb]; rfl
  · blk_simp [idx_out t, hb]
    exact (congrArg Fin.val (col_of (y 2))).symm

theorem final_v : (dats m 0 c).arrAt 10 (cfgs 0).N = laid fun r n h i d => a.dv r n h i d := by
  refine (dats m 0 c).arrAt_eq_of_covers 10 _ (by decide +kernel) fun t hf y => ?_
  blk_simp
  rw [after_10]
  have ht : t.val < 33 := t.isLt
  have h1 : 1 ≤ t.val := late_10 t hf
  obtain ⟨b, hb⟩ : ∃ b, t.val = b + 1 := ⟨t.val - 1, by omega⟩
  rw [hb]
  refine Eq.trans (dvAt_val H (⟨b / 2, by omega⟩ : Fin 16) (⟨b % 2, by omega⟩ : Fin 2) b (by show b = 2 * (b / 2) + b % 2; omega) y (y 1) (y 2) rfl rfl) (laid_at _ (⟨b / 2, by omega⟩ : Fin 16) (⟨b % 2, by omega⟩ : Fin 2)
    (ch (y 2)) (y 1) (cd (y 2)) _ ?_ ?_ ?_).symm
  · blk_simp [idx_out t, hb]; rfl
  · blk_simp [idx_out t, hb]; rfl
  · blk_simp [idx_out t, hb]
    exact (congrArg Fin.val (col_of (y 2))).symm

end Cert.KernelIdeal.Hand

end
-- ==== Proof.Ideal.Frame.lean ====
/- The run of the program over extended reals: what it leaves in its arguments, its counters and its three results. -/
module

public import proofs.«01_k».proof.Proof.Ideal.Out

@[expose] public section

noncomputable section

namespace Cert.KernelIdeal.Hand

open Idealize.ShloMosaic Idealize.ShloMosaic.TcCoe Idealize.SL.Sem
open Cert.KernelIdeal.Gen Cert.Attn

variable (m : (ℓ : Loc nD τ sig) → Buf (Elt Ideal) ℓ) (ρ : Dev nD → PrngReg)

/-- The eight arguments hold what they held before. -/
def Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

variable {m} in
theorem kept_of {r : PUnit × MemSt nD τ sig (Elt Ideal)} (h : Pipeline.FramePost cfgs (dats m) 0 (V m) r) (c : Dev nD) : Kept m r c :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-- Every run ends with the eight argument arrays unchanged and every semaphore counter at zero. -/
theorem frame : θ_run defs (onTc (τ := τ) (main (F := Ideal))) ⟨m, fun _ => 0, ρ⟩
    (fun r => (∀ c : Dev nD, Kept m r c) ∧ r.2.sem = fun _ => 0) :=
  (θ_run defs _ _).mono (fun _ h => ⟨kept_of h.1, h.2⟩) (run m ρ)

/-- Over real arguments every run ends with the gradients in the three results. -/
theorem values (a : Dev nD → Args) (H : ∀ c, Given m c (a c)) :
    θ_run defs (onTc (τ := τ) (main (F := Ideal))) ⟨m, fun _ => 0, ρ⟩ (fun r => ∀ c : Dev nD,
      r.2.mem ((c.tc : Thread nD τ).loc main_v157_0) = laid (fun r n h i d => (a c).dq r n h i d)
      ∧ r.2.mem ((c.tc : Thread nD τ).loc main_v157_1) = laid (fun r n h i d => (a c).dk r n h i d)
      ∧ r.2.mem ((c.tc : Thread nD τ).loc main_v157_2) = laid (fun r n h i d => (a c).dv r n h i d)
      ∧ Kept m r c) :=
  (θ_run defs _ _).mono (fun _ h c => ⟨((h.1 c).1 8).trans (final_q (H c)), ((h.1 c).1 9).trans (final_k (H c)),
    ((h.1 c).1 10).trans (final_v (H c)), kept_of h.1 c⟩) (run m ρ)

end Cert.KernelIdeal.Hand

end
-- ==== Proof.Ideal.Finite.lean ====
/- The precondition over extended reals: arguments of magnitude below infinity hold real numbers. -/
module

public import proofs.«01_k».proof.Proof.Gen.Pre_finite
public import proofs.«01_k».proof.Proof.Ref.Fwd
public import Idealize.ShloMosaic.Lib.ReduceAll

@[expose] public section

noncomputable section

namespace Cert.Pre_finite.Hand

open Idealize.ShloMosaic Cert.Attn Cert.ReferenceIdeal.Hand

/-- A number of magnitude below infinity is real. -/
theorem real_of (x : EReal) (h : Ideal.cmp .olt (max x (-x)) (Ideal.ofBits .f32 0x7F800000#32) = 1#1) :
    x = ((EReal.toReal x : ℝ) : EReal) := by
  have top : Ideal.ofBits .f32 0x7F800000#32 = (⊤ : EReal) := by simp [Ideal.ofBits, Ideal.ieee]
  rw [top] at h
  refine (EReal.coe_toReal ?_ ?_).symm
  · rintro rfl; simp [Ideal.cmp] at h
  · rintro rfl; simp [Ideal.cmp] at h

/-- The answer of the test on an array of any shape, read at an element. -/
theorem elem_real {s : Shape} (x : FVec Ideal s .f32) (hb : S_.BroadcastsInDim s (![] : Fin 0 → Fin s.rank)) (y : s.Idx)
    (h : cmpf .olt (Host.absf x) (broadcastInDim s ![] hb (constant (F := Ideal) S_ .f32 0x7F800000#32)) y = 1#1) :
    (x y : EReal) = ((EReal.toReal (x y) : ℝ) : EReal) := real_of (x y) h

/-- The same of a whole array: where all its elements pass the test, all are real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (y : s.Idx) : (x y : EReal) = ((EReal.toReal (x y) : ℝ) : EReal) :=
  haveI : Subsingleton S_.Idx := ⟨fun a b => funext fun k => k.elim0⟩
  elem_real x hb y (Host.reduce_andi_all _ _ _ _ j h y)

variable (x0 x1 x2 x3 x4 x6 : FVec Ideal S1x4096x8x64 .f32) (x5 x7 : FVec Ideal S1x4096x8 .f32)

/-- The real numbers that the arrays hold. -/
def reals : Args where
  q p h d := EReal.toReal (x0 (ix4 0 p h d))
  k p h d := EReal.toReal (x1 (ix4 0 p h d))
  v p h d := EReal.toReal (x2 (ix4 0 p h d))
  ct p h d := EReal.toReal (x3 (ix4 0 p h d))
  o1 p h d := EReal.toReal (x4 (ix4 0 p h d))
  l1 p h := EReal.toReal (x5 (ix3 0 p h))
  o4 p h d := EReal.toReal (x6 (ix4 0 p h d))
  l4 p h := EReal.toReal (x7 (ix3 0 p h))

/-- Where the precondition holds, the arrays hold them. -/
theorem holds (H : fn (F := Ideal) x0 x1 x2 x3 x4 x5 x6 x7 = fun _ => 1#1) :
    (Holds x0 (reals x0 x1 x2 x3 x4 x6 x5 x7).q ∧ Holds x1 (reals x0 x1 x2 x3 x4 x6 x5 x7).k)
    ∧ Holds x2 (reals x0 x1 x2 x3 x4 x6 x5 x7).v ∧ Holds x3 (reals x0 x1 x2 x3 x4 x6 x5 x7).ct
    ∧ Holds x4 (reals x0 x1 x2 x3 x4 x6 x5 x7).o1 ∧ HoldsRows x5 (reals x0 x1 x2 x3 x4 x6 x5 x7).l1
    ∧ Holds x6 (reals x0 x1 x2 x3 x4 x6 x5 x7).o4 ∧ HoldsRows x7 (reals x0 x1 x2 x3 x4 x6 x5 x7).l4 := by
  have e := congrFun H (fun k => k.elim0)
  unfold fn fn_part1 fn_part2 at e
  dsimp only [andi] at e
  obtain ⟨e, g7⟩ := IntOp.andi_eq_one.1 e
  obtain ⟨e, g6⟩ := IntOp.andi_eq_one.1 e
  obtain ⟨e, g5⟩ := IntOp.andi_eq_one.1 e
  obtain ⟨e, g4⟩ := IntOp.andi_eq_one.1 e
  obtain ⟨e, g3⟩ := IntOp.andi_eq_one.1 e
  obtain ⟨e, g2⟩ := IntOp.andi_eq_one.1 e
  obtain ⟨g0, g1⟩ := IntOp.andi_eq_one.1 e
  exact ⟨⟨fun p h d => all_real x0 _ _ _ _ g0 _, fun p h d => all_real x1 _ _ _ _ g1 _⟩, fun p h d => all_real x2 _ _ _ _ g2 _,
    fun p h d => all_real x3 _ _ _ _ g3 _, fun p h d => all_real x4 _ _ _ _ g4 _, fun p h => all_real x5 _ _ _ _ g5 _,
    fun p h d => all_real x6 _ _ _ _ g6 _, fun p h => all_real x7 _ _ _ _ g7 _⟩

end Cert.Pre_finite.Hand

end
-- ==== Proof.Ref.Bwd.lean ====
/- The reference's backward lines read over real arguments: the gradients of the branch's output, logarithm
   and normaliser are the ones `Spec.lean` writes. -/
module
public import proofs.«01_k».proof.Proof.Ref.Fwd
public import Idealize.ShloMosaic.Lib.IdealHost
public import Idealize.ShloMosaic.Lib.KernelVsHost
@[expose] public section
set_option maxRecDepth 16384
noncomputable section
namespace Cert.ReferenceIdeal.Hand
open Idealize.ShloMosaic Idealize.ShloMosaic.TcCoe Idealize.ShloMosaic.Tactic
open Cert.ReferenceIdeal Cert.ReferenceIdeal.Read Cert.Attn

/-- A sum over axes of length one reads the one entry. -/
theorem sum_ones (y : (⟨S3x1x4096x8x1, .f32⟩ : BufTy).Contents (Elt Ideal)) (c : (⟨S_, .f32⟩ : BufTy).Contents (Elt Ideal)) (hr hu)
    (b : Fin 3) (p : Fin 4096) (h : Fin 8) :
    (Host.reduceAdd (F := Ideal) (φ := .f32) (axes := [1, 4]) (s := S3x1x4096x8x1) (t := S3x4096x8) (u := S_) y c hr hu) (ix3 b p h) = (c ix0 : EReal) + y (ix5 b 0 p h 0) := by
  show c _ + (∑ i ∈ Finset.univ.filter (fun i => hr.drop i = ix3 b p h), y i) = _
  rw [Finset.sum_eq_single (ix5 b 0 p h 0)]
  · congr 2
    exact funext fun a => Fin.elim0 a
  · intro i hi hne
    exfalso; apply hne
    have hi := (Finset.mem_filter.1 hi).2
    have h0 := congrArg Fin.val (congrFun hi 0)
    have h1 := congrArg Fin.val (congrFun hi 1)
    have h2 := congrArg Fin.val (congrFun hi 2)
    funext a
    match a with
    | ⟨0, _⟩ => exact Fin.ext h0
    | ⟨1, _⟩ => exact Subsingleton.elim (α := Fin 1) _ _
    | ⟨2, _⟩ => exact Fin.ext h1
    | ⟨3, _⟩ => exact Fin.ext h2
    | ⟨4, _⟩ => exact Subsingleton.elim (α := Fin 1) _ _
  · intro hn
    refine absurd (Finset.mem_filter.2 ⟨Finset.mem_univ _, ?_⟩) hn
    funext a
    match a with
    | ⟨0, _⟩ => rfl
    | ⟨1, _⟩ => rfl
    | ⟨2, _⟩ => rfl

theorem sum_ones' (y : (⟨S1x1x4096x8, .f32⟩ : BufTy).Contents (Elt Ideal)) (c : (⟨S_, .f32⟩ : BufTy).Contents (Elt Ideal)) (hr hu)
    (p : Fin 4096) (h : Fin 8) :
    (Host.reduceAdd (F := Ideal) (φ := .f32) (axes := [0, 1]) (s := S1x1x4096x8) (t := S4096x8) (u := S_) y c hr hu) (ix2 p h) = (c ix0 : EReal) + y (ix4 0 0 p h) := by
  show c _ + (∑ i ∈ Finset.univ.filter (fun i => hr.drop i = ix2 p h), y i) = _
  rw [Finset.sum_eq_single (ix4 0 0 p h)]
  · congr 2
    exact funext fun a => Fin.elim0 a
  · intro i hi hne
    exfalso; apply hne
    have hi := (Finset.mem_filter.1 hi).2
    have h0 := congrArg Fin.val (congrFun hi 0)
    have h1 := congrArg Fin.val (congrFun hi 1)
    funext a
    match a with
    | ⟨0, _⟩ => exact Subsingleton.elim (α := Fin 1) _ _
    | ⟨1, _⟩ => exact Subsingleton.elim (α := Fin 1) _ _
    | ⟨2, _⟩ => exact Fin.ext h0
    | ⟨3, _⟩ => exact Fin.ext h1
  · intro hn
    refine absurd (Finset.mem_filter.2 ⟨Finset.mem_univ _, ?_⟩) hn
    funext a
    match a with
    | ⟨0, _⟩ => rfl
    | ⟨1, _⟩ => rfl

theorem c_zero : Scalar.select (BitVec.ofBool false) ((0 : ℝ) : EReal) (val_main_call1_cst (F := Ideal) ix0) = ((0 : ℝ) : EReal) := by
  pointwise [val_main_call1_cst]
  simp

theorem convert_ideal (hb) (x : Ideal .f32) : (FloatOps.truncf .bf16 hb x : Ideal .bf16) = x := rfl

theorem fold_three (f : Fin 3 → EReal) : (Finset.univ : Finset (Fin 3)).fold max ⊥ f = max (max (f 0) (f 1)) (f 2) := by
  rw [show (Finset.univ : Finset (Fin 3)) = {0, 1, 2} from rfl, Finset.fold_insert (by decide), Finset.fold_insert (by decide), Finset.fold_singleton]
  simp [max_assoc]

section Backward

variable {x0 x1 x2 x3 x4 x6 : (⟨S1x4096x8x64, .f32⟩ : BufTy).Contents (Elt Ideal)}
  {x5 x7 : (⟨S1x4096x8, .f32⟩ : BufTy).Contents (Elt Ideal)} (a : Args)
  (h0 : Holds x0 a.q) (h1 : Holds x1 a.k) (h2 : Holds x2 a.v) (h3 : Holds x3 a.ct)
  (h4 : Holds x4 a.o1) (h5 : HoldsRows x5 a.l1) (h6 : Holds x6 a.o4) (h7 : HoldsRows x7 a.l4)
  (b : Fin 3) (r : Fin 16) (n : Fin 2) (h : Fin 8) (i : Fin 128) (j : Fin 256) (d : Fin 64)

/-! ### The three branches side by side -/

/-- The logarithms, shares, products and outputs of the three branches. -/
def ls (a : Args) (r : Fin 16) (n : Fin 2) (h : Fin 8) (i : Fin 128) : Fin 3 → ℝ :=
  ![a.l1 (pos r n i) h, a.l4 (pos r n i) h, a.L r n h i]
def es (a : Args) (r : Fin 16) (n : Fin 2) (h : Fin 8) (i : Fin 128) : Fin 3 → ℝ := ![a.e1 r n h i, a.e4 r n h i, a.e16 r n h i]
def Ts (a : Args) (r : Fin 16) (n : Fin 2) (h : Fin 8) (i : Fin 128) : Fin 3 → ℝ := ![a.T1 r n h i, a.T4 r n h i, a.T16 r n h i]
def outs (a : Args) (r : Fin 16) (n : Fin 2) (h : Fin 8) (i : Fin 128) (d : Fin 64) : Fin 3 → ℝ :=
  ![a.o1 (pos r n i) h d, a.o4 (pos r n i) h d, a.o r n h i d]

theorem es_eq : es a r n h i b = Real.exp (ls a r n h i b - a.mm r n h i) := by
  fin_cases b <;> rfl
theorem Ts_eq : Ts a r n h i b = ∑ d, a.ct (pos r n i) h d * outs a r n h i d b := by
  fin_cases b <;> rfl

include h0 h1 h5 h7 in
theorem ls_val : val_main_v115 (F := Ideal) x0 x1 x5 x7 (ix4 b 0 (pos r n i) h) = (ls a r n h i b : EReal) := by
  pointwise [val_main_v115, val_main_v114, val_main_v113, val_main_v112]
  rw [L_val a h0 h1, h5, h7]
  fin_cases b <;> rfl

include h0 h1 h2 h4 h6 in
theorem outs_val : val_main_v150 (F := Ideal) x0 x1 x2 x4 x6 (ix5 b 0 (pos r n i) h d) = (outs a r n h i d b : EReal) := by
  pointwise [val_main_v150, val_main_v149, val_main_v148, val_main_v147]
  rw [o_val a h0 h1 h2, h4, h6]
  fin_cases b <;> rfl

include h0 h1 h5 h7 in
theorem mm_val : val_main_v125 (F := Ideal) x0 x1 x5 x7 (ix3 0 (pos r n i) h) = (a.mm r n h i : EReal) := by
  pointwise [val_main_v125, val_main_v124, val_main_cst_23, val_main_v118, val_main_cst_21]
  rw [c_bot, fold_three]
  simp only [ls_val a h0 h1 h5 h7, bot_le, max_eq_right]
  show max (max ((a.l1 (pos r n i) h : ℝ) : EReal) (a.l4 (pos r n i) h : ℝ)) (a.L r n h i : ℝ) = _
  rw [← EReal.coe_strictMono.monotone.map_max, ← EReal.coe_strictMono.monotone.map_max]
  rfl

include h0 h1 h5 h7 in
theorem es_val : val_main_v138 (F := Ideal) x0 x1 x5 x7 (ix4 b 0 (pos r n i) h) = (es a r n h i b : EReal) := by
  pointwise [val_main_v138, val_main_v137, val_main_v136, val_main_v135]
  rw [ls_val a h0 h1 h5 h7, mm_val a h0 h1 h5 h7, ← EReal.coe_sub, Ideal.exp_coe, ← es_eq]

include h0 h1 h5 h7 in
theorem E_val : val_main_v140 (F := Ideal) x0 x1 x5 x7 (ix4 0 0 (pos r n i) h) = (a.E r n h i : EReal) := by
  pointwise [val_main_v140, val_main_v139, val_main_cst_29]
  rw [Fin.sum_univ_three]
  simp only [es_val a h0 h1 h5 h7, ← EReal.coe_add]
  rfl

include h0 h1 h3 h5 h7 in
theorem douts_val : val_main_v158 (F := Ideal) x0 x1 x3 x5 x7 (ix5 b 0 (pos r n i) h d)
    = (es a r n h i b / a.E r n h i * a.ct (pos r n i) h d : ℝ) := by
  pointwise [val_main_v158, val_main_v157, val_main_v156, val_main_v146, val_main_v142, val_main_v141]
  rw [es_val a h0 h1 h5 h7, E_val a h0 h1 h5 h7, h3, div_real _ _ (a.E_pos r n h i).ne', ← EReal.coe_mul]

include h0 h1 h2 h3 h4 h6 in
theorem Ts_val : val_main_v169 (F := Ideal) x0 x1 x2 x3 x4 x6 (ix4 b 0 (pos r n i) h) = (Ts a r n h i b : EReal) := by
  have e : val_main_v168 (F := Ideal) x0 x1 x2 x3 x4 x6 (ix3 b (pos r n i) h)
      = (val_main_cst_35 (F := Ideal) ix0 : EReal) + val_main_v161 (F := Ideal) x0 x1 x2 x3 x4 x6 (ix5 b 0 (pos r n i) h 0) :=
    sum_ones _ _ _ _ b (pos r n i) h
  have e' : val_main_v169 (F := Ideal) x0 x1 x2 x3 x4 x6 (ix4 b 0 (pos r n i) h)
      = val_main_v168 (F := Ideal) x0 x1 x2 x3 x4 x6 (ix3 b (pos r n i) h) := by
    rw [val_main_v169_apply]; congr 1; funext c; match c with | ⟨0, _⟩ => rfl | ⟨1, _⟩ => rfl | ⟨2, _⟩ => rfl
  rw [e', e]
  pointwise [val_main_cst_35, val_main_v161, val_main_v160, val_main_cst_34, val_main_v159, val_main_v156]
  simp only [outs_val a h0 h1 h2 h4 h6, h3 (pos r n i) h, ← EReal.coe_mul, ← coe_sum, ← Ts_eq]

/-! ### The gradients of the branch's output and logarithm -/

include h0 h1 h2 h3 h4 h5 h6 h7 in
theorem dl_val : val_main_v182 (F := Ideal) x0 x1 x2 x3 x4 x5 x6 x7 (ix4 2 0 (pos r n i) h) = (a.dl r n h i : EReal) := by
  have e : val_main_v178 (F := Ideal) x0 x1 x2 x3 x4 x5 x6 x7 (ix2 (pos r n i) h)
      = (val_main_cst_37 (F := Ideal) ix0 : EReal) + val_main_v175 (F := Ideal) x0 x1 x2 x3 x4 x5 x6 x7 (ix4 0 0 (pos r n i) h) :=
    sum_ones' _ _ _ _ (pos r n i) h
  have e' : val_main_v180 (F := Ideal) x0 x1 x2 x3 x4 x5 x6 x7 (ix4 2 0 (pos r n i) h)
      = val_main_v178 (F := Ideal) x0 x1 x2 x3 x4 x5 x6 x7 (ix2 (pos r n i) h) := by
    rw [val_main_v180_apply, val_main_v179_apply]; congr 1; funext c; match c with | ⟨0, _⟩ => rfl | ⟨1, _⟩ => rfl
  pointwise [val_main_v182, val_main_v181, val_main_v177, val_main_v176]
  rw [e', e]
  pointwise [val_main_cst_37, val_main_v175, val_main_v174, val_main_v173, val_main_cst_36, val_main_v172, val_main_v171, val_main_v170, val_main_v145, val_main_v144, val_main_cst_30, val_main_v143]
  rw [Fin.sum_univ_three]
  simp only [Ts_val a h0 h1 h2 h3 h4 h6, es_val a h0 h1 h5 h7, E_val a h0 h1 h5 h7]
  have hE := (a.E_pos r n h i).ne'
  have h1' : Ideal.div (1 : EReal) ((a.E r n h i : EReal) * (a.E r n h i : EReal)) = ((1 / (a.E r n h i * a.E r n h i) : ℝ) : EReal) := by
    rw [← EReal.coe_mul, ← EReal.coe_one, div_real _ _ (mul_ne_zero hE hE)]
  rw [h1', div_real _ _ hE]
  simp only [← EReal.coe_mul, ← EReal.coe_add, ← EReal.coe_neg]
  unfold Args.dl
  rfl

include h0 h1 h2 h3 h4 h5 h6 h7 in
theorem dl16_val : val_main_v197 (F := Ideal) x0 x1 x2 x3 x4 x5 x6 x7 (ix4 r n h i) = (a.dl r n h i : EReal) := by
  rw [← dl_val a h0 h1 h2 h3 h4 h5 h6 h7]
  pointwise [val_main_v197, val_main_v192, val_main_v191, val_main_v190, val_main_v189, val_main_v188, val_main_v187]
  rfl

include h0 h1 h3 h5 h7 in
theorem dout_val : val_main_v196 (F := Ideal) x0 x1 x3 x5 x7 (ix5 r n i h d) = (a.dout r n h i d : EReal) := by
  rw [show a.dout r n h i d = es a r n h i 2 / a.E r n h i * a.ct (pos r n i) h d from rfl, ← douts_val a h0 h1 h3 h5 h7]
  pointwise [val_main_v196, val_main_v195, val_main_v194, val_main_v193, val_main_v167, val_main_v166]
  rfl

include h0 h1 in
theorem den4_val : val_main_v94 (F := Ideal) x0 x1 (ix5 r n i h 0) = (a.den r n h i : EReal) := by
  pointwise [val_main_v94, val_main_v93]
  exact den_val a h0 h1 r n h i

include h0 h1 h2 in
theorem ou5_val : val_main_v92 (F := Ideal) x0 x1 x2 (ix5 r n i h d) = (a.ou r n h i d : EReal) := by
  pointwise [val_main_v92]
  exact ou_val a h0 h1 h2 r n h i d

include h0 h1 in
theorem inv_val : val_main_v99 (F := Ideal) x0 x1 (ix5 r n i h 0) = (1 / (a.den r n h i * a.den r n h i) : ℝ) := by
  pointwise [val_main_v99, val_main_v98, val_main_cst_18, val_main_v97]
  have hd := (a.den_pos r n h i).ne'
  rw [den4_val a h0 h1, ← EReal.coe_mul, ← EReal.coe_one, div_real _ _ (mul_ne_zero hd hd)]

include h0 h1 h3 h5 h7 in
theorem dou_val : val_main_v211 (F := Ideal) x0 x1 x3 x5 x7 (ix5 r n h d i) = (a.dout r n h i d / a.den r n h i : ℝ) := by
  pointwise [val_main_v211, val_main_v207, val_main_v206]
  rw [dout_val a h0 h1 h3 h5 h7, den4_val a h0 h1, div_real _ _ (a.den_pos r n h i).ne']

theorem mulf_ideal (x y : Ideal .f32) : FloatOps.mulf x y = (x * y : EReal) := rfl
theorem negf_ideal (x : Ideal .f32) : FloatOps.hostNegf x = (-x : EReal) := rfl
theorem divf_ideal (x y : Ideal .f32) : FloatOps.hostDivf x y = Ideal.div x y := rfl

include h0 h1 h2 h3 h4 h5 h6 h7 in
theorem dl_den_val : val_main_v198 (F := Ideal) x0 x1 x2 x3 x4 x5 x6 x7 (ix4 r n h i) = (a.dl r n h i / a.den r n h i : ℝ) := by
  rw [val_main_v198_apply, dl16_val a h0 h1 h2 h3 h4 h5 h6 h7, den_val a h0 h1, divf_ideal, div_real _ _ (a.den_pos r n h i).ne']

include h0 h1 h2 h3 h5 h7 in
theorem prod_val : val_main_v202 (F := Ideal) x0 x1 x2 x3 x5 x7 (ix5 r n i h d)
    = (a.dout r n h i d * (1 / (a.den r n h i * a.den r n h i)) * a.ou r n h i d : ℝ) := by
  have e : val_main_v200 (F := Ideal) x0 x1 (ix5 r n i h d) = (1 / (a.den r n h i * a.den r n h i) : ℝ) := by
    pointwise [val_main_v200]
    exact inv_val a h0 h1 r n h i
  rw [val_main_v202_apply, val_main_v201_apply, dout_val a h0 h1 h3 h5 h7, e, ou5_val a h0 h1 h2, mulf_ideal, mulf_ideal,
    ← EReal.coe_mul, ← EReal.coe_mul]

theorem v209_at : val_main_v209 (F := Ideal) x0 x1 x2 x3 x5 x7 (ix4 r n h i) = val_main_v208 (F := Ideal) x0 x1 x2 x3 x5 x7 (ix4 r n i h) := by
  pointwise [val_main_v209]

theorem v208_at : val_main_v208 (F := Ideal) x0 x1 x2 x3 x5 x7 (ix4 r n i h) = val_main_v205 (F := Ideal) x0 x1 x2 x3 x5 x7 (ix5 r n i h 0) := by
  rw [val_main_v208_apply]
  pointwise [val_main_cst_39]
  simp only [Finset.univ_unique, Finset.sum_singleton]
  congr 1
  funext c
  match c with | ⟨0, _⟩ => rfl | ⟨1, _⟩ => rfl | ⟨2, _⟩ => rfl | ⟨3, _⟩ => rfl | ⟨4, _⟩ => rfl

theorem v204_at : val_main_v204 (F := Ideal) x0 x1 x2 x3 x5 x7 (ix5 r n i h 0) = val_main_v203 (F := Ideal) x0 x1 x2 x3 x5 x7 (ix4 r n i h) := by
  pointwise [val_main_v204]

include h0 h1 h2 h3 h5 h7 in
theorem sum_val : val_main_v203 (F := Ideal) x0 x1 x2 x3 x5 x7 (ix4 r n i h)
    = (∑ d, a.dout r n h i d * (1 / (a.den r n h i * a.den r n h i)) * a.ou r n h i d : ℝ) := by
  pointwise [val_main_v203, val_main_cst_38]
  simp only [prod_val a h0 h1 h2 h3 h5 h7, ← coe_sum]

include h0 h1 h2 h3 h5 h7 in
theorem dout_ou_val : val_main_v209 (F := Ideal) x0 x1 x2 x3 x5 x7 (ix4 r n h i)
    = (-(∑ d, a.dout r n h i d * (1 / (a.den r n h i * a.den r n h i)) * a.ou r n h i d) : ℝ) := by
  rw [v209_at, v208_at, val_main_v205_apply, v204_at, sum_val a h0 h1 h2 h3 h5 h7, negf_ideal, ← EReal.coe_neg]

include h0 h1 h2 h3 h4 h5 h6 h7 in
theorem dden_val : val_main_v210 (F := Ideal) x0 x1 x2 x3 x4 x5 x6 x7 (ix4 r n h i) = (a.dden r n h i : EReal) := by
  rw [val_main_v210_apply, dl_den_val a h0 h1 h2 h3 h4 h5 h6 h7, dout_ou_val a h0 h1 h2 h3 h5 h7, addf_ideal, ← EReal.coe_add]
  unfold Args.dden
  with_reducible rfl

end Backward

end Cert.ReferenceIdeal.Hand

end
-- ==== Proof.Ref.Grad.lean ====
/- The reference's results read over real arguments: the three gradients are the ones `Spec.lean` writes. -/
module
public import proofs.«01_k».proof.Proof.Ref.Bwd
public import Idealize.ShloMosaic.Lib.IdealHost
public import Idealize.ShloMosaic.Lib.KernelVsHost
@[expose] public section
set_option maxRecDepth 16384
noncomputable section
namespace Cert.ReferenceIdeal.Hand
open Idealize.ShloMosaic Idealize.ShloMosaic.TcCoe Idealize.ShloMosaic.Tactic
open Cert.ReferenceIdeal Cert.ReferenceIdeal.Read Cert.Attn

section Results

variable {x0 x1 x2 x3 x4 x6 : (⟨S1x4096x8x64, .f32⟩ : BufTy).Contents (Elt Ideal)}
  {x5 x7 : (⟨S1x4096x8, .f32⟩ : BufTy).Contents (Elt Ideal)} (a : Args)
  (h0 : Holds x0 a.q) (h1 : Holds x1 a.k) (h2 : Holds x2 a.v) (h3 : Holds x3 a.ct)
  (h4 : Holds x4 a.o1) (h5 : HoldsRows x5 a.l1) (h6 : Holds x6 a.o4) (h7 : HoldsRows x7 a.l4)
  (b : Fin 3) (r : Fin 16) (n : Fin 2) (h : Fin 8) (i : Fin 128) (j : Fin 256) (d : Fin 64)

/-! ### The gradient of a score -/

include h0 h1 h2 h3 h4 h5 h6 h7 in
theorem g0_val : val_main_v217 (F := Ideal) x0 x1 x2 x3 x4 x5 x6 x7 (ix5 r n h i j) = (a.g0 r n h i j : EReal) := by
  pointwise [val_main_v217, val_main_v216, val_main_v215, val_main_v212]
  simp only [dou_val a h0 h1 h3 h5 h7, v_val a h2, dden_val a h0 h1 h2 h3 h4 h5 h6 h7, p_val a h0 h1,
    ← EReal.coe_mul, ← coe_sum, ← EReal.coe_add]
  unfold Args.g0
  with_reducible rfl

include h0 h1 in
theorem count_val : ∃ c : ℝ, c ≠ 0 ∧ val_main_v85 (F := Ideal) x0 x1 (ix4 r n h i) = (c : EReal) := by
  classical
  refine ⟨∑ j, if a.sE r n h i j = (a.M r n h i : EReal) then 1 else 0, ?_, ?_⟩
  · obtain ⟨j, hj⟩ := (a.M_spec r n h i).2
    refine (Finset.sum_pos' (fun j _ => ?_) ⟨j, Finset.mem_univ _, ?_⟩).ne'
    · split <;> norm_num
    · rw [if_pos hj]; norm_num
  · pointwise [val_main_v85, val_main_cst_16, val_main_v84, val_main_v83, val_main_v82, val_main_v81]
    rw [coe_sum]
    simp only [s_val a h0 h1, M_val a h0 h1]
    refine Finset.sum_congr rfl fun j _ => ?_
    by_cases hj : a.sE r n h i j = (a.M r n h i : EReal)
    · rw [if_pos hj, decide_eq_true hj]; show (((BitVec.ofBool true).toNat : ℝ) : EReal) = _; simp
    · rw [if_neg hj, decide_eq_false hj]; show (((BitVec.ofBool false).toNat : ℝ) : EReal) = _; simp

include h0 h1 h2 h3 h4 h5 h6 h7 in
theorem rest_val : val_main_v222 (F := Ideal) x0 x1 x2 x3 x4 x5 x6 x7 (ix4 r n h i) = 0 := by
  pointwise [val_main_v222, val_main_cst_41, val_main_v221, val_main_v220, val_main_v219, val_main_cst_40, val_main_v218, val_main_v199]
  simp only [dl16_val a h0 h1 h2 h3 h4 h5 h6 h7, g0_val a h0 h1 h2 h3 h4 h5 h6 h7, ← EReal.coe_neg, ← coe_sum, ← EReal.coe_add]
  simp only [a.no_max, Finset.sum_const_zero, EReal.coe_zero]

include h0 h1 h2 h3 h4 h5 h6 h7 in
theorem g_val : val_main_v229 (F := Ideal) x0 x1 x2 x3 x4 x5 x6 x7 (ix5 r n h i j) = (a.g r n h i j * (1 / 8) : ℝ) := by
  have hz : val_main_v225 (F := Ideal) x0 x1 x2 x3 x4 x5 x6 x7 (ix5 r n h i j) = 0 := by
    obtain ⟨c, hc, e⟩ := count_val a h0 h1 r n h i
    pointwise [val_main_v225, val_main_v224, val_main_v223]
    rw [rest_val a h0 h1 h2 h3 h4 h5 h6 h7, e, ← EReal.coe_zero, div_real _ _ hc, zero_div, EReal.coe_zero, zero_mul]
  pointwise [val_main_v229, val_main_v228, val_main_cst_42, val_main_v227, val_main_v226, val_main_v79_1, val_main_v79_2, val_main_call1_v0]
  rw [hz, g0_val a h0 h1 h2 h3 h4 h5 h6 h7, mask_val, c_eighth, a.g0_eq, add_zero, EReal.coe_mul]
  congr 1
  by_cases hs : Sees n i j
  · rw [decide_eq_true hs]; rfl
  · rw [decide_eq_false hs, a.g_of_not r n h i j hs]; exact c_zero

/-! ### The results -/

include h0 h1 h2 h3 h4 h5 h6 h7 in
theorem dq_val : val_main_v233 (F := Ideal) x0 x1 x2 x3 x4 x5 x6 x7 (ix5 r n i h d) = (a.dq r n h i d : EReal) := by
  pointwise [val_main_v233, val_main_v232]
  simp only [g_val a h0 h1 h2 h3 h4 h5 h6 h7, k_val a h1, ← EReal.coe_mul, ← coe_sum, ← a.dq_eq_sum]

include h0 h1 h2 h3 h4 h5 h6 h7 in
theorem dkc_val : val_main_v231 (F := Ideal) x0 x1 x2 x3 x4 x5 x6 x7 (ix5 r n j h d) = (a.dkc r n h j d : EReal) := by
  pointwise [val_main_v231, val_main_v230]
  simp only [g_val a h0 h1 h2 h3 h4 h5 h6 h7, q_val a h0, ← EReal.coe_mul, ← coe_sum, ← a.dk_eq_sum]

include h0 h1 h3 h5 h7 in
theorem dvc_val : val_main_v214 (F := Ideal) x0 x1 x3 x5 x7 (ix5 r n j h d) = (a.dvc r n h j d : EReal) := by
  pointwise [val_main_v214, val_main_v213]
  simp only [dou_val a h0 h1 h3 h5 h7, p_val a h0 h1, ← EReal.coe_mul, ← coe_sum, ← a.dv_eq_sum]

include h0 h1 h2 h3 h4 h5 h6 h7 in
theorem dk_val : val_main_v249 (F := Ideal) x0 x1 x2 x3 x4 x5 x6 x7 (ix5 r n i h d) = (a.dk r n h i d : EReal) := by
  pointwise [val_main_v249, val_main_v245, val_main_v248, val_main_v247, val_main_v246, val_main_v244, val_main_cst_44]
  unfold Args.dk
  simp only [dkc_val a h0 h1 h2 h3 h4 h5 h6 h7]
  split
  · rename_i hn
    rw [EReal.coe_add]
    obtain rfl : n = 0 := Fin.ext (by omega)
    rfl
  · rw [add_zero, EReal.coe_add, EReal.coe_zero, add_zero]

include h0 h1 h3 h5 h7 in
theorem dv_val : val_main_v239 (F := Ideal) x0 x1 x3 x5 x7 (ix5 r n i h d) = (a.dv r n h i d : EReal) := by
  pointwise [val_main_v239, val_main_v235, val_main_v238, val_main_v237, val_main_v236, val_main_v234, val_main_cst_43]
  unfold Args.dv
  simp only [dvc_val a h0 h1 h3 h5 h7]
  split
  · rename_i hn
    rw [EReal.coe_add]
    obtain rfl : n = 0 := Fin.ext (by omega)
    rfl
  · rw [add_zero, EReal.coe_add, EReal.coe_zero, add_zero]

include h0 h1 h2 h3 h4 h5 h6 h7 in
theorem result_q : val_main_v260 (F := Ideal) x0 x1 x2 x3 x4 x5 x6 x7
    (ix3 r (⟨n.val * 128 + i.val, by omega⟩ : Fin 256) (⟨h.val * 64 + d.val, by omega⟩ : Fin 512)) = (a.dq r n h i d : EReal) := by
  rw [← dq_val a h0 h1 h2 h3 h4 h5 h6 h7, val_main_v260_apply, convert_ideal]
  pointwise [val_main_v259, val_main_v258, val_main_v257, val_main_v256, val_main_v255, val_main_v254]

include h0 h1 h2 h3 h4 h5 h6 h7 in
theorem result_k : val_main_v263 (F := Ideal) x0 x1 x2 x3 x4 x5 x6 x7
    (ix3 r (⟨n.val * 128 + i.val, by omega⟩ : Fin 256) (⟨h.val * 64 + d.val, by omega⟩ : Fin 512)) = (a.dk r n h i d : EReal) := by
  rw [← dk_val a h0 h1 h2 h3 h4 h5 h6 h7, val_main_v263_apply, convert_ideal]
  pointwise [val_main_v262, val_main_v261, val_main_v253, val_main_v252, val_main_v251, val_main_v250]

include h0 h1 h3 h5 h7 in
theorem result_v : val_main_v266 (F := Ideal) x0 x1 x3 x5 x7
    (ix3 r (⟨n.val * 128 + i.val, by omega⟩ : Fin 256) (⟨h.val * 64 + d.val, by omega⟩ : Fin 512)) = (a.dv r n h i d : EReal) := by
  rw [← dv_val a h0 h1 h3 h5 h7, val_main_v266_apply, convert_ideal]
  pointwise [val_main_v265, val_main_v264, val_main_v243, val_main_v242, val_main_v241, val_main_v240]

end Results

end Cert.ReferenceIdeal.Hand

end
-- ==== Proof.Ref.Result.lean ====
/- What the reference's run leaves in its results, over real arguments. -/
module

public import proofs.«01_k».proof.Proof.Ref.Grad
public import proofs.«01_k».proof.Proof.Ideal.Frame

@[expose] public section

noncomputable section

namespace Cert.ReferenceIdeal.Hand

open Idealize.ShloMosaic Idealize.ShloMosaic.TcCoe Idealize.SL.Sem
open Idealize.ShloMosaic.StableHlo
open Cert.ReferenceIdeal Cert.ReferenceIdeal.Gen Cert.ReferenceIdeal.Read Cert.Attn
open Cert.KernelIdeal.Hand (laid rb ri ch cd)

/-- An index of the results, by its residue, block, row, head and lane. -/
theorem ix_split (y : S16x256x512.Idx) :
    ix3 (y 0) (⟨(rb (y 1)).val * 128 + (ri (y 1)).val, by omega⟩ : Fin 256) (⟨(ch (y 2)).val * 64 + (cd (y 2)).val, by omega⟩ : Fin 512) = y := by
  funext k
  match k with
  | ⟨0, _⟩ => rfl
  | ⟨1, _⟩ => exact Fin.ext (Nat.div_add_mod' (y 1).val 128)
  | ⟨2, _⟩ => exact Fin.ext (Nat.div_add_mod' (y 2).val 64)

section
variable {x0 x1 x2 x3 x4 x6 : (⟨S1x4096x8x64, .f32⟩ : BufTy).Contents (Elt Ideal)}
variable {x5 x7 : (⟨S1x4096x8, .f32⟩ : BufTy).Contents (Elt Ideal)} (a : Args)
variable (h0 : Holds x0 a.q) (h1 : Holds x1 a.k) (h2 : Holds x2 a.v) (h3 : Holds x3 a.ct)
variable (h4 : Holds x4 a.o1) (h5 : HoldsRows x5 a.l1) (h6 : Holds x6 a.o4) (h7 : HoldsRows x7 a.l4)

include h0 h1 h2 h3 h4 h5 h6 h7 in
theorem array_q : val_main_v260 (F := Ideal) x0 x1 x2 x3 x4 x5 x6 x7 = laid fun r n h i d => a.dq r n h i d := by
  funext y
  exact (congrArg (val_main_v260 (F := Ideal) x0 x1 x2 x3 x4 x5 x6 x7) (ix_split y).symm).trans
    (result_q a h0 h1 h2 h3 h4 h5 h6 h7 _ _ _ _ _)

include h0 h1 h2 h3 h4 h5 h6 h7 in
theorem array_k : val_main_v263 (F := Ideal) x0 x1 x2 x3 x4 x5 x6 x7 = laid fun r n h i d => a.dk r n h i d := by
  funext y
  exact (congrArg (val_main_v263 (F := Ideal) x0 x1 x2 x3 x4 x5 x6 x7) (ix_split y).symm).trans
    (result_k a h0 h1 h2 h3 h4 h5 h6 h7 _ _ _ _ _)

include h0 h1 h3 h5 h7 in
theorem array_v : val_main_v266 (F := Ideal) x0 x1 x3 x5 x7 = laid fun r n h i d => a.dv r n h i d := by
  funext y
  exact (congrArg (val_main_v266 (F := Ideal) x0 x1 x3 x5 x7) (ix_split y).symm).trans
    (result_v a h0 h1 h3 h5 h7 _ _ _ _ _)

end

/-- The arguments hold the real numbers `a`. -/
structure Given (m : (ℓ : Loc nD τ sig) → Buf (Elt Ideal) ℓ) (c : Dev nD) (a : Args) : Prop where
  q : Holds (m ((c.tc : Thread nD τ).loc main_arg0)) a.q
  k : Holds (m ((c.tc : Thread nD τ).loc main_arg1)) a.k
  v : Holds (m ((c.tc : Thread nD τ).loc main_arg2)) a.v
  ct : Holds (m ((c.tc : Thread nD τ).loc main_arg3)) a.ct
  o1 : Holds (m ((c.tc : Thread nD τ).loc main_arg4)) a.o1
  l1 : HoldsRows (m ((c.tc : Thread nD τ).loc main_arg5)) a.l1
  o4 : Holds (m ((c.tc : Thread nD τ).loc main_arg6)) a.o4
  l4 : HoldsRows (m ((c.tc : Thread nD τ).loc main_arg7)) a.l4

/-- Over real arguments the reference's run ends with the gradients in its results and its arguments unchanged. -/
theorem values (m : (ℓ : Loc nD τ sig) → Buf (Elt Ideal) ℓ) (ρ : Dev nD → PrngReg) (a : Dev nD → Args) (H : ∀ c, Given m c (a c)) :
    θ_run defs (onTc (τ := τ) (main (F := Ideal))) ⟨m, fun _ => 0, ρ⟩ (fun r => ∀ c : Dev nD,
      r.2.mem ((c.tc : Thread nD τ).loc main_v260) = laid (fun r n h i d => (a c).dq r n h i d)
      ∧ r.2.mem ((c.tc : Thread nD τ).loc main_v263) = laid (fun r n h i d => (a c).dk r n h i d)
      ∧ r.2.mem ((c.tc : Thread nD τ).loc main_v266) = laid (fun r n h i d => (a c).dv r n h i d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.ReferenceIdeal.Value.run m ρ)
  obtain ⟨e0, e1, e2, e3⟩ := h c
  refine ⟨?_, ?_, ?_, e3⟩
  · refine e0.trans ((val_main_v260_eq (launchContents m c)).trans ?_)
    exact array_q (a c) (H c).q (H c).k (H c).v (H c).ct (H c).o1 (H c).l1 (H c).o4 (H c).l4
  · refine e1.trans ((val_main_v263_eq (launchContents m c)).trans ?_)
    exact array_k (a c) (H c).q (H c).k (H c).v (H c).ct (H c).o1 (H c).l1 (H c).o4 (H c).l4
  · refine e2.trans ((val_main_v266_eq (launchContents m c)).trans ?_)
    exact array_v (a c) (H c).q (H c).k (H c).ct (H c).l1 (H c).l4

end Cert.ReferenceIdeal.Hand

end
-- ==== Proof.Ideal.Arguments.lean ====
/- The arguments of both programs, read as real numbers. -/
module

public import proofs.«01_k».proof.Proof.Ideal.Frame
public import proofs.«01_k».proof.Proof.Ideal.Finite
public import proofs.«01_k».proof.Proof.Ref.Result

@[expose] public section

noncomputable section

namespace Cert.Proof

open Idealize.ShloMosaic Idealize.ShloMosaic.TcCoe Idealize.SL.Sem
open Cert.KernelIdeal Cert.KernelIdeal.Gen Cert.Attn Cert.ReferenceIdeal.Hand

variable (m : (ℓ : Loc nD τ sig) → Buf (Elt Ideal) ℓ) (c : Dev nD)

/-- The real numbers in the kernel's arguments on a device. -/
def reals : Args :=
  Cert.Pre_finite.Hand.reals (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6))
    (m ((c.tc : Thread nD τ).loc main_arg5)) (m ((c.tc : Thread nD τ).loc main_arg7))

/-- What the arguments hold the launch finds in them. -/
theorem given (a : Args) (q : Holds (m ((c.tc : Thread nD τ).loc main_arg0)) a.q) (k : Holds (m ((c.tc : Thread nD τ).loc main_arg1)) a.k)
    (v : Holds (m ((c.tc : Thread nD τ).loc main_arg2)) a.v) (ct : Holds (m ((c.tc : Thread nD τ).loc main_arg3)) a.ct)
    (o1 : Holds (m ((c.tc : Thread nD τ).loc main_arg4)) a.o1) (l1 : HoldsRows (m ((c.tc : Thread nD τ).loc main_arg5)) a.l1)
    (o4 : Holds (m ((c.tc : Thread nD τ).loc main_arg6)) a.o4) (l4 : HoldsRows (m ((c.tc : Thread nD τ).loc main_arg7)) a.l4) :
    Cert.KernelIdeal.Hand.Given m c a where
  q := by rw [V_main_arg0]; exact q
  k := by rw [V_main_arg1]; exact k
  v := by rw [V_main_arg2]; exact v
  ct := by rw [V_main_arg3]; exact ct
  o1 := by rw [V_main_arg4]; exact o1
  l1 := by rw [V_main_arg5]; exact l1
  o4 := by rw [V_main_arg6]; exact o4
  l4 := by rw [V_main_arg7]; exact l4

/-- An array equal to one that holds real numbers holds them. -/
theorem holds_eq {x y : (⟨Cert.ReferenceIdeal.S1x4096x8x64, .f32⟩ : BufTy).Contents (Elt Ideal)} {f : Fin 4096 → Fin 8 → Fin 64 → ℝ}
    (e : y = x) (h : Holds x f) : Holds y f := e ▸ h

theorem rows_eq {x y : (⟨Cert.ReferenceIdeal.S1x4096x8, .f32⟩ : BufTy).Contents (Elt Ideal)} {f : Fin 4096 → Fin 8 → ℝ}
    (e : y = x) (h : HoldsRows x f) : HoldsRows y f := e ▸ h

end Cert.Proof

end
-- ==== Proof.Ff.Grad2.lean ====
/- The gradient of the MLP's second weight: what the kernel's eight blocks of 512 rows add up to is the reference's one
   product over 4096 rows. -/
module

public import proofs.«01_k».proof.Defs
public import proofs.«01_k».proof.Proof.Gen.KernelFf2.Frame
public import proofs.«01_k».proof.Proof.Gen.KernelFf2Ideal.Frame
public import proofs.«01_k».proof.Proof.Gen.KernelFf2Ideal.Value
public import proofs.«01_k».proof.Proof.Gen.ReferenceFf2Ideal.Run
public import proofs.«01_k».proof.Proof.Gen.ReferenceFf2Ideal.Read
public import proofs.«01_k».proof.Proof.Gen.KernelFf2
public import proofs.«01_k».proof.Proof.Gen.KernelFf2Ideal
public import proofs.«01_k».proof.Proof.Gen.ReferenceFf2Ideal
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelFf2Ideal.Hand

open Idealize.ShloMosaic Idealize.ShloMosaic.TcCoe Idealize.ShloMosaic.Tactic
open Idealize.SL.Sem Cert.KernelFf2Ideal Cert.KernelFf2Ideal.Gen

/-- The gradient: over all the rows, the activation of the hidden unit times the output's gradient. -/
def grad (a : (⟨S4096x4096, .f32⟩ : BufTy).Contents (Elt Ideal)) (b : (⟨S4096x1024, .f32⟩ : BufTy).Contents (Elt Ideal)) (f : Fin 4096) (d : Fin 1024) : EReal :=
  ∑ k : Fin 4096, a (ix2 k f) * b (ix2 k d)

/-- The gradient, eight blocks of 512 rows at a time. -/
theorem grad_eq (a : (⟨S4096x4096, .f32⟩ : BufTy).Contents (Elt Ideal)) (b : (⟨S4096x1024, .f32⟩ : BufTy).Contents (Elt Ideal)) (f : Fin 4096) (d : Fin 1024) :
    ∑ s : Fin 8, ∑ k : Fin 512, a (ix2 (⟨s.val * 512 + k.val, by omega⟩ : Fin 4096) f) * b (ix2 (⟨s.val * 512 + k.val, by omega⟩ : Fin 4096) d) = grad a b f d :=
  Fin.sum_mul_add_congr fun s k hl => rfl

/-- The zero block is zero. -/
theorem zero_apply (i : S1x4096x1024.Idx) : k0_pay1 (F := Ideal) i = 0 := by
  pointwise [k0_pay1]

/-- A point adds the product over its rows. -/
theorem add_apply (x : Vec Ideal S512x4096 .bf16) (acc : Vec Ideal S1x4096x1024 .f32) (y : Vec Ideal S512x1024 .bf16) (f : Fin 4096) (d : Fin 1024) :
    k0_pay2 (F := Ideal) x acc y (ix3 0 f d) = acc (ix3 0 f d) + ∑ k : Fin 512, x (ix2 k f) * y (ix2 k d) := by
  pointwise [k0_pay2]

variable (m : (ℓ : Loc nD τ sig) → Buf (Elt Ideal) ℓ) (c : Dev nD)

/-- The rows a point reads of the two operands. -/
abbrev rows0 (t : Fin cfg0.N) : Vec Ideal S512x4096 .bf16 := iblk m c 0 t

@[inherit_doc rows0] abbrev rows1 (t : Fin cfg0.N) : Vec Ideal S512x1024 .bf16 := iblk m c 1 t

/-- A point reads its own 512 rows. -/
theorem idx_in : ∀ t : Fin cfg0.N, win0_0.index t = ![t.val, 0] ∧ win0_1.index t = ![t.val, 0] := (by decide +kernel : ∀ t : Fin grid0.N, _)

/-- The two operands as the call finds them. -/
theorem arr0 : (V m c main_v0 : (⟨S4096x4096, .bf16⟩ : BufTy).Contents (Elt Ideal)) = m ((c.tc : Thread nD τ).loc main_arg0) := by
  unfold V
  after_results
  rfl

theorem arr1 : (V m c main_v1 : (⟨S4096x1024, .bf16⟩ : BufTy).Contents (Elt Ideal)) = m ((c.tc : Thread nD τ).loc main_arg1) := by
  unfold V
  after_results
  rfl

theorem row_lt (t : Fin cfg0.N) (k : Fin 512) : t.val * 512 + k.val < 4096 := by
  have := t.isLt
  have h : cfg0.N = 8 := N_0
  omega

theorem blk0 (t : Fin cfg0.N) (k : Fin 512) (f : Fin 4096) : rows0 m c t (ix2 k f)
    = (V m c main_v0 : (⟨S4096x4096, .bf16⟩ : BufTy).Contents (Elt Ideal)) (ix2 (⟨t.val * 512 + k.val, row_lt t k⟩ : Fin 4096) f) := by
  blk_ext [rows0, iblk, idx_in t]

theorem blk1 (t : Fin cfg0.N) (k : Fin 512) (d : Fin 1024) : rows1 m c t (ix2 k d)
    = (V m c main_v1 : (⟨S4096x1024, .bf16⟩ : BufTy).Contents (Elt Ideal)) (ix2 (⟨t.val * 512 + k.val, row_lt t k⟩ : Fin 4096) d) := by
  blk_ext [rows1, iblk, idx_in t]

/-- What one point adds. -/
def part (n : ℕ) (i : S1x4096x1024.Idx) : EReal :=
  if h : n < cfg0.N then ∑ k : Fin 512, rows0 m c ⟨n, h⟩ (ix2 k (i 1 : Fin 4096)) * rows1 m c ⟨n, h⟩ (ix2 k (i 2 : Fin 1024)) else 0

theorem idx_eq (i : S1x4096x1024.Idx) : ∃ (f : Fin 4096) (d : Fin 1024), i = ix3 0 f d :=
  ⟨i 1, i 2, by
    funext a; fin_cases a
    · exact Fin.ext (by have := (i 0).isLt; simp at this ⊢)
    · rfl
    · rfl⟩

/-- The array after the run is the gradient. -/
theorem result (f : Fin 4096) (d : Fin 1024) :
    (Value.G2 m c : (⟨S1x4096x1024, .f32⟩ : BufTy).Contents (Elt Ideal)) (ix3 0 f d)
      = grad (m ((c.tc : Thread nD τ).loc main_arg0)) (m ((c.tc : Thread nD τ).loc main_arg1)) f d := by
  have hN : cfg0.N = 8 := N_0
  have hr : Value.run2Of (ix3 0 f d : S1x4096x1024.Idx) = 0 := by
    show 1 * (0 / 1 - 0) + 1 * (f.val / 4096 - 0) + 1 * (d.val / 1024 - 0) = 0
    omega
  have hl : Value.loc2Of (ix3 0 f d : S1x4096x1024.Idx) = (ix3 0 f d : S1x4096x1024.Idx) := by
    funext a; fin_cases a
    · rfl
    · exact Fin.ext (Nat.mod_eq_of_lt f.isLt)
    · exact Fin.ext (Nat.mod_eq_of_lt d.isLt)
  unfold Value.G2
  rw [hr, hl, dif_pos (by omega)]
  refine (Pipeline.accAt_add_apply (Value.reset2 m c) (Value.step2 m c) (fun _ => 0) (part m c) (8 * 0) 7 ?_ ?_ 7 le_rfl _ _).trans ?_
  · intro h i
    have e : k0_pay2 (F := Ideal) (iblk m c 0 ⟨8 * 0, h⟩) (k0_pay1 (F := Ideal)) (iblk m c 1 ⟨8 * 0, h⟩) i = 0 + part m c (8 * 0) i := by
      obtain ⟨f', d', rfl⟩ := idx_eq i
      rw [add_apply, zero_apply, part, dif_pos h]
      rfl
    exact e
  · intro n h acc i _ _
    have e : k0_pay2 (F := Ideal) (iblk m c 0 ⟨n, h⟩) acc (iblk m c 1 ⟨n, h⟩) i = acc i + part m c n i := by
      obtain ⟨f', d', rfl⟩ := idx_eq i
      rw [add_apply, part, dif_pos h]
      rfl
    exact e
  · show (0 : EReal) + ∑ s ∈ Finset.range 8, part m c (8 * 0 + s) (ix3 0 f d) = _
    rw [zero_add, Finset.sum_range, ← grad_eq]
    refine Finset.sum_congr rfl fun s _ => ?_
    have hs : 8 * 0 + s.val < cfg0.N := by omega
    rw [part, dif_pos hs]
    refine Finset.sum_congr rfl fun k _ => ?_
    show rows0 m c ⟨8 * 0 + s.val, hs⟩ (ix2 k f) * rows1 m c ⟨8 * 0 + s.val, hs⟩ (ix2 k d) = _
    rw [blk0, blk1, arr0, arr1]
    simp only [Nat.mul_zero, Nat.zero_add]

/-- What the reference's program returns is the gradient. -/
theorem ref_result (x0 : (⟨S4096x4096, .f32⟩ : BufTy).Contents (Elt Ideal)) (x1 : (⟨S4096x1024, .f32⟩ : BufTy).Contents (Elt Ideal)) (f : Fin 4096) (d : Fin 1024) :
    Cert.ReferenceFf2Ideal.Read.val_main_v4 (F := Ideal) x0 x1 (ix3 0 f d) = grad x0 x1 f d := by
  rw [Cert.ReferenceFf2Ideal.Read.val_main_v4_apply, Cert.ReferenceFf2Ideal.Read.val_main_v3_apply, Cert.ReferenceFf2Ideal.Read.val_main_v2_apply]
  unfold grad
  refine Finset.sum_congr rfl fun k _ => ?_
  rw [mul_comm]
  congr 2
  · funext a; fin_cases a <;> rfl
  · funext a; fin_cases a <;> rfl

/-- The kernel returns what the reference returns. -/
theorem algebraic : Cert.algebraic_KernelFf2Ideal_ReferenceFf2Ideal := by
  intro m g m' g' _ hin
  refine ⟨fun c => Value.G2 m c, Value.run m g, ?_⟩
  refine (θ_run Cert.ReferenceFf2Ideal.defs _ _).mono (fun r h c => ⟨(h c).1.trans ?_, (h c).2⟩) (Cert.ReferenceFf2Ideal.Value.run (F := Ideal) m' g')
  refine (Cert.ReferenceFf2Ideal.Read.val_main_v4_eq _ _).symm.trans ?_
  rw [(hin c).1, (hin c).2]
  funext i
  obtain ⟨f, d, rfl⟩ := idx_eq i
  exact (ref_result _ _ f d).trans (result m c f d).symm

end Cert.KernelFf2Ideal.Hand

end
-- ==== Proof.Ff.GradOut.lean ====
/- The gradient of the output projection's weight: what the kernel's two blocks of 2048 rows add up to is the reference's one
   product over 4096 rows. -/
module

public import proofs.«01_k».proof.Defs
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelOut
public import proofs.«01_k».proof.Proof.Gen.KernelOutIdeal
public import proofs.«01_k».proof.Proof.Gen.ReferenceOutIdeal
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelOutIdeal.Hand

open Idealize.ShloMosaic Idealize.ShloMosaic.TcCoe Idealize.ShloMosaic.Tactic
open Idealize.SL.Sem Cert.KernelOutIdeal Cert.KernelOutIdeal.Gen

/-- The gradient: over all the rows, the mixers' output in the column times the output's gradient. -/
def grad (a : (⟨S4096x1024, .f32⟩ : BufTy).Contents (Elt Ideal)) (b : (⟨S4096x1024, .f32⟩ : BufTy).Contents (Elt Ideal)) (f : Fin 1024) (d : Fin 1024) : EReal :=
  ∑ k : Fin 4096, a (ix2 k f) * b (ix2 k d)

/-- The gradient, two blocks of 2048 rows at a time. -/
theorem grad_eq (a : (⟨S4096x1024, .f32⟩ : BufTy).Contents (Elt Ideal)) (b : (⟨S4096x1024, .f32⟩ : BufTy).Contents (Elt Ideal)) (f : Fin 1024) (d : Fin 1024) :
    ∑ s : Fin 2, ∑ k : Fin 2048, a (ix2 (⟨s.val * 2048 + k.val, by omega⟩ : Fin 4096) f) * b (ix2 (⟨s.val * 2048 + k.val, by omega⟩ : Fin 4096) d) = grad a b f d :=
  Fin.sum_mul_add_congr fun s k hl => rfl

/-- The zero block is zero. -/
theorem zero_apply (i : S1x1024x1024.Idx) : k0_pay1 (F := Ideal) i = 0 := by
  pointwise [k0_pay1]

/-- A point adds the product over its rows. -/
theorem add_apply (x : Vec Ideal S2048x1024 .bf16) (acc : Vec Ideal S1x1024x1024 .f32) (y : Vec Ideal S2048x1024 .bf16) (f : Fin 1024) (d : Fin 1024) :
    k0_pay2 (F := Ideal) x acc y (ix3 0 f d) = acc (ix3 0 f d) + ∑ k : Fin 2048, x (ix2 k f) * y (ix2 k d) := by
  pointwise [k0_pay2]

variable (m : (ℓ : Loc nD τ sig) → Buf (Elt Ideal) ℓ) (c : Dev nD)

/-- The rows a point reads of the two operands. -/
abbrev rows0 (t : Fin cfg0.N) : Vec Ideal S2048x1024 .bf16 := iblk m c 0 t

@[inherit_doc rows0] abbrev rows1 (t : Fin cfg0.N) : Vec Ideal S2048x1024 .bf16 := iblk m c 1 t

/-- A point reads its own 2048 rows. -/
theorem idx_in : ∀ t : Fin cfg0.N, win0_0.index t = ![t.val, 0] ∧ win0_1.index t = ![t.val, 0] := (by decide +kernel : ∀ t : Fin grid0.N, _)

/-- The two operands as the call finds them. -/
theorem arr0 : (V m c main_v0 : (⟨S4096x1024, .bf16⟩ : BufTy).Contents (Elt Ideal)) = m ((c.tc : Thread nD τ).loc main_arg0) := by
  unfold V
  after_results
  rfl

theorem arr1 : (V m c main_v1 : (⟨S4096x1024, .bf16⟩ : BufTy).Contents (Elt Ideal)) = m ((c.tc : Thread nD τ).loc main_arg1) := by
  unfold V
  after_results
  rfl

theorem row_lt (t : Fin cfg0.N) (k : Fin 2048) : t.val * 2048 + k.val < 4096 := by
  have := t.isLt
  have h : cfg0.N = 2 := N_0
  omega

theorem blk0 (t : Fin cfg0.N) (k : Fin 2048) (f : Fin 1024) : rows0 m c t (ix2 k f)
    = (V m c main_v0 : (⟨S4096x1024, .bf16⟩ : BufTy).Contents (Elt Ideal)) (ix2 (⟨t.val * 2048 + k.val, row_lt t k⟩ : Fin 4096) f) := by
  blk_ext [rows0, iblk, idx_in t]

theorem blk1 (t : Fin cfg0.N) (k : Fin 2048) (d : Fin 1024) : rows1 m c t (ix2 k d)
    = (V m c main_v1 : (⟨S4096x1024, .bf16⟩ : BufTy).Contents (Elt Ideal)) (ix2 (⟨t.val * 2048 + k.val, row_lt t k⟩ : Fin 4096) d) := by
  blk_ext [rows1, iblk, idx_in t]

/-- What one point adds. -/
def part (n : ℕ) (i : S1x1024x1024.Idx) : EReal :=
  if h : n < cfg0.N then ∑ k : Fin 2048, rows0 m c ⟨n, h⟩ (ix2 k (i 1 : Fin 1024)) * rows1 m c ⟨n, h⟩ (ix2 k (i 2 : Fin 1024)) else 0

theorem idx_eq (i : S1x1024x1024.Idx) : ∃ (f : Fin 1024) (d : Fin 1024), i = ix3 0 f d :=
  ⟨i 1, i 2, by
    funext a; fin_cases a
    · exact Fin.ext (by have := (i 0).isLt; simp at this ⊢)
    · rfl
    · rfl⟩

/-- The array after the run is the gradient. -/
theorem result (f : Fin 1024) (d : Fin 1024) :
    (Value.G2 m c : (⟨S1x1024x1024, .f32⟩ : BufTy).Contents (Elt Ideal)) (ix3 0 f d)
      = grad (m ((c.tc : Thread nD τ).loc main_arg0)) (m ((c.tc : Thread nD τ).loc main_arg1)) f d := by
  have hN : cfg0.N = 2 := N_0
  have hr : Value.run2Of (ix3 0 f d : S1x1024x1024.Idx) = 0 := by
    show 1 * (0 / 1 - 0) + 1 * (f.val / 1024 - 0) + 1 * (d.val / 1024 - 0) = 0
    omega
  have hl : Value.loc2Of (ix3 0 f d : S1x1024x1024.Idx) = (ix3 0 f d : S1x1024x1024.Idx) := by
    funext a; fin_cases a
    · rfl
    · exact Fin.ext (Nat.mod_eq_of_lt f.isLt)
    · exact Fin.ext (Nat.mod_eq_of_lt d.isLt)
  unfold Value.G2
  rw [hr, hl, dif_pos (by omega)]
  refine (Pipeline.accAt_add_apply (Value.reset2 m c) (Value.step2 m c) (fun _ => 0) (part m c) (2 * 0) 1 ?_ ?_ 1 le_rfl _ _).trans ?_
  · intro h i
    have e : k0_pay2 (F := Ideal) (iblk m c 0 ⟨2 * 0, h⟩) (k0_pay1 (F := Ideal)) (iblk m c 1 ⟨2 * 0, h⟩) i = 0 + part m c (2 * 0) i := by
      obtain ⟨f', d', rfl⟩ := idx_eq i
      rw [add_apply, zero_apply, part, dif_pos h]
      rfl
    exact e
  · intro n h acc i _ _
    have e : k0_pay2 (F := Ideal) (iblk m c 0 ⟨n, h⟩) acc (iblk m c 1 ⟨n, h⟩) i = acc i + part m c n i := by
      obtain ⟨f', d', rfl⟩ := idx_eq i
      rw [add_apply, part, dif_pos h]
      rfl
    exact e
  · show (0 : EReal) + ∑ s ∈ Finset.range 2, part m c (2 * 0 + s) (ix3 0 f d) = _
    rw [zero_add, Finset.sum_range, ← grad_eq]
    refine Finset.sum_congr rfl fun s _ => ?_
    have hs : 2 * 0 + s.val < cfg0.N := by omega
    rw [part, dif_pos hs]
    refine Finset.sum_congr rfl fun k _ => ?_
    show rows0 m c ⟨2 * 0 + s.val, hs⟩ (ix2 k f) * rows1 m c ⟨2 * 0 + s.val, hs⟩ (ix2 k d) = _
    rw [blk0, blk1, arr0, arr1]
    simp only [Nat.mul_zero, Nat.zero_add]

/-- What the reference's program returns is the gradient. -/
theorem ref_result (x0 : (⟨S4096x1024, .f32⟩ : BufTy).Contents (Elt Ideal)) (x1 : (⟨S4096x1024, .f32⟩ : BufTy).Contents (Elt Ideal)) (f : Fin 1024) (d : Fin 1024) :
    Cert.ReferenceOutIdeal.Read.val_main_v4 (F := Ideal) x0 x1 (ix3 0 f d) = grad x0 x1 f d := by
  rw [Cert.ReferenceOutIdeal.Read.val_main_v4_apply, Cert.ReferenceOutIdeal.Read.val_main_v3_apply, Cert.ReferenceOutIdeal.Read.val_main_v2_apply]
  unfold grad
  refine Finset.sum_congr rfl fun k _ => ?_
  rw [mul_comm]
  congr 2
  · funext a; fin_cases a <;> rfl
  · funext a; fin_cases a <;> rfl

/-- The kernel returns what the reference returns. -/
theorem algebraic : Cert.algebraic_KernelOutIdeal_ReferenceOutIdeal := by
  intro m g m' g' _ hin
  refine ⟨fun c => Value.G2 m c, Value.run m g, ?_⟩
  refine (θ_run Cert.ReferenceOutIdeal.defs _ _).mono (fun r h c => ⟨(h c).1.trans ?_, (h c).2⟩) (Cert.ReferenceOutIdeal.Value.run (F := Ideal) m' g')
  refine (Cert.ReferenceOutIdeal.Read.val_main_v4_eq _ _).symm.trans ?_
  rw [(hin c).1, (hin c).2]
  funext i
  obtain ⟨f, d, rfl⟩ := idx_eq i
  exact (ref_result _ _ f d).trans (result m c f d).symm

end Cert.KernelOutIdeal.Hand

end
-- ==== Proof.Ff.Grad1.lean ====
/- The gradient of the MLP's first weight, a block of 512 columns at a time: what the kernel's two blocks of 2048
   rows add up to is the reference's one product over 4096 rows. -/
module

public import proofs.«01_k».proof.Defs
public import proofs.«01_k».proof.Proof.Gen.KernelFf1.Frame
public import proofs.«01_k».proof.Proof.Gen.KernelFf1Ideal.Frame
public import proofs.«01_k».proof.Proof.Gen.KernelFf1Ideal.Value
public import proofs.«01_k».proof.Proof.Gen.ReferenceFf1Ideal.Run
public import proofs.«01_k».proof.Proof.Gen.ReferenceFf1Ideal.Read
public import proofs.«01_k».proof.Proof.Gen.KernelFf1
public import proofs.«01_k».proof.Proof.Gen.KernelFf1Ideal
public import proofs.«01_k».proof.Proof.Gen.ReferenceFf1Ideal
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelFf1Ideal.Hand

open Idealize.ShloMosaic Idealize.ShloMosaic.TcCoe Idealize.ShloMosaic.Tactic
open Idealize.SL.Sem Cert.KernelFf1Ideal Cert.KernelFf1Ideal.Gen

/-- The gradient: over all the rows, the input times the hidden units' gradient. -/
def grad (a : (⟨S4096x1024, .f32⟩ : BufTy).Contents (Elt Ideal)) (b : (⟨S4096x4096, .f32⟩ : BufTy).Contents (Elt Ideal)) (f : Fin 1024) (d : Fin 4096) : EReal :=
  ∑ k : Fin 4096, a (ix2 k f) * b (ix2 k d)

/-- The part of the gradient that one half of the rows gives. -/
def half (a : (⟨S4096x1024, .f32⟩ : BufTy).Contents (Elt Ideal)) (b : (⟨S4096x4096, .f32⟩ : BufTy).Contents (Elt Ideal)) (s : Fin 2) (f : Fin 1024) (d : Fin 4096) : EReal :=
  ∑ k : Fin 2048, a (ix2 (⟨s.val * 2048 + k.val, by omega⟩ : Fin 4096) f) * b (ix2 (⟨s.val * 2048 + k.val, by omega⟩ : Fin 4096) d)

/-- The gradient, two blocks of 2048 rows at a time. -/
theorem grad_eq (a : (⟨S4096x1024, .f32⟩ : BufTy).Contents (Elt Ideal)) (b : (⟨S4096x4096, .f32⟩ : BufTy).Contents (Elt Ideal)) (f : Fin 1024) (d : Fin 4096) :
    ∑ s : Fin 2, half a b s f d = grad a b f d :=
  Fin.sum_mul_add_congr fun s k hl => rfl

/-- The zero block is zero. -/
theorem zero_apply (i : S2x1024x512.Idx) : k0_pay1 (F := Ideal) i = 0 := by
  pointwise [k0_pay1]

/-- A point adds, in either half of the block, the product over its rows. -/
theorem add_apply0 (x : Vec Ideal S2048x1024 .bf16) (acc : Vec Ideal S1x1024x512 .f32) (y : Vec Ideal S2048x512 .bf16) (f : Fin 1024) (d : Fin 512) :
    k0_pay3 (F := Ideal) x acc y (ix3 0 f d) = acc (ix3 0 f d) + ∑ k : Fin 2048, x (ix2 k f) * y (ix2 k d) := by
  pointwise [k0_pay3, k0_pay2]

theorem add_apply1 (x : Vec Ideal S2048x1024 .bf16) (acc : Vec Ideal S1x1024x512 .f32) (y : Vec Ideal S2048x512 .bf16) (f : Fin 1024) (d : Fin 512) :
    k0_pay4 (F := Ideal) x acc y (ix3 0 f d) = acc (ix3 0 f d) + ∑ k : Fin 2048, x (ix2 k f) * y (ix2 k d) := by
  pointwise [k0_pay4, k0_pay2]

section Halves

variable (i1 : ∀ d, (![1, 0, 0] : Fin 3 → ℕ) d + S1x1024x512.size d ≤ S2x1024x512.size d)
  (i0 : ∀ d, (![0, 0, 0] : Fin 3 → ℕ) d + S1x1024x512.size d ≤ S2x1024x512.size d)

/-- The store of the second half. -/
abbrev p1 (w : Vec Ideal S1x1024x512 .f32) : View.Piece (Elt Ideal) S2x1024x512 .f32 := ⟨Rect.unit ![1, 0, 0] S1x1024x512.size i1, w⟩

/-- The store of the first half. -/
abbrev p0 (w : Vec Ideal S1x1024x512 .f32) : View.Piece (Elt Ideal) S2x1024x512 .f32 := ⟨Rect.unit ![0, 0, 0] S1x1024x512.size i0, w⟩

theorem emb1 (f : Fin 1024) (d : Fin 512) : (ix3 1 f d : S2x1024x512.Idx) = (Rect.unit (s := S2x1024x512) ![1, 0, 0] S1x1024x512.size i1).emb (ix3 0 f d : S1x1024x512.Idx) := by
  funext a; fin_cases a
  · rfl
  · exact Fin.ext (show f.val = 0 + 1 * f.val by omega)
  · exact Fin.ext (show d.val = 0 + 1 * d.val by omega)

theorem emb0 (f : Fin 1024) (d : Fin 512) : (ix3 0 f d : S2x1024x512.Idx) = (Rect.unit (s := S2x1024x512) ![0, 0, 0] S1x1024x512.size i0).emb (ix3 0 f d : S1x1024x512.Idx) := by
  funext a; fin_cases a
  · rfl
  · exact Fin.ext (show f.val = 0 + 1 * f.val by omega)
  · exact Fin.ext (show d.val = 0 + 1 * d.val by omega)

theorem not_in1 (f : Fin 1024) (d : Fin 512) : (ix3 0 f d : S2x1024x512.Idx) ∉ (Rect.unit (s := S2x1024x512) ![1, 0, 0] S1x1024x512.size i1).set := by
  intro hm
  obtain ⟨x, hx⟩ := (Rect.unit (s := S2x1024x512) ![1, 0, 0] S1x1024x512.size i1).exists_idx_of_mem hm
  have h2 : (((Rect.unit (s := S2x1024x512) ![1, 0, 0] S1x1024x512.size i1).idx x) 0).val = 1 + 1 * (x 0).val := rfl
  rw [hx] at h2
  have h3 : (0 : ℕ) = 1 + 1 * (x 0).val := h2
  omega

theorem not_in0 (f : Fin 1024) (d : Fin 512) : (ix3 1 f d : S2x1024x512.Idx) ∉ (Rect.unit (s := S2x1024x512) ![0, 0, 0] S1x1024x512.size i0).set := by
  intro hm
  obtain ⟨x, hx⟩ := (Rect.unit (s := S2x1024x512) ![0, 0, 0] S1x1024x512.size i0).exists_idx_of_mem hm
  have h1 : (x 0).val < 1 := (x 0).isLt
  have h2 : (((Rect.unit (s := S2x1024x512) ![0, 0, 0] S1x1024x512.size i0).idx x) 0).val = 0 + 1 * (x 0).val := rfl
  rw [hx] at h2
  have h3 : (1 : ℕ) = 0 + 1 * (x 0).val := h2
  omega

/-- What two stores, one of each half, leave. -/
theorem halves1 (w1 : Vec Ideal S1x1024x512 .f32) (L : List (View.Piece (Elt Ideal) S2x1024x512 .f32)) (f : Fin 1024) (d : Fin 512) :
    View.canon (p1 i1 w1 :: L) (ix3 1 f d) = w1 (ix3 0 f d) := by
  rw [emb1 i1]
  exact View.canon_cons_emb _ _ _ _

theorem halves0 (w1 w0 : Vec Ideal S1x1024x512 .f32) (L : List (View.Piece (Elt Ideal) S2x1024x512 .f32)) (f : Fin 1024) (d : Fin 512) :
    View.canon (p1 i1 w1 :: p0 i0 w0 :: L) (ix3 0 f d) = w0 (ix3 0 f d) := by
  rw [View.canon_cons_of_not_mem (Val := Elt Ideal) (p1 i1 w1) _ (not_in1 i1 f d), emb0 i0]
  exact View.canon_cons_emb _ _ _ _

theorem idx1 (f : Fin 1024) (d : Fin 512) : (Rect.unit (s := S2x1024x512) ![1, 0, 0] S1x1024x512.size i1).toLoadRect.idx (ix3 0 f d : S1x1024x512.Idx) = (ix3 1 f d : S2x1024x512.Idx) :=
  (emb1 i1 f d).symm

theorem idx0 (f : Fin 1024) (d : Fin 512) : (Rect.unit (s := S2x1024x512) ![0, 0, 0] S1x1024x512.size i0).toLoadRect.idx (ix3 0 f d : S1x1024x512.Idx) = (ix3 0 f d : S2x1024x512.Idx) :=
  (emb0 i0 f d).symm

variable (z : Vec Ideal S2x1024x512 .f32) (hz : ∀ y, z y = (0 : EReal))
  (iz : ∀ d, (![0, 0, 0] : Fin 3 → ℕ) d + (![2, 1024, 512] : Fin 3 → ℕ) d ≤ S2x1024x512.size d)

/-- The store of zeros over both halves. -/
abbrev pz : View.Piece (Elt Ideal) S2x1024x512 .f32 := ⟨Rect.unit ![0, 0, 0] ![2, 1024, 512] iz, z⟩

include hz in
theorem canon_z (w : S2x1024x512.Idx) : View.canon [pz z iz] w = (0 : EReal) :=
  (congrFun (View.canon_unit_zero (by funext a; fin_cases a <;> rfl) iz z) w).trans (hz w)

include hz in
/-- The first half reads zero after the store of zeros. -/
theorem carry0 (a : Memref sig .tc .vmem S2x1024x512 .f32) (f : Fin 1024) (d : Fin 512) :
    (a.view.readCov [pz z iz] (Rect.unit (s := S2x1024x512) ![0, 0, 0] S1x1024x512.size i0).toLoadRect : Vec Ideal S1x1024x512 .f32) (ix3 0 f d) = (0 : EReal) := by
  rw [View.readCov_eq_canon']
  exact canon_z z hz iz _

include hz in
/-- So does the second, after the store of the first. -/
theorem carry1 (a : Memref sig .tc .vmem S2x1024x512 .f32) (w : Vec Ideal S1x1024x512 .f32) (f : Fin 1024) (d : Fin 512) :
    (a.view.readCov [p0 i0 w, pz z iz] (Rect.unit (s := S2x1024x512) ![1, 0, 0] S1x1024x512.size i1).toLoadRect : Vec Ideal S1x1024x512 .f32) (ix3 0 f d) = (0 : EReal) := by
  rw [View.readCov_eq_canon']
  refine (congrArg (View.canon [p0 i0 w, pz z iz]) (idx1 i1 f d)).trans ?_
  rw [View.canon_cons_of_not_mem (Val := Elt Ideal) (p0 i0 w) _ (not_in0 i0 f d)]
  exact canon_z z hz iz _

end Halves

section Point

variable (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S2x1024x512 .f32) (harg4 : arg4.IsWhole)
  (x0 : Vec Ideal S2048x1024 .bf16) (x1 : Vec Ideal S2048x1024 .bf16)

/-- The product over a point's rows, at place d of half e. -/
def dot (e : Fin 2) (f : Fin 1024) (d : Fin 512) : EReal :=
  ∑ k : Fin 2048, x0 (ix2 k f) * x1 (ix2 k (⟨e.val * 512 + d.val, by omega⟩ : Fin 1024))

theorem ld1 (i1) (acc : Vec Ideal S2x1024x512 .f32) (f : Fin 1024) (d : Fin 512) :
    (View.ld acc (Rect.unit (s := S2x1024x512) ![1, 0, 0] S1x1024x512.size i1) : Vec Ideal S1x1024x512 .f32) (ix3 0 f d) = acc (ix3 1 f d) :=
  congrArg acc (idx1 i1 f d)

theorem ld0 (i0) (acc : Vec Ideal S2x1024x512 .f32) (f : Fin 1024) (d : Fin 512) :
    (View.ld acc (Rect.unit (s := S2x1024x512) ![0, 0, 0] S1x1024x512.size i0) : Vec Ideal S1x1024x512 .f32) (ix3 0 f d) = acc (ix3 0 f d) :=
  congrArg acc (idx0 i0 f d)

theorem cols1 (j1) (f : Fin 1024) (d : Fin 512) :
    ∑ k : Fin 2048, x0 (ix2 k f) * (View.ld x1 (Rect.unit (s := S2048x1024) ![0, 512] S2048x512.size j1) : Vec Ideal S2048x512 .bf16) (ix2 k d) = dot x0 x1 1 f d := by
  refine Finset.sum_congr rfl fun k _ => congrArg (x0 (ix2 k f) * ·) ?_
  refine congrArg x1 ?_
  funext a; fin_cases a
  · exact Fin.ext (show 0 + 1 * k.val = k.val by omega)
  · exact Fin.ext (show 512 + 1 * d.val = 1 * 512 + d.val by omega)

theorem cols0 (j0) (f : Fin 1024) (d : Fin 512) :
    ∑ k : Fin 2048, x0 (ix2 k f) * (View.ld x1 (Rect.unit (s := S2048x1024) ![0, 0] S2048x512.size j0) : Vec Ideal S2048x512 .bf16) (ix2 k d) = dot x0 x1 0 f d := by
  refine Finset.sum_congr rfl fun k _ => congrArg (x0 (ix2 k f) * ·) ?_
  refine congrArg x1 ?_
  funext a; fin_cases a
  · exact Fin.ext (show 0 + 1 * k.val = k.val by omega)
  · exact Fin.ext (show 0 + 1 * d.val = 0 * 512 + d.val by omega)

/-- What a point that adds leaves. -/
theorem out_B (hc0 : ¬cond0_0 i) (acc : Vec Ideal S2x1024x512 .f32) (e : Fin 2) (f : Fin 1024) (d : Fin 512) :
    out0_B_2 (F := Ideal) c i arg2 harg2 arg3 harg3 arg4 harg4 hc0 x0 x1 acc (ix3 e f d) = acc (ix3 e f d) + dot x0 x1 e f d := by
  frame_out
  have he : e = 0 ∨ e = 1 := by omega
  rcases he with rfl | rfl
  · refine (halves0 _ _ _ _ _ f d).trans ?_
    refine (add_apply0 x0 _ _ f d).trans ?_
    exact congrArg₂ (· + ·) (ld0 _ acc f d) (cols0 x0 x1 _ f d)
  · refine (halves1 _ _ _ f d).trans ?_
    refine (add_apply1 x0 _ _ f d).trans ?_
    exact congrArg₂ (· + ·) (ld1 _ acc f d) (cols1 x0 x1 _ f d)

/-- What a point that begins a block leaves. -/
theorem out_A (hc0 : cond0_0 i) (e : Fin 2) (f : Fin 1024) (d : Fin 512) :
    out0_A_2 (F := Ideal) c i arg2 harg2 arg3 harg3 arg4 harg4 hc0 x0 x1 (ix3 e f d) = dot x0 x1 e f d := by
  frame_out
  have he : e = 0 ∨ e = 1 := by omega
  rcases he with rfl | rfl
  · refine (halves0 _ _ _ _ _ f d).trans ?_
    refine (add_apply0 x0 _ _ f d).trans ?_
    exact (congrArg₂ (· + ·) (carry0 _ _ zero_apply _ arg4 f d) (cols0 x0 x1 _ f d)).trans (zero_add _)
  · refine (halves1 _ _ _ f d).trans ?_
    refine (add_apply1 x0 _ _ f d).trans ?_
    exact (congrArg₂ (· + ·) (carry1 _ _ _ zero_apply _ arg4 _ f d) (cols1 x0 x1 _ f d)).trans (zero_add _)

end Point

variable (m : (ℓ : Loc nD τ sig) → Buf (Elt Ideal) ℓ) (c : Dev nD)

/-- The rows and columns a point reads of the two operands. -/
abbrev rows0 (t : Fin cfg0.N) : Vec Ideal S2048x1024 .bf16 := iblk m c 0 t

@[inherit_doc rows0] abbrev rows1 (t : Fin cfg0.N) : Vec Ideal S2048x1024 .bf16 := iblk m c 1 t

/-- Two points share two blocks of columns, and read the two halves of the rows. -/
theorem idx_in : ∀ t : Fin cfg0.N, win0_0.index t = ![t.val % 2, 0] ∧ win0_1.index t = ![t.val % 2, t.val / 2] := (by decide +kernel : ∀ t : Fin grid0.N, _)

theorem idx_out : ∀ t : Fin cfg0.N, win0_2.index t = ![t.val / 2, 0, 0] := (by decide +kernel : ∀ t : Fin grid0.N, _)

/-- The two operands as the call finds them. -/
theorem arr0 : (V m c main_v0 : (⟨S4096x1024, .bf16⟩ : BufTy).Contents (Elt Ideal)) = m ((c.tc : Thread nD τ).loc main_arg0) := by
  unfold V
  after_results
  rfl

theorem arr1 : (V m c main_v1 : (⟨S4096x4096, .bf16⟩ : BufTy).Contents (Elt Ideal)) = m ((c.tc : Thread nD τ).loc main_arg1) := by
  unfold V
  after_results
  rfl

theorem row_lt (t : Fin cfg0.N) (k : Fin 2048) : t.val % 2 * 2048 + k.val < 4096 := by
  omega

theorem col_lt (t : Fin cfg0.N) (d : Fin 1024) : t.val / 2 * 1024 + d.val < 4096 := by
  have := t.isLt
  have h : cfg0.N = 8 := N_0
  omega

theorem blk0 (t : Fin cfg0.N) (k : Fin 2048) (f : Fin 1024) : rows0 m c t (ix2 k f)
    = (V m c main_v0 : (⟨S4096x1024, .bf16⟩ : BufTy).Contents (Elt Ideal)) (ix2 (⟨t.val % 2 * 2048 + k.val, row_lt t k⟩ : Fin 4096) f) := by
  blk_ext [rows0, iblk, idx_in t]

theorem blk1 (t : Fin cfg0.N) (k : Fin 2048) (d : Fin 1024) : rows1 m c t (ix2 k d)
    = (V m c main_v1 : (⟨S4096x4096, .bf16⟩ : BufTy).Contents (Elt Ideal)) (ix2 (⟨t.val % 2 * 2048 + k.val, row_lt t k⟩ : Fin 4096) (⟨t.val / 2 * 1024 + d.val, col_lt t d⟩ : Fin 4096)) := by
  blk_ext [rows1, iblk, idx_in t]

/-- The column of the whole gradient at place d of block j. -/
abbrev col (j : Fin 8) (d : Fin 512) : Fin 4096 := ⟨j.val * 512 + d.val, by omega⟩

/-- What the result's array holds: the gradient, block by block. -/
def G : (⟨S8x1024x512, .f32⟩ : BufTy).Contents (Elt Ideal) := fun i =>
  grad (m ((c.tc : Thread nD τ).loc main_arg0)) (m ((c.tc : Thread nD τ).loc main_arg1)) (i 1 : Fin 1024) (col (i 0 : Fin 8) (i 2 : Fin 512))

/-- The two points of two blocks leave their gradient. -/
theorem pair (t : Fin cfg0.N) (ht : ¬t.val % 2 = 0) (e : Fin 2) (f : Fin 1024) (d : Fin 512) (j : Fin 8) (hj : j.val = t.val / 2 * 2 + e.val) :
    outsAt0 m c t.val t.isLt (ix3 e f d) = grad (m ((c.tc : Thread nD τ).loc main_arg0)) (m ((c.tc : Thread nD τ).loc main_arg1)) f (col j d) := by
  have hN : cfg0.N = 8 := N_0
  have ht' := t.isLt
  have hp : t.val - 1 < cfg0.N := by omega
  rw [outsAt0_B m c t ht, out_B, outsAt0_A m c ⟨t.val - 1, hp⟩ (show (t.val - 1) % 2 = 0 by omega), out_A, ← grad_eq, Fin.sum_univ_two]
  have hd : ∀ (n : Fin cfg0.N) (s : Fin 2), n.val % 2 = s.val → n.val / 2 = t.val / 2 →
      dot (iblk m c 0 n) (iblk m c 1 n) e f d = half (m ((c.tc : Thread nD τ).loc main_arg0)) (m ((c.tc : Thread nD τ).loc main_arg1)) s f (col j d) := by
    intro n s h1 h2
    refine Finset.sum_congr rfl fun k _ => ?_
    show rows0 m c n (ix2 k f) * rows1 m c n (ix2 k _) = _
    rw [blk0, blk1, arr0, arr1]
    have e3 : n.val / 2 * 1024 + (e.val * 512 + d.val) = j.val * 512 + d.val := by omega
    simp only [h1, e3]
  rw [hd ⟨t.val - 1, hp⟩ 0 (show (t.val - 1) % 2 = 0 by omega) (show (t.val - 1) / 2 = t.val / 2 by omega), hd t 1 (show t.val % 2 = 1 by omega) rfl]

/-- The array after the run is the gradient. -/
theorem final : (dats m 0 c).arrAt 2 cfg0.N = G m c := by
  refine (dats m 0 c).arrAt_eq_of_covers 2 _ (by decide +kernel) fun t hf y => ?_
  have ht : t.val % 2 = 1 := (flush0_2 t).mp hf
  have hN : cfg0.N = 8 := N_0
  have htl : t.val < 8 := lt_of_lt_of_eq t.isLt hN
  obtain ⟨e, f, d, rfl⟩ : ∃ (e : Fin 2) (f : Fin 1024) (d : Fin 512), y = (ix3 e f d : S2x1024x512.Idx) :=
    ⟨y 0, y 1, y 2, by funext a; fin_cases a <;> rfl⟩
  have key := pair m c t (by omega) e f d (⟨t.val / 2 * 2 + e.val, by omega⟩ : Fin 8) rfl
  rw [after0_2]
  refine key.trans ?_
  have e0 : win0_2.index t (0 : Fin 3) = t.val / 2 := congrFun (idx_out t) 0
  have e1 : win0_2.index t (1 : Fin 3) = 0 := congrFun (idx_out t) 1
  have e2 : win0_2.index t (2 : Fin 3) = 0 := congrFun (idx_out t) 2
  refine congrArg₂ (grad _ _) (Fin.ext ?_) (Fin.ext ?_)
  · show f.val = win0_2.index t (1 : Fin 3) * 1024 + 1 * f.val
    rw [e1]; omega
  · show (t.val / 2 * 2 + e.val) * 512 + d.val = (win0_2.index t (0 : Fin 3) * 2 + 1 * e.val) * 512 + (win0_2.index t (2 : Fin 3) * 512 + 1 * d.val)
    rw [e0, e2]; omega

/-- What the reference's program returns is the gradient. -/
theorem ref_result (x0 : (⟨S4096x1024, .f32⟩ : BufTy).Contents (Elt Ideal)) (x1 : (⟨S4096x4096, .f32⟩ : BufTy).Contents (Elt Ideal)) (j : Fin 8) (f : Fin 1024) (d : Fin 512) :
    Cert.ReferenceFf1Ideal.Read.val_main_v5 (F := Ideal) x0 x1 (ix3 j f d) = grad x0 x1 f (col j d) := by
  rw [Cert.ReferenceFf1Ideal.Read.val_main_v5_apply, Cert.ReferenceFf1Ideal.Read.val_main_v4_apply, Cert.ReferenceFf1Ideal.Read.val_main_v3_apply, Cert.ReferenceFf1Ideal.Read.val_main_v2_apply]
  unfold grad
  refine Finset.sum_congr rfl fun k _ => ?_
  rw [mul_comm]
  congr 2
  · funext a; fin_cases a
    · rfl
    · exact Fin.ext (show ((f.val * 8 + j.val) * 512 + d.val) / 4096 = f.val by omega)
  · funext a; fin_cases a
    · rfl
    · exact Fin.ext (show ((f.val * 8 + j.val) * 512 + d.val) % 4096 = j.val * 512 + d.val by omega)

/-- The kernel returns what the reference returns. -/
theorem algebraic : Cert.algebraic_KernelFf1Ideal_ReferenceFf1Ideal := by
  intro m g m' g' _ hin
  refine ⟨fun c => G m c, (θ_run Cert.KernelFf1Ideal.defs _ _).mono (fun r h c => ⟨(h c).1.trans (final m c), (h c).2⟩) (Value.run_blocks m g), ?_⟩
  refine (θ_run Cert.ReferenceFf1Ideal.defs _ _).mono (fun r h c => ⟨(h c).1.trans ?_, (h c).2⟩) (Cert.ReferenceFf1Ideal.Value.run (F := Ideal) m' g')
  refine (Cert.ReferenceFf1Ideal.Read.val_main_v5_eq _ _).symm.trans ?_
  rw [(hin c).1, (hin c).2]
  funext i
  have hi : i = ix3 (i 0 : Fin 8) (i 1 : Fin 1024) (i 2 : Fin 512) := by
    funext a; fin_cases a <;> rfl
  rw [hi]
  exact ref_result _ _ _ _ _

end Cert.KernelFf1Ideal.Hand

end
-- ==== Proof.Ff.GradIn.lean ====
/- The gradient of the input projection's weight, a block of 896 columns at a time: what the kernel's two blocks of 2048
   rows add up to is the reference's one product over 4096 rows. -/
module

public import proofs.«01_k».proof.Defs
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelIn
public import proofs.«01_k».proof.Proof.Gen.KernelInIdeal
public import proofs.«01_k».proof.Proof.Gen.ReferenceInIdeal
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelInIdeal.Hand

open Idealize.ShloMosaic Idealize.ShloMosaic.TcCoe Idealize.ShloMosaic.Tactic
open Idealize.SL.Sem Cert.KernelInIdeal Cert.KernelInIdeal.Gen

/-- The gradient: over all the rows, the input times the projection's gradient. -/
def grad (a : (⟨S4096x1024, .f32⟩ : BufTy).Contents (Elt Ideal)) (b : (⟨S4096x3584, .f32⟩ : BufTy).Contents (Elt Ideal)) (f : Fin 1024) (d : Fin 3584) : EReal :=
  ∑ k : Fin 4096, a (ix2 k f) * b (ix2 k d)

/-- The gradient, two blocks of 2048 rows at a time. -/
theorem grad_eq (a : (⟨S4096x1024, .f32⟩ : BufTy).Contents (Elt Ideal)) (b : (⟨S4096x3584, .f32⟩ : BufTy).Contents (Elt Ideal)) (f : Fin 1024) (d : Fin 3584) :
    ∑ s : Fin 2, ∑ k : Fin 2048, a (ix2 (⟨s.val * 2048 + k.val, by omega⟩ : Fin 4096) f) * b (ix2 (⟨s.val * 2048 + k.val, by omega⟩ : Fin 4096) d) = grad a b f d :=
  Fin.sum_mul_add_congr fun s k hl => rfl

/-- The zero block is zero. -/
theorem zero_apply (i : S1x1024x896.Idx) : k0_pay1 (F := Ideal) i = 0 := by
  pointwise [k0_pay1]

/-- A point adds the product over its rows. -/
theorem add_apply (x : Vec Ideal S2048x1024 .bf16) (acc : Vec Ideal S1x1024x896 .f32) (y : Vec Ideal S2048x896 .bf16) (f : Fin 1024) (d : Fin 896) :
    k0_pay2 (F := Ideal) x acc y (ix3 0 f d) = acc (ix3 0 f d) + ∑ k : Fin 2048, x (ix2 k f) * y (ix2 k d) := by
  pointwise [k0_pay2]

variable (m : (ℓ : Loc nD τ sig) → Buf (Elt Ideal) ℓ) (c : Dev nD)

/-- The rows and columns a point reads of the two operands. -/
abbrev rows0 (t : Fin cfg0.N) : Vec Ideal S2048x1024 .bf16 := iblk m c 0 t

@[inherit_doc rows0] abbrev rows1 (t : Fin cfg0.N) : Vec Ideal S2048x896 .bf16 := iblk m c 1 t

/-- Two points share a block of columns, and read the two halves of the rows. -/
theorem idx_in : ∀ t : Fin cfg0.N, win0_0.index t = ![t.val % 2, 0] ∧ win0_1.index t = ![t.val % 2, t.val / 2] := (by decide +kernel : ∀ t : Fin grid0.N, _)

/-- The two operands as the call finds them. -/
theorem arr0 : (V m c main_v0 : (⟨S4096x1024, .bf16⟩ : BufTy).Contents (Elt Ideal)) = m ((c.tc : Thread nD τ).loc main_arg0) := by
  unfold V
  after_results
  rfl

theorem arr1 : (V m c main_v1 : (⟨S4096x3584, .bf16⟩ : BufTy).Contents (Elt Ideal)) = m ((c.tc : Thread nD τ).loc main_arg1) := by
  unfold V
  after_results
  rfl

theorem row_lt (t : Fin cfg0.N) (k : Fin 2048) : t.val % 2 * 2048 + k.val < 4096 := by
  omega

theorem col_lt (t : Fin cfg0.N) (d : Fin 896) : t.val / 2 * 896 + d.val < 3584 := by
  have := t.isLt
  have h : cfg0.N = 8 := N_0
  omega

theorem blk0 (t : Fin cfg0.N) (k : Fin 2048) (f : Fin 1024) : rows0 m c t (ix2 k f)
    = (V m c main_v0 : (⟨S4096x1024, .bf16⟩ : BufTy).Contents (Elt Ideal)) (ix2 (⟨t.val % 2 * 2048 + k.val, row_lt t k⟩ : Fin 4096) f) := by
  blk_ext [rows0, iblk, idx_in t]

theorem blk1 (t : Fin cfg0.N) (k : Fin 2048) (d : Fin 896) : rows1 m c t (ix2 k d)
    = (V m c main_v1 : (⟨S4096x3584, .bf16⟩ : BufTy).Contents (Elt Ideal)) (ix2 (⟨t.val % 2 * 2048 + k.val, row_lt t k⟩ : Fin 4096) (⟨t.val / 2 * 896 + d.val, col_lt t d⟩ : Fin 3584)) := by
  blk_ext [rows1, iblk, idx_in t]

/-- What one point adds. -/
def part (n : ℕ) (i : S1x1024x896.Idx) : EReal :=
  if h : n < cfg0.N then ∑ k : Fin 2048, rows0 m c ⟨n, h⟩ (ix2 k (i 1 : Fin 1024)) * rows1 m c ⟨n, h⟩ (ix2 k (i 2 : Fin 896)) else 0

theorem idx_eq (i : S1x1024x896.Idx) : ∃ (f : Fin 1024) (d : Fin 896), i = ix3 0 f d :=
  ⟨i 1, i 2, by
    funext a; fin_cases a
    · exact Fin.ext (by have := (i 0).isLt; simp at this ⊢)
    · rfl
    · rfl⟩

/-- The column of the whole gradient at place d of block j. -/
abbrev col (j : Fin 4) (d : Fin 896) : Fin 3584 := ⟨j.val * 896 + d.val, by omega⟩

/-- The array after the run is the gradient, block by block. -/
theorem result (j : Fin 4) (f : Fin 1024) (d : Fin 896) :
    (Value.G2 m c : (⟨S4x1024x896, .f32⟩ : BufTy).Contents (Elt Ideal)) (ix3 j f d)
      = grad (m ((c.tc : Thread nD τ).loc main_arg0)) (m ((c.tc : Thread nD τ).loc main_arg1)) f (col j d) := by
  have hN : cfg0.N = 8 := N_0
  have hr : Value.run2Of (ix3 j f d : S4x1024x896.Idx) = j.val := by
    show 1 * (j.val / 1 - 0) + 1 * (f.val / 1024 - 0) + 1 * (d.val / 896 - 0) = j.val
    omega
  have hl : Value.loc2Of (ix3 j f d : S4x1024x896.Idx) = (ix3 0 f d : S1x1024x896.Idx) := by
    funext a; fin_cases a
    · exact Fin.ext (Nat.mod_one _)
    · exact Fin.ext (Nat.mod_eq_of_lt f.isLt)
    · exact Fin.ext (Nat.mod_eq_of_lt d.isLt)
  unfold Value.G2
  rw [hr, hl, dif_pos (by omega)]
  refine (Pipeline.accAt_add_apply (Value.reset2 m c) (Value.step2 m c) (fun _ => 0) (part m c) (2 * j.val) 1 ?_ ?_ 1 le_rfl _ _).trans ?_
  · intro h i
    have e : k0_pay2 (F := Ideal) (iblk m c 0 ⟨2 * j.val, h⟩) (k0_pay1 (F := Ideal)) (iblk m c 1 ⟨2 * j.val, h⟩) i = 0 + part m c (2 * j.val) i := by
      obtain ⟨f', d', rfl⟩ := idx_eq i
      rw [add_apply, zero_apply, part, dif_pos h]
      rfl
    exact e
  · intro n h acc i _ _
    have e : k0_pay2 (F := Ideal) (iblk m c 0 ⟨n, h⟩) acc (iblk m c 1 ⟨n, h⟩) i = acc i + part m c n i := by
      obtain ⟨f', d', rfl⟩ := idx_eq i
      rw [add_apply, part, dif_pos h]
      rfl
    exact e
  · show (0 : EReal) + ∑ s ∈ Finset.range 2, part m c (2 * j.val + s) (ix3 0 f d) = _
    rw [zero_add, Finset.sum_range, ← grad_eq]
    refine Finset.sum_congr rfl fun s _ => ?_
    have hs : 2 * j.val + s.val < cfg0.N := by omega
    rw [part, dif_pos hs]
    refine Finset.sum_congr rfl fun k _ => ?_
    show rows0 m c ⟨2 * j.val + s.val, hs⟩ (ix2 k f) * rows1 m c ⟨2 * j.val + s.val, hs⟩ (ix2 k d) = _
    rw [blk0, blk1, arr0, arr1]
    have e1 : (2 * j.val + s.val) % 2 = s.val := by omega
    have e2 : (2 * j.val + s.val) / 2 = j.val := by omega
    simp only [e1, e2]

/-- What the reference's program returns is the gradient. -/
theorem ref_result (x0 : (⟨S4096x1024, .f32⟩ : BufTy).Contents (Elt Ideal)) (x1 : (⟨S4096x3584, .f32⟩ : BufTy).Contents (Elt Ideal)) (j : Fin 4) (f : Fin 1024) (d : Fin 896) :
    Cert.ReferenceInIdeal.Read.val_main_v5 (F := Ideal) x0 x1 (ix3 j f d) = grad x0 x1 f (col j d) := by
  rw [Cert.ReferenceInIdeal.Read.val_main_v5_apply, Cert.ReferenceInIdeal.Read.val_main_v4_apply, Cert.ReferenceInIdeal.Read.val_main_v3_apply, Cert.ReferenceInIdeal.Read.val_main_v2_apply]
  unfold grad
  refine Finset.sum_congr rfl fun k _ => ?_
  rw [mul_comm]
  congr 2
  · funext a; fin_cases a
    · rfl
    · exact Fin.ext (show ((f.val * 4 + j.val) * 896 + d.val) / 3584 = f.val by omega)
  · funext a; fin_cases a
    · rfl
    · exact Fin.ext (show ((f.val * 4 + j.val) * 896 + d.val) % 3584 = j.val * 896 + d.val by omega)

/-- The kernel returns what the reference returns. -/
theorem algebraic : Cert.algebraic_KernelInIdeal_ReferenceInIdeal := by
  intro m g m' g' _ hin
  refine ⟨fun c => Value.G2 m c, Value.run m g, ?_⟩
  refine (θ_run Cert.ReferenceInIdeal.defs _ _).mono (fun r h c => ⟨(h c).1.trans ?_, (h c).2⟩) (Cert.ReferenceInIdeal.Value.run (F := Ideal) m' g')
  refine (Cert.ReferenceInIdeal.Read.val_main_v5_eq _ _).symm.trans ?_
  rw [(hin c).1, (hin c).2]
  funext i
  have hi : i = ix3 (i 0 : Fin 4) (i 1 : Fin 1024) (i 2 : Fin 896) := by
    funext a; fin_cases a <;> rfl
  rw [hi]
  exact (ref_result _ _ _ _ _).trans (result m c _ _ _).symm

end Cert.KernelInIdeal.Hand

end
-- ==== Proof.Mlp.Spec.lean ====
/- The MLP with the loss, and the gradient of the loss down to its input, for one token. Nothing here mentions a
   program. -/
module

public import proofs.«01_k».proof.Proof.Spec
public import Idealize.ShloMosaic.PureOps.Ideal.Laws

@[expose] public section

noncomputable section

namespace Cert.Mlp

open Idealize.ShloMosaic

/-- A 1024th, and the number that keeps the root away from zero. -/
abbrev c1024 : EReal := Ideal.ofBits .f32 0x3A800000#32
@[inherit_doc c1024] abbrev eps : EReal := Ideal.ofBits .f32 0x358637BD#32

/-- The inverse root of the mean square. -/
def rr (x : Fin 1024 → EReal) : EReal := Ideal.rsqrt ((∑ d, x d * x d) * c1024 + eps)

/-- The normalised row times the gain. -/
def norm (x g : Fin 1024 → EReal) (d : Fin 1024) : EReal := x d * rr x * g d

/-- The gradient of the row, of the gradient of the normalised row. -/
def back (dy x g : Fin 1024 → EReal) (d : Fin 1024) : EReal :=
  rr x * (dy d * g d - x d * rr x * ((∑ e, dy e * g e * (x e * rr x)) * c1024))

/-- The same, gone through one operation at a time. -/
def steps (dy x g : Fin 1024 → EReal) (d : Fin 1024) : EReal :=
  let ms := Ideal.div (0 + ∑ e, x e * x e) (Ideal.ofBits .f32 0x44800000#32) + eps
  let a := Ideal.ofBits .f32 0xBF000000#32 * Ideal.div (Ideal.rsqrt ms) ms
  let q := Ideal.div ((0 + ∑ e, x e * (dy e * g e)) * a) (Ideal.ofBits .f32 0x44800000#32)
  dy d * g d * Ideal.rsqrt ms + x d * q + q * x d

theorem c1024_val : c1024 = ((1 / 1024 : ℝ) : EReal) := by
  simp [Ideal.ofBits, Ideal.ieee, -EReal.coe_mul]; norm_num

theorem eps_val : ∃ e : ℝ, 0 < e ∧ eps = (e : EReal) := by
  refine ⟨_, ?_, by simp only [eps, Ideal.ofBits, Ideal.ieee]; simp [-EReal.coe_mul]; rfl⟩
  norm_num

theorem k1024_val : Ideal.ofBits .f32 0x44800000#32 = ((1024 : ℝ) : EReal) := by
  simp [Ideal.ofBits, Ideal.ieee, -EReal.coe_mul]; norm_num

theorem mhalf_val : Ideal.ofBits .f32 0xBF000000#32 = ((-1 / 2 : ℝ) : EReal) := by
  simp [Ideal.ofBits, Ideal.ieee, -EReal.coe_mul]; norm_num

theorem half_val : Ideal.ofBits .f32 0x3F000000#32 = ((1 / 2 : ℝ) : EReal) := by
  simp [Ideal.ofBits, Ideal.ieee, -EReal.coe_mul]; norm_num

theorem one_val : Ideal.ofBits .f32 0x3F800000#32 = ((1 : ℝ) : EReal) := by
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

theorem twob_val : Ideal.ofBits .bf16 0x4000#16 = ((2 : ℝ) : EReal) := by
  simp [Ideal.ofBits, Ideal.ieee, -EReal.coe_mul]; norm_num

theorem zero_val : Ideal.ofBits .f32 0x00000000#32 = (0 : EReal) := by
  simp [Ideal.ofBits, Ideal.ieee]

/-- Division by 1024 is multiplication by a 1024th. -/
theorem div1024 (x : EReal) : Ideal.div x (Ideal.ofBits .f32 0x44800000#32) = x * c1024 := by
  rw [k1024_val, c1024_val, Ideal.div_coe (by norm_num)]

/-- The inverse root, however the mean is taken. -/
theorem rr_div (x : Fin 1024 → EReal) : Ideal.rsqrt (Ideal.div (0 + ∑ e, x e * x e) (Ideal.ofBits .f32 0x44800000#32) + eps) = rr x := by
  rw [div1024, zero_add]; rfl

/-- A real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.max0 {x : EReal} : IsReal x → IsReal (max x 0) := by
  rintro ⟨a, rfl⟩; exact ⟨max a 0, by rw [← EReal.coe_zero]; exact (EReal.coe_strictMono.monotone.map_max).symm⟩
theorem IsReal.sum {ι : Type} [Fintype ι] {f : ι → EReal} (h : ∀ i, IsReal (f i)) : IsReal (∑ i, f i) := by
  choose r hr using h
  exact ⟨∑ i, r i, by rw [Cert.Attn.coe_sum]; exact Finset.sum_congr rfl fun i _ => hr i⟩
theorem isReal_c1024 : IsReal c1024 := ⟨_, c1024_val⟩
theorem isReal_two : IsReal (Ideal.ofBits .bf16 0x4000#16) := ⟨_, twob_val⟩

/-- For a real row the mean square is a positive real, and the inverse root is its inverse root. -/
theorem rr_real (x : Fin 1024 → ℝ) : ∃ ms : ℝ, 0 < ms ∧ (∑ d, ((x d : ℝ) : EReal) * (x d : EReal)) * c1024 + eps = (ms : EReal)
    ∧ rr (fun d => (x d : EReal)) = (((Real.sqrt ms)⁻¹ : ℝ) : EReal) := by
  obtain ⟨e, he, hv⟩ := eps_val
  have h0 : 0 ≤ ∑ d, x d * x d := Finset.sum_nonneg fun d _ => mul_self_nonneg _
  have hp : 0 < (∑ d, x d * x d) * (1 / 1024) + e := by positivity
  have hm : (∑ d, ((x d : ℝ) : EReal) * (x d : EReal)) * c1024 + eps = (((∑ d, x d * x d) * (1 / 1024) + e : ℝ) : EReal) := by
    rw [hv, c1024_val]
    simp only [← EReal.coe_mul, ← Cert.Attn.coe_sum, ← EReal.coe_add]
  refine ⟨_, hp, hm, ?_⟩
  unfold rr
  rw [hm, Ideal.rsqrt_coe, if_neg (not_lt.mpr hp.le), if_neg hp.ne']

theorem isReal_rr {x : Fin 1024 → EReal} (h : ∀ d, IsReal (x d)) : IsReal (rr x) := by
  choose r hr using h
  obtain rfl : x = fun d => (r d : EReal) := funext hr
  obtain ⟨ms, -, -, e⟩ := rr_real r
  exact ⟨_, e⟩

theorem isReal_norm {x g : Fin 1024 → EReal} (hx : ∀ d, IsReal (x d)) (hg : ∀ d, IsReal (g d)) (d : Fin 1024) : IsReal (norm x g d) :=
  ((hx d).mul (isReal_rr hx)).mul (hg d)

theorem isReal_back {dy x g : Fin 1024 → EReal} (hy : ∀ d, IsReal (dy d)) (hx : ∀ d, IsReal (x d)) (hg : ∀ d, IsReal (g d)) (d : Fin 1024) :
    IsReal (back dy x g d) :=
  (isReal_rr hx).mul (((hy d).mul (hg d)).sub (((hx d).mul (isReal_rr hx)).mul
    ((IsReal.sum fun e => ((hy e).mul (hg e)).mul ((hx e).mul (isReal_rr hx))).mul isReal_c1024)))

/-- Over real numbers, the gradient gone through one operation at a time is the one taken at once. -/
theorem steps_eq {dy x g : Fin 1024 → EReal} (hy : ∀ d, IsReal (dy d)) (hx : ∀ d, IsReal (x d)) (hg : ∀ d, IsReal (g d)) (d : Fin 1024) :
    steps dy x g d = back dy x g d := by
  choose y hy using hy
  choose r hr using hx
  choose k hk using hg
  obtain rfl : dy = fun d => (y d : EReal) := funext hy
  obtain rfl : x = fun d => (r d : EReal) := funext hr
  obtain rfl : g = fun d => (k d : EReal) := funext hk
  obtain ⟨ms, hp, hm, e⟩ := rr_real r
  have hs : 0 < Real.sqrt ms := Real.sqrt_pos.mpr hp
  unfold steps back
  simp only [div1024, zero_add, hm, e]
  have e' : Ideal.rsqrt (ms : EReal) = (((Real.sqrt ms)⁻¹ : ℝ) : EReal) := by
    rw [Ideal.rsqrt_coe, if_neg (not_lt.mpr hp.le), if_neg hp.ne']
  rw [e', Ideal.div_coe hp.ne', mhalf_val, c1024_val]
  simp only [← EReal.coe_mul, ← Cert.Attn.coe_sum, ← EReal.coe_add, ← EReal.coe_sub]
  refine congrArg _ ?_
  have hA : ∑ e, y e * k e * (r e * (Real.sqrt ms)⁻¹) = (∑ e, r e * (y e * k e)) * (Real.sqrt ms)⁻¹ := by
    rw [Finset.sum_mul]; exact Finset.sum_congr rfl fun e _ => by ring
  have hq : (1 / ms : ℝ) = (Real.sqrt ms)⁻¹ * (Real.sqrt ms)⁻¹ := by
    rw [← mul_inv, Real.mul_self_sqrt hp.le, one_div]
  rw [hA, hq]
  ring

/-- What a token's gradient is taken of: its row, the gains, the target and the two weights. -/
structure Row where
  x : Fin 1024 → EReal
  g1 : Fin 1024 → EReal
  w1 : Fin 1024 → Fin 4096 → EReal
  w2 : Fin 4096 → Fin 1024 → EReal
  g2 : Fin 1024 → EReal
  t : Fin 1024 → EReal

namespace Row

variable (R : Row)

/-- The normalised input, the hidden units, their squares, and the MLP's output. -/
def h (d : Fin 1024) : EReal := norm R.x R.g1 d
@[inherit_doc h] def u (k : Fin 4096) : EReal := max (∑ d, R.h d * R.w1 d k) 0
@[inherit_doc h] def a (k : Fin 4096) : EReal := R.u k * R.u k
@[inherit_doc h] def ff (d : Fin 1024) : EReal := ∑ k, R.a k * R.w2 k d

/-- The error, and the loss's gradient of the output. -/
def diff (d : Fin 1024) : EReal := R.x d + norm R.ff R.g2 d - R.t d
@[inherit_doc diff] def dy (d : Fin 1024) : EReal := R.diff d * c1024

/-- The gradients of the MLP's output, the hidden units, the normalised input and the input. -/
def dff (d : Fin 1024) : EReal := back R.dy R.ff R.g2 d
@[inherit_doc dff] def du (k : Fin 4096) : EReal := (∑ d, R.dff d * R.w2 k d) * (Ideal.ofBits .bf16 0x4000#16 * R.u k)
@[inherit_doc dff] def dh (d : Fin 1024) : EReal := ∑ k, R.du k * R.w1 d k
@[inherit_doc dff] def dx (d : Fin 1024) : EReal := R.dy d + back R.dh R.x R.g1 d

/-- The token's part of the squared errors and of the gains' gradients. -/
def err (d : Fin 1024) : EReal := R.diff d * R.diff d
@[inherit_doc err] def dg1 (d : Fin 1024) : EReal := R.dh d * (R.x d * rr R.x)
@[inherit_doc err] def dg2 (d : Fin 1024) : EReal := R.dy d * (R.ff d * rr R.ff)

/-- All that the gradient is taken of is real. -/
structure Real : Prop where
  x : ∀ d, IsReal (R.x d)
  g1 : ∀ d, IsReal (R.g1 d)
  w1 : ∀ d k, IsReal (R.w1 d k)
  w2 : ∀ k d, IsReal (R.w2 k d)
  g2 : ∀ d, IsReal (R.g2 d)
  t : ∀ d, IsReal (R.t d)

variable {R}

theorem Real.h (H : R.Real) (d : Fin 1024) : IsReal (R.h d) := isReal_norm H.x H.g1 d
theorem Real.u (H : R.Real) (k : Fin 4096) : IsReal (R.u k) := (IsReal.sum fun d => (H.h d).mul (H.w1 d k)).max0
theorem Real.ff (H : R.Real) (d : Fin 1024) : IsReal (R.ff d) := IsReal.sum fun k => ((H.u k).mul (H.u k)).mul (H.w2 k d)
theorem Real.dy (H : R.Real) (d : Fin 1024) : IsReal (R.dy d) := (((H.x d).add (isReal_norm H.ff H.g2 d)).sub (H.t d)).mul isReal_c1024
theorem Real.dff (H : R.Real) (d : Fin 1024) : IsReal (R.dff d) := isReal_back H.dy H.ff H.g2 d
theorem Real.du (H : R.Real) (k : Fin 4096) : IsReal (R.du k) := (IsReal.sum fun d => (H.dff d).mul (H.w2 k d)).mul (isReal_two.mul (H.u k))
theorem Real.dh (H : R.Real) (d : Fin 1024) : IsReal (R.dh d) := IsReal.sum fun k => (H.du k).mul (H.w1 d k)

end Row

/-- The gradient through a hidden unit that is cut at zero is zero where the unit is. -/
theorem relu_back (p w : EReal) : (if Ideal.cmp .ogt p 0 = 1#1 then w * (Ideal.ofBits .f32 0x40000000#32 * max p 0) else 0)
    = w * (Ideal.ofBits .bf16 0x4000#16 * max p 0) := by
  rw [two_val, twob_val]
  by_cases hp : 0 < p
  · rw [if_pos (by simp [Ideal.cmp, hp])]
  · rw [if_neg (by simp [Ideal.cmp, hp]), max_eq_right (not_lt.mp hp), mul_zero, mul_zero]

/-- The loss's gradient of the output, gone through one operation at a time. -/
theorem dy_steps (p : EReal) : Ideal.div (Ideal.ofBits .f32 0x3F000000#32 * Ideal.ofBits .f32 0x3F800000#32) (Ideal.ofBits .f32 0x44800000#32)
    * (Ideal.ofBits .f32 0x40000000#32 * p) = p * c1024 := by
  rw [div1024, half_val, one_val, two_val, c1024_val, ← mul_assoc, mul_comm]
  simp only [← EReal.coe_mul]
  norm_num

end Cert.Mlp

end
-- ==== Proof.Mlp.Pay.lean ====
/- What the call's pieces hold at one token, in terms of what they are computed of. -/
module

public import proofs.«01_k».proof.Defs
public import proofs.«01_k».proof.Proof.Gen.KernelMlp
public import proofs.«01_k».proof.Proof.Gen.KernelMlp.Frame
public import proofs.«01_k».proof.Proof.Gen.KernelMlpIdeal
public import proofs.«01_k».proof.Proof.Gen.KernelMlpIdeal.Frame
public import proofs.«01_k».proof.Proof.Gen.KernelMlpIdeal.Value
public import proofs.«01_k».proof.Proof.Gen.ReferenceMlpIdeal
public import proofs.«01_k».proof.Proof.Gen.ReferenceMlpIdeal.Run
public import proofs.«01_k».proof.Proof.Gen.ReferenceMlpIdeal.Read
public import proofs.«01_k».proof.Proof.Gen.Pre_finite_mlp
public import proofs.«01_k».proof.Proof.Mlp.Spec
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelMlpIdeal.Hand

open Idealize.ShloMosaic Idealize.ShloMosaic.TcCoe Idealize.ShloMosaic.Tactic
open Idealize.SL.Sem Cert.KernelMlpIdeal Cert.KernelMlpIdeal.Gen Cert.Mlp

/-- The hidden units of one block of the first weight. -/
def unit (h : Fin 1024 → EReal) (w : Vec Ideal S1x1024x512 .bf16) (k : Fin 512) : EReal := max (∑ d, h d * w (ix3 0 d k)) 0

/-- The gradient of the hidden units `u` of one block of the second weight. -/
def dunit (g : Fin 1024 → EReal) (w : Vec Ideal S512x1024 .bf16) (u : EReal) (k : Fin 512) : EReal :=
  (∑ d, g d * w (ix2 k d)) * (Ideal.ofBits .bf16 0x4000#16 * u)

theorem pay5_at (x : Vec Ideal S256x1024 .f32) (g : Vec Ideal S1x1024 .f32) (p : Fin 256) (d : Fin 1024) :
    k0_pay5 (F := Ideal) x g (ix2 p d) = Mlp.norm (fun j => x (ix2 p j)) (fun j => g (ix2 0 j)) d := by
  pointwise [k0_pay5, Mlp.norm, rr]

theorem pay7_at (x : Vec Ideal S256x1024 .f32) (g : Vec Ideal S1x1024 .f32) (w : Vec Ideal S1x1024x512 .bf16) (p : Fin 256) (k : Fin 512) :
    k0_pay7 (F := Ideal) x g w (ix2 p k) = unit (fun j => k0_pay5 (F := Ideal) x g (ix2 p j)) w k := by
  pointwise [k0_pay7, k0_pay6, unit]

theorem pay8_at (x : Vec Ideal S256x1024 .f32) (g : Vec Ideal S1x1024 .f32) (w : Vec Ideal S1x1024x512 .bf16) (p : Fin 256) (k : Fin 512) :
    k0_pay8 (F := Ideal) x g w (ix2 p k) = unit (fun j => k0_pay5 (F := Ideal) x g (ix2 p j)) w k * unit (fun j => k0_pay5 (F := Ideal) x g (ix2 p j)) w k := by
  pointwise [k0_pay8, k0_pay6, unit]

theorem pay11_at (h : Vec Ideal S256x1024 .bf16) (w : Vec Ideal S1x1024x512 .bf16) (p : Fin 256) (k : Fin 512) :
    k0_pay11 (F := Ideal) h w (ix2 p k) = unit (fun j => h (ix2 p j)) w k := by
  pointwise [k0_pay11, k0_pay10, unit]

theorem pay12_at (h : Vec Ideal S256x1024 .bf16) (w : Vec Ideal S1x1024x512 .bf16) (p : Fin 256) (k : Fin 512) :
    k0_pay12 (F := Ideal) h w (ix2 p k) = unit (fun j => h (ix2 p j)) w k * unit (fun j => h (ix2 p j)) w k := by
  pointwise [k0_pay12, k0_pay10, unit]

theorem pay14_at (h : Vec Ideal S256x1024 .bf16) (w : Vec Ideal S1x1024x512 .bf16) (p : Fin 256) (k : Fin 512) :
    k0_pay14 (F := Ideal) h w (ix2 p k) = unit (fun j => h (ix2 p j)) w k := by
  pointwise [k0_pay14, k0_pay13, unit]

theorem pay15_at (h : Vec Ideal S256x1024 .bf16) (w : Vec Ideal S1x1024x512 .bf16) (p : Fin 256) (k : Fin 512) :
    k0_pay15 (F := Ideal) h w (ix2 p k) = unit (fun j => h (ix2 p j)) w k * unit (fun j => h (ix2 p j)) w k := by
  pointwise [k0_pay15, k0_pay13, unit]

theorem pay18_at (h : Vec Ideal S256x1024 .bf16) (w : Vec Ideal S1x1024x512 .bf16) (p : Fin 256) (k : Fin 512) :
    k0_pay18 (F := Ideal) h w (ix2 p k) = unit (fun j => h (ix2 p j)) w k := by
  pointwise [k0_pay18, k0_pay17, unit]

theorem pay19_at (h : Vec Ideal S256x1024 .bf16) (w : Vec Ideal S1x1024x512 .bf16) (p : Fin 256) (k : Fin 512) :
    k0_pay19 (F := Ideal) h w (ix2 p k) = unit (fun j => h (ix2 p j)) w k * unit (fun j => h (ix2 p j)) w k := by
  pointwise [k0_pay19, k0_pay17, unit]

theorem pay21_at (h : Vec Ideal S256x1024 .bf16) (w : Vec Ideal S1x1024x512 .bf16) (p : Fin 256) (k : Fin 512) :
    k0_pay21 (F := Ideal) h w (ix2 p k) = unit (fun j => h (ix2 p j)) w k := by
  pointwise [k0_pay21, k0_pay20, unit]

theorem pay22_at (h : Vec Ideal S256x1024 .bf16) (w : Vec Ideal S1x1024x512 .bf16) (p : Fin 256) (k : Fin 512) :
    k0_pay22 (F := Ideal) h w (ix2 p k) = unit (fun j => h (ix2 p j)) w k * unit (fun j => h (ix2 p j)) w k := by
  pointwise [k0_pay22, k0_pay20, unit]

theorem pay25_at (h : Vec Ideal S256x1024 .bf16) (w : Vec Ideal S1x1024x512 .bf16) (p : Fin 256) (k : Fin 512) :
    k0_pay25 (F := Ideal) h w (ix2 p k) = unit (fun j => h (ix2 p j)) w k := by
  pointwise [k0_pay25, k0_pay24, unit]

theorem pay26_at (h : Vec Ideal S256x1024 .bf16) (w : Vec Ideal S1x1024x512 .bf16) (p : Fin 256) (k : Fin 512) :
    k0_pay26 (F := Ideal) h w (ix2 p k) = unit (fun j => h (ix2 p j)) w k * unit (fun j => h (ix2 p j)) w k := by
  pointwise [k0_pay26, k0_pay24, unit]

theorem pay28_at (h : Vec Ideal S256x1024 .bf16) (w : Vec Ideal S1x1024x512 .bf16) (p : Fin 256) (k : Fin 512) :
    k0_pay28 (F := Ideal) h w (ix2 p k) = unit (fun j => h (ix2 p j)) w k := by
  pointwise [k0_pay28, k0_pay27, unit]

theorem pay29_at (h : Vec Ideal S256x1024 .bf16) (w : Vec Ideal S1x1024x512 .bf16) (p : Fin 256) (k : Fin 512) :
    k0_pay29 (F := Ideal) h w (ix2 p k) = unit (fun j => h (ix2 p j)) w k * unit (fun j => h (ix2 p j)) w k := by
  pointwise [k0_pay29, k0_pay27, unit]

theorem pay32_at (h : Vec Ideal S256x1024 .bf16) (w : Vec Ideal S1x1024x512 .bf16) (p : Fin 256) (k : Fin 512) :
    k0_pay32 (F := Ideal) h w (ix2 p k) = unit (fun j => h (ix2 p j)) w k := by
  pointwise [k0_pay32, k0_pay31, unit]

theorem pay33_at (h : Vec Ideal S256x1024 .bf16) (w : Vec Ideal S1x1024x512 .bf16) (p : Fin 256) (k : Fin 512) :
    k0_pay33 (F := Ideal) h w (ix2 p k) = unit (fun j => h (ix2 p j)) w k * unit (fun j => h (ix2 p j)) w k := by
  pointwise [k0_pay33, k0_pay31, unit]

theorem pay9_at (x : Vec Ideal S256x1024 .f32) (g : Vec Ideal S1x1024 .f32) (w : Vec Ideal S1x1024x512 .bf16) (v : Vec Ideal S512x1024 .bf16) (p : Fin 256) (d : Fin 1024) :
    k0_pay9 (F := Ideal) x g w v (ix2 p d) = 0 + ∑ k, k0_pay8 (F := Ideal) x g w (ix2 p k) * v (ix2 k d) := by
  pointwise [k0_pay9]

theorem pay16_at (h : Vec Ideal S256x1024 .bf16) (s : Vec Ideal S256x1024 .f32) (w : Vec Ideal S1x1024x512 .bf16) (v : Vec Ideal S512x1024 .bf16) (w' : Vec Ideal S1x1024x512 .bf16) (v' : Vec Ideal S512x1024 .bf16) (p : Fin 256) (d : Fin 1024) :
    k0_pay16 (F := Ideal) h s w v w' v' (ix2 p d) = s (ix2 p d) + (∑ k, k0_pay12 (F := Ideal) h w (ix2 p k) * v (ix2 k d)) + (∑ k, k0_pay15 (F := Ideal) h w' (ix2 p k) * v' (ix2 k d)) := by
  pointwise [k0_pay16]

theorem pay23_at (h : Vec Ideal S256x1024 .bf16) (s : Vec Ideal S256x1024 .f32) (w : Vec Ideal S1x1024x512 .bf16) (v : Vec Ideal S512x1024 .bf16) (w' : Vec Ideal S1x1024x512 .bf16) (v' : Vec Ideal S512x1024 .bf16) (p : Fin 256) (d : Fin 1024) :
    k0_pay23 (F := Ideal) h s w v w' v' (ix2 p d) = s (ix2 p d) + (∑ k, k0_pay19 (F := Ideal) h w (ix2 p k) * v (ix2 k d)) + (∑ k, k0_pay22 (F := Ideal) h w' (ix2 p k) * v' (ix2 k d)) := by
  pointwise [k0_pay23]

theorem pay30_at (h : Vec Ideal S256x1024 .bf16) (s : Vec Ideal S256x1024 .f32) (w : Vec Ideal S1x1024x512 .bf16) (v : Vec Ideal S512x1024 .bf16) (w' : Vec Ideal S1x1024x512 .bf16) (v' : Vec Ideal S512x1024 .bf16) (p : Fin 256) (d : Fin 1024) :
    k0_pay30 (F := Ideal) h s w v w' v' (ix2 p d) = s (ix2 p d) + (∑ k, k0_pay26 (F := Ideal) h w (ix2 p k) * v (ix2 k d)) + (∑ k, k0_pay29 (F := Ideal) h w' (ix2 p k) * v' (ix2 k d)) := by
  pointwise [k0_pay30]

theorem pay34_at (h : Vec Ideal S256x1024 .bf16) (s : Vec Ideal S256x1024 .f32) (w : Vec Ideal S1x1024x512 .bf16) (v : Vec Ideal S512x1024 .bf16) (p : Fin 256) (d : Fin 1024) :
    k0_pay34 (F := Ideal) h s w v (ix2 p d) = s (ix2 p d) + ∑ k, k0_pay33 (F := Ideal) h w (ix2 p k) * v (ix2 k d) := by
  pointwise [k0_pay34]

theorem pay35_at (x : Vec Ideal S256x1024 .f32) (h : Vec Ideal S256x1024 .bf16) (s : Vec Ideal S256x1024 .f32) (w : Vec Ideal S1x1024x512 .bf16) (v : Vec Ideal S512x1024 .bf16) (g : Vec Ideal S1x1024 .f32) (t : Vec Ideal S256x1024 .f32) (p : Fin 256) (d : Fin 1024) :
    k0_pay35 (F := Ideal) x h s w v g t (ix2 p d) = x (ix2 p d) + Mlp.norm (fun j => k0_pay34 (F := Ideal) h s w v (ix2 p j)) (fun j => g (ix2 0 j)) d - t (ix2 p d) := by
  pointwise [k0_pay35, Mlp.norm, rr]

theorem pay36_at (x : Vec Ideal S256x1024 .f32) (h : Vec Ideal S256x1024 .bf16) (s : Vec Ideal S256x1024 .f32) (w : Vec Ideal S1x1024x512 .bf16) (v : Vec Ideal S512x1024 .bf16) (g : Vec Ideal S1x1024 .f32) (t : Vec Ideal S256x1024 .f32) (p : Fin 256) (d : Fin 1024) :
    k0_pay36 (F := Ideal) x h s w v g t (ix2 p d) = k0_pay35 (F := Ideal) x h s w v g t (ix2 p d) * k0_pay35 (F := Ideal) x h s w v g t (ix2 p d) := by
  pointwise [k0_pay36]

theorem pay2_at (d : Fin 1024) :
    k0_pay2 (F := Ideal) (ix2 0 d) = 0 := by
  pointwise [k0_pay2]

theorem pay37_at (d : Fin 1024) :
    k0_pay37 (F := Ideal) (ix2 0 d) = 0 := by
  pointwise [k0_pay37]

theorem pay43_at (d : Fin 1024) :
    k0_pay43 (F := Ideal) (ix2 0 d) = 0 := by
  pointwise [k0_pay43]

theorem pay38_at (x : Vec Ideal S256x1024 .f32) (a : Vec Ideal S1x1024 .f32) (d : Fin 1024) :
    k0_pay38 (F := Ideal) x a (ix2 0 d) = a (ix2 0 d) + ∑ p, x (ix2 p d) := by
  pointwise [k0_pay38]

theorem pay39_at (x : Vec Ideal S256x1024 .f32) (p : Fin 256) (d : Fin 1024) :
    k0_pay39 (F := Ideal) x (ix2 p d) = x (ix2 p d) * c1024 := by
  pointwise [k0_pay39]

theorem pay40_at (x : Vec Ideal S256x1024 .f32) (p : Fin 256) :
    k0_pay40 (F := Ideal) x (ix2 p 0) = rr (fun j => x (ix2 p j)) := by
  pointwise [k0_pay40, rr]

theorem pay59_at (x : Vec Ideal S256x1024 .f32) (p : Fin 256) :
    k0_pay59 (F := Ideal) x (ix2 p 0) = rr (fun j => x (ix2 p j)) := by
  pointwise [k0_pay59, rr]

theorem pay41_at (x : Vec Ideal S256x1024 .f32) (p : Fin 256) (d : Fin 1024) :
    k0_pay41 (F := Ideal) x (ix2 p d) = x (ix2 p d) * rr (fun j => x (ix2 p j)) := by
  pointwise [k0_pay41, pay40_at]

theorem pay1_at (x : Vec Ideal S256x1024 .f32) (r : Vec Ideal S256x1 .f32) (p : Fin 256) (d : Fin 1024) :
    k0_pay1 (F := Ideal) x r (ix2 p d) = x (ix2 p d) * r (ix2 p 0) := by
  pointwise [k0_pay1]

theorem pay42_at (f e : Vec Ideal S256x1024 .f32) (g : Vec Ideal S1x1024 .f32) (p : Fin 256) (d : Fin 1024) :
    k0_pay42 (F := Ideal) f e g (ix2 p d) = back (fun d => e (ix2 p d) * c1024) (fun j => f (ix2 p j)) (fun j => g (ix2 0 j)) d := by
  pointwise [k0_pay42, pay39_at, pay40_at, pay41_at, back]

theorem pay44_at (f e : Vec Ideal S256x1024 .f32) (a : Vec Ideal S1x1024 .f32) (d : Fin 1024) :
    k0_pay44 (F := Ideal) f e a (ix2 0 d) = a (ix2 0 d) + ∑ p, e (ix2 p d) * c1024 * (f (ix2 p d) * rr (fun j => f (ix2 p j))) := by
  pointwise [k0_pay44, pay39_at, pay41_at]

theorem pay45_at (f : Vec Ideal S256x1024 .f32) (p : Fin 256) (d : Fin 1024) :
    k0_pay45 (F := Ideal) f (ix2 p d) = f (ix2 p d) := by
  pointwise [k0_pay45]

theorem pay46_at (f : Vec Ideal S256x1024 .f32) (v : Vec Ideal S512x1024 .bf16) (u : Vec Ideal S256x512 .bf16) (p : Fin 256) (k : Fin 512) :
    k0_pay46 (F := Ideal) f v u (ix2 p k) = dunit (fun j => f (ix2 p j)) v (u (ix2 p k)) k := by
  pointwise [k0_pay46, pay45_at, dunit]

theorem pay48_at (f : Vec Ideal S256x1024 .f32) (v : Vec Ideal S512x1024 .bf16) (u : Vec Ideal S256x512 .bf16) (p : Fin 256) (k : Fin 512) :
    k0_pay48 (F := Ideal) f v u (ix2 p k) = dunit (fun j => f (ix2 p j)) v (u (ix2 p k)) k := by
  pointwise [k0_pay48, pay45_at, dunit]

theorem pay49_at (f : Vec Ideal S256x1024 .bf16) (v : Vec Ideal S512x1024 .bf16) (u : Vec Ideal S256x512 .bf16) (p : Fin 256) (k : Fin 512) :
    k0_pay49 (F := Ideal) f v u (ix2 p k) = dunit (fun j => f (ix2 p j)) v (u (ix2 p k)) k := by
  pointwise [k0_pay49, dunit]

theorem pay50_at (f : Vec Ideal S256x1024 .bf16) (v : Vec Ideal S512x1024 .bf16) (u : Vec Ideal S256x512 .bf16) (p : Fin 256) (k : Fin 512) :
    k0_pay50 (F := Ideal) f v u (ix2 p k) = dunit (fun j => f (ix2 p j)) v (u (ix2 p k)) k := by
  pointwise [k0_pay50, dunit]

theorem pay52_at (f : Vec Ideal S256x1024 .bf16) (v : Vec Ideal S512x1024 .bf16) (u : Vec Ideal S256x512 .bf16) (p : Fin 256) (k : Fin 512) :
    k0_pay52 (F := Ideal) f v u (ix2 p k) = dunit (fun j => f (ix2 p j)) v (u (ix2 p k)) k := by
  pointwise [k0_pay52, dunit]

theorem pay53_at (f : Vec Ideal S256x1024 .bf16) (v : Vec Ideal S512x1024 .bf16) (u : Vec Ideal S256x512 .bf16) (p : Fin 256) (k : Fin 512) :
    k0_pay53 (F := Ideal) f v u (ix2 p k) = dunit (fun j => f (ix2 p j)) v (u (ix2 p k)) k := by
  pointwise [k0_pay53, dunit]

theorem pay57_at (f : Vec Ideal S256x1024 .bf16) (v : Vec Ideal S512x1024 .bf16) (u : Vec Ideal S256x512 .bf16) (p : Fin 256) (k : Fin 512) :
    k0_pay57 (F := Ideal) f v u (ix2 p k) = dunit (fun j => f (ix2 p j)) v (u (ix2 p k)) k := by
  pointwise [k0_pay57, dunit]

theorem pay56_at (f : Vec Ideal S256x1024 .bf16) (v : Vec Ideal S512x1024 .bf16) (u : Vec Ideal S256x512 .bf16) (p : Fin 256) (k : Fin 512) :
    k0_pay56 (F := Ideal) (k0_pay55 (F := Ideal) f v) u (ix2 p k) = dunit (fun j => f (ix2 p j)) v (u (ix2 p k)) k := by
  pointwise [k0_pay56, k0_pay55, dunit]

theorem pay47_at (f : Vec Ideal S256x1024 .f32) (v : Vec Ideal S512x1024 .bf16) (u : Vec Ideal S256x512 .bf16) (w : Vec Ideal S1x1024x512 .bf16) (p : Fin 256) (d : Fin 1024) :
    k0_pay47 (F := Ideal) f v u w (ix2 p d) = 0 + ∑ k, k0_pay46 (F := Ideal) f v u (ix2 p k) * w (ix3 0 d k) := by
  pointwise [k0_pay47]

theorem pay51_at (f : Vec Ideal S256x1024 .bf16) (s : Vec Ideal S256x1024 .f32) (m : Vec Ideal S256x512 .bf16) (w : Vec Ideal S1x1024x512 .bf16) (v : Vec Ideal S512x1024 .bf16) (u : Vec Ideal S256x512 .bf16) (w' : Vec Ideal S1x1024x512 .bf16) (v' : Vec Ideal S512x1024 .bf16) (u' : Vec Ideal S256x512 .bf16) (w'' : Vec Ideal S1x1024x512 .bf16) (p : Fin 256) (d : Fin 1024) :
    k0_pay51 (F := Ideal) f s m w v u w' v' u' w'' (ix2 p d) = s (ix2 p d) + (∑ k, m (ix2 p k) * w (ix3 0 d k)) + (∑ k, k0_pay49 (F := Ideal) f v u (ix2 p k) * w' (ix3 0 d k)) + (∑ k, k0_pay50 (F := Ideal) f v' u' (ix2 p k) * w'' (ix3 0 d k)) := by
  pointwise [k0_pay51]

theorem pay54_at (f : Vec Ideal S256x1024 .bf16) (s : Vec Ideal S256x1024 .f32) (v : Vec Ideal S512x1024 .bf16) (u : Vec Ideal S256x512 .bf16) (w : Vec Ideal S1x1024x512 .bf16) (v' : Vec Ideal S512x1024 .bf16) (u' : Vec Ideal S256x512 .bf16) (w' : Vec Ideal S1x1024x512 .bf16) (p : Fin 256) (d : Fin 1024) :
    k0_pay54 (F := Ideal) f s v u w v' u' w' (ix2 p d) = s (ix2 p d) + (∑ k, k0_pay52 (F := Ideal) f v u (ix2 p k) * w (ix3 0 d k)) + (∑ k, k0_pay53 (F := Ideal) f v' u' (ix2 p k) * w' (ix3 0 d k)) := by
  pointwise [k0_pay54]

theorem pay58_at (f : Vec Ideal S256x1024 .bf16) (s : Vec Ideal S256x1024 .f32) (m : Vec Ideal S256x512 .f32) (u : Vec Ideal S256x512 .bf16) (w : Vec Ideal S1x1024x512 .bf16) (v' : Vec Ideal S512x1024 .bf16) (u' : Vec Ideal S256x512 .bf16) (w' : Vec Ideal S1x1024x512 .bf16) (p : Fin 256) (d : Fin 1024) :
    k0_pay58 (F := Ideal) f s m u w v' u' w' (ix2 p d) = s (ix2 p d) + (∑ k, k0_pay56 (F := Ideal) m u (ix2 p k) * w (ix3 0 d k)) + (∑ k, k0_pay57 (F := Ideal) f v' u' (ix2 p k) * w' (ix3 0 d k)) := by
  pointwise [k0_pay58]

theorem pay3_at (x e : Vec Ideal S256x1024 .f32) (r : Vec Ideal S256x1 .f32) (a : Vec Ideal S1x1024 .f32) (d : Fin 1024) :
    k0_pay3 (F := Ideal) x e r a (ix2 0 d) = a (ix2 0 d) + ∑ p, e (ix2 p d) * (x (ix2 p d) * r (ix2 p 0)) := by
  pointwise [k0_pay3, pay1_at]

theorem pay4_at (x y e : Vec Ideal S256x1024 .f32) (g : Vec Ideal S1x1024 .f32) (p : Fin 256) (d : Fin 1024) :
    k0_pay4 (F := Ideal) x y e g (k0_pay59 (F := Ideal) x) (ix2 p d) = y (ix2 p d) + back (fun j => e (ix2 p j)) (fun j => x (ix2 p j)) (fun j => g (ix2 0 j)) d := by
  pointwise [k0_pay4, pay1_at, pay59_at, back]

end Cert.KernelMlpIdeal.Hand

end
-- ==== Proof.Mlp.Tile.lean ====
/- What a tile's values hold at one token, as the token's own quantities. -/
module

public import proofs.«01_k».proof.Proof.Mlp.Pay
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelMlpIdeal.Hand

open Idealize.ShloMosaic Idealize.ShloMosaic.TcCoe Idealize.ShloMosaic.Tactic
open Idealize.SL.Sem Cert.KernelMlpIdeal Cert.KernelMlpIdeal.Gen Cert.Mlp

/-- Block `j` of the first weight, and of the second. -/
def wb (x2 : Vec Ideal S8x1024x512 .bf16) (j : Fin 8) : Vec Ideal S1x1024x512 .bf16 := fun y => x2 (ix3 j (y 1) (y 2))
@[inherit_doc wb] def vb (x3 : Vec Ideal S4096x1024 .bf16) (j : Fin 8) : Vec Ideal S512x1024 .bf16 :=
  fun y => x3 (ix2 (⟨j.val * 512 + (y 0).val, by have : (y 0).val < 512 := (y 0).isLt; omega⟩ : Fin 4096) (y 1))

/-- Eight blocks of 512 make the sum over 4096. -/
theorem eight (f : Fin 4096 → EReal) : 0 + (∑ k : Fin 512, f ⟨(0 : Fin 8).val * 512 + k.val, by simp; omega⟩) + (∑ k : Fin 512, f ⟨(1 : Fin 8).val * 512 + k.val, by simp; omega⟩) + (∑ k : Fin 512, f ⟨(2 : Fin 8).val * 512 + k.val, by simp; omega⟩) + (∑ k : Fin 512, f ⟨(3 : Fin 8).val * 512 + k.val, by simp; omega⟩) + (∑ k : Fin 512, f ⟨(4 : Fin 8).val * 512 + k.val, by simp; omega⟩) + (∑ k : Fin 512, f ⟨(5 : Fin 8).val * 512 + k.val, by simp; omega⟩) + (∑ k : Fin 512, f ⟨(6 : Fin 8).val * 512 + k.val, by simp; omega⟩) + (∑ k : Fin 512, f ⟨(7 : Fin 8).val * 512 + k.val, by simp; omega⟩) = ∑ k, f k := by
  have h : ∑ s : Fin 8, ∑ k : Fin 512, f ⟨s.val * 512 + k.val, by omega⟩ = ∑ k, f k := Fin.sum_mul_add_congr fun s k hl => rfl
  rw [← h, Fin.sum_univ_eight, zero_add]

section Loads

variable (x2 : Vec Ideal S8x1024x512 .bf16) (x3 : Vec Ideal S4096x1024 .bf16)

theorem ldw0 : View.ld x2 (Rect.unit (s := S8x1024x512) ![0, 0, 0] ![1, 1024, 512] inb_S8x1024x512_S1x1024x512_0_0_0) = wb x2 0 := by
  refine funext fun y => congrArg x2 (funext fun a => Fin.ext ?_)
  have h0 : (y 0).val < 1 := (y 0).isLt
  fin_cases a
  · show 0 + 1 * (y 0).val = 0
    omega
  · show 0 + 1 * (y 1).val = (y 1).val
    omega
  · show 0 + 1 * (y 2).val = (y 2).val
    omega
theorem ldv0 : View.ld x3 (Rect.unit (s := S4096x1024) ![0, 0] ![512, 1024] inb_S4096x1024_S512x1024_0_0) = vb x3 0 := by
  refine funext fun y => congrArg x3 (funext fun a => Fin.ext ?_)
  fin_cases a
  · show 0 + 1 * (y 0).val = 0 * 512 + (y 0).val
    omega
  · show 0 + 1 * (y 1).val = (y 1).val
    omega
theorem ldw1 : View.ld x2 (Rect.unit (s := S8x1024x512) ![1, 0, 0] ![1, 1024, 512] inb_S8x1024x512_S1x1024x512_1_0_0) = wb x2 1 := by
  refine funext fun y => congrArg x2 (funext fun a => Fin.ext ?_)
  have h0 : (y 0).val < 1 := (y 0).isLt
  fin_cases a
  · show 1 + 1 * (y 0).val = 1
    omega
  · show 0 + 1 * (y 1).val = (y 1).val
    omega
  · show 0 + 1 * (y 2).val = (y 2).val
    omega
theorem ldv1 : View.ld x3 (Rect.unit (s := S4096x1024) ![512, 0] ![512, 1024] inb_S4096x1024_S512x1024_512_0) = vb x3 1 := by
  refine funext fun y => congrArg x3 (funext fun a => Fin.ext ?_)
  fin_cases a
  · show 512 + 1 * (y 0).val = 1 * 512 + (y 0).val
    omega
  · show 0 + 1 * (y 1).val = (y 1).val
    omega
theorem ldw2 : View.ld x2 (Rect.unit (s := S8x1024x512) ![2, 0, 0] ![1, 1024, 512] inb_S8x1024x512_S1x1024x512_2_0_0) = wb x2 2 := by
  refine funext fun y => congrArg x2 (funext fun a => Fin.ext ?_)
  have h0 : (y 0).val < 1 := (y 0).isLt
  fin_cases a
  · show 2 + 1 * (y 0).val = 2
    omega
  · show 0 + 1 * (y 1).val = (y 1).val
    omega
  · show 0 + 1 * (y 2).val = (y 2).val
    omega
theorem ldv2 : View.ld x3 (Rect.unit (s := S4096x1024) ![1024, 0] ![512, 1024] inb_S4096x1024_S512x1024_1024_0) = vb x3 2 := by
  refine funext fun y => congrArg x3 (funext fun a => Fin.ext ?_)
  fin_cases a
  · show 1024 + 1 * (y 0).val = 2 * 512 + (y 0).val
    omega
  · show 0 + 1 * (y 1).val = (y 1).val
    omega
theorem ldw3 : View.ld x2 (Rect.unit (s := S8x1024x512) ![3, 0, 0] ![1, 1024, 512] inb_S8x1024x512_S1x1024x512_3_0_0) = wb x2 3 := by
  refine funext fun y => congrArg x2 (funext fun a => Fin.ext ?_)
  have h0 : (y 0).val < 1 := (y 0).isLt
  fin_cases a
  · show 3 + 1 * (y 0).val = 3
    omega
  · show 0 + 1 * (y 1).val = (y 1).val
    omega
  · show 0 + 1 * (y 2).val = (y 2).val
    omega
theorem ldv3 : View.ld x3 (Rect.unit (s := S4096x1024) ![1536, 0] ![512, 1024] inb_S4096x1024_S512x1024_1536_0) = vb x3 3 := by
  refine funext fun y => congrArg x3 (funext fun a => Fin.ext ?_)
  fin_cases a
  · show 1536 + 1 * (y 0).val = 3 * 512 + (y 0).val
    omega
  · show 0 + 1 * (y 1).val = (y 1).val
    omega
theorem ldw4 : View.ld x2 (Rect.unit (s := S8x1024x512) ![4, 0, 0] ![1, 1024, 512] inb_S8x1024x512_S1x1024x512_4_0_0) = wb x2 4 := by
  refine funext fun y => congrArg x2 (funext fun a => Fin.ext ?_)
  have h0 : (y 0).val < 1 := (y 0).isLt
  fin_cases a
  · show 4 + 1 * (y 0).val = 4
    omega
  · show 0 + 1 * (y 1).val = (y 1).val
    omega
  · show 0 + 1 * (y 2).val = (y 2).val
    omega
theorem ldv4 : View.ld x3 (Rect.unit (s := S4096x1024) ![2048, 0] ![512, 1024] inb_S4096x1024_S512x1024_2048_0) = vb x3 4 := by
  refine funext fun y => congrArg x3 (funext fun a => Fin.ext ?_)
  fin_cases a
  · show 2048 + 1 * (y 0).val = 4 * 512 + (y 0).val
    omega
  · show 0 + 1 * (y 1).val = (y 1).val
    omega
theorem ldw5 : View.ld x2 (Rect.unit (s := S8x1024x512) ![5, 0, 0] ![1, 1024, 512] inb_S8x1024x512_S1x1024x512_5_0_0) = wb x2 5 := by
  refine funext fun y => congrArg x2 (funext fun a => Fin.ext ?_)
  have h0 : (y 0).val < 1 := (y 0).isLt
  fin_cases a
  · show 5 + 1 * (y 0).val = 5
    omega
  · show 0 + 1 * (y 1).val = (y 1).val
    omega
  · show 0 + 1 * (y 2).val = (y 2).val
    omega
theorem ldv5 : View.ld x3 (Rect.unit (s := S4096x1024) ![2560, 0] ![512, 1024] inb_S4096x1024_S512x1024_2560_0) = vb x3 5 := by
  refine funext fun y => congrArg x3 (funext fun a => Fin.ext ?_)
  fin_cases a
  · show 2560 + 1 * (y 0).val = 5 * 512 + (y 0).val
    omega
  · show 0 + 1 * (y 1).val = (y 1).val
    omega
theorem ldw6 : View.ld x2 (Rect.unit (s := S8x1024x512) ![6, 0, 0] ![1, 1024, 512] inb_S8x1024x512_S1x1024x512_6_0_0) = wb x2 6 := by
  refine funext fun y => congrArg x2 (funext fun a => Fin.ext ?_)
  have h0 : (y 0).val < 1 := (y 0).isLt
  fin_cases a
  · show 6 + 1 * (y 0).val = 6
    omega
  · show 0 + 1 * (y 1).val = (y 1).val
    omega
  · show 0 + 1 * (y 2).val = (y 2).val
    omega
theorem ldv6 : View.ld x3 (Rect.unit (s := S4096x1024) ![3072, 0] ![512, 1024] inb_S4096x1024_S512x1024_3072_0) = vb x3 6 := by
  refine funext fun y => congrArg x3 (funext fun a => Fin.ext ?_)
  fin_cases a
  · show 3072 + 1 * (y 0).val = 6 * 512 + (y 0).val
    omega
  · show 0 + 1 * (y 1).val = (y 1).val
    omega
theorem ldw7 : View.ld x2 (Rect.unit (s := S8x1024x512) ![7, 0, 0] ![1, 1024, 512] inb_S8x1024x512_S1x1024x512_7_0_0) = wb x2 7 := by
  refine funext fun y => congrArg x2 (funext fun a => Fin.ext ?_)
  have h0 : (y 0).val < 1 := (y 0).isLt
  fin_cases a
  · show 7 + 1 * (y 0).val = 7
    omega
  · show 0 + 1 * (y 1).val = (y 1).val
    omega
  · show 0 + 1 * (y 2).val = (y 2).val
    omega
theorem ldv7 : View.ld x3 (Rect.unit (s := S4096x1024) ![3584, 0] ![512, 1024] inb_S4096x1024_S512x1024_3584_0) = vb x3 7 := by
  refine funext fun y => congrArg x3 (funext fun a => Fin.ext ?_)
  fin_cases a
  · show 3584 + 1 * (y 0).val = 7 * 512 + (y 0).val
    omega
  · show 0 + 1 * (y 1).val = (y 1).val
    omega

end Loads

section Columns

/-- A store of 512 columns. -/
abbrev pc (o : ℕ) (inb : ∀ d, (![0, o] : Fin 2 → ℕ) d + (![256, 512] : Fin 2 → ℕ) d ≤ S256x4096.size d) (w : Vec Ideal S256x512 .bf16) : View.Piece (Elt Ideal) S256x4096 .bf16 :=
  ⟨Rect.unit ![0, o] ![256, 512] inb, w⟩

theorem miss (o : ℕ) (inb) (w : Vec Ideal S256x512 .bf16) (L : List (View.Piece (Elt Ideal) S256x4096 .bf16)) (y : S256x4096.Idx) (h : (y 1).val < o) :
    View.canon (pc o inb w :: L) y = View.canon L y := by
  refine View.canon_cons_of_not_mem (Val := Elt Ideal) (pc o inb w) _ fun hm => ?_
  obtain ⟨x, rfl⟩ := (Rect.unit (s := S256x4096) ![0, o] ![256, 512] inb).exists_idx_of_mem hm
  have h2 : (((Rect.unit (s := S256x4096) ![0, o] ![256, 512] inb).idx x) 1).val = o + 1 * (x 1).val := rfl
  omega

theorem hit (o : ℕ) (inb) (w : Vec Ideal S256x512 .bf16) (L : List (View.Piece (Elt Ideal) S256x4096 .bf16)) (x : S256x512.Idx) :
    View.canon (pc o inb w :: L) ((Rect.unit (s := S256x4096) ![0, o] ![256, 512] inb).toLoadRect.idx x) = w x :=
  View.canon_cons_emb (Val := Elt Ideal) _ _ _ _

theorem at_col (o : ℕ) (inb) (p : Fin 256) (k : Fin 512) (h : o + k.val < 4096) :
    (ix2 p (⟨o + k.val, h⟩ : Fin 4096) : S256x4096.Idx) = (Rect.unit (s := S256x4096) ![0, o] ![256, 512] inb).toLoadRect.idx (ix2 p k) := by
  funext a
  apply Fin.ext
  fin_cases a
  · show p.val = 0 + 1 * p.val
    omega
  · show o + k.val = o + 1 * k.val
    omega

variable (P : Fin 8 → Vec Ideal S256x512 .bf16)

/-- The eight stores of columns, the last first. -/
abbrev cols : List (View.Piece (Elt Ideal) S256x4096 .bf16) :=
  [pc 3584 inb_S256x4096_S256x512_0_3584 (P 7), pc 3072 inb_S256x4096_S256x512_0_3072 (P 6), pc 2560 inb_S256x4096_S256x512_0_2560 (P 5), pc 2048 inb_S256x4096_S256x512_0_2048 (P 4), pc 1536 inb_S256x4096_S256x512_0_1536 (P 3), pc 1024 inb_S256x4096_S256x512_0_1024 (P 2), pc 512 inb_S256x4096_S256x512_0_512 (P 1), pc 0 inb_S256x4096_S256x512_0_0 (P 0)]

theorem canon0 (x : S256x512.Idx) : View.canon (cols P) ((Rect.unit (s := S256x4096) ![0, 0] ![256, 512] inb_S256x4096_S256x512_0_0).toLoadRect.idx x) = P 0 x := by
  have h : (((Rect.unit (s := S256x4096) ![0, 0] ![256, 512] inb_S256x4096_S256x512_0_0).toLoadRect.idx x) 1).val < 512 := by
    have h1 : (x 1).val < 512 := (x 1).isLt
    show 0 + 1 * (x 1).val < 512
    omega
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  exact hit _ _ _ _ x
theorem read0 (a : Memref sig .tc .vmem S256x4096 .bf16) : a.view.readCov (cols P) (Rect.unit (s := S256x4096) ![0, 0] ![256, 512] inb_S256x4096_S256x512_0_0).toLoadRect = P 0 := by
  rw [View.readCov_eq_canon']
  exact funext (canon0 P)
theorem canon1 (x : S256x512.Idx) : View.canon (cols P) ((Rect.unit (s := S256x4096) ![0, 512] ![256, 512] inb_S256x4096_S256x512_0_512).toLoadRect.idx x) = P 1 x := by
  have h : (((Rect.unit (s := S256x4096) ![0, 512] ![256, 512] inb_S256x4096_S256x512_0_512).toLoadRect.idx x) 1).val < 1024 := by
    have h1 : (x 1).val < 512 := (x 1).isLt
    show 512 + 1 * (x 1).val < 1024
    omega
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  exact hit _ _ _ _ x
theorem read1 (a : Memref sig .tc .vmem S256x4096 .bf16) : a.view.readCov (cols P) (Rect.unit (s := S256x4096) ![0, 512] ![256, 512] inb_S256x4096_S256x512_0_512).toLoadRect = P 1 := by
  rw [View.readCov_eq_canon']
  exact funext (canon1 P)
theorem canon2 (x : S256x512.Idx) : View.canon (cols P) ((Rect.unit (s := S256x4096) ![0, 1024] ![256, 512] inb_S256x4096_S256x512_0_1024).toLoadRect.idx x) = P 2 x := by
  have h : (((Rect.unit (s := S256x4096) ![0, 1024] ![256, 512] inb_S256x4096_S256x512_0_1024).toLoadRect.idx x) 1).val < 1536 := by
    have h1 : (x 1).val < 512 := (x 1).isLt
    show 1024 + 1 * (x 1).val < 1536
    omega
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  exact hit _ _ _ _ x
theorem read2 (a : Memref sig .tc .vmem S256x4096 .bf16) : a.view.readCov (cols P) (Rect.unit (s := S256x4096) ![0, 1024] ![256, 512] inb_S256x4096_S256x512_0_1024).toLoadRect = P 2 := by
  rw [View.readCov_eq_canon']
  exact funext (canon2 P)
theorem canon3 (x : S256x512.Idx) : View.canon (cols P) ((Rect.unit (s := S256x4096) ![0, 1536] ![256, 512] inb_S256x4096_S256x512_0_1536).toLoadRect.idx x) = P 3 x := by
  have h : (((Rect.unit (s := S256x4096) ![0, 1536] ![256, 512] inb_S256x4096_S256x512_0_1536).toLoadRect.idx x) 1).val < 2048 := by
    have h1 : (x 1).val < 512 := (x 1).isLt
    show 1536 + 1 * (x 1).val < 2048
    omega
  rw [miss _ _ _ _ _ (h.trans_le (by norm_num))]
  rw [miss _ _ _ _ _ (h.trans_le (by norm_num))]
  rw [miss _ _ _ _ _ (h.trans_le (by norm_num))]
  rw [miss _ _ _ _ _ (h.trans_le (by norm_num))]
  exact hit _ _ _ _ x
theorem read3 (a : Memref sig .tc .vmem S256x4096 .bf16) : a.view.readCov (cols P) (Rect.unit (s := S256x4096) ![0, 1536] ![256, 512] inb_S256x4096_S256x512_0_1536).toLoadRect = P 3 := by
  rw [View.readCov_eq_canon']
  exact funext (canon3 P)
theorem canon4 (x : S256x512.Idx) : View.canon (cols P) ((Rect.unit (s := S256x4096) ![0, 2048] ![256, 512] inb_S256x4096_S256x512_0_2048).toLoadRect.idx x) = P 4 x := by
  have h : (((Rect.unit (s := S256x4096) ![0, 2048] ![256, 512] inb_S256x4096_S256x512_0_2048).toLoadRect.idx x) 1).val < 2560 := by
    have h1 : (x 1).val < 512 := (x 1).isLt
    show 2048 + 1 * (x 1).val < 2560
    omega
  rw [miss _ _ _ _ _ (h.trans_le (by norm_num))]
  rw [miss _ _ _ _ _ (h.trans_le (by norm_num))]
  rw [miss _ _ _ _ _ (h.trans_le (by norm_num))]
  exact hit _ _ _ _ x
theorem read4 (a : Memref sig .tc .vmem S256x4096 .bf16) : a.view.readCov (cols P) (Rect.unit (s := S256x4096) ![0, 2048] ![256, 512] inb_S256x4096_S256x512_0_2048).toLoadRect = P 4 := by
  rw [View.readCov_eq_canon']
  exact funext (canon4 P)
theorem canon5 (x : S256x512.Idx) : View.canon (cols P) ((Rect.unit (s := S256x4096) ![0, 2560] ![256, 512] inb_S256x4096_S256x512_0_2560).toLoadRect.idx x) = P 5 x := by
  have h : (((Rect.unit (s := S256x4096) ![0, 2560] ![256, 512] inb_S256x4096_S256x512_0_2560).toLoadRect.idx x) 1).val < 3072 := by
    have h1 : (x 1).val < 512 := (x 1).isLt
    show 2560 + 1 * (x 1).val < 3072
    omega
  rw [miss _ _ _ _ _ (h.trans_le (by norm_num))]
  rw [miss _ _ _ _ _ (h.trans_le (by norm_num))]
  exact hit _ _ _ _ x
theorem read5 (a : Memref sig .tc .vmem S256x4096 .bf16) : a.view.readCov (cols P) (Rect.unit (s := S256x4096) ![0, 2560] ![256, 512] inb_S256x4096_S256x512_0_2560).toLoadRect = P 5 := by
  rw [View.readCov_eq_canon']
  exact funext (canon5 P)
theorem canon6 (x : S256x512.Idx) : View.canon (cols P) ((Rect.unit (s := S256x4096) ![0, 3072] ![256, 512] inb_S256x4096_S256x512_0_3072).toLoadRect.idx x) = P 6 x := by
  have h : (((Rect.unit (s := S256x4096) ![0, 3072] ![256, 512] inb_S256x4096_S256x512_0_3072).toLoadRect.idx x) 1).val < 3584 := by
    have h1 : (x 1).val < 512 := (x 1).isLt
    show 3072 + 1 * (x 1).val < 3584
    omega
  rw [miss _ _ _ _ _ (h.trans_le (by norm_num))]
  exact hit _ _ _ _ x
theorem read6 (a : Memref sig .tc .vmem S256x4096 .bf16) : a.view.readCov (cols P) (Rect.unit (s := S256x4096) ![0, 3072] ![256, 512] inb_S256x4096_S256x512_0_3072).toLoadRect = P 6 := by
  rw [View.readCov_eq_canon']
  exact funext (canon6 P)
theorem canon7 (x : S256x512.Idx) : View.canon (cols P) ((Rect.unit (s := S256x4096) ![0, 3584] ![256, 512] inb_S256x4096_S256x512_0_3584).toLoadRect.idx x) = P 7 x := by
  have h : (((Rect.unit (s := S256x4096) ![0, 3584] ![256, 512] inb_S256x4096_S256x512_0_3584).toLoadRect.idx x) 1).val < 4096 := by
    have h1 : (x 1).val < 512 := (x 1).isLt
    show 3584 + 1 * (x 1).val < 4096
    omega
  exact hit _ _ _ _ x
theorem read7 (a : Memref sig .tc .vmem S256x4096 .bf16) : a.view.readCov (cols P) (Rect.unit (s := S256x4096) ![0, 3584] ![256, 512] inb_S256x4096_S256x512_0_3584).toLoadRect = P 7 := by
  rw [View.readCov_eq_canon']
  exact funext (canon7 P)

/-- Eight stores of columns leave their blocks side by side. -/
theorem canon_cols (p : Fin 256) (j : Fin 8) (k : Fin 512) : View.canon (cols P) (ix2 p (⟨j.val * 512 + k.val, by omega⟩ : Fin 4096)) = P j (ix2 p k) := by
  fin_cases j
  · exact (congrArg (View.canon (cols P)) (at_col 0 inb_S256x4096_S256x512_0_0 p k (by omega))).trans (canon0 P _)
  · exact (congrArg (View.canon (cols P)) (at_col 512 inb_S256x4096_S256x512_0_512 p k (by omega))).trans (canon1 P _)
  · exact (congrArg (View.canon (cols P)) (at_col 1024 inb_S256x4096_S256x512_0_1024 p k (by omega))).trans (canon2 P _)
  · exact (congrArg (View.canon (cols P)) (at_col 1536 inb_S256x4096_S256x512_0_1536 p k (by omega))).trans (canon3 P _)
  · exact (congrArg (View.canon (cols P)) (at_col 2048 inb_S256x4096_S256x512_0_2048 p k (by omega))).trans (canon4 P _)
  · exact (congrArg (View.canon (cols P)) (at_col 2560 inb_S256x4096_S256x512_0_2560 p k (by omega))).trans (canon5 P _)
  · exact (congrArg (View.canon (cols P)) (at_col 3072 inb_S256x4096_S256x512_0_3072 p k (by omega))).trans (canon6 P _)
  · exact (congrArg (View.canon (cols P)) (at_col 3584 inb_S256x4096_S256x512_0_3584 p k (by omega))).trans (canon7 P _)

end Columns

section Tile

variable (x0 : Vec Ideal S256x1024 .f32) (x1 : Vec Ideal S1x1024 .f32) (x2 : Vec Ideal S8x1024x512 .bf16) (x3 : Vec Ideal S4096x1024 .bf16)
  (x4 : Vec Ideal S1x1024 .f32) (x5 : Vec Ideal S256x1024 .f32)

/-- Token `p` of a tile. -/
def tile (p : Fin 256) : Row where
  x d := x0 (ix2 p d)
  g1 d := x1 (ix2 0 d)
  w1 d k := x2 (ix3 (⟨k.val / 512, by omega⟩ : Fin 8) d (⟨k.val % 512, Nat.mod_lt _ (by norm_num)⟩ : Fin 512))
  w2 k d := x3 (ix2 k d)
  g2 d := x4 (ix2 0 d)
  t d := x5 (ix2 p d)

/-- Hidden unit `k` of block `j`. -/
abbrev at8 (j : Fin 8) (k : Fin 512) : Fin 4096 := ⟨j.val * 512 + k.val, by omega⟩

theorem tile_w1 (p : Fin 256) (j : Fin 8) (d : Fin 1024) (k : Fin 512) : wb x2 j (ix3 0 d k) = (tile x0 x1 x2 x3 x4 x5 p).w1 d (at8 j k) := by
  show x2 (ix3 j d k) = x2 (ix3 (⟨(j.val * 512 + k.val) / 512, by omega⟩ : Fin 8) d (⟨(j.val * 512 + k.val) % 512, Nat.mod_lt _ (by norm_num)⟩ : Fin 512))
  congr 2
  · apply Fin.ext; show j.val = (j.val * 512 + k.val) / 512; omega
  · apply Fin.ext; show k.val = (j.val * 512 + k.val) % 512; omega

theorem tile_w2 (p : Fin 256) (j : Fin 8) (d : Fin 1024) (k : Fin 512) : vb x3 j (ix2 k d) = (tile x0 x1 x2 x3 x4 x5 p).w2 (at8 j k) d := rfl

/-- The hidden units of block `j`. -/
def ub (j : Fin 8) : Vec Ideal S256x512 .bf16 := fun y => unit (fun d => k0_pay5 (F := Ideal) x0 x1 (ix2 (y 0) d)) (wb x2 j) (y 1)

theorem h_at (p : Fin 256) (d : Fin 1024) : k0_pay5 (F := Ideal) x0 x1 (ix2 p d) = (tile x0 x1 x2 x3 x4 x5 p).h d := pay5_at x0 x1 p d

theorem unit_at (p : Fin 256) (j : Fin 8) (k : Fin 512) :
    unit (fun d => k0_pay5 (F := Ideal) x0 x1 (ix2 p d)) (wb x2 j) k = (tile x0 x1 x2 x3 x4 x5 p).u (at8 j k) := by
  unfold unit Row.u
  simp only [h_at x0 x1 x2 x3 x4 x5, tile_w1 x0 x1 x2 x3 x4 x5 p]

theorem ub_at (p : Fin 256) (j : Fin 8) (k : Fin 512) : ub x0 x1 x2 j (ix2 p k) = (tile x0 x1 x2 x3 x4 x5 p).u (at8 j k) := unit_at x0 x1 x2 x3 x4 x5 p j k

theorem u0 : k0_pay7 (F := Ideal) x0 x1 (wb x2 0) = ub x0 x1 x2 0 := by
  funext y
  obtain ⟨p, k, rfl⟩ : ∃ p k, y = ix2 p k := ⟨y 0, y 1, by funext a; fin_cases a <;> rfl⟩
  exact pay7_at x0 x1 _ p k
theorem u1 : k0_pay11 (F := Ideal) (k0_pay5 x0 x1) (wb x2 1) = ub x0 x1 x2 1 := by
  funext y
  obtain ⟨p, k, rfl⟩ : ∃ p k, y = ix2 p k := ⟨y 0, y 1, by funext a; fin_cases a <;> rfl⟩
  exact pay11_at _ _ p k
theorem u2 : k0_pay14 (F := Ideal) (k0_pay5 x0 x1) (wb x2 2) = ub x0 x1 x2 2 := by
  funext y
  obtain ⟨p, k, rfl⟩ : ∃ p k, y = ix2 p k := ⟨y 0, y 1, by funext a; fin_cases a <;> rfl⟩
  exact pay14_at _ _ p k
theorem u3 : k0_pay18 (F := Ideal) (k0_pay5 x0 x1) (wb x2 3) = ub x0 x1 x2 3 := by
  funext y
  obtain ⟨p, k, rfl⟩ : ∃ p k, y = ix2 p k := ⟨y 0, y 1, by funext a; fin_cases a <;> rfl⟩
  exact pay18_at _ _ p k
theorem u4 : k0_pay21 (F := Ideal) (k0_pay5 x0 x1) (wb x2 4) = ub x0 x1 x2 4 := by
  funext y
  obtain ⟨p, k, rfl⟩ : ∃ p k, y = ix2 p k := ⟨y 0, y 1, by funext a; fin_cases a <;> rfl⟩
  exact pay21_at _ _ p k
theorem u5 : k0_pay25 (F := Ideal) (k0_pay5 x0 x1) (wb x2 5) = ub x0 x1 x2 5 := by
  funext y
  obtain ⟨p, k, rfl⟩ : ∃ p k, y = ix2 p k := ⟨y 0, y 1, by funext a; fin_cases a <;> rfl⟩
  exact pay25_at _ _ p k
theorem u6 : k0_pay28 (F := Ideal) (k0_pay5 x0 x1) (wb x2 6) = ub x0 x1 x2 6 := by
  funext y
  obtain ⟨p, k, rfl⟩ : ∃ p k, y = ix2 p k := ⟨y 0, y 1, by funext a; fin_cases a <;> rfl⟩
  exact pay28_at _ _ p k
theorem u7 : k0_pay32 (F := Ideal) (k0_pay5 x0 x1) (wb x2 7) = ub x0 x1 x2 7 := by
  funext y
  obtain ⟨p, k, rfl⟩ : ∃ p k, y = ix2 p k := ⟨y 0, y 1, by funext a; fin_cases a <;> rfl⟩
  exact pay32_at _ _ p k

/-- The squares of the hidden units, block by block. -/
def sb (j : Fin 8) : Vec Ideal S256x512 .bf16 := fun y => ub x0 x1 x2 j y * ub x0 x1 x2 j y

theorem a0 : k0_pay8 (F := Ideal) x0 x1 (wb x2 0) = sb x0 x1 x2 0 := by
  funext y
  obtain ⟨p, k, rfl⟩ : ∃ p k, y = ix2 p k := ⟨y 0, y 1, by funext a; fin_cases a <;> rfl⟩
  exact pay8_at x0 x1 _ p k
theorem a1 : k0_pay12 (F := Ideal) (k0_pay5 x0 x1) (wb x2 1) = sb x0 x1 x2 1 := by
  funext y
  obtain ⟨p, k, rfl⟩ : ∃ p k, y = ix2 p k := ⟨y 0, y 1, by funext a; fin_cases a <;> rfl⟩
  exact pay12_at _ _ p k
theorem a2 : k0_pay15 (F := Ideal) (k0_pay5 x0 x1) (wb x2 2) = sb x0 x1 x2 2 := by
  funext y
  obtain ⟨p, k, rfl⟩ : ∃ p k, y = ix2 p k := ⟨y 0, y 1, by funext a; fin_cases a <;> rfl⟩
  exact pay15_at _ _ p k
theorem a3 : k0_pay19 (F := Ideal) (k0_pay5 x0 x1) (wb x2 3) = sb x0 x1 x2 3 := by
  funext y
  obtain ⟨p, k, rfl⟩ : ∃ p k, y = ix2 p k := ⟨y 0, y 1, by funext a; fin_cases a <;> rfl⟩
  exact pay19_at _ _ p k
theorem a4 : k0_pay22 (F := Ideal) (k0_pay5 x0 x1) (wb x2 4) = sb x0 x1 x2 4 := by
  funext y
  obtain ⟨p, k, rfl⟩ : ∃ p k, y = ix2 p k := ⟨y 0, y 1, by funext a; fin_cases a <;> rfl⟩
  exact pay22_at _ _ p k
theorem a5 : k0_pay26 (F := Ideal) (k0_pay5 x0 x1) (wb x2 5) = sb x0 x1 x2 5 := by
  funext y
  obtain ⟨p, k, rfl⟩ : ∃ p k, y = ix2 p k := ⟨y 0, y 1, by funext a; fin_cases a <;> rfl⟩
  exact pay26_at _ _ p k
theorem a6 : k0_pay29 (F := Ideal) (k0_pay5 x0 x1) (wb x2 6) = sb x0 x1 x2 6 := by
  funext y
  obtain ⟨p, k, rfl⟩ : ∃ p k, y = ix2 p k := ⟨y 0, y 1, by funext a; fin_cases a <;> rfl⟩
  exact pay29_at _ _ p k
theorem a7 : k0_pay33 (F := Ideal) (k0_pay5 x0 x1) (wb x2 7) = sb x0 x1 x2 7 := by
  funext y
  obtain ⟨p, k, rfl⟩ : ∃ p k, y = ix2 p k := ⟨y 0, y 1, by funext a; fin_cases a <;> rfl⟩
  exact pay33_at _ _ p k

theorem sb_at (p : Fin 256) (j : Fin 8) (k : Fin 512) : sb x0 x1 x2 j (ix2 p k) = (tile x0 x1 x2 x3 x4 x5 p).a (at8 j k) := by
  unfold sb Row.a
  rw [ub_at x0 x1 x2 x3 x4 x5]

/-- The MLP's output before the last block, and with it. -/
abbrev acc : Vec Ideal S256x1024 .f32 :=
  k0_pay30 (F := Ideal) (k0_pay5 x0 x1) (k0_pay23 (k0_pay5 x0 x1) (k0_pay16 (k0_pay5 x0 x1) (k0_pay9 x0 x1 (wb x2 0) (vb x3 0)) (wb x2 1) (vb x3 1) (wb x2 2) (vb x3 2)) (wb x2 3) (vb x3 3) (wb x2 4) (vb x3 4)) (wb x2 5) (vb x3 5) (wb x2 6) (vb x3 6)
@[inherit_doc acc] abbrev ffv : Vec Ideal S256x1024 .f32 := k0_pay34 (F := Ideal) (k0_pay5 x0 x1) (acc x0 x1 x2 x3) (wb x2 7) (vb x3 7)

theorem ff_at (p : Fin 256) (d : Fin 1024) : ffv x0 x1 x2 x3 (ix2 p d) = (tile x0 x1 x2 x3 x4 x5 p).ff d := by
  unfold ffv acc
  simp only [pay34_at, pay30_at, pay23_at, pay16_at, pay9_at, a0, a1, a2, a3, a4, a5, a6, a7, sb_at x0 x1 x2 x3 x4 x5, tile_w2 x0 x1 x2 x3 x4 x5 p]
  exact eight fun k => (tile x0 x1 x2 x3 x4 x5 p).a k * (tile x0 x1 x2 x3 x4 x5 p).w2 k d

/-- The error. -/
abbrev ev : Vec Ideal S256x1024 .f32 := k0_pay35 (F := Ideal) x0 (k0_pay5 x0 x1) (acc x0 x1 x2 x3) (wb x2 7) (vb x3 7) x4 x5

theorem e_at (p : Fin 256) (d : Fin 1024) : ev x0 x1 x2 x3 x4 x5 (ix2 p d) = (tile x0 x1 x2 x3 x4 x5 p).diff d := by
  unfold ev
  rw [pay35_at]
  simp only [ff_at x0 x1 x2 x3 x4 x5]
  rfl

/-- The gradient of the MLP's output. -/
abbrev gv : Vec Ideal S256x1024 .f32 := k0_pay42 (F := Ideal) (ffv x0 x1 x2 x3) (ev x0 x1 x2 x3 x4 x5) x4

theorem g_at (p : Fin 256) (d : Fin 1024) : gv x0 x1 x2 x3 x4 x5 (ix2 p d) = (tile x0 x1 x2 x3 x4 x5 p).dff d := by
  unfold gv
  rw [pay42_at]
  simp only [ff_at x0 x1 x2 x3 x4 x5, e_at x0 x1 x2 x3 x4 x5]
  rfl

/-- The gradient of the hidden units, block by block. -/
def db (j : Fin 8) : Vec Ideal S256x512 .bf16 :=
  fun y => dunit (fun d => gv x0 x1 x2 x3 x4 x5 (ix2 (y 0) d)) (vb x3 j) (ub x0 x1 x2 j y) (y 1)

theorem db_at (p : Fin 256) (j : Fin 8) (k : Fin 512) : db x0 x1 x2 x3 x4 x5 j (ix2 p k) = (tile x0 x1 x2 x3 x4 x5 p).du (at8 j k) := by
  show dunit (fun d => gv x0 x1 x2 x3 x4 x5 (ix2 p d)) (vb x3 j) (ub x0 x1 x2 j (ix2 p k)) k = _
  unfold dunit Row.du
  simp only [g_at x0 x1 x2 x3 x4 x5, ub_at x0 x1 x2 x3 x4 x5, tile_w2 x0 x1 x2 x3 x4 x5 p]

/-- The same gradient, as the products with the second weight are of it. -/
abbrev gb : Vec Ideal S256x1024 .bf16 := k0_pay45 (F := Ideal) (gv x0 x1 x2 x3 x4 x5)

theorem d0 : k0_pay46 (F := Ideal) (gv x0 x1 x2 x3 x4 x5) (vb x3 0) (ub x0 x1 x2 0) = db x0 x1 x2 x3 x4 x5 0 := by
  funext y
  obtain ⟨p, k, rfl⟩ : ∃ p k, y = ix2 p k := ⟨y 0, y 1, by funext a; fin_cases a <;> rfl⟩
  exact pay46_at _ _ _ p k
theorem d1 : k0_pay48 (F := Ideal) (gv x0 x1 x2 x3 x4 x5) (vb x3 1) (ub x0 x1 x2 1) = db x0 x1 x2 x3 x4 x5 1 := by
  funext y
  obtain ⟨p, k, rfl⟩ : ∃ p k, y = ix2 p k := ⟨y 0, y 1, by funext a; fin_cases a <;> rfl⟩
  exact pay48_at _ _ _ p k
theorem d2 : k0_pay49 (F := Ideal) (gb x0 x1 x2 x3 x4 x5) (vb x3 2) (ub x0 x1 x2 2) = db x0 x1 x2 x3 x4 x5 2 := by
  funext y
  obtain ⟨p, k, rfl⟩ : ∃ p k, y = ix2 p k := ⟨y 0, y 1, by funext a; fin_cases a <;> rfl⟩
  refine (pay49_at _ _ _ p k).trans ?_
  simp only [gb, pay45_at]
  rfl
theorem d3 : k0_pay50 (F := Ideal) (gb x0 x1 x2 x3 x4 x5) (vb x3 3) (ub x0 x1 x2 3) = db x0 x1 x2 x3 x4 x5 3 := by
  funext y
  obtain ⟨p, k, rfl⟩ : ∃ p k, y = ix2 p k := ⟨y 0, y 1, by funext a; fin_cases a <;> rfl⟩
  refine (pay50_at _ _ _ p k).trans ?_
  simp only [gb, pay45_at]
  rfl
theorem d4 : k0_pay52 (F := Ideal) (gb x0 x1 x2 x3 x4 x5) (vb x3 4) (ub x0 x1 x2 4) = db x0 x1 x2 x3 x4 x5 4 := by
  funext y
  obtain ⟨p, k, rfl⟩ : ∃ p k, y = ix2 p k := ⟨y 0, y 1, by funext a; fin_cases a <;> rfl⟩
  refine (pay52_at _ _ _ p k).trans ?_
  simp only [gb, pay45_at]
  rfl
theorem d5 : k0_pay53 (F := Ideal) (gb x0 x1 x2 x3 x4 x5) (vb x3 5) (ub x0 x1 x2 5) = db x0 x1 x2 x3 x4 x5 5 := by
  funext y
  obtain ⟨p, k, rfl⟩ : ∃ p k, y = ix2 p k := ⟨y 0, y 1, by funext a; fin_cases a <;> rfl⟩
  refine (pay53_at _ _ _ p k).trans ?_
  simp only [gb, pay45_at]
  rfl
theorem d6 : k0_pay56 (F := Ideal) (k0_pay55 (gb x0 x1 x2 x3 x4 x5) (vb x3 6)) (ub x0 x1 x2 6) = db x0 x1 x2 x3 x4 x5 6 := by
  funext y
  obtain ⟨p, k, rfl⟩ : ∃ p k, y = ix2 p k := ⟨y 0, y 1, by funext a; fin_cases a <;> rfl⟩
  refine (pay56_at _ _ _ p k).trans ?_
  simp only [gb, pay45_at]
  rfl
theorem d7 : k0_pay57 (F := Ideal) (gb x0 x1 x2 x3 x4 x5) (vb x3 7) (ub x0 x1 x2 7) = db x0 x1 x2 x3 x4 x5 7 := by
  funext y
  obtain ⟨p, k, rfl⟩ : ∃ p k, y = ix2 p k := ⟨y 0, y 1, by funext a; fin_cases a <;> rfl⟩
  refine (pay57_at _ _ _ p k).trans ?_
  simp only [gb, pay45_at]
  rfl

/-- The gradient of the normalised input. -/
abbrev hv : Vec Ideal S256x1024 .f32 :=
  k0_pay58 (F := Ideal) (gb x0 x1 x2 x3 x4 x5) (k0_pay54 (gb x0 x1 x2 x3 x4 x5) (k0_pay51 (gb x0 x1 x2 x3 x4 x5) (k0_pay47 (gv x0 x1 x2 x3 x4 x5) (vb x3 0) (ub x0 x1 x2 0) (wb x2 0)) (k0_pay48 (gv x0 x1 x2 x3 x4 x5) (vb x3 1) (ub x0 x1 x2 1)) (wb x2 1) (vb x3 2) (ub x0 x1 x2 2) (wb x2 2) (vb x3 3) (ub x0 x1 x2 3) (wb x2 3)) (vb x3 4) (ub x0 x1 x2 4) (wb x2 4) (vb x3 5) (ub x0 x1 x2 5) (wb x2 5)) (k0_pay55 (gb x0 x1 x2 x3 x4 x5) (vb x3 6)) (ub x0 x1 x2 6) (wb x2 6) (vb x3 7) (ub x0 x1 x2 7) (wb x2 7)

theorem dh_at (p : Fin 256) (d : Fin 1024) : hv x0 x1 x2 x3 x4 x5 (ix2 p d) = (tile x0 x1 x2 x3 x4 x5 p).dh d := by
  unfold hv
  simp only [pay58_at, pay54_at, pay51_at, pay47_at, d0, d1, d2, d3, d4, d5, d6, d7, db_at, tile_w1 x0 x1 x2 x3 x4 x5 p]
  exact eight fun k => (tile x0 x1 x2 x3 x4 x5 p).du k * (tile x0 x1 x2 x3 x4 x5 p).w1 d k

theorem dx_at (p : Fin 256) (d : Fin 1024) :
    k0_pay4 (F := Ideal) x0 (k0_pay39 (ev x0 x1 x2 x3 x4 x5)) (hv x0 x1 x2 x3 x4 x5) x1 (k0_pay59 x0) (ix2 p d) = (tile x0 x1 x2 x3 x4 x5 p).dx d := by
  rw [pay4_at]
  simp only [pay39_at, e_at, dh_at]
  rfl

theorem err_at (a : Vec Ideal S1x1024 .f32) (d : Fin 1024) :
    k0_pay38 (F := Ideal) (k0_pay36 x0 (k0_pay5 x0 x1) (acc x0 x1 x2 x3) (wb x2 7) (vb x3 7) x4 x5) a (ix2 0 d) = a (ix2 0 d) + ∑ p, (tile x0 x1 x2 x3 x4 x5 p).err d := by
  simp only [pay38_at, pay36_at, e_at]
  rfl

theorem dg2_at (a : Vec Ideal S1x1024 .f32) (d : Fin 1024) :
    k0_pay44 (F := Ideal) (ffv x0 x1 x2 x3) (ev x0 x1 x2 x3 x4 x5) a (ix2 0 d) = a (ix2 0 d) + ∑ p, (tile x0 x1 x2 x3 x4 x5 p).dg2 d := by
  simp only [pay44_at, e_at, ff_at x0 x1 x2 x3 x4 x5]
  rfl

theorem dg1_at (a : Vec Ideal S1x1024 .f32) (d : Fin 1024) :
    k0_pay3 (F := Ideal) x0 (hv x0 x1 x2 x3 x4 x5) (k0_pay59 x0) a (ix2 0 d) = a (ix2 0 d) + ∑ p, (tile x0 x1 x2 x3 x4 x5 p).dg1 d := by
  simp only [pay3_at, pay59_at, dh_at]
  rfl

end Tile

end Cert.KernelMlpIdeal.Hand

end
-- ==== Proof.Mlp.Out.lean ====
/- What a point leaves in its outputs, as its tokens' quantities. -/
module

public import proofs.«01_k».proof.Proof.Mlp.Tile
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelMlpIdeal.Hand

open Idealize.ShloMosaic Idealize.ShloMosaic.TcCoe Idealize.ShloMosaic.Tactic
open Idealize.SL.Sem Cert.KernelMlpIdeal Cert.KernelMlpIdeal.Gen Cert.Mlp

section Point

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x1024x512 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x4096 .bf16) (harg15 : arg15.IsWhole)
  (x0 : Vec Ideal S256x1024 .f32) (x1 : Vec Ideal S1x1024 .f32) (x2 : Vec Ideal S8x1024x512 .bf16) (x3 : Vec Ideal S4096x1024 .bf16) (x4 : Vec Ideal S1x1024 .f32) (x5 : Vec Ideal S256x1024 .f32)

theorem out_B_6 (hc0 : ¬cond0_0 i) (hc1 : ¬cond0_1 i) (hc2 : ¬cond0_2 i) (xo11 : Vec Ideal S1x1024 .f32) (xo12 : Vec Ideal S1x1024 .f32) (xo13 : Vec Ideal S1x1024 .f32) (p : Fin 256) (d : Fin 1024) :
    (out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S256x1024 .f32) (ix2 p d) = (tile x0 x1 x2 x3 x4 x5 p).dx d := by
  frame_out
  simp only [ldw0, ldw1, ldw2, ldw3, ldw4, ldw5, ldw6, ldw7, ldv0, ldv1, ldv2, ldv3, ldv4, ldv5, ldv6, ldv7]
  simp only [u0, u1, u2, u3, u4, u5, u6, u7, read0 (ub x0 x1 x2), read1 (ub x0 x1 x2), read2 (ub x0 x1 x2), read3 (ub x0 x1 x2), read4 (ub x0 x1 x2), read5 (ub x0 x1 x2), read6 (ub x0 x1 x2), read7 (ub x0 x1 x2)]
  exact dx_at x0 x1 x2 x3 x4 x5 p d

theorem out_B_7 (hc0 : ¬cond0_0 i) (hc1 : ¬cond0_1 i) (hc2 : ¬cond0_2 i) (xo11 : Vec Ideal S1x1024 .f32) (xo12 : Vec Ideal S1x1024 .f32) (xo13 : Vec Ideal S1x1024 .f32) (p : Fin 256) (d : Fin 1024) :
    (out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S256x1024 .bf16) (ix2 p d) = (tile x0 x1 x2 x3 x4 x5 p).h d := by
  frame_out
  exact h_at x0 x1 x2 x3 x4 x5 p d

theorem out_B_8 (hc0 : ¬cond0_0 i) (hc1 : ¬cond0_1 i) (hc2 : ¬cond0_2 i) (xo11 : Vec Ideal S1x1024 .f32) (xo12 : Vec Ideal S1x1024 .f32) (xo13 : Vec Ideal S1x1024 .f32) (p : Fin 256) (j : Fin 8) (k : Fin 512) :
    (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S256x4096 .bf16) (ix2 p (at8 j k)) = (tile x0 x1 x2 x3 x4 x5 p).a (at8 j k) := by
  frame_out
  simp only [ldw0, ldw1, ldw2, ldw3, ldw4, ldw5, ldw6, ldw7, ldv0, ldv1, ldv2, ldv3, ldv4, ldv5, ldv6, ldv7]
  simp only [a0, a1, a2, a3, a4, a5, a6, a7]
  exact (canon_cols (sb x0 x1 x2) p j k).trans (sb_at x0 x1 x2 x3 x4 x5 p j k)

theorem out_B_9 (hc0 : ¬cond0_0 i) (hc1 : ¬cond0_1 i) (hc2 : ¬cond0_2 i) (xo11 : Vec Ideal S1x1024 .f32) (xo12 : Vec Ideal S1x1024 .f32) (xo13 : Vec Ideal S1x1024 .f32) (p : Fin 256) (j : Fin 8) (k : Fin 512) :
    (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S256x4096 .bf16) (ix2 p (at8 j k)) = (tile x0 x1 x2 x3 x4 x5 p).du (at8 j k) := by
  frame_out
  simp only [ldw0, ldw1, ldw2, ldw3, ldw4, ldw5, ldw6, ldw7, ldv0, ldv1, ldv2, ldv3, ldv4, ldv5, ldv6, ldv7]
  simp only [u0, u1, u2, u3, u4, u5, u6, u7, read0 (ub x0 x1 x2), read1 (ub x0 x1 x2), read2 (ub x0 x1 x2), read3 (ub x0 x1 x2), read4 (ub x0 x1 x2), read5 (ub x0 x1 x2), read6 (ub x0 x1 x2), read7 (ub x0 x1 x2)]
  simp only [d0, d1, d2, d3, d4, d5, d6, d7]
  exact (canon_cols (db x0 x1 x2 x3 x4 x5) p j k).trans (db_at x0 x1 x2 x3 x4 x5 p j k)

theorem out_B_10 (hc0 : ¬cond0_0 i) (hc1 : ¬cond0_1 i) (hc2 : ¬cond0_2 i) (xo11 : Vec Ideal S1x1024 .f32) (xo12 : Vec Ideal S1x1024 .f32) (xo13 : Vec Ideal S1x1024 .f32) (p : Fin 256) (d : Fin 1024) :
    (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S256x1024 .bf16) (ix2 p d) = (tile x0 x1 x2 x3 x4 x5 p).dff d := by
  frame_out
  simp only [ldw0, ldw1, ldw2, ldw3, ldw4, ldw5, ldw6, ldw7, ldv0, ldv1, ldv2, ldv3, ldv4, ldv5, ldv6, ldv7]
  exact (pay45_at _ p d).trans (g_at x0 x1 x2 x3 x4 x5 p d)

theorem out_B_11 (hc0 : ¬cond0_0 i) (hc1 : ¬cond0_1 i) (hc2 : ¬cond0_2 i) (xo11 : Vec Ideal S1x1024 .f32) (xo12 : Vec Ideal S1x1024 .f32) (xo13 : Vec Ideal S1x1024 .f32) (d : Fin 1024) :
    (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S1x1024 .f32) (ix2 0 d) = xo11 (ix2 0 d) + ∑ p, (tile x0 x1 x2 x3 x4 x5 p).err d := by
  frame_out
  simp only [ldw0, ldw1, ldw2, ldw3, ldw4, ldw5, ldw6, ldw7, ldv0, ldv1, ldv2, ldv3, ldv4, ldv5, ldv6, ldv7]
  exact err_at x0 x1 x2 x3 x4 x5 xo11 d

theorem out_B_12 (hc0 : ¬cond0_0 i) (hc1 : ¬cond0_1 i) (hc2 : ¬cond0_2 i) (xo11 : Vec Ideal S1x1024 .f32) (xo12 : Vec Ideal S1x1024 .f32) (xo13 : Vec Ideal S1x1024 .f32) (d : Fin 1024) :
    (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S1x1024 .f32) (ix2 0 d) = xo12 (ix2 0 d) + ∑ p, (tile x0 x1 x2 x3 x4 x5 p).dg1 d := by
  frame_out
  simp only [ldw0, ldw1, ldw2, ldw3, ldw4, ldw5, ldw6, ldw7, ldv0, ldv1, ldv2, ldv3, ldv4, ldv5, ldv6, ldv7]
  simp only [u0, u1, u2, u3, u4, u5, u6, u7, read0 (ub x0 x1 x2), read1 (ub x0 x1 x2), read2 (ub x0 x1 x2), read3 (ub x0 x1 x2), read4 (ub x0 x1 x2), read5 (ub x0 x1 x2), read6 (ub x0 x1 x2), read7 (ub x0 x1 x2)]
  exact dg1_at x0 x1 x2 x3 x4 x5 xo12 d

theorem out_B_13 (hc0 : ¬cond0_0 i) (hc1 : ¬cond0_1 i) (hc2 : ¬cond0_2 i) (xo11 : Vec Ideal S1x1024 .f32) (xo12 : Vec Ideal S1x1024 .f32) (xo13 : Vec Ideal S1x1024 .f32) (d : Fin 1024) :
    (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo11 xo12 xo13 : Vec Ideal S1x1024 .f32) (ix2 0 d) = xo13 (ix2 0 d) + ∑ p, (tile x0 x1 x2 x3 x4 x5 p).dg2 d := by
  frame_out
  simp only [ldw0, ldw1, ldw2, ldw3, ldw4, ldw5, ldw6, ldw7, ldv0, ldv1, ldv2, ldv3, ldv4, ldv5, ldv6, ldv7]
  exact dg2_at x0 x1 x2 x3 x4 x5 xo13 d

theorem out_A_6 (hc0 : cond0_0 i) (hc1 : cond0_1 i) (hc2 : cond0_2 i)  (p : Fin 256) (d : Fin 1024) :
    (out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S256x1024 .f32) (ix2 p d) = (tile x0 x1 x2 x3 x4 x5 p).dx d := by
  frame_out
  simp only [ldw0, ldw1, ldw2, ldw3, ldw4, ldw5, ldw6, ldw7, ldv0, ldv1, ldv2, ldv3, ldv4, ldv5, ldv6, ldv7]
  simp only [u0, u1, u2, u3, u4, u5, u6, u7, read0 (ub x0 x1 x2), read1 (ub x0 x1 x2), read2 (ub x0 x1 x2), read3 (ub x0 x1 x2), read4 (ub x0 x1 x2), read5 (ub x0 x1 x2), read6 (ub x0 x1 x2), read7 (ub x0 x1 x2)]
  exact dx_at x0 x1 x2 x3 x4 x5 p d

theorem out_A_7 (hc0 : cond0_0 i) (hc1 : cond0_1 i) (hc2 : cond0_2 i)  (p : Fin 256) (d : Fin 1024) :
    (out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S256x1024 .bf16) (ix2 p d) = (tile x0 x1 x2 x3 x4 x5 p).h d := by
  frame_out
  exact h_at x0 x1 x2 x3 x4 x5 p d

theorem out_A_8 (hc0 : cond0_0 i) (hc1 : cond0_1 i) (hc2 : cond0_2 i)  (p : Fin 256) (j : Fin 8) (k : Fin 512) :
    (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S256x4096 .bf16) (ix2 p (at8 j k)) = (tile x0 x1 x2 x3 x4 x5 p).a (at8 j k) := by
  frame_out
  simp only [ldw0, ldw1, ldw2, ldw3, ldw4, ldw5, ldw6, ldw7, ldv0, ldv1, ldv2, ldv3, ldv4, ldv5, ldv6, ldv7]
  simp only [a0, a1, a2, a3, a4, a5, a6, a7]
  exact (canon_cols (sb x0 x1 x2) p j k).trans (sb_at x0 x1 x2 x3 x4 x5 p j k)

theorem out_A_9 (hc0 : cond0_0 i) (hc1 : cond0_1 i) (hc2 : cond0_2 i)  (p : Fin 256) (j : Fin 8) (k : Fin 512) :
    (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S256x4096 .bf16) (ix2 p (at8 j k)) = (tile x0 x1 x2 x3 x4 x5 p).du (at8 j k) := by
  frame_out
  simp only [ldw0, ldw1, ldw2, ldw3, ldw4, ldw5, ldw6, ldw7, ldv0, ldv1, ldv2, ldv3, ldv4, ldv5, ldv6, ldv7]
  simp only [u0, u1, u2, u3, u4, u5, u6, u7, read0 (ub x0 x1 x2), read1 (ub x0 x1 x2), read2 (ub x0 x1 x2), read3 (ub x0 x1 x2), read4 (ub x0 x1 x2), read5 (ub x0 x1 x2), read6 (ub x0 x1 x2), read7 (ub x0 x1 x2)]
  simp only [d0, d1, d2, d3, d4, d5, d6, d7]
  exact (canon_cols (db x0 x1 x2 x3 x4 x5) p j k).trans (db_at x0 x1 x2 x3 x4 x5 p j k)

theorem out_A_10 (hc0 : cond0_0 i) (hc1 : cond0_1 i) (hc2 : cond0_2 i)  (p : Fin 256) (d : Fin 1024) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S256x1024 .bf16) (ix2 p d) = (tile x0 x1 x2 x3 x4 x5 p).dff d := by
  frame_out
  simp only [ldw0, ldw1, ldw2, ldw3, ldw4, ldw5, ldw6, ldw7, ldv0, ldv1, ldv2, ldv3, ldv4, ldv5, ldv6, ldv7]
  exact (pay45_at _ p d).trans (g_at x0 x1 x2 x3 x4 x5 p d)

theorem out_A_11 (hc0 : cond0_0 i) (hc1 : cond0_1 i) (hc2 : cond0_2 i)  (d : Fin 1024) :
    (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S1x1024 .f32) (ix2 0 d) = 0 + ∑ p, (tile x0 x1 x2 x3 x4 x5 p).err d := by
  frame_out
  simp only [ldw0, ldw1, ldw2, ldw3, ldw4, ldw5, ldw6, ldw7, ldv0, ldv1, ldv2, ldv3, ldv4, ldv5, ldv6, ldv7]
  exact (err_at x0 x1 x2 x3 x4 x5 _ d).trans (congrArg (· + _) (pay37_at d))

theorem out_A_12 (hc0 : cond0_0 i) (hc1 : cond0_1 i) (hc2 : cond0_2 i)  (d : Fin 1024) :
    (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S1x1024 .f32) (ix2 0 d) = 0 + ∑ p, (tile x0 x1 x2 x3 x4 x5 p).dg1 d := by
  frame_out
  simp only [ldw0, ldw1, ldw2, ldw3, ldw4, ldw5, ldw6, ldw7, ldv0, ldv1, ldv2, ldv3, ldv4, ldv5, ldv6, ldv7]
  simp only [u0, u1, u2, u3, u4, u5, u6, u7, read0 (ub x0 x1 x2), read1 (ub x0 x1 x2), read2 (ub x0 x1 x2), read3 (ub x0 x1 x2), read4 (ub x0 x1 x2), read5 (ub x0 x1 x2), read6 (ub x0 x1 x2), read7 (ub x0 x1 x2)]
  exact (dg1_at x0 x1 x2 x3 x4 x5 _ d).trans (congrArg (· + _) (pay2_at d))

theorem out_A_13 (hc0 : cond0_0 i) (hc1 : cond0_1 i) (hc2 : cond0_2 i)  (d : Fin 1024) :
    (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5  : Vec Ideal S1x1024 .f32) (ix2 0 d) = 0 + ∑ p, (tile x0 x1 x2 x3 x4 x5 p).dg2 d := by
  frame_out
  simp only [ldw0, ldw1, ldw2, ldw3, ldw4, ldw5, ldw6, ldw7, ldv0, ldv1, ldv2, ldv3, ldv4, ldv5, ldv6, ldv7]
  exact (dg2_at x0 x1 x2 x3 x4 x5 _ d).trans (congrArg (· + _) (pay43_at d))

end Point

end Cert.KernelMlpIdeal.Hand

end
-- ==== Proof.Mlp.Arr.lean ====
/- What the run leaves in the call's results, as the tokens' quantities. -/
module

public import proofs.«01_k».proof.Proof.Mlp.Out
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.KernelMlpIdeal.Hand

open Idealize.ShloMosaic Idealize.ShloMosaic.TcCoe Idealize.ShloMosaic.Tactic
open Idealize.SL.Sem Cert.KernelMlpIdeal Cert.KernelMlpIdeal.Gen Cert.Mlp

/-- Token `n`, of the six arguments. -/
def token (x0 : (⟨S4096x1024, .f32⟩ : BufTy).Contents (Elt Ideal)) (x1 : (⟨S1x1024, .f32⟩ : BufTy).Contents (Elt Ideal)) (x2 : (⟨S1024x4096, .f32⟩ : BufTy).Contents (Elt Ideal))
    (x3 : (⟨S4096x1024, .f32⟩ : BufTy).Contents (Elt Ideal)) (x4 : (⟨S1x1024, .f32⟩ : BufTy).Contents (Elt Ideal)) (x5 : (⟨S4096x1024, .f32⟩ : BufTy).Contents (Elt Ideal)) (n : Fin 4096) : Row where
  x d := x0 (ix2 n d)
  g1 d := x1 (ix2 0 d)
  w1 d k := x2 (ix2 d k)
  w2 k d := x3 (ix2 k d)
  g2 d := x4 (ix2 0 d)
  t d := x5 (ix2 n d)

variable (m : (ℓ : Loc nD τ sig) → Buf (Elt Ideal) ℓ) (c : Dev nD)

/-- Token `n`, of the arguments in memory. -/
abbrev tok (n : Fin 4096) : Row :=
  token (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) n

/-- What a point reads of each operand. -/
abbrev in0 (t : Fin cfg0.N) : Vec Ideal S256x1024 .f32 := iblk m c 0 t
@[inherit_doc in0] abbrev in1 (t : Fin cfg0.N) : Vec Ideal S1x1024 .f32 := iblk m c 1 t
@[inherit_doc in0] abbrev in2 (t : Fin cfg0.N) : Vec Ideal S8x1024x512 .bf16 := iblk m c 2 t
@[inherit_doc in0] abbrev in3 (t : Fin cfg0.N) : Vec Ideal S4096x1024 .bf16 := iblk m c 3 t
@[inherit_doc in0] abbrev in4 (t : Fin cfg0.N) : Vec Ideal S1x1024 .f32 := iblk m c 4 t
@[inherit_doc in0] abbrev in5 (t : Fin cfg0.N) : Vec Ideal S256x1024 .f32 := iblk m c 5 t

/-- A point reads its own 256 rows, and all of the weights and the gains. -/
theorem idx_in : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![t.val, 0] := (by decide +kernel : ∀ t : Fin grid0.N, _)

theorem row_lt (t : Fin cfg0.N) (p : Fin 256) : t.val * 256 + p.val < 4096 := by
  have := lt_of_lt_of_eq t.isLt N_0
  omega

/-- Row `p` of a point's tile. -/
abbrev at16 (t : Fin cfg0.N) (p : Fin 256) : Fin 4096 := ⟨t.val * 256 + p.val, row_lt t p⟩

/-- The blocks of the first weight as the call finds them, and the second weight. -/
theorem arr2 (j : Fin 8) (d : Fin 1024) (k : Fin 512) : (V m c main_v2 : (⟨S8x1024x512, .bf16⟩ : BufTy).Contents (Elt Ideal)) (ix3 j d k)
    = (m ((c.tc : Thread nD τ).loc main_arg2) : (⟨S1024x4096, .f32⟩ : BufTy).Contents (Elt Ideal)) (ix2 d (at8 j k)) := by
  unfold V
  after_results
  pointwise []

theorem arr3 : (V m c main_v3 : (⟨S4096x1024, .bf16⟩ : BufTy).Contents (Elt Ideal)) = m ((c.tc : Thread nD τ).loc main_arg3) := by
  unfold V
  after_results
  rfl

theorem blk0 (t : Fin cfg0.N) (p : Fin 256) (d : Fin 1024) : in0 m c t (ix2 p d)
    = (m ((c.tc : Thread nD τ).loc main_arg0) : (⟨S4096x1024, .f32⟩ : BufTy).Contents (Elt Ideal)) (ix2 (at16 t p) d) := by
  rw [← congrFun (V_main_arg0 m c) _]
  blk_ext [in0, iblk, idx_in t]
theorem blk1 (t : Fin cfg0.N) (d : Fin 1024) : in1 m c t (ix2 0 d)
    = (m ((c.tc : Thread nD τ).loc main_arg1) : (⟨S1x1024, .f32⟩ : BufTy).Contents (Elt Ideal)) (ix2 0 d) := by
  rw [← congrFun (V_main_arg1 m c) _]
  blk_ext [in1, iblk, idx_in t]
theorem blk2 (t : Fin cfg0.N) (j : Fin 8) (d : Fin 1024) (k : Fin 512) : in2 m c t (ix3 j d k)
    = (V m c main_v2 : (⟨S8x1024x512, .bf16⟩ : BufTy).Contents (Elt Ideal)) (ix3 j d k) := by
  blk_ext [in2, iblk, idx_in t]
theorem blk3 (t : Fin cfg0.N) (k : Fin 4096) (d : Fin 1024) : in3 m c t (ix2 k d)
    = (V m c main_v3 : (⟨S4096x1024, .bf16⟩ : BufTy).Contents (Elt Ideal)) (ix2 k d) := by
  blk_ext [in3, iblk, idx_in t]
theorem blk4 (t : Fin cfg0.N) (d : Fin 1024) : in4 m c t (ix2 0 d)
    = (m ((c.tc : Thread nD τ).loc main_arg4) : (⟨S1x1024, .f32⟩ : BufTy).Contents (Elt Ideal)) (ix2 0 d) := by
  rw [← congrFun (V_main_arg4 m c) _]
  blk_ext [in4, iblk, idx_in t]
theorem blk5 (t : Fin cfg0.N) (p : Fin 256) (d : Fin 1024) : in5 m c t (ix2 p d)
    = (m ((c.tc : Thread nD τ).loc main_arg5) : (⟨S4096x1024, .f32⟩ : BufTy).Contents (Elt Ideal)) (ix2 (at16 t p) d) := by
  rw [← congrFun (V_main_arg5 m c) _]
  blk_ext [in5, iblk, idx_in t]

/-- Token `p` of a point's tile is the arguments' token of that row. -/
theorem tile_eq (t : Fin cfg0.N) (p : Fin 256) : tile (in0 m c t) (in1 m c t) (in2 m c t) (in3 m c t) (in4 m c t) (in5 m c t) p = tok m c (at16 t p) := by
  unfold tile tok token
  simp only [blk0, blk1, blk2, blk3, blk4, blk5, arr2, arr3, Row.mk.injEq, true_and, and_true]
  refine ⟨?_, rfl⟩
  funext d k
  have e : at8 (⟨k.val / 512, by omega⟩ : Fin 8) (⟨k.val % 512, Nat.mod_lt _ (by norm_num)⟩ : Fin 512) = k :=
    Fin.ext (show k.val / 512 * 512 + k.val % 512 = k.val by omega)
  exact (arr2 m c _ d _).trans (congrArg (fun k' => (m ((c.tc : Thread nD τ).loc main_arg2) : (⟨S1024x4096, .f32⟩ : BufTy).Contents (Elt Ideal)) (ix2 d k')) e)

theorem outs6 (t : Fin cfg0.N) (p : Fin 256) (d : Fin 1024) : (outsAt0 m c t.val t.isLt).1 (ix2 p d) = (tok m c (at16 t p)).dx d := by
  rw [← tile_eq]
  by_cases h : t.val % 16 = 0
  · rw [outsAt0_A m c t h h h]
    dsimp only
    rw [out_A_6]
  · rw [outsAt0_B m c t h h h]
    dsimp only
    rw [out_B_6]

theorem outs7 (t : Fin cfg0.N) (p : Fin 256) (d : Fin 1024) : (outsAt0 m c t.val t.isLt).2.1 (ix2 p d) = (tok m c (at16 t p)).h d := by
  rw [← tile_eq]
  by_cases h : t.val % 16 = 0
  · rw [outsAt0_A m c t h h h]
    dsimp only
    rw [out_A_7]
  · rw [outsAt0_B m c t h h h]
    dsimp only
    rw [out_B_7]

theorem outs8 (t : Fin cfg0.N) (p : Fin 256) (j : Fin 8) (k : Fin 512) : (outsAt0 m c t.val t.isLt).2.2.1 (ix2 p (at8 j k)) = (tok m c (at16 t p)).a (at8 j k) := by
  rw [← tile_eq]
  by_cases h : t.val % 16 = 0
  · rw [outsAt0_A m c t h h h]
    dsimp only
    rw [out_A_8]
  · rw [outsAt0_B m c t h h h]
    dsimp only
    rw [out_B_8]

theorem outs9 (t : Fin cfg0.N) (p : Fin 256) (j : Fin 8) (k : Fin 512) : (outsAt0 m c t.val t.isLt).2.2.2.1 (ix2 p (at8 j k)) = (tok m c (at16 t p)).du (at8 j k) := by
  rw [← tile_eq]
  by_cases h : t.val % 16 = 0
  · rw [outsAt0_A m c t h h h]
    dsimp only
    rw [out_A_9]
  · rw [outsAt0_B m c t h h h]
    dsimp only
    rw [out_B_9]

theorem outs10 (t : Fin cfg0.N) (p : Fin 256) (d : Fin 1024) : (outsAt0 m c t.val t.isLt).2.2.2.2.1 (ix2 p d) = (tok m c (at16 t p)).dff d := by
  rw [← tile_eq]
  by_cases h : t.val % 16 = 0
  · rw [outsAt0_A m c t h h h]
    dsimp only
    rw [out_A_10]
  · rw [outsAt0_B m c t h h h]
    dsimp only
    rw [out_B_10]

/-- A point's part of a sum over the tokens. -/
def part (f : Row → EReal) (n : ℕ) : EReal := if h : n < cfg0.N then ∑ p : Fin 256, f (tok m c (at16 ⟨n, h⟩ p)) else 0

/-- The parts of the sixteen points make the sum over the tokens. -/
theorem part_sum (f : Row → EReal) : ∑ s ∈ Finset.range 16, part m c f s = ∑ n : Fin 4096, f (tok m c n) := by
  have h : ∑ s : Fin 16, ∑ p : Fin 256, f (tok m c (⟨s.val * 256 + p.val, by omega⟩ : Fin 4096)) = ∑ n : Fin 4096, f (tok m c n) :=
    Fin.sum_mul_add_congr fun s p hl => rfl
  rw [Finset.sum_range, ← h]
  refine Finset.sum_congr rfl fun s _ => ?_
  rw [part, dif_pos (lt_of_lt_of_eq s.isLt N_0.symm)]

/-- What a point leaves of the sum so far. -/
theorem outs11 (d : Fin 1024) : ∀ (n : ℕ) (h : n < cfg0.N), (outsAt0 m c n h).2.2.2.2.2.1 (ix2 0 d) = ∑ s ∈ Finset.range (n + 1), part m c (fun R => R.err d) s := by
  intro n
  induction n with
  | zero =>
    intro h
    have e := outsAt0_A m c ⟨0, h⟩ rfl rfl rfl
    rw [show outsAt0 m c 0 h = _ from e]
    dsimp only
    rw [out_A_11, Finset.sum_range_one, part, dif_pos h, zero_add]
    exact Finset.sum_congr rfl fun p _ => congrArg (fun R : Row => R.err d) (tile_eq m c ⟨0, h⟩ p)
  | succ n ih =>
    intro h
    have hm : ¬(n + 1) % 16 = 0 := by
      have := lt_of_lt_of_eq h N_0
      omega
    have e := outsAt0_B m c ⟨n + 1, h⟩ hm hm hm
    rw [show outsAt0 m c (n + 1) h = _ from e]
    dsimp only
    rw [out_B_11, Finset.sum_range_succ, part, dif_pos h]
    exact congrArg₂ (· + ·) (ih _) (Finset.sum_congr rfl fun p _ => congrArg (fun R : Row => R.err d) (tile_eq m c ⟨n + 1, h⟩ p))

/-- What a point leaves of the sum so far. -/
theorem outs12 (d : Fin 1024) : ∀ (n : ℕ) (h : n < cfg0.N), (outsAt0 m c n h).2.2.2.2.2.2.1 (ix2 0 d) = ∑ s ∈ Finset.range (n + 1), part m c (fun R => R.dg1 d) s := by
  intro n
  induction n with
  | zero =>
    intro h
    have e := outsAt0_A m c ⟨0, h⟩ rfl rfl rfl
    rw [show outsAt0 m c 0 h = _ from e]
    dsimp only
    rw [out_A_12, Finset.sum_range_one, part, dif_pos h, zero_add]
    exact Finset.sum_congr rfl fun p _ => congrArg (fun R : Row => R.dg1 d) (tile_eq m c ⟨0, h⟩ p)
  | succ n ih =>
    intro h
    have hm : ¬(n + 1) % 16 = 0 := by
      have := lt_of_lt_of_eq h N_0
      omega
    have e := outsAt0_B m c ⟨n + 1, h⟩ hm hm hm
    rw [show outsAt0 m c (n + 1) h = _ from e]
    dsimp only
    rw [out_B_12, Finset.sum_range_succ, part, dif_pos h]
    exact congrArg₂ (· + ·) (ih _) (Finset.sum_congr rfl fun p _ => congrArg (fun R : Row => R.dg1 d) (tile_eq m c ⟨n + 1, h⟩ p))

/-- What a point leaves of the sum so far. -/
theorem outs13 (d : Fin 1024) : ∀ (n : ℕ) (h : n < cfg0.N), (outsAt0 m c n h).2.2.2.2.2.2.2 (ix2 0 d) = ∑ s ∈ Finset.range (n + 1), part m c (fun R => R.dg2 d) s := by
  intro n
  induction n with
  | zero =>
    intro h
    have e := outsAt0_A m c ⟨0, h⟩ rfl rfl rfl
    rw [show outsAt0 m c 0 h = _ from e]
    dsimp only
    rw [out_A_13, Finset.sum_range_one, part, dif_pos h, zero_add]
    exact Finset.sum_congr rfl fun p _ => congrArg (fun R : Row => R.dg2 d) (tile_eq m c ⟨0, h⟩ p)
  | succ n ih =>
    intro h
    have hm : ¬(n + 1) % 16 = 0 := by
      have := lt_of_lt_of_eq h N_0
      omega
    have e := outsAt0_B m c ⟨n + 1, h⟩ hm hm hm
    rw [show outsAt0 m c (n + 1) h = _ from e]
    dsimp only
    rw [out_B_13, Finset.sum_range_succ, part, dif_pos h]
    exact congrArg₂ (· + ·) (ih _) (Finset.sum_congr rfl fun p _ => congrArg (fun R : Row => R.dg2 d) (tile_eq m c ⟨n + 1, h⟩ p))

theorem idx_out : ∀ t : Fin cfg0.N, win0_6.index t = ![t.val, 0] ∧ win0_7.index t = ![t.val, 0] ∧ win0_8.index t = ![t.val, 0] ∧ win0_9.index t = ![t.val, 0]
    ∧ win0_10.index t = ![t.val, 0] ∧ win0_11.index t = ![0, 0] ∧ win0_12.index t = ![0, 0] ∧ win0_13.index t = ![0, 0] := (by decide +kernel : ∀ t : Fin grid0.N, _)

/-- A result's array after the run. -/
def G6 : (⟨S4096x1024, .f32⟩ : BufTy).Contents (Elt Ideal) := fun i => (tok m c (i 0 : Fin 4096)).dx (i 1 : Fin 1024)

theorem final6 : (dats m 0 c).arrAt 6 cfg0.N = G6 m c := by
  refine (dats m 0 c).arrAt_eq_of_covers 6 _ (by decide +kernel) fun t hf y => ?_
  obtain ⟨p, d, rfl⟩ : ∃ (p : Fin 256) (d : Fin 1024), y = (ix2 p d : S256x1024.Idx) := ⟨y 0, y 1, by funext a; fin_cases a <;> rfl⟩
  have key := outs6 m c t p d
  rw [after0_6]
  refine key.trans ?_
  have e0 : win0_6.index t (0 : Fin 2) = t.val := congrFun (idx_out t).1 0
  have e1 : win0_6.index t (1 : Fin 2) = 0 := congrFun (idx_out t).1 1
  refine congrArg₂ (fun n e => (tok m c n).dx e) (Fin.ext ?_) (Fin.ext ?_)
  · show t.val * 256 + p.val = win0_6.index t (0 : Fin 2) * 256 + 1 * p.val
    rw [e0]; omega
  · show d.val = win0_6.index t (1 : Fin 2) * 1024 + 1 * d.val
    rw [e1]; omega

/-- A result's array after the run. -/
def G7 : (⟨S4096x1024, .bf16⟩ : BufTy).Contents (Elt Ideal) := fun i => (tok m c (i 0 : Fin 4096)).h (i 1 : Fin 1024)

theorem final7 : (dats m 0 c).arrAt 7 cfg0.N = G7 m c := by
  refine (dats m 0 c).arrAt_eq_of_covers 7 _ (by decide +kernel) fun t hf y => ?_
  obtain ⟨p, d, rfl⟩ : ∃ (p : Fin 256) (d : Fin 1024), y = (ix2 p d : S256x1024.Idx) := ⟨y 0, y 1, by funext a; fin_cases a <;> rfl⟩
  have key := outs7 m c t p d
  rw [after0_7]
  refine key.trans ?_
  have e0 : win0_7.index t (0 : Fin 2) = t.val := congrFun (idx_out t).2.1 0
  have e1 : win0_7.index t (1 : Fin 2) = 0 := congrFun (idx_out t).2.1 1
  refine congrArg₂ (fun n e => (tok m c n).h e) (Fin.ext ?_) (Fin.ext ?_)
  · show t.val * 256 + p.val = win0_7.index t (0 : Fin 2) * 256 + 1 * p.val
    rw [e0]; omega
  · show d.val = win0_7.index t (1 : Fin 2) * 1024 + 1 * d.val
    rw [e1]; omega

/-- A result's array after the run. -/
def G8 : (⟨S4096x4096, .bf16⟩ : BufTy).Contents (Elt Ideal) := fun i => (tok m c (i 0 : Fin 4096)).a (i 1 : Fin 4096)

theorem final8 : (dats m 0 c).arrAt 8 cfg0.N = G8 m c := by
  refine (dats m 0 c).arrAt_eq_of_covers 8 _ (by decide +kernel) fun t hf y => ?_
  obtain ⟨p, d, rfl⟩ : ∃ (p : Fin 256) (d : Fin 4096), y = (ix2 p d : S256x4096.Idx) := ⟨y 0, y 1, by funext a; fin_cases a <;> rfl⟩
  have key := outs8 m c t p (⟨d.val / 512, by omega⟩ : Fin 8) (⟨d.val % 512, Nat.mod_lt _ (by norm_num)⟩ : Fin 512)
  have hd : at8 (⟨d.val / 512, by omega⟩ : Fin 8) (⟨d.val % 512, Nat.mod_lt _ (by norm_num)⟩ : Fin 512) = d :=
    Fin.ext (show d.val / 512 * 512 + d.val % 512 = d.val by omega)
  rw [hd] at key
  rw [after0_8]
  refine key.trans ?_
  have e0 : win0_8.index t (0 : Fin 2) = t.val := congrFun (idx_out t).2.2.1 0
  have e1 : win0_8.index t (1 : Fin 2) = 0 := congrFun (idx_out t).2.2.1 1
  refine congrArg₂ (fun n e => (tok m c n).a e) (Fin.ext ?_) (Fin.ext ?_)
  · show t.val * 256 + p.val = win0_8.index t (0 : Fin 2) * 256 + 1 * p.val
    rw [e0]; omega
  · show d.val = win0_8.index t (1 : Fin 2) * 4096 + 1 * d.val
    rw [e1]; omega

/-- A result's array after the run. -/
def G9 : (⟨S4096x4096, .bf16⟩ : BufTy).Contents (Elt Ideal) := fun i => (tok m c (i 0 : Fin 4096)).du (i 1 : Fin 4096)

theorem final9 : (dats m 0 c).arrAt 9 cfg0.N = G9 m c := by
  refine (dats m 0 c).arrAt_eq_of_covers 9 _ (by decide +kernel) fun t hf y => ?_
  obtain ⟨p, d, rfl⟩ : ∃ (p : Fin 256) (d : Fin 4096), y = (ix2 p d : S256x4096.Idx) := ⟨y 0, y 1, by funext a; fin_cases a <;> rfl⟩
  have key := outs9 m c t p (⟨d.val / 512, by omega⟩ : Fin 8) (⟨d.val % 512, Nat.mod_lt _ (by norm_num)⟩ : Fin 512)
  have hd : at8 (⟨d.val / 512, by omega⟩ : Fin 8) (⟨d.val % 512, Nat.mod_lt _ (by norm_num)⟩ : Fin 512) = d :=
    Fin.ext (show d.val / 512 * 512 + d.val % 512 = d.val by omega)
  rw [hd] at key
  rw [after0_9]
  refine key.trans ?_
  have e0 : win0_9.index t (0 : Fin 2) = t.val := congrFun (idx_out t).2.2.2.1 0
  have e1 : win0_9.index t (1 : Fin 2) = 0 := congrFun (idx_out t).2.2.2.1 1
  refine congrArg₂ (fun n e => (tok m c n).du e) (Fin.ext ?_) (Fin.ext ?_)
  · show t.val * 256 + p.val = win0_9.index t (0 : Fin 2) * 256 + 1 * p.val
    rw [e0]; omega
  · show d.val = win0_9.index t (1 : Fin 2) * 4096 + 1 * d.val
    rw [e1]; omega

/-- A result's array after the run. -/
def G10 : (⟨S4096x1024, .bf16⟩ : BufTy).Contents (Elt Ideal) := fun i => (tok m c (i 0 : Fin 4096)).dff (i 1 : Fin 1024)

theorem final10 : (dats m 0 c).arrAt 10 cfg0.N = G10 m c := by
  refine (dats m 0 c).arrAt_eq_of_covers 10 _ (by decide +kernel) fun t hf y => ?_
  obtain ⟨p, d, rfl⟩ : ∃ (p : Fin 256) (d : Fin 1024), y = (ix2 p d : S256x1024.Idx) := ⟨y 0, y 1, by funext a; fin_cases a <;> rfl⟩
  have key := outs10 m c t p d
  rw [after0_10]
  refine key.trans ?_
  have e0 : win0_10.index t (0 : Fin 2) = t.val := congrFun (idx_out t).2.2.2.2.1 0
  have e1 : win0_10.index t (1 : Fin 2) = 0 := congrFun (idx_out t).2.2.2.2.1 1
  refine congrArg₂ (fun n e => (tok m c n).dff e) (Fin.ext ?_) (Fin.ext ?_)
  · show t.val * 256 + p.val = win0_10.index t (0 : Fin 2) * 256 + 1 * p.val
    rw [e0]; omega
  · show d.val = win0_10.index t (1 : Fin 2) * 1024 + 1 * d.val
    rw [e1]; omega

@[inherit_doc G6] def G11 : (⟨S1x1024, .f32⟩ : BufTy).Contents (Elt Ideal) := fun i => ∑ n : Fin 4096, (tok m c n).err (i 1 : Fin 1024)

theorem final11 : (dats m 0 c).arrAt 11 cfg0.N = G11 m c := by
  refine (dats m 0 c).arrAt_eq_of_covers 11 _ (by decide +kernel) fun t hf y => ?_
  have ht : t.val % 16 = 15 := (flush0_11 t).mp hf
  have hl := lt_of_lt_of_eq t.isLt N_0
  have h15 : t.val = 15 := by omega
  obtain ⟨d, rfl⟩ : ∃ (d : Fin 1024), y = (ix2 0 d : S1x1024.Idx) := ⟨y 1, by
    funext a; fin_cases a
    · exact Fin.ext (by have : (y 0).val < 1 := (y 0).isLt; show (y 0).val = 0; omega)
    · rfl⟩
  have key := outs11 m c d t.val t.isLt
  rw [show t.val + 1 = 16 by omega, part_sum] at key
  rw [after0_11]
  refine key.trans ?_
  have e1 : win0_11.index t (1 : Fin 2) = 0 := congrFun (idx_out t).2.2.2.2.2.1 1
  refine congrArg (fun e => ∑ n : Fin 4096, (tok m c n).err e) (Fin.ext ?_)
  show d.val = win0_11.index t (1 : Fin 2) * 1024 + 1 * d.val
  rw [e1]; omega

@[inherit_doc G6] def G12 : (⟨S1x1024, .f32⟩ : BufTy).Contents (Elt Ideal) := fun i => ∑ n : Fin 4096, (tok m c n).dg1 (i 1 : Fin 1024)

theorem final12 : (dats m 0 c).arrAt 12 cfg0.N = G12 m c := by
  refine (dats m 0 c).arrAt_eq_of_covers 12 _ (by decide +kernel) fun t hf y => ?_
  have ht : t.val % 16 = 15 := (flush0_12 t).mp hf
  have hl := lt_of_lt_of_eq t.isLt N_0
  have h15 : t.val = 15 := by omega
  obtain ⟨d, rfl⟩ : ∃ (d : Fin 1024), y = (ix2 0 d : S1x1024.Idx) := ⟨y 1, by
    funext a; fin_cases a
    · exact Fin.ext (by have : (y 0).val < 1 := (y 0).isLt; show (y 0).val = 0; omega)
    · rfl⟩
  have key := outs12 m c d t.val t.isLt
  rw [show t.val + 1 = 16 by omega, part_sum] at key
  rw [after0_12]
  refine key.trans ?_
  have e1 : win0_12.index t (1 : Fin 2) = 0 := congrFun (idx_out t).2.2.2.2.2.2.1 1
  refine congrArg (fun e => ∑ n : Fin 4096, (tok m c n).dg1 e) (Fin.ext ?_)
  show d.val = win0_12.index t (1 : Fin 2) * 1024 + 1 * d.val
  rw [e1]; omega

@[inherit_doc G6] def G13 : (⟨S1x1024, .f32⟩ : BufTy).Contents (Elt Ideal) := fun i => ∑ n : Fin 4096, (tok m c n).dg2 (i 1 : Fin 1024)

theorem final13 : (dats m 0 c).arrAt 13 cfg0.N = G13 m c := by
  refine (dats m 0 c).arrAt_eq_of_covers 13 _ (by decide +kernel) fun t hf y => ?_
  have ht : t.val % 16 = 15 := (flush0_13 t).mp hf
  have hl := lt_of_lt_of_eq t.isLt N_0
  have h15 : t.val = 15 := by omega
  obtain ⟨d, rfl⟩ : ∃ (d : Fin 1024), y = (ix2 0 d : S1x1024.Idx) := ⟨y 1, by
    funext a; fin_cases a
    · exact Fin.ext (by have : (y 0).val < 1 := (y 0).isLt; show (y 0).val = 0; omega)
    · rfl⟩
  have key := outs13 m c d t.val t.isLt
  rw [show t.val + 1 = 16 by omega, part_sum] at key
  rw [after0_13]
  refine key.trans ?_
  have e1 : win0_13.index t (1 : Fin 2) = 0 := congrFun (idx_out t).2.2.2.2.2.2.2 1
  refine congrArg (fun e => ∑ n : Fin 4096, (tok m c n).dg2 e) (Fin.ext ?_)
  show d.val = win0_13.index t (1 : Fin 2) * 1024 + 1 * d.val
  rw [e1]; omega

end Cert.KernelMlpIdeal.Hand

end
-- ==== Proof.Mlp.Ref.lean ====
/- The reference read at an index: its stages are the tokens' quantities. -/
module

public import proofs.«01_k».proof.Proof.Mlp.Arr
public import Idealize.ShloMosaic.Lib.Pointwise.Tactic
public import Idealize.ShloMosaic.Lib.Pipeline.ValueKit
public import Idealize.ShloMosaic.Adequacy
public import Idealize.ShloMosaic.Init

@[expose] public section

set_option maxRecDepth 16384

noncomputable section

namespace Cert.ReferenceMlpIdeal.Hand

open Idealize.ShloMosaic Idealize.ShloMosaic.TcCoe Idealize.ShloMosaic.Tactic
open Cert.ReferenceMlpIdeal Cert.ReferenceMlpIdeal.Read Cert.Mlp
open Cert.KernelMlpIdeal.Hand (token)

/-- A place in a table is its row and its column. -/
theorem two {a b : Nat} (i : Shape.Idx ⟨2, ![a, b]⟩) : i = ix2 (i 0 : Fin a) (i 1 : Fin b) := by
  funext k; fin_cases k <;> rfl

/-- A row of one kept as a table of one row, and a column as a table of one column, are read at the same place. -/
theorem place57 (i : S1x1024.Idx) (n : Fin 4096) : idx_main_v56 (idx_main_v57 i) n = ix2 n (i 1 : Fin 1024) := by
  have h0 : (i 0).val < 1 := (i 0).isLt
  funext a; fin_cases a
  · rfl
  · exact Fin.ext (show (i 0).val * 1024 + (i 1).val = (i 1).val by omega)
@[inherit_doc place57] theorem place81 (i : S1x1024.Idx) (n : Fin 4096) : idx_main_v80 (idx_main_v81 i) n = ix2 n (i 1 : Fin 1024) := by
  have h0 : (i 0).val < 1 := (i 0).isLt
  funext a; fin_cases a
  · rfl
  · exact Fin.ext (show (i 0).val * 1024 + (i 1).val = (i 1).val by omega)
@[inherit_doc place57] theorem place62 (j : S4096x1.Idx) (e : Fin 1024) : idx_main_v61 (idx_main_v62 j) e = ix2 (j 0 : Fin 4096) e := by
  have h1 : (j 1).val < 1 := (j 1).isLt
  funext a; fin_cases a
  · exact Fin.ext (show (j 0).val * 1 + (j 1).val = (j 0).val by omega)
  · rfl
@[inherit_doc place57] theorem place86 (j : S4096x1.Idx) (e : Fin 1024) : idx_main_v85 (idx_main_v86 j) e = ix2 (j 0 : Fin 4096) e := by
  have h1 : (j 1).val < 1 := (j 1).isLt
  funext a; fin_cases a
  · exact Fin.ext (show (j 0).val * 1 + (j 1).val = (j 0).val by omega)
  · rfl

/-- The mean square, kept away from zero, as the reference takes it; and the two factors of the gradient's last term. -/
def ms (x : Fin 1024 → EReal) : EReal := Ideal.div (0 + ∑ e, x e * x e) (Ideal.ofBits .f32 0x44800000#32) + eps
@[inherit_doc ms] def slope (x : Fin 1024 → EReal) : EReal := Ideal.ofBits .f32 0xBF000000#32 * Ideal.div (Ideal.rsqrt (ms x)) (ms x)
@[inherit_doc ms] def last (dy x g : Fin 1024 → EReal) : EReal :=
  Ideal.div ((0 + ∑ e, x e * (dy e * g e)) * slope x) (Ideal.ofBits .f32 0x44800000#32)

theorem ms_of {x y : Fin 1024 → EReal} (h : ∀ e, y e = x e * x e) :
    Ideal.div (Ideal.ofBits .f32 0x00000000#32 + ∑ e, y e) (Ideal.ofBits .f32 0x44800000#32) + eps = ms x := by
  rw [zero_val, Finset.sum_congr rfl fun e _ => h e]; rfl

theorem rr_ms (x : Fin 1024 → EReal) : Ideal.rsqrt (ms x) = rr x := rr_div x

theorem steps_of (dy x g : Fin 1024 → EReal) (d : Fin 1024) :
    dy d * g d * Ideal.rsqrt (ms x) + x d * last dy x g + last dy x g * x d = steps dy x g d := rfl

theorem last_of {dy x g y : Fin 1024 → EReal} (h : ∀ e, y e = x e * (dy e * g e)) :
    Ideal.ofBits .f32 0x00000000#32
      + ∑ k : Fin 1, Ideal.div ((Ideal.ofBits .f32 0x00000000#32 + ∑ e, y e) * slope x) (Ideal.ofBits .f32 0x44800000#32) = last dy x g := by
  rw [zero_val, Fin.sum_univ_one, zero_add, Finset.sum_congr rfl fun e _ => h e]; rfl

theorem sum_of {x y : Fin 4096 → EReal} (h : ∀ n, y n = x n) : Ideal.ofBits .f32 0x00000000#32 + ∑ n, y n = ∑ n, x n := by
  rw [zero_val, zero_add, Finset.sum_congr rfl fun e _ => h e]

variable (x0 : (⟨S4096x1024, .f32⟩ : BufTy).Contents (Elt Ideal)) (x1 : (⟨S1x1024, .f32⟩ : BufTy).Contents (Elt Ideal)) (x2 : (⟨S1024x4096, .f32⟩ : BufTy).Contents (Elt Ideal))
  (x3 : (⟨S4096x1024, .f32⟩ : BufTy).Contents (Elt Ideal)) (x4 : (⟨S1x1024, .f32⟩ : BufTy).Contents (Elt Ideal)) (x5 : (⟨S4096x1024, .f32⟩ : BufTy).Contents (Elt Ideal))

/-- What the token at a row reads of the arguments. -/
theorem x_at (i : S4096x1024.Idx) : x0 i = (token x0 x1 x2 x3 x4 x5 (i 0)).x (i 1) := congrArg x0 (two i)
@[inherit_doc x_at] theorem g1_at (n : Fin 4096) (i : S1x1024.Idx) : x1 i = (token x0 x1 x2 x3 x4 x5 n).g1 (i 1) :=
  congrArg x1 (by funext k; fin_cases k; · exact Subsingleton.elim (α := Fin 1) _ _
                  · rfl)
@[inherit_doc x_at] theorem w1_at (n : Fin 4096) (i : S1024x4096.Idx) : x2 i = (token x0 x1 x2 x3 x4 x5 n).w1 (i 0) (i 1) := congrArg x2 (two i)
@[inherit_doc x_at] theorem w2_at (n : Fin 4096) (i : S4096x1024.Idx) : x3 i = (token x0 x1 x2 x3 x4 x5 n).w2 (i 0) (i 1) := congrArg x3 (two i)
@[inherit_doc x_at] theorem g2_at (n : Fin 4096) (i : S1x1024.Idx) : x4 i = (token x0 x1 x2 x3 x4 x5 n).g2 (i 1) :=
  congrArg x4 (by funext k; fin_cases k; · exact Subsingleton.elim (α := Fin 1) _ _
                  · rfl)
@[inherit_doc x_at] theorem t_at (i : S4096x1024.Idx) : x5 i = (token x0 x1 x2 x3 x4 x5 (i 0)).t (i 1) := congrArg x5 (two i)

/-! ### Forward -/

theorem at6 (i : S4096x1.Idx) : val_main_v6 (F := Ideal) x0 i = ms (token x0 x1 x2 x3 x4 x5 (i 0)).x := by
  rw [val_main_v6_apply, val_main_v4_apply, val_main_v2_apply, val_main_v1_apply]
  exact ms_of (x := (token x0 x1 x2 x3 x4 x5 (i 0)).x) fun e => (val_main_v0_apply (F := Ideal) x0 _).trans (congrArg₂ (fun a b : EReal => a * b) (x_at x0 x1 x2 x3 x4 x5 _) (x_at x0 x1 x2 x3 x4 x5 _))

theorem at7 (i : S4096x1.Idx) : val_main_v7 (F := Ideal) x0 i = rr (token x0 x1 x2 x3 x4 x5 (i 0)).x := by
  rw [val_main_v7_apply]
  exact (congrArg Ideal.rsqrt (at6 x0 x1 x2 x3 x4 x5 i)).trans (rr_ms _)

theorem at10 (i : S4096x1.Idx) : val_main_v10 (F := Ideal) x0 i = slope (token x0 x1 x2 x3 x4 x5 (i 0)).x := by
  rw [val_main_v10_apply, val_main_v8_apply, val_main_v7_apply]
  exact congrArg (fun a : EReal => Ideal.ofBits .f32 0xBF000000#32 * Ideal.div (Ideal.rsqrt a) a) (at6 x0 x1 x2 x3 x4 x5 i)

theorem at12 (i : S4096x1024.Idx) : val_main_v12 (F := Ideal) x0 i = (token x0 x1 x2 x3 x4 x5 (i 0)).x (i 1) * rr (token x0 x1 x2 x3 x4 x5 (i 0)).x := by
  rw [val_main_v12_apply, val_main_v11_apply]
  exact congrArg₂ (fun a b : EReal => a * b) (x_at x0 x1 x2 x3 x4 x5 i) (at7 x0 x1 x2 x3 x4 x5 _)

theorem at14 (i : S4096x1024.Idx) : val_main_v14 (F := Ideal) x0 x1 i = (token x0 x1 x2 x3 x4 x5 (i 0)).h (i 1) := by
  rw [val_main_v14_apply, val_main_v13_apply]
  exact congrArg₂ (fun a b : EReal => a * b) (at12 x0 x1 x2 x3 x4 x5 i) (g1_at x0 x1 x2 x3 x4 x5 (i 0) _)

theorem at15 (i : S4096x4096.Idx) : val_main_v15 (F := Ideal) x0 x1 x2 i = ∑ d, (token x0 x1 x2 x3 x4 x5 (i 0)).h d * (token x0 x1 x2 x3 x4 x5 (i 0)).w1 d (i 1) := by
  rw [val_main_v15_apply]
  exact Finset.sum_congr rfl fun d _ => congrArg₂ (fun a b : EReal => a * b) (at14 x0 x1 x2 x3 x4 x5 _) (w1_at x0 x1 x2 x3 x4 x5 (i 0) _)

theorem at16 (i : S4096x4096.Idx) : val_main_v16 (F := Ideal) x0 x1 x2 i = (token x0 x1 x2 x3 x4 x5 (i 0)).u (i 1) := by
  rw [val_main_v16_apply]
  exact congrArg₂ (fun a b : EReal => max a b) (at15 x0 x1 x2 x3 x4 x5 i) zero_val

theorem at20 (i : S4096x4096.Idx) : val_main_v20 (F := Ideal) x0 x1 x2 i = (token x0 x1 x2 x3 x4 x5 (i 0)).a (i 1) := by
  rw [val_main_v20_apply]
  exact congrArg₂ (fun a b : EReal => a * b) (at16 x0 x1 x2 x3 x4 x5 i) (at16 x0 x1 x2 x3 x4 x5 i)

theorem at23 (i : S4096x1024.Idx) : val_main_v23 (F := Ideal) x0 x1 x2 x3 i = (token x0 x1 x2 x3 x4 x5 (i 0)).ff (i 1) := by
  rw [val_main_v23_apply]
  exact Finset.sum_congr rfl fun k _ => congrArg₂ (fun a b : EReal => a * b) (at20 x0 x1 x2 x3 x4 x5 _) (w2_at x0 x1 x2 x3 x4 x5 (i 0) _)

theorem at30 (i : S4096x1.Idx) : val_main_v30 (F := Ideal) x0 x1 x2 x3 i = ms (token x0 x1 x2 x3 x4 x5 (i 0)).ff := by
  rw [val_main_v30_apply, val_main_v28_apply, val_main_v26_apply, val_main_v25_apply]
  exact ms_of (x := (token x0 x1 x2 x3 x4 x5 (i 0)).ff) fun e => (val_main_v24_apply (F := Ideal) x0 x1 x2 x3 _).trans (congrArg₂ (fun a b : EReal => a * b) (at23 x0 x1 x2 x3 x4 x5 _) (at23 x0 x1 x2 x3 x4 x5 _))

theorem at31 (i : S4096x1.Idx) : val_main_v31 (F := Ideal) x0 x1 x2 x3 i = rr (token x0 x1 x2 x3 x4 x5 (i 0)).ff := by
  rw [val_main_v31_apply]
  exact (congrArg Ideal.rsqrt (at30 x0 x1 x2 x3 x4 x5 i)).trans (rr_ms _)

theorem at34 (i : S4096x1.Idx) : val_main_v34 (F := Ideal) x0 x1 x2 x3 i = slope (token x0 x1 x2 x3 x4 x5 (i 0)).ff := by
  rw [val_main_v34_apply, val_main_v32_apply, val_main_v31_apply]
  exact congrArg (fun a : EReal => Ideal.ofBits .f32 0xBF000000#32 * Ideal.div (Ideal.rsqrt a) a) (at30 x0 x1 x2 x3 x4 x5 i)

theorem at36 (i : S4096x1024.Idx) : val_main_v36 (F := Ideal) x0 x1 x2 x3 i = (token x0 x1 x2 x3 x4 x5 (i 0)).ff (i 1) * rr (token x0 x1 x2 x3 x4 x5 (i 0)).ff := by
  rw [val_main_v36_apply, val_main_v35_apply]
  exact congrArg₂ (fun a b : EReal => a * b) (at23 x0 x1 x2 x3 x4 x5 i) (at31 x0 x1 x2 x3 x4 x5 _)

theorem at39 (i : S4096x1024.Idx) : val_main_v39 (F := Ideal) x0 x1 x2 x3 x4 i = (token x0 x1 x2 x3 x4 x5 (i 0)).x (i 1) + Mlp.norm (token x0 x1 x2 x3 x4 x5 (i 0)).ff (token x0 x1 x2 x3 x4 x5 (i 0)).g2 (i 1) := by
  rw [val_main_v39_apply, val_main_v38_apply, val_main_v37_apply]
  exact congrArg₂ (fun a b : EReal => a + b) (x_at x0 x1 x2 x3 x4 x5 i) (congrArg₂ (fun a b : EReal => a * b) (at36 x0 x1 x2 x3 x4 x5 i) (g2_at x0 x1 x2 x3 x4 x5 (i 0) _))

theorem at40 (i : S4096x1024.Idx) : val_main_v40 (F := Ideal) x0 x1 x2 x3 x4 x5 i = (token x0 x1 x2 x3 x4 x5 (i 0)).diff (i 1) := by
  rw [val_main_v40_apply]
  exact congrArg₂ (fun a b : EReal => a - b) (at39 x0 x1 x2 x3 x4 x5 i) (t_at x0 x1 x2 x3 x4 x5 i)

/-! ### The loss and the second gain -/

theorem at54 (i : S4096x1024.Idx) : val_main_v54 (F := Ideal) x0 x1 x2 x3 x4 x5 i = (token x0 x1 x2 x3 x4 x5 (i 0)).dy (i 1) := by
  rw [val_main_v54_apply, val_main_v43_apply]
  exact (congrArg (fun a : EReal => Ideal.div (Ideal.ofBits .f32 0x3F000000#32 * Ideal.ofBits .f32 0x3F800000#32) (Ideal.ofBits .f32 0x44800000#32) * (Ideal.ofBits .f32 0x40000000#32 * a)) (at40 x0 x1 x2 x3 x4 x5 i)).trans (dy_steps _)

theorem at57 (i : S1x1024.Idx) : val_main_v57 (F := Ideal) x0 x1 x2 x3 x4 x5 i = ∑ n : Fin 4096, (token x0 x1 x2 x3 x4 x5 n).dg2 (i 1) := by
  rw [val_main_v57_apply, val_main_v56_apply]
  exact sum_of (x := fun n => (token x0 x1 x2 x3 x4 x5 n).dg2 (i 1)) fun n => (congrArg (val_main_v55 (F := Ideal) x0 x1 x2 x3 x4 x5) (place57 i n)).trans ((val_main_v55_apply (F := Ideal) x0 x1 x2 x3 x4 x5 _).trans ((congrArg₂ (fun a b : EReal => a * b) (at36 x0 x1 x2 x3 x4 x5 _) (at54 x0 x1 x2 x3 x4 x5 _)).trans (mul_comm ((token x0 x1 x2 x3 x4 x5 n).ff (i 1) * rr (token x0 x1 x2 x3 x4 x5 n).ff) ((token x0 x1 x2 x3 x4 x5 n).dy (i 1)))))

theorem at101 (i : S1x1024.Idx) : val_main_v101 (F := Ideal) x0 x1 x2 x3 x4 x5 i = ∑ n : Fin 4096, (token x0 x1 x2 x3 x4 x5 n).err (i 1) := by
  rw [val_main_v101_apply, val_main_v100_apply]
  exact sum_of (x := fun n => (token x0 x1 x2 x3 x4 x5 n).err (i 1)) fun n => (val_main_v99_apply (F := Ideal) x0 x1 x2 x3 x4 x5 _).trans (congrArg₂ (fun a b : EReal => a * b) (at40 x0 x1 x2 x3 x4 x5 _) (at40 x0 x1 x2 x3 x4 x5 _))

/-! ### Backward -/

theorem at59 (i : S4096x1024.Idx) : val_main_v59 (F := Ideal) x0 x1 x2 x3 x4 x5 i = (token x0 x1 x2 x3 x4 x5 (i 0)).dy (i 1) * (token x0 x1 x2 x3 x4 x5 (i 0)).g2 (i 1) := by
  rw [val_main_v59_apply, val_main_v58_apply]
  exact congrArg₂ (fun a b : EReal => a * b) (at54 x0 x1 x2 x3 x4 x5 i) (g2_at x0 x1 x2 x3 x4 x5 (i 0) _)

theorem at68 (i : S4096.Idx) : val_main_v68 (F := Ideal) x0 x1 x2 x3 x4 x5 i = last (token x0 x1 x2 x3 x4 x5 (i 0)).dy (token x0 x1 x2 x3 x4 x5 (i 0)).ff (token x0 x1 x2 x3 x4 x5 (i 0)).g2 := by
  rw [val_main_v68_apply]
  refine Eq.trans ?_ (last_of (dy := (token x0 x1 x2 x3 x4 x5 (i 0)).dy) (x := (token x0 x1 x2 x3 x4 x5 (i 0)).ff) (g := (token x0 x1 x2 x3 x4 x5 (i 0)).g2) (y := fun e => val_main_v60 (F := Ideal) x0 x1 x2 x3 x4 x5 (ix2 (i 0) e)) fun e => (val_main_v60_apply (F := Ideal) x0 x1 x2 x3 x4 x5 _).trans (congrArg₂ (fun a b : EReal => a * b) (at23 x0 x1 x2 x3 x4 x5 _) (at59 x0 x1 x2 x3 x4 x5 _)))
  refine congrArg (fun a : EReal => Ideal.ofBits .f32 0x00000000#32 + a) (Finset.sum_congr rfl fun k _ => ?_)
  rw [val_main_v67_apply, val_main_v65_apply, val_main_v62_apply, val_main_v61_apply]
  refine congrArg (fun a : EReal => Ideal.div a (Ideal.ofBits .f32 0x44800000#32)) (congrArg₂ (fun a b : EReal => a * b) ?_ (at34 x0 x1 x2 x3 x4 x5 _))
  exact congrArg (fun a : EReal => Ideal.ofBits .f32 0x00000000#32 + a) (Finset.sum_congr rfl fun e _ => congrArg (val_main_v60 (F := Ideal) x0 x1 x2 x3 x4 x5) (place62 (idx_main_v68 i k) e))

theorem at73 (H : ∀ n, (token x0 x1 x2 x3 x4 x5 n).Real) (i : S4096x1024.Idx) : val_main_v73 (F := Ideal) x0 x1 x2 x3 x4 x5 i = (token x0 x1 x2 x3 x4 x5 (i 0)).dff (i 1) := by
  rw [val_main_v73_apply, val_main_v71_apply, val_main_v72_apply, val_main_v64_apply, val_main_v70_apply, val_main_v69_apply, val_main_v63_apply, val_main_v31_apply]
  refine Eq.trans ?_ ((steps_of (token x0 x1 x2 x3 x4 x5 (i 0)).dy (token x0 x1 x2 x3 x4 x5 (i 0)).ff (token x0 x1 x2 x3 x4 x5 (i 0)).g2 (i 1)).trans (steps_eq (H (i 0)).dy (H (i 0)).ff (H (i 0)).g2 (i 1)))
  exact congrArg₂ (fun a b : EReal => a + b) (congrArg₂ (fun a b : EReal => a + b) (congrArg₂ (fun a b : EReal => a * b) (at59 x0 x1 x2 x3 x4 x5 i) (congrArg Ideal.rsqrt (at30 x0 x1 x2 x3 x4 x5 _))) (congrArg₂ (fun a b : EReal => a * b) (at23 x0 x1 x2 x3 x4 x5 i) (at68 x0 x1 x2 x3 x4 x5 _))) (congrArg₂ (fun a b : EReal => a * b) (at68 x0 x1 x2 x3 x4 x5 _) (at23 x0 x1 x2 x3 x4 x5 i))

theorem at74 (H : ∀ n, (token x0 x1 x2 x3 x4 x5 n).Real) (i : S4096x4096.Idx) : val_main_v74 (F := Ideal) x0 x1 x2 x3 x4 x5 i = ∑ d, (token x0 x1 x2 x3 x4 x5 (i 0)).dff d * (token x0 x1 x2 x3 x4 x5 (i 0)).w2 (i 1) d := by
  rw [val_main_v74_apply]
  exact Finset.sum_congr rfl fun d _ => congrArg₂ (fun a b : EReal => a * b) (at73 x0 x1 x2 x3 x4 x5 H _) (w2_at x0 x1 x2 x3 x4 x5 (i 0) _)

theorem at77 (H : ∀ n, (token x0 x1 x2 x3 x4 x5 n).Real) (i : S4096x4096.Idx) : val_main_v77 (F := Ideal) x0 x1 x2 x3 x4 x5 i = (token x0 x1 x2 x3 x4 x5 (i 0)).du (i 1) := by
  rw [val_main_v77_apply, val_main_v18_apply, val_main_v75_apply, val_main_v22_apply]
  refine Eq.trans ?_ (relu_back (∑ d, (token x0 x1 x2 x3 x4 x5 (i 0)).h d * (token x0 x1 x2 x3 x4 x5 (i 0)).w1 d (i 1)) (∑ d, (token x0 x1 x2 x3 x4 x5 (i 0)).dff d * (token x0 x1 x2 x3 x4 x5 (i 0)).w2 (i 1) d))
  rw [at74 x0 x1 x2 x3 x4 x5 H i, at16 x0 x1 x2 x3 x4 x5 i, at15 x0 x1 x2 x3 x4 x5 i]
  show (if Ideal.cmp .ogt _ (Ideal.ofBits .f32 0x00000000#32) = 1#1 then _ else Ideal.ofBits .f32 0x00000000#32) = _
  rw [zero_val]
  rfl

theorem at78 (H : ∀ n, (token x0 x1 x2 x3 x4 x5 n).Real) (i : S4096x1024.Idx) : val_main_v78 (F := Ideal) x0 x1 x2 x3 x4 x5 i = (token x0 x1 x2 x3 x4 x5 (i 0)).dh (i 1) := by
  rw [val_main_v78_apply]
  exact Finset.sum_congr rfl fun k _ => congrArg₂ (fun a b : EReal => a * b) (at77 x0 x1 x2 x3 x4 x5 H _) (w1_at x0 x1 x2 x3 x4 x5 (i 0) _)

theorem at81 (H : ∀ n, (token x0 x1 x2 x3 x4 x5 n).Real) (i : S1x1024.Idx) : val_main_v81 (F := Ideal) x0 x1 x2 x3 x4 x5 i = ∑ n : Fin 4096, (token x0 x1 x2 x3 x4 x5 n).dg1 (i 1) := by
  rw [val_main_v81_apply, val_main_v80_apply]
  exact sum_of (x := fun n => (token x0 x1 x2 x3 x4 x5 n).dg1 (i 1)) fun n => (congrArg (val_main_v79 (F := Ideal) x0 x1 x2 x3 x4 x5) (place81 i n)).trans ((val_main_v79_apply (F := Ideal) x0 x1 x2 x3 x4 x5 _).trans ((congrArg₂ (fun a b : EReal => a * b) (at12 x0 x1 x2 x3 x4 x5 _) (at78 x0 x1 x2 x3 x4 x5 H _)).trans (mul_comm ((token x0 x1 x2 x3 x4 x5 n).x (i 1) * rr (token x0 x1 x2 x3 x4 x5 n).x) ((token x0 x1 x2 x3 x4 x5 n).dh (i 1)))))

theorem at83 (H : ∀ n, (token x0 x1 x2 x3 x4 x5 n).Real) (i : S4096x1024.Idx) : val_main_v83 (F := Ideal) x0 x1 x2 x3 x4 x5 i = (token x0 x1 x2 x3 x4 x5 (i 0)).dh (i 1) * (token x0 x1 x2 x3 x4 x5 (i 0)).g1 (i 1) := by
  rw [val_main_v83_apply, val_main_v82_apply]
  exact congrArg₂ (fun a b : EReal => a * b) (at78 x0 x1 x2 x3 x4 x5 H i) (g1_at x0 x1 x2 x3 x4 x5 (i 0) _)

theorem at92 (H : ∀ n, (token x0 x1 x2 x3 x4 x5 n).Real) (i : S4096.Idx) : val_main_v92 (F := Ideal) x0 x1 x2 x3 x4 x5 i = last (token x0 x1 x2 x3 x4 x5 (i 0)).dh (token x0 x1 x2 x3 x4 x5 (i 0)).x (token x0 x1 x2 x3 x4 x5 (i 0)).g1 := by
  rw [val_main_v92_apply]
  refine Eq.trans ?_ (last_of (dy := (token x0 x1 x2 x3 x4 x5 (i 0)).dh) (x := (token x0 x1 x2 x3 x4 x5 (i 0)).x) (g := (token x0 x1 x2 x3 x4 x5 (i 0)).g1) (y := fun e => val_main_v84 (F := Ideal) x0 x1 x2 x3 x4 x5 (ix2 (i 0) e)) fun e => (val_main_v84_apply (F := Ideal) x0 x1 x2 x3 x4 x5 _).trans (congrArg₂ (fun a b : EReal => a * b) (x_at x0 x1 x2 x3 x4 x5 _) (at83 x0 x1 x2 x3 x4 x5 H _)))
  refine congrArg (fun a : EReal => Ideal.ofBits .f32 0x00000000#32 + a) (Finset.sum_congr rfl fun k _ => ?_)
  rw [val_main_v91_apply, val_main_v89_apply, val_main_v86_apply, val_main_v85_apply]
  refine congrArg (fun a : EReal => Ideal.div a (Ideal.ofBits .f32 0x44800000#32)) (congrArg₂ (fun a b : EReal => a * b) ?_ (at10 x0 x1 x2 x3 x4 x5 _))
  exact congrArg (fun a : EReal => Ideal.ofBits .f32 0x00000000#32 + a) (Finset.sum_congr rfl fun e _ => congrArg (val_main_v84 (F := Ideal) x0 x1 x2 x3 x4 x5) (place86 (idx_main_v92 i k) e))

theorem at97 (H : ∀ n, (token x0 x1 x2 x3 x4 x5 n).Real) (i : S4096x1024.Idx) : val_main_v97 (F := Ideal) x0 x1 x2 x3 x4 x5 i = back (token x0 x1 x2 x3 x4 x5 (i 0)).dh (token x0 x1 x2 x3 x4 x5 (i 0)).x (token x0 x1 x2 x3 x4 x5 (i 0)).g1 (i 1) := by
  rw [val_main_v97_apply, val_main_v95_apply, val_main_v96_apply, val_main_v88_apply, val_main_v94_apply, val_main_v93_apply, val_main_v87_apply, val_main_v7_apply]
  refine Eq.trans ?_ ((steps_of (token x0 x1 x2 x3 x4 x5 (i 0)).dh (token x0 x1 x2 x3 x4 x5 (i 0)).x (token x0 x1 x2 x3 x4 x5 (i 0)).g1 (i 1)).trans (steps_eq (H (i 0)).dh (H (i 0)).x (H (i 0)).g1 (i 1)))
  exact congrArg₂ (fun a b : EReal => a + b) (congrArg₂ (fun a b : EReal => a + b) (congrArg₂ (fun a b : EReal => a * b) (at83 x0 x1 x2 x3 x4 x5 H i) (congrArg Ideal.rsqrt (at6 x0 x1 x2 x3 x4 x5 _))) (congrArg₂ (fun a b : EReal => a * b) (x_at x0 x1 x2 x3 x4 x5 i) (at92 x0 x1 x2 x3 x4 x5 H _))) (congrArg₂ (fun a b : EReal => a * b) (at92 x0 x1 x2 x3 x4 x5 H _) (x_at x0 x1 x2 x3 x4 x5 i))

theorem at102 (H : ∀ n, (token x0 x1 x2 x3 x4 x5 n).Real) (i : S4096x1024.Idx) : val_main_v102 (F := Ideal) x0 x1 x2 x3 x4 x5 i = (token x0 x1 x2 x3 x4 x5 (i 0)).dx (i 1) := by
  rw [val_main_v102_apply]
  exact congrArg₂ (fun a b : EReal => a + b) (at54 x0 x1 x2 x3 x4 x5 i) (at97 x0 x1 x2 x3 x4 x5 H i)

end Cert.ReferenceMlpIdeal.Hand

end
-- ==== Proof.Mlp.Finite.lean ====
/- The precondition over extended reals: arguments of magnitude below infinity hold real numbers. -/
module

public import proofs.«01_k».proof.Proof.Mlp.Arr
public import proofs.«01_k».proof.Proof.Gen.Pre_finite_mlp
public import Idealize.ShloMosaic.Lib.ReduceAll

@[expose] public section

noncomputable section

namespace Cert.Pre_finite_mlp.Hand

open Idealize.ShloMosaic Cert.Mlp
open Cert.KernelMlpIdeal.Hand (token)

/-- A number of magnitude below infinity is real. -/
theorem real_of (x : EReal) (h : Ideal.cmp .olt (max x (-x)) (Ideal.ofBits .f32 0x7F800000#32) = 1#1) : IsReal x := by
  have top : Ideal.ofBits .f32 0x7F800000#32 = (⊤ : EReal) := by simp [Ideal.ofBits, Ideal.ieee]
  rw [top] at h
  refine ⟨EReal.toReal x, (EReal.coe_toReal ?_ ?_).symm⟩
  · rintro rfl; simp [Ideal.cmp] at h
  · rintro rfl; simp [Ideal.cmp] at h

/-- Where all elements of an array pass the test, all are real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (y : s.Idx) : IsReal (x y) :=
  haveI : Subsingleton S_.Idx := ⟨fun a b => funext fun k => k.elim0⟩
  real_of (x y) (Host.reduce_andi_all _ _ _ _ j h y)

/-- Where the precondition holds, all that a token's gradient is taken of is real. -/
theorem holds (x0 : FVec Ideal S4096x1024 .f32) (x1 : FVec Ideal S1x1024 .f32) (x2 : FVec Ideal S1024x4096 .f32) (x3 : FVec Ideal S4096x1024 .f32)
    (x4 : FVec Ideal S1x1024 .f32) (x5 : FVec Ideal S4096x1024 .f32) (H : fn (F := Ideal) x0 x1 x2 x3 x4 x5 = fun _ => 1#1) (n : Fin 4096) :
    (token x0 x1 x2 x3 x4 x5 n).Real := by
  have e := congrFun H (fun k => k.elim0)
  unfold fn fn_part1 at e
  dsimp only [andi] at e
  obtain ⟨e, g5⟩ := IntOp.andi_eq_one.1 e
  obtain ⟨e, g4⟩ := IntOp.andi_eq_one.1 e
  obtain ⟨e, g3⟩ := IntOp.andi_eq_one.1 e
  obtain ⟨e, g2⟩ := IntOp.andi_eq_one.1 e
  obtain ⟨g0, g1⟩ := IntOp.andi_eq_one.1 e
  exact ⟨fun d => all_real x0 _ _ _ _ g0 _, fun d => all_real x1 _ _ _ _ g1 _, fun d k => all_real x2 _ _ _ _ g2 _,
    fun k d => all_real x3 _ _ _ _ g3 _, fun d => all_real x4 _ _ _ _ g4 _, fun d => all_real x5 _ _ _ _ g5 _⟩

end Cert.Pre_finite_mlp.Hand

end
-- ==== Proof.Mlp.Grad.lean ====
/- Over real arguments the MLP's call and its reference leave the same eight results. -/
module

public import proofs.«01_k».proof.Proof.Mlp.Ref
public import proofs.«01_k».proof.Proof.Mlp.Finite
public import Idealize.ShloMosaic.Adequacy
public import Idealize.ShloMosaic.Init

@[expose] public section

set_option maxRecDepth 16384

noncomputable section

namespace Cert.KernelMlpIdeal.Hand

open Idealize.ShloMosaic Idealize.ShloMosaic.TcCoe Idealize.ShloMosaic.Tactic
open Idealize.SL.Sem Cert.KernelMlpIdeal Cert.KernelMlpIdeal.Gen Cert.Mlp

/-- The kernel returns what the reference returns: the gradient of the input, the four arrays that the weights' gradients
    are taken of, the squared errors' sums and the gradients of the two gains. -/
theorem algebraic : Cert.algebraic_KernelMlpIdeal_ReferenceMlpIdeal_pre_finite_mlp := by
  intro m g m' g' hpre hin
  have H : ∀ c n, (tok m c n).Real := fun c n => Cert.Pre_finite_mlp.Hand.holds _ _ _ _ _ _ (hpre c) n
  refine ⟨fun c => G6 m c, fun c => G7 m c, fun c => G8 m c, fun c => G9 m c, fun c => G10 m c, fun c => G11 m c, fun c => G12 m c, fun c => G13 m c,
    (θ_run Cert.KernelMlpIdeal.defs _ _).mono (fun r h c => ?_) (Value.run_blocks m g), ?_⟩
  · obtain ⟨h6, h7, h8, h9, h10, h11, h12, h13, ha⟩ := h c
    exact ⟨h6.trans (final6 m c), h7.trans (final7 m c), h8.trans (final8 m c), h9.trans (final9 m c), h10.trans (final10 m c),
      h11.trans (final11 m c), h12.trans (final12 m c), h13.trans (final13 m c), ha⟩
  refine (θ_run Cert.ReferenceMlpIdeal.defs _ _).mono (fun r h c => ?_) (Cert.ReferenceMlpIdeal.Value.run (F := Ideal) m' g')
  obtain ⟨h6, h7, h8, h9, h10, h11, h12, h13, ha⟩ := h c
  obtain ⟨e0, e1, e2, e3, e4, e5⟩ := hin c
  refine ⟨h6.trans ?_, h7.trans ?_, h8.trans ?_, h9.trans ?_, h10.trans ?_, h11.trans ?_, h12.trans ?_, h13.trans ?_, ha⟩
  · refine (Cert.ReferenceMlpIdeal.Read.val_main_v102_eq _).trans ?_
    show Cert.ReferenceMlpIdeal.Read.val_main_v102 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) (m' ((c.tc : Thread Cert.ReferenceMlpIdeal.nD Cert.ReferenceMlpIdeal.τ).loc Cert.ReferenceMlpIdeal.main_arg3)) (m' ((c.tc : Thread Cert.ReferenceMlpIdeal.nD Cert.ReferenceMlpIdeal.τ).loc Cert.ReferenceMlpIdeal.main_arg4)) (m' ((c.tc : Thread Cert.ReferenceMlpIdeal.nD Cert.ReferenceMlpIdeal.τ).loc Cert.ReferenceMlpIdeal.main_arg5)) = _
    rw [e0, e1, e2, e3, e4, e5]
    funext i
    exact Cert.ReferenceMlpIdeal.Hand.at102 _ _ _ _ _ _ (H c) i
  · refine (Cert.ReferenceMlpIdeal.Read.val_main_v103_eq _).trans ?_
    show Cert.ReferenceMlpIdeal.Read.val_main_v103 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) = _
    rw [e0, e1]
    funext i
    exact Cert.ReferenceMlpIdeal.Hand.at14 _ _ (m ((c.tc : Thread nD τ).loc main_arg2)) (m ((c.tc : Thread nD τ).loc main_arg3)) (m ((c.tc : Thread nD τ).loc main_arg4)) (m ((c.tc : Thread nD τ).loc main_arg5)) i
  · refine (Cert.ReferenceMlpIdeal.Read.val_main_v104_eq _).trans ?_
    show Cert.ReferenceMlpIdeal.Read.val_main_v104 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) = _
    rw [e0, e1, e2]
    funext i
    exact Cert.ReferenceMlpIdeal.Hand.at20 _ _ _ (m ((c.tc : Thread nD τ).loc main_arg3)) (m ((c.tc : Thread nD τ).loc main_arg4)) (m ((c.tc : Thread nD τ).loc main_arg5)) i
  · refine (Cert.ReferenceMlpIdeal.Read.val_main_v105_eq _).trans ?_
    show Cert.ReferenceMlpIdeal.Read.val_main_v105 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) (m' ((c.tc : Thread Cert.ReferenceMlpIdeal.nD Cert.ReferenceMlpIdeal.τ).loc Cert.ReferenceMlpIdeal.main_arg3)) (m' ((c.tc : Thread Cert.ReferenceMlpIdeal.nD Cert.ReferenceMlpIdeal.τ).loc Cert.ReferenceMlpIdeal.main_arg4)) (m' ((c.tc : Thread Cert.ReferenceMlpIdeal.nD Cert.ReferenceMlpIdeal.τ).loc Cert.ReferenceMlpIdeal.main_arg5)) = _
    rw [e0, e1, e2, e3, e4, e5]
    funext i
    exact Cert.ReferenceMlpIdeal.Hand.at77 _ _ _ _ _ _ (H c) i
  · refine (Cert.ReferenceMlpIdeal.Read.val_main_v106_eq _).trans ?_
    show Cert.ReferenceMlpIdeal.Read.val_main_v106 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) (m' ((c.tc : Thread Cert.ReferenceMlpIdeal.nD Cert.ReferenceMlpIdeal.τ).loc Cert.ReferenceMlpIdeal.main_arg3)) (m' ((c.tc : Thread Cert.ReferenceMlpIdeal.nD Cert.ReferenceMlpIdeal.τ).loc Cert.ReferenceMlpIdeal.main_arg4)) (m' ((c.tc : Thread Cert.ReferenceMlpIdeal.nD Cert.ReferenceMlpIdeal.τ).loc Cert.ReferenceMlpIdeal.main_arg5)) = _
    rw [e0, e1, e2, e3, e4, e5]
    funext i
    exact Cert.ReferenceMlpIdeal.Hand.at73 _ _ _ _ _ _ (H c) i
  · refine (Cert.ReferenceMlpIdeal.Read.val_main_v101_eq _).trans ?_
    show Cert.ReferenceMlpIdeal.Read.val_main_v101 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) (m' ((c.tc : Thread Cert.ReferenceMlpIdeal.nD Cert.ReferenceMlpIdeal.τ).loc Cert.ReferenceMlpIdeal.main_arg3)) (m' ((c.tc : Thread Cert.ReferenceMlpIdeal.nD Cert.ReferenceMlpIdeal.τ).loc Cert.ReferenceMlpIdeal.main_arg4)) (m' ((c.tc : Thread Cert.ReferenceMlpIdeal.nD Cert.ReferenceMlpIdeal.τ).loc Cert.ReferenceMlpIdeal.main_arg5)) = _
    rw [e0, e1, e2, e3, e4, e5]
    funext i
    exact Cert.ReferenceMlpIdeal.Hand.at101 _ _ _ _ _ _ i
  · refine (Cert.ReferenceMlpIdeal.Read.val_main_v81_eq _).trans ?_
    show Cert.ReferenceMlpIdeal.Read.val_main_v81 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) (m' ((c.tc : Thread Cert.ReferenceMlpIdeal.nD Cert.ReferenceMlpIdeal.τ).loc Cert.ReferenceMlpIdeal.main_arg3)) (m' ((c.tc : Thread Cert.ReferenceMlpIdeal.nD Cert.ReferenceMlpIdeal.τ).loc Cert.ReferenceMlpIdeal.main_arg4)) (m' ((c.tc : Thread Cert.ReferenceMlpIdeal.nD Cert.ReferenceMlpIdeal.τ).loc Cert.ReferenceMlpIdeal.main_arg5)) = _
    rw [e0, e1, e2, e3, e4, e5]
    funext i
    exact Cert.ReferenceMlpIdeal.Hand.at81 _ _ _ _ _ _ (H c) i
  · refine (Cert.ReferenceMlpIdeal.Read.val_main_v57_eq _).trans ?_
    show Cert.ReferenceMlpIdeal.Read.val_main_v57 (F := Ideal) (m' ((c.tc : Thread Cert.ReferenceMlpIdeal.nD Cert.ReferenceMlpIdeal.τ).loc Cert.ReferenceMlpIdeal.main_arg0)) (m' ((c.tc : Thread Cert.ReferenceMlpIdeal.nD Cert.ReferenceMlpIdeal.τ).loc Cert.ReferenceMlpIdeal.main_arg1)) (m' ((c.tc : Thread Cert.ReferenceMlpIdeal.nD Cert.ReferenceMlpIdeal.τ).loc Cert.ReferenceMlpIdeal.main_arg2)) (m' ((c.tc : Thread Cert.ReferenceMlpIdeal.nD Cert.ReferenceMlpIdeal.τ).loc Cert.ReferenceMlpIdeal.main_arg3)) (m' ((c.tc : Thread Cert.ReferenceMlpIdeal.nD Cert.ReferenceMlpIdeal.τ).loc Cert.ReferenceMlpIdeal.main_arg4)) (m' ((c.tc : Thread Cert.ReferenceMlpIdeal.nD Cert.ReferenceMlpIdeal.τ).loc Cert.ReferenceMlpIdeal.main_arg5)) = _
    rw [e0, e1, e2, e3, e4, e5]
    funext i
    exact Cert.ReferenceMlpIdeal.Hand.at57 _ _ _ _ _ _ i

end Cert.KernelMlpIdeal.Hand

end
-- ==== Proof.lean ====
module

public import proofs.«01_k».proof.Defs
public import proofs.«01_k».proof.Proof.Bits.Frame
public import proofs.«01_k».proof.Proof.Ideal.Frame
public import proofs.«01_k».proof.Proof.Ideal.Finite
public import proofs.«01_k».proof.Proof.Ref.Result
public import proofs.«01_k».proof.Proof.Ideal.Arguments
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_mlp
public import proofs.«01_k».proof.Proof.Ff.Grad2
public import proofs.«01_k».proof.Proof.Ff.GradOut
public import proofs.«01_k».proof.Proof.Ff.Grad1
public import proofs.«01_k».proof.Proof.Ff.GradIn
public import proofs.«01_k».proof.Proof.Mlp.Grad
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The precondition gives real arguments, the same in both programs, and over those both runs leave the same three
    gradients in their results. -/
theorem algebraic : Cert.algebraic_KernelIdeal_ReferenceIdeal_pre_finite := by
  intro m g m' g' hpre hargs
  have hk : ∀ c, Cert.KernelIdeal.Hand.Given m c (reals m c) := fun c => by
    obtain ⟨⟨q, k⟩, v, ct, o1, l1, o4, l4⟩ := Cert.Pre_finite.Hand.holds _ _ _ _ _ _ _ _ (hpre c)
    exact given m c _ q k v ct o1 l1 o4 l4
  have hr : ∀ c, Cert.ReferenceIdeal.Hand.Given m' c (reals m c) := fun c => by
    obtain ⟨⟨q, k⟩, v, ct, o1, l1, o4, l4⟩ := Cert.Pre_finite.Hand.holds _ _ _ _ _ _ _ _ (hpre c)
    obtain ⟨e0, e1, e2, e3, e4, e5, e6, e7⟩ := hargs c
    exact ⟨holds_eq e0 q, holds_eq e1 k, holds_eq e2 v, holds_eq e3 ct, holds_eq e4 o1, rows_eq e5 l1, holds_eq e6 o4, rows_eq e7 l4⟩
  exact ⟨_, _, _, Cert.KernelIdeal.Hand.values m g _ hk, Cert.ReferenceIdeal.Hand.values m' g' _ hr⟩

/-- The frames of the programs (each runs, leaves its arguments as they were and every semaphore at zero), the naming of
    the mask's constant (the idealized program reads it as minus infinity and changes nothing else), the equality of the
    three gradients that the attention kernel's program and its reference leave, over real arguments, over any arguments
    the equality of the gradients that the weights' kernels and their references leave, and, over real arguments, the
    equality of the eight results that the MLP's kernel and its reference leave. -/
theorem claim : Cert.Claim := ⟨Cert.Kernel.Gen.facts, Cert.KernelIdeal.Gen.facts, Cert.ReferenceIdeal.Gen.facts,
  Cert.KernelFf2.Gen.facts, Cert.KernelFf2Ideal.Gen.facts, Cert.ReferenceFf2Ideal.Gen.facts,
  Cert.KernelOut.Gen.facts, Cert.KernelOutIdeal.Gen.facts, Cert.ReferenceOutIdeal.Gen.facts,
  Cert.KernelFf1.Gen.facts, Cert.KernelFf1Ideal.Gen.facts, Cert.ReferenceFf1Ideal.Gen.facts,
  Cert.KernelIn.Gen.facts, Cert.KernelInIdeal.Gen.facts, Cert.ReferenceInIdeal.Gen.facts,
  Cert.KernelMlp.Gen.facts, Cert.KernelMlpIdeal.Gen.facts, Cert.ReferenceMlpIdeal.Gen.facts,
  Cert.Pre_finite.Gen.facts, Cert.Pre_finite_mlp.Gen.facts,
  fun m ρ _ => Cert.Kernel.Hand.frame m ρ,
  fun m ρ _ => Cert.KernelIdeal.Hand.frame m ρ,
  fun m ρ _ => Cert.KernelIdeal.Hand.frame m ρ,
  fun m ρ _ => (θ_run Cert.ReferenceIdeal.defs _ _).mono (fun _ h => ⟨fun c => (h c).2.2.2, sem_eq_zero_of_no_sems (by decide) _⟩)
    (Cert.ReferenceIdeal.Value.run (F := Ideal) m ρ),
  fun m ρ _ => (θ_run Cert.ReferenceIdeal.defs _ _).mono (fun _ h => ⟨fun c => (h c).2.2.2, sem_eq_zero_of_no_sems (by decide) _⟩)
    (Cert.ReferenceIdeal.Value.run (F := Ideal) m ρ),
  fun m ρ _ => Cert.KernelFf2.Gen.frame m ρ,
  fun m ρ _ => Cert.KernelFf2Ideal.Gen.frame m ρ,
  fun m ρ _ => (θ_run Cert.ReferenceFf2Ideal.defs _ _).mono (fun _ h => ⟨fun c => (h c).2, sem_eq_zero_of_no_sems (by decide) _⟩)
    (Cert.ReferenceFf2Ideal.Value.run (F := Ideal) m ρ),
  fun m ρ _ => Cert.KernelOut.Gen.frame m ρ,
  fun m ρ _ => Cert.KernelOutIdeal.Gen.frame m ρ,
  fun m ρ _ => (θ_run Cert.ReferenceOutIdeal.defs _ _).mono (fun _ h => ⟨fun c => (h c).2, sem_eq_zero_of_no_sems (by decide) _⟩)
    (Cert.ReferenceOutIdeal.Value.run (F := Ideal) m ρ),
  fun m ρ _ => Cert.KernelFf1.Gen.frame m ρ,
  fun m ρ _ => Cert.KernelFf1Ideal.Gen.frame m ρ,
  fun m ρ _ => (θ_run Cert.ReferenceFf1Ideal.defs _ _).mono (fun _ h => ⟨fun c => (h c).2, sem_eq_zero_of_no_sems (by decide) _⟩)
    (Cert.ReferenceFf1Ideal.Value.run (F := Ideal) m ρ),
  fun m ρ _ => Cert.KernelIn.Gen.frame m ρ,
  fun m ρ _ => Cert.KernelInIdeal.Gen.frame m ρ,
  fun m ρ _ => (θ_run Cert.ReferenceInIdeal.defs _ _).mono (fun _ h => ⟨fun c => (h c).2, sem_eq_zero_of_no_sems (by decide) _⟩)
    (Cert.ReferenceInIdeal.Value.run (F := Ideal) m ρ),
  fun m ρ _ => Cert.KernelMlp.Gen.frame m ρ,
  fun m ρ _ => Cert.KernelMlpIdeal.Gen.frame m ρ,
  fun m ρ _ => Cert.KernelMlpIdeal.Gen.frame m ρ,
  fun m ρ _ => (θ_run Cert.ReferenceMlpIdeal.defs _ _).mono (fun _ h => ⟨fun c => (h c).2.2.2.2.2.2.2.2, sem_eq_zero_of_no_sems (by decide) _⟩)
    (Cert.ReferenceMlpIdeal.Value.run (F := Ideal) m ρ),
  fun m ρ _ => (θ_run Cert.ReferenceMlpIdeal.defs _ _).mono (fun _ h => ⟨fun c => (h c).2.2.2.2.2.2.2.2, sem_eq_zero_of_no_sems (by decide) _⟩)
    (Cert.ReferenceMlpIdeal.Value.run (F := Ideal) m ρ),
  ⟨rfl, fun _ => IdealRules.named_const.ideal_named _ _ _ _ rfl, IdealRules.named_const.ideal_named_scalar _ _ _ _ rfl⟩,
  algebraic,
  trivial, Cert.KernelFf2Ideal.Hand.algebraic,
  trivial, Cert.KernelOutIdeal.Hand.algebraic,
  trivial, Cert.KernelFf1Ideal.Hand.algebraic,
  trivial, Cert.KernelInIdeal.Hand.algebraic,
  trivial, Cert.KernelMlpIdeal.Hand.algebraic⟩

end Cert.Proof

end
